-- ==== Defs.lean ====
def Pre_ProjQk (m : (ℓ : Loc Cert.ProjQk.nD Cert.ProjQk.τ Cert.ProjQk.sig) → Buf (Elt Bits) ℓ) : Prop :=
  True

def Pre_ProjQkIdeal (m : (ℓ : Loc Cert.ProjQkIdeal.nD Cert.ProjQkIdeal.τ Cert.ProjQkIdeal.sig) → Buf (Elt Ideal) ℓ) : Prop :=
  True

def Pre_ProjQkRefIdeal (m : (ℓ : Loc Cert.ProjQkRefIdeal.nD Cert.ProjQkRefIdeal.τ Cert.ProjQkRefIdeal.sig) → Buf (Elt Ideal) ℓ) : Prop :=
  True

def Pre_ProjVo (m : (ℓ : Loc Cert.ProjVo.nD Cert.ProjVo.τ Cert.ProjVo.sig) → Buf (Elt Bits) ℓ) : Prop :=
  True

def Pre_ProjVoIdeal (m : (ℓ : Loc Cert.ProjVoIdeal.nD Cert.ProjVoIdeal.τ Cert.ProjVoIdeal.sig) → Buf (Elt Ideal) ℓ) : Prop :=
  True

def Pre_ProjVoRefIdeal (m : (ℓ : Loc Cert.ProjVoRefIdeal.nD Cert.ProjVoRefIdeal.τ Cert.ProjVoRefIdeal.sig) → Buf (Elt Ideal) ℓ) : Prop :=
  True

def Pre_ProjAq (m : (ℓ : Loc Cert.ProjAq.nD Cert.ProjAq.τ Cert.ProjAq.sig) → Buf (Elt Bits) ℓ) : Prop :=
  True

def Pre_ProjAqIdeal (m : (ℓ : Loc Cert.ProjAqIdeal.nD Cert.ProjAqIdeal.τ Cert.ProjAqIdeal.sig) → Buf (Elt Ideal) ℓ) : Prop :=
  True

def Pre_ProjAqRefIdeal (m : (ℓ : Loc Cert.ProjAqRefIdeal.nD Cert.ProjAqRefIdeal.τ Cert.ProjAqRefIdeal.sig) → Buf (Elt Ideal) ℓ) : Prop :=
  True

def Pre_ProjAk (m : (ℓ : Loc Cert.ProjAk.nD Cert.ProjAk.τ Cert.ProjAk.sig) → Buf (Elt Bits) ℓ) : Prop :=
  True

def Pre_ProjAkIdeal (m : (ℓ : Loc Cert.ProjAkIdeal.nD Cert.ProjAkIdeal.τ Cert.ProjAkIdeal.sig) → Buf (Elt Ideal) ℓ) : Prop :=
  True

def Pre_ProjAkRefIdeal (m : (ℓ : Loc Cert.ProjAkRefIdeal.nD Cert.ProjAkRefIdeal.τ Cert.ProjAkRefIdeal.sig) → Buf (Elt Ideal) ℓ) : Prop :=
  True

def Pre_ProjAv (m : (ℓ : Loc Cert.ProjAv.nD Cert.ProjAv.τ Cert.ProjAv.sig) → Buf (Elt Bits) ℓ) : Prop :=
  True

def Pre_ProjAvIdeal (m : (ℓ : Loc Cert.ProjAvIdeal.nD Cert.ProjAvIdeal.τ Cert.ProjAvIdeal.sig) → Buf (Elt Ideal) ℓ) : Prop :=
  True

def Pre_ProjAvRefIdeal (m : (ℓ : Loc Cert.ProjAvRefIdeal.nD Cert.ProjAvRefIdeal.τ Cert.ProjAvRefIdeal.sig) → Buf (Elt Ideal) ℓ) : Prop :=
  True

def Pre_ProjBg (m : (ℓ : Loc Cert.ProjBg.nD Cert.ProjBg.τ Cert.ProjBg.sig) → Buf (Elt Bits) ℓ) : Prop :=
  True

def Pre_ProjBgIdeal (m : (ℓ : Loc Cert.ProjBgIdeal.nD Cert.ProjBgIdeal.τ Cert.ProjBgIdeal.sig) → Buf (Elt Ideal) ℓ) : Prop :=
  True

def Pre_ProjBgRefIdeal (m : (ℓ : Loc Cert.ProjBgRefIdeal.nD Cert.ProjBgRefIdeal.τ Cert.ProjBgRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryRefIdeal (m : (ℓ : Loc Cert.PeerQueryRefIdeal.nD Cert.PeerQueryRefIdeal.τ Cert.PeerQueryRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_input_gate_below_inf [hPre_input_gate_below_inf : Cert.Pre_input_gate_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_input_gate_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_input_gate_below_inf [hPre_input_gate_below_inf : Cert.Pre_input_gate_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_gate_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def quiescent_ProjQk [hProjQk : Cert.ProjQk.Facts] : Prop :=
  ∀ (m : (ℓ : Loc Cert.ProjQk.nD Cert.ProjQk.τ Cert.ProjQk.sig) → Buf (Elt Bits) ℓ) (g : Dev Cert.ProjQk.nD → PrngReg), Pre_ProjQk m →
    θ_run (Cert.ProjQk.defs (F := Bits)) (onTc (τ := Cert.ProjQk.τ) (Cert.ProjQk.main (F := Bits))) ⟨m, fun _ => 0, g⟩ (fun r => (∀ c : Dev Cert.ProjQk.nD,
      r.2.mem ((c.tc : Thread Cert.ProjQk.nD Cert.ProjQk.τ).loc Cert.ProjQk.main_arg0) = m ((c.tc : Thread Cert.ProjQk.nD Cert.ProjQk.τ).loc Cert.ProjQk.main_arg0)
      ∧ r.2.mem ((c.tc : Thread Cert.ProjQk.nD Cert.ProjQk.τ).loc Cert.ProjQk.main_arg1) = m ((c.tc : Thread Cert.ProjQk.nD Cert.ProjQk.τ).loc Cert.ProjQk.main_arg1))
      ∧ r.2.sem = fun _ => 0)

def quiescent_ProjQkIdeal [hProjQkIdeal : Cert.ProjQkIdeal.Facts] : Prop :=
  ∀ (m : (ℓ : Loc Cert.ProjQkIdeal.nD Cert.ProjQkIdeal.τ Cert.ProjQkIdeal.sig) → Buf (Elt Ideal) ℓ) (g : Dev Cert.ProjQkIdeal.nD → PrngReg), Pre_ProjQkIdeal m →
    θ_run (Cert.ProjQkIdeal.defs (F := Ideal)) (onTc (τ := Cert.ProjQkIdeal.τ) (Cert.ProjQkIdeal.main (F := Ideal))) ⟨m, fun _ => 0, g⟩ (fun r => (∀ c : Dev Cert.ProjQkIdeal.nD,
      r.2.mem ((c.tc : Thread Cert.ProjQkIdeal.nD Cert.ProjQkIdeal.τ).loc Cert.ProjQkIdeal.main_arg0) = m ((c.tc : Thread Cert.ProjQkIdeal.nD Cert.ProjQkIdeal.τ).loc Cert.ProjQkIdeal.main_arg0)
      ∧ r.2.mem ((c.tc : Thread Cert.ProjQkIdeal.nD Cert.ProjQkIdeal.τ).loc Cert.ProjQkIdeal.main_arg1) = m ((c.tc : Thread Cert.ProjQkIdeal.nD Cert.ProjQkIdeal.τ).loc Cert.ProjQkIdeal.main_arg1))
      ∧ r.2.sem = fun _ => 0)

def quiescent_ProjQkRefIdeal [hProjQkRefIdeal : Cert.ProjQkRefIdeal.Facts] : Prop :=
  ∀ (m : (ℓ : Loc Cert.ProjQkRefIdeal.nD Cert.ProjQkRefIdeal.τ Cert.ProjQkRefIdeal.sig) → Buf (Elt Ideal) ℓ) (g : Dev Cert.ProjQkRefIdeal.nD → PrngReg), Pre_ProjQkRefIdeal m →
    θ_run (Cert.ProjQkRefIdeal.defs (F := Ideal)) (onTc (τ := Cert.ProjQkRefIdeal.τ) (Cert.ProjQkRefIdeal.main (F := Ideal))) ⟨m, fun _ => 0, g⟩ (fun r => (∀ c : Dev Cert.ProjQkRefIdeal.nD,
      r.2.mem ((c.tc : Thread Cert.ProjQkRefIdeal.nD Cert.ProjQkRefIdeal.τ).loc Cert.ProjQkRefIdeal.main_arg0) = m ((c.tc : Thread Cert.ProjQkRefIdeal.nD Cert.ProjQkRefIdeal.τ).loc Cert.ProjQkRefIdeal.main_arg0)
      ∧ r.2.mem ((c.tc : Thread Cert.ProjQkRefIdeal.nD Cert.ProjQkRefIdeal.τ).loc Cert.ProjQkRefIdeal.main_arg1) = m ((c.tc : Thread Cert.ProjQkRefIdeal.nD Cert.ProjQkRefIdeal.τ).loc Cert.ProjQkRefIdeal.main_arg1))
      ∧ r.2.sem = fun _ => 0)

def quiescent_ProjVo [hProjVo : Cert.ProjVo.Facts] : Prop :=
  ∀ (m : (ℓ : Loc Cert.ProjVo.nD Cert.ProjVo.τ Cert.ProjVo.sig) → Buf (Elt Bits) ℓ) (g : Dev Cert.ProjVo.nD → PrngReg), Pre_ProjVo m →
    θ_run (Cert.ProjVo.defs (F := Bits)) (onTc (τ := Cert.ProjVo.τ) (Cert.ProjVo.main (F := Bits))) ⟨m, fun _ => 0, g⟩ (fun r => (∀ c : Dev Cert.ProjVo.nD,
      r.2.mem ((c.tc : Thread Cert.ProjVo.nD Cert.ProjVo.τ).loc Cert.ProjVo.main_arg0) = m ((c.tc : Thread Cert.ProjVo.nD Cert.ProjVo.τ).loc Cert.ProjVo.main_arg0)
      ∧ r.2.mem ((c.tc : Thread Cert.ProjVo.nD Cert.ProjVo.τ).loc Cert.ProjVo.main_arg1) = m ((c.tc : Thread Cert.ProjVo.nD Cert.ProjVo.τ).loc Cert.ProjVo.main_arg1))
      ∧ r.2.sem = fun _ => 0)

def quiescent_ProjVoIdeal [hProjVoIdeal : Cert.ProjVoIdeal.Facts] : Prop :=
  ∀ (m : (ℓ : Loc Cert.ProjVoIdeal.nD Cert.ProjVoIdeal.τ Cert.ProjVoIdeal.sig) → Buf (Elt Ideal) ℓ) (g : Dev Cert.ProjVoIdeal.nD → PrngReg), Pre_ProjVoIdeal m →
    θ_run (Cert.ProjVoIdeal.defs (F := Ideal)) (onTc (τ := Cert.ProjVoIdeal.τ) (Cert.ProjVoIdeal.main (F := Ideal))) ⟨m, fun _ => 0, g⟩ (fun r => (∀ c : Dev Cert.ProjVoIdeal.nD,
      r.2.mem ((c.tc : Thread Cert.ProjVoIdeal.nD Cert.ProjVoIdeal.τ).loc Cert.ProjVoIdeal.main_arg0) = m ((c.tc : Thread Cert.ProjVoIdeal.nD Cert.ProjVoIdeal.τ).loc Cert.ProjVoIdeal.main_arg0)
      ∧ r.2.mem ((c.tc : Thread Cert.ProjVoIdeal.nD Cert.ProjVoIdeal.τ).loc Cert.ProjVoIdeal.main_arg1) = m ((c.tc : Thread Cert.ProjVoIdeal.nD Cert.ProjVoIdeal.τ).loc Cert.ProjVoIdeal.main_arg1))
      ∧ r.2.sem = fun _ => 0)

def quiescent_ProjVoRefIdeal [hProjVoRefIdeal : Cert.ProjVoRefIdeal.Facts] : Prop :=
  ∀ (m : (ℓ : Loc Cert.ProjVoRefIdeal.nD Cert.ProjVoRefIdeal.τ Cert.ProjVoRefIdeal.sig) → Buf (Elt Ideal) ℓ) (g : Dev Cert.ProjVoRefIdeal.nD → PrngReg), Pre_ProjVoRefIdeal m →
    θ_run (Cert.ProjVoRefIdeal.defs (F := Ideal)) (onTc (τ := Cert.ProjVoRefIdeal.τ) (Cert.ProjVoRefIdeal.main (F := Ideal))) ⟨m, fun _ => 0, g⟩ (fun r => (∀ c : Dev Cert.ProjVoRefIdeal.nD,
      r.2.mem ((c.tc : Thread Cert.ProjVoRefIdeal.nD Cert.ProjVoRefIdeal.τ).loc Cert.ProjVoRefIdeal.main_arg0) = m ((c.tc : Thread Cert.ProjVoRefIdeal.nD Cert.ProjVoRefIdeal.τ).loc Cert.ProjVoRefIdeal.main_arg0)
      ∧ r.2.mem ((c.tc : Thread Cert.ProjVoRefIdeal.nD Cert.ProjVoRefIdeal.τ).loc Cert.ProjVoRefIdeal.main_arg1) = m ((c.tc : Thread Cert.ProjVoRefIdeal.nD Cert.ProjVoRefIdeal.τ).loc Cert.ProjVoRefIdeal.main_arg1))
      ∧ r.2.sem = fun _ => 0)

def quiescent_ProjAq [hProjAq : Cert.ProjAq.Facts] : Prop :=
  ∀ (m : (ℓ : Loc Cert.ProjAq.nD Cert.ProjAq.τ Cert.ProjAq.sig) → Buf (Elt Bits) ℓ) (g : Dev Cert.ProjAq.nD → PrngReg), Pre_ProjAq m →
    θ_run (Cert.ProjAq.defs (F := Bits)) (onTc (τ := Cert.ProjAq.τ) (Cert.ProjAq.main (F := Bits))) ⟨m, fun _ => 0, g⟩ (fun r => (∀ c : Dev Cert.ProjAq.nD,
      r.2.mem ((c.tc : Thread Cert.ProjAq.nD Cert.ProjAq.τ).loc Cert.ProjAq.main_arg0) = m ((c.tc : Thread Cert.ProjAq.nD Cert.ProjAq.τ).loc Cert.ProjAq.main_arg0)
      ∧ r.2.mem ((c.tc : Thread Cert.ProjAq.nD Cert.ProjAq.τ).loc Cert.ProjAq.main_arg1) = m ((c.tc : Thread Cert.ProjAq.nD Cert.ProjAq.τ).loc Cert.ProjAq.main_arg1))
      ∧ r.2.sem = fun _ => 0)

def quiescent_ProjAqIdeal [hProjAqIdeal : Cert.ProjAqIdeal.Facts] : Prop :=
  ∀ (m : (ℓ : Loc Cert.ProjAqIdeal.nD Cert.ProjAqIdeal.τ Cert.ProjAqIdeal.sig) → Buf (Elt Ideal) ℓ) (g : Dev Cert.ProjAqIdeal.nD → PrngReg), Pre_ProjAqIdeal m →
    θ_run (Cert.ProjAqIdeal.defs (F := Ideal)) (onTc (τ := Cert.ProjAqIdeal.τ) (Cert.ProjAqIdeal.main (F := Ideal))) ⟨m, fun _ => 0, g⟩ (fun r => (∀ c : Dev Cert.ProjAqIdeal.nD,
      r.2.mem ((c.tc : Thread Cert.ProjAqIdeal.nD Cert.ProjAqIdeal.τ).loc Cert.ProjAqIdeal.main_arg0) = m ((c.tc : Thread Cert.ProjAqIdeal.nD Cert.ProjAqIdeal.τ).loc Cert.ProjAqIdeal.main_arg0)
      ∧ r.2.mem ((c.tc : Thread Cert.ProjAqIdeal.nD Cert.ProjAqIdeal.τ).loc Cert.ProjAqIdeal.main_arg1) = m ((c.tc : Thread Cert.ProjAqIdeal.nD Cert.ProjAqIdeal.τ).loc Cert.ProjAqIdeal.main_arg1))
      ∧ r.2.sem = fun _ => 0)

def quiescent_ProjAqRefIdeal [hProjAqRefIdeal : Cert.ProjAqRefIdeal.Facts] : Prop :=
  ∀ (m : (ℓ : Loc Cert.ProjAqRefIdeal.nD Cert.ProjAqRefIdeal.τ Cert.ProjAqRefIdeal.sig) → Buf (Elt Ideal) ℓ) (g : Dev Cert.ProjAqRefIdeal.nD → PrngReg), Pre_ProjAqRefIdeal m →
    θ_run (Cert.ProjAqRefIdeal.defs (F := Ideal)) (onTc (τ := Cert.ProjAqRefIdeal.τ) (Cert.ProjAqRefIdeal.main (F := Ideal))) ⟨m, fun _ => 0, g⟩ (fun r => (∀ c : Dev Cert.ProjAqRefIdeal.nD,
      r.2.mem ((c.tc : Thread Cert.ProjAqRefIdeal.nD Cert.ProjAqRefIdeal.τ).loc Cert.ProjAqRefIdeal.main_arg0) = m ((c.tc : Thread Cert.ProjAqRefIdeal.nD Cert.ProjAqRefIdeal.τ).loc Cert.ProjAqRefIdeal.main_arg0)
      ∧ r.2.mem ((c.tc : Thread Cert.ProjAqRefIdeal.nD Cert.ProjAqRefIdeal.τ).loc Cert.ProjAqRefIdeal.main_arg1) = m ((c.tc : Thread Cert.ProjAqRefIdeal.nD Cert.ProjAqRefIdeal.τ).loc Cert.ProjAqRefIdeal.main_arg1))
      ∧ r.2.sem = fun _ => 0)

def quiescent_ProjAk [hProjAk : Cert.ProjAk.Facts] : Prop :=
  ∀ (m : (ℓ : Loc Cert.ProjAk.nD Cert.ProjAk.τ Cert.ProjAk.sig) → Buf (Elt Bits) ℓ) (g : Dev Cert.ProjAk.nD → PrngReg), Pre_ProjAk m →
    θ_run (Cert.ProjAk.defs (F := Bits)) (onTc (τ := Cert.ProjAk.τ) (Cert.ProjAk.main (F := Bits))) ⟨m, fun _ => 0, g⟩ (fun r => (∀ c : Dev Cert.ProjAk.nD,
      r.2.mem ((c.tc : Thread Cert.ProjAk.nD Cert.ProjAk.τ).loc Cert.ProjAk.main_arg0) = m ((c.tc : Thread Cert.ProjAk.nD Cert.ProjAk.τ).loc Cert.ProjAk.main_arg0)
      ∧ r.2.mem ((c.tc : Thread Cert.ProjAk.nD Cert.ProjAk.τ).loc Cert.ProjAk.main_arg1) = m ((c.tc : Thread Cert.ProjAk.nD Cert.ProjAk.τ).loc Cert.ProjAk.main_arg1))
      ∧ r.2.sem = fun _ => 0)

def quiescent_ProjAkIdeal [hProjAkIdeal : Cert.ProjAkIdeal.Facts] : Prop :=
  ∀ (m : (ℓ : Loc Cert.ProjAkIdeal.nD Cert.ProjAkIdeal.τ Cert.ProjAkIdeal.sig) → Buf (Elt Ideal) ℓ) (g : Dev Cert.ProjAkIdeal.nD → PrngReg), Pre_ProjAkIdeal m →
    θ_run (Cert.ProjAkIdeal.defs (F := Ideal)) (onTc (τ := Cert.ProjAkIdeal.τ) (Cert.ProjAkIdeal.main (F := Ideal))) ⟨m, fun _ => 0, g⟩ (fun r => (∀ c : Dev Cert.ProjAkIdeal.nD,
      r.2.mem ((c.tc : Thread Cert.ProjAkIdeal.nD Cert.ProjAkIdeal.τ).loc Cert.ProjAkIdeal.main_arg0) = m ((c.tc : Thread Cert.ProjAkIdeal.nD Cert.ProjAkIdeal.τ).loc Cert.ProjAkIdeal.main_arg0)
      ∧ r.2.mem ((c.tc : Thread Cert.ProjAkIdeal.nD Cert.ProjAkIdeal.τ).loc Cert.ProjAkIdeal.main_arg1) = m ((c.tc : Thread Cert.ProjAkIdeal.nD Cert.ProjAkIdeal.τ).loc Cert.ProjAkIdeal.main_arg1))
      ∧ r.2.sem = fun _ => 0)

def quiescent_ProjAkRefIdeal [hProjAkRefIdeal : Cert.ProjAkRefIdeal.Facts] : Prop :=
  ∀ (m : (ℓ : Loc Cert.ProjAkRefIdeal.nD Cert.ProjAkRefIdeal.τ Cert.ProjAkRefIdeal.sig) → Buf (Elt Ideal) ℓ) (g : Dev Cert.ProjAkRefIdeal.nD → PrngReg), Pre_ProjAkRefIdeal m →
    θ_run (Cert.ProjAkRefIdeal.defs (F := Ideal)) (onTc (τ := Cert.ProjAkRefIdeal.τ) (Cert.ProjAkRefIdeal.main (F := Ideal))) ⟨m, fun _ => 0, g⟩ (fun r => (∀ c : Dev Cert.ProjAkRefIdeal.nD,
      r.2.mem ((c.tc : Thread Cert.ProjAkRefIdeal.nD Cert.ProjAkRefIdeal.τ).loc Cert.ProjAkRefIdeal.main_arg0) = m ((c.tc : Thread Cert.ProjAkRefIdeal.nD Cert.ProjAkRefIdeal.τ).loc Cert.ProjAkRefIdeal.main_arg0)
      ∧ r.2.mem ((c.tc : Thread Cert.ProjAkRefIdeal.nD Cert.ProjAkRefIdeal.τ).loc Cert.ProjAkRefIdeal.main_arg1) = m ((c.tc : Thread Cert.ProjAkRefIdeal.nD Cert.ProjAkRefIdeal.τ).loc Cert.ProjAkRefIdeal.main_arg1))
      ∧ r.2.sem = fun _ => 0)

def quiescent_ProjAv [hProjAv : Cert.ProjAv.Facts] : Prop :=
  ∀ (m : (ℓ : Loc Cert.ProjAv.nD Cert.ProjAv.τ Cert.ProjAv.sig) → Buf (Elt Bits) ℓ) (g : Dev Cert.ProjAv.nD → PrngReg), Pre_ProjAv m →
    θ_run (Cert.ProjAv.defs (F := Bits)) (onTc (τ := Cert.ProjAv.τ) (Cert.ProjAv.main (F := Bits))) ⟨m, fun _ => 0, g⟩ (fun r => (∀ c : Dev Cert.ProjAv.nD,
      r.2.mem ((c.tc : Thread Cert.ProjAv.nD Cert.ProjAv.τ).loc Cert.ProjAv.main_arg0) = m ((c.tc : Thread Cert.ProjAv.nD Cert.ProjAv.τ).loc Cert.ProjAv.main_arg0)
      ∧ r.2.mem ((c.tc : Thread Cert.ProjAv.nD Cert.ProjAv.τ).loc Cert.ProjAv.main_arg1) = m ((c.tc : Thread Cert.ProjAv.nD Cert.ProjAv.τ).loc Cert.ProjAv.main_arg1))
      ∧ r.2.sem = fun _ => 0)

def quiescent_ProjAvIdeal [hProjAvIdeal : Cert.ProjAvIdeal.Facts] : Prop :=
  ∀ (m : (ℓ : Loc Cert.ProjAvIdeal.nD Cert.ProjAvIdeal.τ Cert.ProjAvIdeal.sig) → Buf (Elt Ideal) ℓ) (g : Dev Cert.ProjAvIdeal.nD → PrngReg), Pre_ProjAvIdeal m →
    θ_run (Cert.ProjAvIdeal.defs (F := Ideal)) (onTc (τ := Cert.ProjAvIdeal.τ) (Cert.ProjAvIdeal.main (F := Ideal))) ⟨m, fun _ => 0, g⟩ (fun r => (∀ c : Dev Cert.ProjAvIdeal.nD,
      r.2.mem ((c.tc : Thread Cert.ProjAvIdeal.nD Cert.ProjAvIdeal.τ).loc Cert.ProjAvIdeal.main_arg0) = m ((c.tc : Thread Cert.ProjAvIdeal.nD Cert.ProjAvIdeal.τ).loc Cert.ProjAvIdeal.main_arg0)
      ∧ r.2.mem ((c.tc : Thread Cert.ProjAvIdeal.nD Cert.ProjAvIdeal.τ).loc Cert.ProjAvIdeal.main_arg1) = m ((c.tc : Thread Cert.ProjAvIdeal.nD Cert.ProjAvIdeal.τ).loc Cert.ProjAvIdeal.main_arg1))
      ∧ r.2.sem = fun _ => 0)

def quiescent_ProjAvRefIdeal [hProjAvRefIdeal : Cert.ProjAvRefIdeal.Facts] : Prop :=
  ∀ (m : (ℓ : Loc Cert.ProjAvRefIdeal.nD Cert.ProjAvRefIdeal.τ Cert.ProjAvRefIdeal.sig) → Buf (Elt Ideal) ℓ) (g : Dev Cert.ProjAvRefIdeal.nD → PrngReg), Pre_ProjAvRefIdeal m →
    θ_run (Cert.ProjAvRefIdeal.defs (F := Ideal)) (onTc (τ := Cert.ProjAvRefIdeal.τ) (Cert.ProjAvRefIdeal.main (F := Ideal))) ⟨m, fun _ => 0, g⟩ (fun r => (∀ c : Dev Cert.ProjAvRefIdeal.nD,
      r.2.mem ((c.tc : Thread Cert.ProjAvRefIdeal.nD Cert.ProjAvRefIdeal.τ).loc Cert.ProjAvRefIdeal.main_arg0) = m ((c.tc : Thread Cert.ProjAvRefIdeal.nD Cert.ProjAvRefIdeal.τ).loc Cert.ProjAvRefIdeal.main_arg0)
      ∧ r.2.mem ((c.tc : Thread Cert.ProjAvRefIdeal.nD Cert.ProjAvRefIdeal.τ).loc Cert.ProjAvRefIdeal.main_arg1) = m ((c.tc : Thread Cert.ProjAvRefIdeal.nD Cert.ProjAvRefIdeal.τ).loc Cert.ProjAvRefIdeal.main_arg1))
      ∧ r.2.sem = fun _ => 0)

def quiescent_ProjBg [hProjBg : Cert.ProjBg.Facts] : Prop :=
  ∀ (m : (ℓ : Loc Cert.ProjBg.nD Cert.ProjBg.τ Cert.ProjBg.sig) → Buf (Elt Bits) ℓ) (g : Dev Cert.ProjBg.nD → PrngReg), Pre_ProjBg m →
    θ_run (Cert.ProjBg.defs (F := Bits)) (onTc (τ := Cert.ProjBg.τ) (Cert.ProjBg.main (F := Bits))) ⟨m, fun _ => 0, g⟩ (fun r => (∀ c : Dev Cert.ProjBg.nD,
      r.2.mem ((c.tc : Thread Cert.ProjBg.nD Cert.ProjBg.τ).loc Cert.ProjBg.main_arg0) = m ((c.tc : Thread Cert.ProjBg.nD Cert.ProjBg.τ).loc Cert.ProjBg.main_arg0)
      ∧ r.2.mem ((c.tc : Thread Cert.ProjBg.nD Cert.ProjBg.τ).loc Cert.ProjBg.main_arg1) = m ((c.tc : Thread Cert.ProjBg.nD Cert.ProjBg.τ).loc Cert.ProjBg.main_arg1))
      ∧ r.2.sem = fun _ => 0)

def quiescent_ProjBgIdeal [hProjBgIdeal : Cert.ProjBgIdeal.Facts] : Prop :=
  ∀ (m : (ℓ : Loc Cert.ProjBgIdeal.nD Cert.ProjBgIdeal.τ Cert.ProjBgIdeal.sig) → Buf (Elt Ideal) ℓ) (g : Dev Cert.ProjBgIdeal.nD → PrngReg), Pre_ProjBgIdeal m →
    θ_run (Cert.ProjBgIdeal.defs (F := Ideal)) (onTc (τ := Cert.ProjBgIdeal.τ) (Cert.ProjBgIdeal.main (F := Ideal))) ⟨m, fun _ => 0, g⟩ (fun r => (∀ c : Dev Cert.ProjBgIdeal.nD,
      r.2.mem ((c.tc : Thread Cert.ProjBgIdeal.nD Cert.ProjBgIdeal.τ).loc Cert.ProjBgIdeal.main_arg0) = m ((c.tc : Thread Cert.ProjBgIdeal.nD Cert.ProjBgIdeal.τ).loc Cert.ProjBgIdeal.main_arg0)
      ∧ r.2.mem ((c.tc : Thread Cert.ProjBgIdeal.nD Cert.ProjBgIdeal.τ).loc Cert.ProjBgIdeal.main_arg1) = m ((c.tc : Thread Cert.ProjBgIdeal.nD Cert.ProjBgIdeal.τ).loc Cert.ProjBgIdeal.main_arg1))
      ∧ r.2.sem = fun _ => 0)

def quiescent_ProjBgRefIdeal [hProjBgRefIdeal : Cert.ProjBgRefIdeal.Facts] : Prop :=
  ∀ (m : (ℓ : Loc Cert.ProjBgRefIdeal.nD Cert.ProjBgRefIdeal.τ Cert.ProjBgRefIdeal.sig) → Buf (Elt Ideal) ℓ) (g : Dev Cert.ProjBgRefIdeal.nD → PrngReg), Pre_ProjBgRefIdeal m →
    θ_run (Cert.ProjBgRefIdeal.defs (F := Ideal)) (onTc (τ := Cert.ProjBgRefIdeal.τ) (Cert.ProjBgRefIdeal.main (F := Ideal))) ⟨m, fun _ => 0, g⟩ (fun r => (∀ c : Dev Cert.ProjBgRefIdeal.nD,
      r.2.mem ((c.tc : Thread Cert.ProjBgRefIdeal.nD Cert.ProjBgRefIdeal.τ).loc Cert.ProjBgRefIdeal.main_arg0) = m ((c.tc : Thread Cert.ProjBgRefIdeal.nD Cert.ProjBgRefIdeal.τ).loc Cert.ProjBgRefIdeal.main_arg0)
      ∧ r.2.mem ((c.tc : Thread Cert.ProjBgRefIdeal.nD Cert.ProjBgRefIdeal.τ).loc Cert.ProjBgRefIdeal.main_arg1) = m ((c.tc : Thread Cert.ProjBgRefIdeal.nD Cert.ProjBgRefIdeal.τ).loc Cert.ProjBgRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_input_gate_below_inf [hKernelIdeal : Cert.KernelIdeal.Facts] [hPre_input_gate_below_inf : Cert.Pre_input_gate_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_input_gate_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_input_gate_below_inf [hReferenceIdeal : Cert.ReferenceIdeal.Facts] [hPre_input_gate_below_inf : Cert.Pre_input_gate_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_input_gate_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6))
      ∧ r.2.sem = fun _ => 0)

def preserves_ProjQk_ProjQkIdeal : Prop :=
  True

def algebraic_ProjQkIdeal_ProjQkRefIdeal [hProjQkIdeal : Cert.ProjQkIdeal.Facts] [hProjQkRefIdeal : Cert.ProjQkRefIdeal.Facts] : Prop :=
  ∀ (m : (ℓ : Loc Cert.ProjQkIdeal.nD Cert.ProjQkIdeal.τ Cert.ProjQkIdeal.sig) → Buf (Elt Ideal) ℓ) (g : Dev Cert.ProjQkIdeal.nD → PrngReg)
    (m' : (ℓ : Loc Cert.ProjQkRefIdeal.nD Cert.ProjQkRefIdeal.τ Cert.ProjQkRefIdeal.sig) → Buf (Elt Ideal) ℓ) (g' : Dev Cert.ProjQkRefIdeal.nD → PrngReg), Pre_ProjQkIdeal m →
    (∀ c : Dev Cert.ProjQkIdeal.nD,
      m' ((c.tc : Thread Cert.ProjQkRefIdeal.nD Cert.ProjQkRefIdeal.τ).loc Cert.ProjQkRefIdeal.main_arg0) = m ((c.tc : Thread Cert.ProjQkIdeal.nD Cert.ProjQkIdeal.τ).loc Cert.ProjQkIdeal.main_arg0)
      ∧ m' ((c.tc : Thread Cert.ProjQkRefIdeal.nD Cert.ProjQkRefIdeal.τ).loc Cert.ProjQkRefIdeal.main_arg1) = m ((c.tc : Thread Cert.ProjQkIdeal.nD Cert.ProjQkIdeal.τ).loc Cert.ProjQkIdeal.main_arg1)) →
    ∃ (v0 : (c : Dev Cert.ProjQkIdeal.nD) → Buf (Elt Ideal) ((c.tc : Thread Cert.ProjQkIdeal.nD Cert.ProjQkIdeal.τ).loc Cert.ProjQkIdeal.main_v1)),
      θ_run (Cert.ProjQkIdeal.defs (F := Ideal)) (onTc (τ := Cert.ProjQkIdeal.τ) (Cert.ProjQkIdeal.main (F := Ideal))) ⟨m, fun _ => 0, g⟩ (fun r => ∀ c : Dev Cert.ProjQkIdeal.nD,
          r.2.mem ((c.tc : Thread Cert.ProjQkIdeal.nD Cert.ProjQkIdeal.τ).loc Cert.ProjQkIdeal.main_v1) = v0 c
          ∧ r.2.mem ((c.tc : Thread Cert.ProjQkIdeal.nD Cert.ProjQkIdeal.τ).loc Cert.ProjQkIdeal.main_arg0) = m ((c.tc : Thread Cert.ProjQkIdeal.nD Cert.ProjQkIdeal.τ).loc Cert.ProjQkIdeal.main_arg0)
          ∧ r.2.mem ((c.tc : Thread Cert.ProjQkIdeal.nD Cert.ProjQkIdeal.τ).loc Cert.ProjQkIdeal.main_arg1) = m ((c.tc : Thread Cert.ProjQkIdeal.nD Cert.ProjQkIdeal.τ).loc Cert.ProjQkIdeal.main_arg1))
      ∧ θ_run (Cert.ProjQkRefIdeal.defs (F := Ideal)) (onTc (τ := Cert.ProjQkRefIdeal.τ) (Cert.ProjQkRefIdeal.main (F := Ideal))) ⟨m', fun _ => 0, g'⟩ (fun r => ∀ c : Dev Cert.ProjQkRefIdeal.nD,
          r.2.mem ((c.tc : Thread Cert.ProjQkRefIdeal.nD Cert.ProjQkRefIdeal.τ).loc Cert.ProjQkRefIdeal.main_v3) = v0 c
          ∧ r.2.mem ((c.tc : Thread Cert.ProjQkRefIdeal.nD Cert.ProjQkRefIdeal.τ).loc Cert.ProjQkRefIdeal.main_arg0) = m' ((c.tc : Thread Cert.ProjQkRefIdeal.nD Cert.ProjQkRefIdeal.τ).loc Cert.ProjQkRefIdeal.main_arg0)
          ∧ r.2.mem ((c.tc : Thread Cert.ProjQkRefIdeal.nD Cert.ProjQkRefIdeal.τ).loc Cert.ProjQkRefIdeal.main_arg1) = m' ((c.tc : Thread Cert.ProjQkRefIdeal.nD Cert.ProjQkRefIdeal.τ).loc Cert.ProjQkRefIdeal.main_arg1))

def preserves_ProjVo_ProjVoIdeal : Prop :=
  True

def algebraic_ProjVoIdeal_ProjVoRefIdeal [hProjVoIdeal : Cert.ProjVoIdeal.Facts] [hProjVoRefIdeal : Cert.ProjVoRefIdeal.Facts] : Prop :=
  ∀ (m : (ℓ : Loc Cert.ProjVoIdeal.nD Cert.ProjVoIdeal.τ Cert.ProjVoIdeal.sig) → Buf (Elt Ideal) ℓ) (g : Dev Cert.ProjVoIdeal.nD → PrngReg)
    (m' : (ℓ : Loc Cert.ProjVoRefIdeal.nD Cert.ProjVoRefIdeal.τ Cert.ProjVoRefIdeal.sig) → Buf (Elt Ideal) ℓ) (g' : Dev Cert.ProjVoRefIdeal.nD → PrngReg), Pre_ProjVoIdeal m →
    (∀ c : Dev Cert.ProjVoIdeal.nD,
      m' ((c.tc : Thread Cert.ProjVoRefIdeal.nD Cert.ProjVoRefIdeal.τ).loc Cert.ProjVoRefIdeal.main_arg0) = m ((c.tc : Thread Cert.ProjVoIdeal.nD Cert.ProjVoIdeal.τ).loc Cert.ProjVoIdeal.main_arg0)
      ∧ m' ((c.tc : Thread Cert.ProjVoRefIdeal.nD Cert.ProjVoRefIdeal.τ).loc Cert.ProjVoRefIdeal.main_arg1) = m ((c.tc : Thread Cert.ProjVoIdeal.nD Cert.ProjVoIdeal.τ).loc Cert.ProjVoIdeal.main_arg1)) →
    ∃ (v0 : (c : Dev Cert.ProjVoIdeal.nD) → Buf (Elt Ideal) ((c.tc : Thread Cert.ProjVoIdeal.nD Cert.ProjVoIdeal.τ).loc Cert.ProjVoIdeal.main_v1)),
      θ_run (Cert.ProjVoIdeal.defs (F := Ideal)) (onTc (τ := Cert.ProjVoIdeal.τ) (Cert.ProjVoIdeal.main (F := Ideal))) ⟨m, fun _ => 0, g⟩ (fun r => ∀ c : Dev Cert.ProjVoIdeal.nD,
          r.2.mem ((c.tc : Thread Cert.ProjVoIdeal.nD Cert.ProjVoIdeal.τ).loc Cert.ProjVoIdeal.main_v1) = v0 c
          ∧ r.2.mem ((c.tc : Thread Cert.ProjVoIdeal.nD Cert.ProjVoIdeal.τ).loc Cert.ProjVoIdeal.main_arg0) = m ((c.tc : Thread Cert.ProjVoIdeal.nD Cert.ProjVoIdeal.τ).loc Cert.ProjVoIdeal.main_arg0)
          ∧ r.2.mem ((c.tc : Thread Cert.ProjVoIdeal.nD Cert.ProjVoIdeal.τ).loc Cert.ProjVoIdeal.main_arg1) = m ((c.tc : Thread Cert.ProjVoIdeal.nD Cert.ProjVoIdeal.τ).loc Cert.ProjVoIdeal.main_arg1))
      ∧ θ_run (Cert.ProjVoRefIdeal.defs (F := Ideal)) (onTc (τ := Cert.ProjVoRefIdeal.τ) (Cert.ProjVoRefIdeal.main (F := Ideal))) ⟨m', fun _ => 0, g'⟩ (fun r => ∀ c : Dev Cert.ProjVoRefIdeal.nD,
          r.2.mem ((c.tc : Thread Cert.ProjVoRefIdeal.nD Cert.ProjVoRefIdeal.τ).loc Cert.ProjVoRefIdeal.main_v4) = v0 c
          ∧ r.2.mem ((c.tc : Thread Cert.ProjVoRefIdeal.nD Cert.ProjVoRefIdeal.τ).loc Cert.ProjVoRefIdeal.main_arg0) = m' ((c.tc : Thread Cert.ProjVoRefIdeal.nD Cert.ProjVoRefIdeal.τ).loc Cert.ProjVoRefIdeal.main_arg0)
          ∧ r.2.mem ((c.tc : Thread Cert.ProjVoRefIdeal.nD Cert.ProjVoRefIdeal.τ).loc Cert.ProjVoRefIdeal.main_arg1) = m' ((c.tc : Thread Cert.ProjVoRefIdeal.nD Cert.ProjVoRefIdeal.τ).loc Cert.ProjVoRefIdeal.main_arg1))

def preserves_ProjAq_ProjAqIdeal : Prop :=
  IdealRules.named_const.Statement Cert.ProjAqIdeal.κ "s" .f32 0x3E0293EE#32 (((Real.log 2)⁻¹ * (Real.sqrt 128)⁻¹ : ℝ) : EReal)

def algebraic_ProjAqIdeal_ProjAqRefIdeal [hProjAqIdeal : Cert.ProjAqIdeal.Facts] [hProjAqRefIdeal : Cert.ProjAqRefIdeal.Facts] : Prop :=
  ∀ (m : (ℓ : Loc Cert.ProjAqIdeal.nD Cert.ProjAqIdeal.τ Cert.ProjAqIdeal.sig) → Buf (Elt Ideal) ℓ) (g : Dev Cert.ProjAqIdeal.nD → PrngReg)
    (m' : (ℓ : Loc Cert.ProjAqRefIdeal.nD Cert.ProjAqRefIdeal.τ Cert.ProjAqRefIdeal.sig) → Buf (Elt Ideal) ℓ) (g' : Dev Cert.ProjAqRefIdeal.nD → PrngReg), Pre_ProjAqIdeal m →
    (∀ c : Dev Cert.ProjAqIdeal.nD,
      m' ((c.tc : Thread Cert.ProjAqRefIdeal.nD Cert.ProjAqRefIdeal.τ).loc Cert.ProjAqRefIdeal.main_arg0) = m ((c.tc : Thread Cert.ProjAqIdeal.nD Cert.ProjAqIdeal.τ).loc Cert.ProjAqIdeal.main_arg0)
      ∧ m' ((c.tc : Thread Cert.ProjAqRefIdeal.nD Cert.ProjAqRefIdeal.τ).loc Cert.ProjAqRefIdeal.main_arg1) = m ((c.tc : Thread Cert.ProjAqIdeal.nD Cert.ProjAqIdeal.τ).loc Cert.ProjAqIdeal.main_arg1)) →
    ∃ (v0 : (c : Dev Cert.ProjAqIdeal.nD) → Buf (Elt Ideal) ((c.tc : Thread Cert.ProjAqIdeal.nD Cert.ProjAqIdeal.τ).loc Cert.ProjAqIdeal.main_v1)),
      θ_run (Cert.ProjAqIdeal.defs (F := Ideal)) (onTc (τ := Cert.ProjAqIdeal.τ) (Cert.ProjAqIdeal.main (F := Ideal))) ⟨m, fun _ => 0, g⟩ (fun r => ∀ c : Dev Cert.ProjAqIdeal.nD,
          r.2.mem ((c.tc : Thread Cert.ProjAqIdeal.nD Cert.ProjAqIdeal.τ).loc Cert.ProjAqIdeal.main_v1) = v0 c
          ∧ r.2.mem ((c.tc : Thread Cert.ProjAqIdeal.nD Cert.ProjAqIdeal.τ).loc Cert.ProjAqIdeal.main_arg0) = m ((c.tc : Thread Cert.ProjAqIdeal.nD Cert.ProjAqIdeal.τ).loc Cert.ProjAqIdeal.main_arg0)
          ∧ r.2.mem ((c.tc : Thread Cert.ProjAqIdeal.nD Cert.ProjAqIdeal.τ).loc Cert.ProjAqIdeal.main_arg1) = m ((c.tc : Thread Cert.ProjAqIdeal.nD Cert.ProjAqIdeal.τ).loc Cert.ProjAqIdeal.main_arg1))
      ∧ θ_run (Cert.ProjAqRefIdeal.defs (F := Ideal)) (onTc (τ := Cert.ProjAqRefIdeal.τ) (Cert.ProjAqRefIdeal.main (F := Ideal))) ⟨m', fun _ => 0, g'⟩ (fun r => ∀ c : Dev Cert.ProjAqRefIdeal.nD,
          r.2.mem ((c.tc : Thread Cert.ProjAqRefIdeal.nD Cert.ProjAqRefIdeal.τ).loc Cert.ProjAqRefIdeal.main_v10) = v0 c
          ∧ r.2.mem ((c.tc : Thread Cert.ProjAqRefIdeal.nD Cert.ProjAqRefIdeal.τ).loc Cert.ProjAqRefIdeal.main_arg0) = m' ((c.tc : Thread Cert.ProjAqRefIdeal.nD Cert.ProjAqRefIdeal.τ).loc Cert.ProjAqRefIdeal.main_arg0)
          ∧ r.2.mem ((c.tc : Thread Cert.ProjAqRefIdeal.nD Cert.ProjAqRefIdeal.τ).loc Cert.ProjAqRefIdeal.main_arg1) = m' ((c.tc : Thread Cert.ProjAqRefIdeal.nD Cert.ProjAqRefIdeal.τ).loc Cert.ProjAqRefIdeal.main_arg1))

def preserves_ProjAk_ProjAkIdeal : Prop :=
  True

def algebraic_ProjAkIdeal_ProjAkRefIdeal [hProjAkIdeal : Cert.ProjAkIdeal.Facts] [hProjAkRefIdeal : Cert.ProjAkRefIdeal.Facts] : Prop :=
  ∀ (m : (ℓ : Loc Cert.ProjAkIdeal.nD Cert.ProjAkIdeal.τ Cert.ProjAkIdeal.sig) → Buf (Elt Ideal) ℓ) (g : Dev Cert.ProjAkIdeal.nD → PrngReg)
    (m' : (ℓ : Loc Cert.ProjAkRefIdeal.nD Cert.ProjAkRefIdeal.τ Cert.ProjAkRefIdeal.sig) → Buf (Elt Ideal) ℓ) (g' : Dev Cert.ProjAkRefIdeal.nD → PrngReg), Pre_ProjAkIdeal m →
    (∀ c : Dev Cert.ProjAkIdeal.nD,
      m' ((c.tc : Thread Cert.ProjAkRefIdeal.nD Cert.ProjAkRefIdeal.τ).loc Cert.ProjAkRefIdeal.main_arg0) = m ((c.tc : Thread Cert.ProjAkIdeal.nD Cert.ProjAkIdeal.τ).loc Cert.ProjAkIdeal.main_arg0)
      ∧ m' ((c.tc : Thread Cert.ProjAkRefIdeal.nD Cert.ProjAkRefIdeal.τ).loc Cert.ProjAkRefIdeal.main_arg1) = m ((c.tc : Thread Cert.ProjAkIdeal.nD Cert.ProjAkIdeal.τ).loc Cert.ProjAkIdeal.main_arg1)) →
    ∃ (v0 : (c : Dev Cert.ProjAkIdeal.nD) → Buf (Elt Ideal) ((c.tc : Thread Cert.ProjAkIdeal.nD Cert.ProjAkIdeal.τ).loc Cert.ProjAkIdeal.main_v1_0)) (v1 : (c : Dev Cert.ProjAkIdeal.nD) → Buf (Elt Ideal) ((c.tc : Thread Cert.ProjAkIdeal.nD Cert.ProjAkIdeal.τ).loc Cert.ProjAkIdeal.main_v1_1)) (v2 : (c : Dev Cert.ProjAkIdeal.nD) → Buf (Elt Ideal) ((c.tc : Thread Cert.ProjAkIdeal.nD Cert.ProjAkIdeal.τ).loc Cert.ProjAkIdeal.main_v1_2)),
      θ_run (Cert.ProjAkIdeal.defs (F := Ideal)) (onTc (τ := Cert.ProjAkIdeal.τ) (Cert.ProjAkIdeal.main (F := Ideal))) ⟨m, fun _ => 0, g⟩ (fun r => ∀ c : Dev Cert.ProjAkIdeal.nD,
          r.2.mem ((c.tc : Thread Cert.ProjAkIdeal.nD Cert.ProjAkIdeal.τ).loc Cert.ProjAkIdeal.main_v1_0) = v0 c
          ∧ r.2.mem ((c.tc : Thread Cert.ProjAkIdeal.nD Cert.ProjAkIdeal.τ).loc Cert.ProjAkIdeal.main_v1_1) = v1 c
          ∧ r.2.mem ((c.tc : Thread Cert.ProjAkIdeal.nD Cert.ProjAkIdeal.τ).loc Cert.ProjAkIdeal.main_v1_2) = v2 c
          ∧ r.2.mem ((c.tc : Thread Cert.ProjAkIdeal.nD Cert.ProjAkIdeal.τ).loc Cert.ProjAkIdeal.main_arg0) = m ((c.tc : Thread Cert.ProjAkIdeal.nD Cert.ProjAkIdeal.τ).loc Cert.ProjAkIdeal.main_arg0)
          ∧ r.2.mem ((c.tc : Thread Cert.ProjAkIdeal.nD Cert.ProjAkIdeal.τ).loc Cert.ProjAkIdeal.main_arg1) = m ((c.tc : Thread Cert.ProjAkIdeal.nD Cert.ProjAkIdeal.τ).loc Cert.ProjAkIdeal.main_arg1))
      ∧ θ_run (Cert.ProjAkRefIdeal.defs (F := Ideal)) (onTc (τ := Cert.ProjAkRefIdeal.τ) (Cert.ProjAkRefIdeal.main (F := Ideal))) ⟨m', fun _ => 0, g'⟩ (fun r => ∀ c : Dev Cert.ProjAkRefIdeal.nD,
          r.2.mem ((c.tc : Thread Cert.ProjAkRefIdeal.nD Cert.ProjAkRefIdeal.τ).loc Cert.ProjAkRefIdeal.main_v4) = v0 c
          ∧ r.2.mem ((c.tc : Thread Cert.ProjAkRefIdeal.nD Cert.ProjAkRefIdeal.τ).loc Cert.ProjAkRefIdeal.main_v5) = v1 c
          ∧ r.2.mem ((c.tc : Thread Cert.ProjAkRefIdeal.nD Cert.ProjAkRefIdeal.τ).loc Cert.ProjAkRefIdeal.main_v6) = v2 c
          ∧ r.2.mem ((c.tc : Thread Cert.ProjAkRefIdeal.nD Cert.ProjAkRefIdeal.τ).loc Cert.ProjAkRefIdeal.main_arg0) = m' ((c.tc : Thread Cert.ProjAkRefIdeal.nD Cert.ProjAkRefIdeal.τ).loc Cert.ProjAkRefIdeal.main_arg0)
          ∧ r.2.mem ((c.tc : Thread Cert.ProjAkRefIdeal.nD Cert.ProjAkRefIdeal.τ).loc Cert.ProjAkRefIdeal.main_arg1) = m' ((c.tc : Thread Cert.ProjAkRefIdeal.nD Cert.ProjAkRefIdeal.τ).loc Cert.ProjAkRefIdeal.main_arg1))

def preserves_ProjAv_ProjAvIdeal : Prop :=
  True

def algebraic_ProjAvIdeal_ProjAvRefIdeal [hProjAvIdeal : Cert.ProjAvIdeal.Facts] [hProjAvRefIdeal : Cert.ProjAvRefIdeal.Facts] : Prop :=
  ∀ (m : (ℓ : Loc Cert.ProjAvIdeal.nD Cert.ProjAvIdeal.τ Cert.ProjAvIdeal.sig) → Buf (Elt Ideal) ℓ) (g : Dev Cert.ProjAvIdeal.nD → PrngReg)
    (m' : (ℓ : Loc Cert.ProjAvRefIdeal.nD Cert.ProjAvRefIdeal.τ Cert.ProjAvRefIdeal.sig) → Buf (Elt Ideal) ℓ) (g' : Dev Cert.ProjAvRefIdeal.nD → PrngReg), Pre_ProjAvIdeal m →
    (∀ c : Dev Cert.ProjAvIdeal.nD,
      m' ((c.tc : Thread Cert.ProjAvRefIdeal.nD Cert.ProjAvRefIdeal.τ).loc Cert.ProjAvRefIdeal.main_arg0) = m ((c.tc : Thread Cert.ProjAvIdeal.nD Cert.ProjAvIdeal.τ).loc Cert.ProjAvIdeal.main_arg0)
      ∧ m' ((c.tc : Thread Cert.ProjAvRefIdeal.nD Cert.ProjAvRefIdeal.τ).loc Cert.ProjAvRefIdeal.main_arg1) = m ((c.tc : Thread Cert.ProjAvIdeal.nD Cert.ProjAvIdeal.τ).loc Cert.ProjAvIdeal.main_arg1)) →
    ∃ (v0 : (c : Dev Cert.ProjAvIdeal.nD) → Buf (Elt Ideal) ((c.tc : Thread Cert.ProjAvIdeal.nD Cert.ProjAvIdeal.τ).loc Cert.ProjAvIdeal.main_v1_0)) (v1 : (c : Dev Cert.ProjAvIdeal.nD) → Buf (Elt Ideal) ((c.tc : Thread Cert.ProjAvIdeal.nD Cert.ProjAvIdeal.τ).loc Cert.ProjAvIdeal.main_v1_1)) (v2 : (c : Dev Cert.ProjAvIdeal.nD) → Buf (Elt Ideal) ((c.tc : Thread Cert.ProjAvIdeal.nD Cert.ProjAvIdeal.τ).loc Cert.ProjAvIdeal.main_v1_2)),
      θ_run (Cert.ProjAvIdeal.defs (F := Ideal)) (onTc (τ := Cert.ProjAvIdeal.τ) (Cert.ProjAvIdeal.main (F := Ideal))) ⟨m, fun _ => 0, g⟩ (fun r => ∀ c : Dev Cert.ProjAvIdeal.nD,
          r.2.mem ((c.tc : Thread Cert.ProjAvIdeal.nD Cert.ProjAvIdeal.τ).loc Cert.ProjAvIdeal.main_v1_0) = v0 c
          ∧ r.2.mem ((c.tc : Thread Cert.ProjAvIdeal.nD Cert.ProjAvIdeal.τ).loc Cert.ProjAvIdeal.main_v1_1) = v1 c
          ∧ r.2.mem ((c.tc : Thread Cert.ProjAvIdeal.nD Cert.ProjAvIdeal.τ).loc Cert.ProjAvIdeal.main_v1_2) = v2 c
          ∧ r.2.mem ((c.tc : Thread Cert.ProjAvIdeal.nD Cert.ProjAvIdeal.τ).loc Cert.ProjAvIdeal.main_arg0) = m ((c.tc : Thread Cert.ProjAvIdeal.nD Cert.ProjAvIdeal.τ).loc Cert.ProjAvIdeal.main_arg0)
          ∧ r.2.mem ((c.tc : Thread Cert.ProjAvIdeal.nD Cert.ProjAvIdeal.τ).loc Cert.ProjAvIdeal.main_arg1) = m ((c.tc : Thread Cert.ProjAvIdeal.nD Cert.ProjAvIdeal.τ).loc Cert.ProjAvIdeal.main_arg1))
      ∧ θ_run (Cert.ProjAvRefIdeal.defs (F := Ideal)) (onTc (τ := Cert.ProjAvRefIdeal.τ) (Cert.ProjAvRefIdeal.main (F := Ideal))) ⟨m', fun _ => 0, g'⟩ (fun r => ∀ c : Dev Cert.ProjAvRefIdeal.nD,
          r.2.mem ((c.tc : Thread Cert.ProjAvRefIdeal.nD Cert.ProjAvRefIdeal.τ).loc Cert.ProjAvRefIdeal.main_v6) = v0 c
          ∧ r.2.mem ((c.tc : Thread Cert.ProjAvRefIdeal.nD Cert.ProjAvRefIdeal.τ).loc Cert.ProjAvRefIdeal.main_v7) = v1 c
          ∧ r.2.mem ((c.tc : Thread Cert.ProjAvRefIdeal.nD Cert.ProjAvRefIdeal.τ).loc Cert.ProjAvRefIdeal.main_v8) = v2 c
          ∧ r.2.mem ((c.tc : Thread Cert.ProjAvRefIdeal.nD Cert.ProjAvRefIdeal.τ).loc Cert.ProjAvRefIdeal.main_arg0) = m' ((c.tc : Thread Cert.ProjAvRefIdeal.nD Cert.ProjAvRefIdeal.τ).loc Cert.ProjAvRefIdeal.main_arg0)
          ∧ r.2.mem ((c.tc : Thread Cert.ProjAvRefIdeal.nD Cert.ProjAvRefIdeal.τ).loc Cert.ProjAvRefIdeal.main_arg1) = m' ((c.tc : Thread Cert.ProjAvRefIdeal.nD Cert.ProjAvRefIdeal.τ).loc Cert.ProjAvRefIdeal.main_arg1))

def preserves_ProjBg_ProjBgIdeal : Prop :=
  True

def algebraic_ProjBgIdeal_ProjBgRefIdeal [hProjBgIdeal : Cert.ProjBgIdeal.Facts] [hProjBgRefIdeal : Cert.ProjBgRefIdeal.Facts] : Prop :=
  ∀ (m : (ℓ : Loc Cert.ProjBgIdeal.nD Cert.ProjBgIdeal.τ Cert.ProjBgIdeal.sig) → Buf (Elt Ideal) ℓ) (g : Dev Cert.ProjBgIdeal.nD → PrngReg)
    (m' : (ℓ : Loc Cert.ProjBgRefIdeal.nD Cert.ProjBgRefIdeal.τ Cert.ProjBgRefIdeal.sig) → Buf (Elt Ideal) ℓ) (g' : Dev Cert.ProjBgRefIdeal.nD → PrngReg), Pre_ProjBgIdeal m →
    (∀ c : Dev Cert.ProjBgIdeal.nD,
      m' ((c.tc : Thread Cert.ProjBgRefIdeal.nD Cert.ProjBgRefIdeal.τ).loc Cert.ProjBgRefIdeal.main_arg0) = m ((c.tc : Thread Cert.ProjBgIdeal.nD Cert.ProjBgIdeal.τ).loc Cert.ProjBgIdeal.main_arg0)
      ∧ m' ((c.tc : Thread Cert.ProjBgRefIdeal.nD Cert.ProjBgRefIdeal.τ).loc Cert.ProjBgRefIdeal.main_arg1) = m ((c.tc : Thread Cert.ProjBgIdeal.nD Cert.ProjBgIdeal.τ).loc Cert.ProjBgIdeal.main_arg1)) →
    ∃ (v0 : (c : Dev Cert.ProjBgIdeal.nD) → Buf (Elt Ideal) ((c.tc : Thread Cert.ProjBgIdeal.nD Cert.ProjBgIdeal.τ).loc Cert.ProjBgIdeal.main_v1)),
      θ_run (Cert.ProjBgIdeal.defs (F := Ideal)) (onTc (τ := Cert.ProjBgIdeal.τ) (Cert.ProjBgIdeal.main (F := Ideal))) ⟨m, fun _ => 0, g⟩ (fun r => ∀ c : Dev Cert.ProjBgIdeal.nD,
          r.2.mem ((c.tc : Thread Cert.ProjBgIdeal.nD Cert.ProjBgIdeal.τ).loc Cert.ProjBgIdeal.main_v1) = v0 c
          ∧ r.2.mem ((c.tc : Thread Cert.ProjBgIdeal.nD Cert.ProjBgIdeal.τ).loc Cert.ProjBgIdeal.main_arg0) = m ((c.tc : Thread Cert.ProjBgIdeal.nD Cert.ProjBgIdeal.τ).loc Cert.ProjBgIdeal.main_arg0)
          ∧ r.2.mem ((c.tc : Thread Cert.ProjBgIdeal.nD Cert.ProjBgIdeal.τ).loc Cert.ProjBgIdeal.main_arg1) = m ((c.tc : Thread Cert.ProjBgIdeal.nD Cert.ProjBgIdeal.τ).loc Cert.ProjBgIdeal.main_arg1))
      ∧ θ_run (Cert.ProjBgRefIdeal.defs (F := Ideal)) (onTc (τ := Cert.ProjBgRefIdeal.τ) (Cert.ProjBgRefIdeal.main (F := Ideal))) ⟨m', fun _ => 0, g'⟩ (fun r => ∀ c : Dev Cert.ProjBgRefIdeal.nD,
          r.2.mem ((c.tc : Thread Cert.ProjBgRefIdeal.nD Cert.ProjBgRefIdeal.τ).loc Cert.ProjBgRefIdeal.main_v4) = v0 c
          ∧ r.2.mem ((c.tc : Thread Cert.ProjBgRefIdeal.nD Cert.ProjBgRefIdeal.τ).loc Cert.ProjBgRefIdeal.main_arg0) = m' ((c.tc : Thread Cert.ProjBgRefIdeal.nD Cert.ProjBgRefIdeal.τ).loc Cert.ProjBgRefIdeal.main_arg0)
          ∧ r.2.mem ((c.tc : Thread Cert.ProjBgRefIdeal.nD Cert.ProjBgRefIdeal.τ).loc Cert.ProjBgRefIdeal.main_arg1) = m' ((c.tc : Thread Cert.ProjBgRefIdeal.nD Cert.ProjBgRefIdeal.τ).loc Cert.ProjBgRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v21) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_PeerQuery_PeerQueryIdeal : Prop :=
  True

def algebraic_PeerQueryIdeal_PeerQueryRefIdeal [hPeerQueryIdeal : Cert.PeerQueryIdeal.Facts] [hPeerQueryRefIdeal : Cert.PeerQueryRefIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v0)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v0) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v2) = v0 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1))

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_input_gate_below_inf [hKernelIdeal : Cert.KernelIdeal.Facts] [hReferenceIdeal : Cert.ReferenceIdeal.Facts] [hPre_input_gate_below_inf : Cert.Pre_input_gate_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_input_gate_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v163) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v31) = v0 c
          ∧ r.2.mem ((c.tc : Thread Cert.FinalRefIdeal.nD Cert.FinalRefIdeal.τ).loc Cert.FinalRefIdeal.main_v45) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)) →
    ∃ (v0 : (c : Dev Cert.PromptIdeal.nD) → Buf (Elt Ideal) ((c.tc : Thread Cert.PromptIdeal.nD Cert.PromptIdeal.τ).loc Cert.PromptIdeal.main_v9_4)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v9_4) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v4) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6))

def Claim : Prop :=
  ∃ (hProjQk : Cert.ProjQk.Facts) (hProjQkIdeal : Cert.ProjQkIdeal.Facts) (hProjQkRefIdeal : Cert.ProjQkRefIdeal.Facts) (hProjVo : Cert.ProjVo.Facts) (hProjVoIdeal : Cert.ProjVoIdeal.Facts) (hProjVoRefIdeal : Cert.ProjVoRefIdeal.Facts) (hProjAq : Cert.ProjAq.Facts) (hProjAqIdeal : Cert.ProjAqIdeal.Facts) (hProjAqRefIdeal : Cert.ProjAqRefIdeal.Facts) (hProjAk : Cert.ProjAk.Facts) (hProjAkIdeal : Cert.ProjAkIdeal.Facts) (hProjAkRefIdeal : Cert.ProjAkRefIdeal.Facts) (hProjAv : Cert.ProjAv.Facts) (hProjAvIdeal : Cert.ProjAvIdeal.Facts) (hProjAvRefIdeal : Cert.ProjAvRefIdeal.Facts) (hProjBg : Cert.ProjBg.Facts) (hProjBgIdeal : Cert.ProjBgIdeal.Facts) (hProjBgRefIdeal : Cert.ProjBgRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hPeerQuery : Cert.PeerQuery.Facts) (hPeerQueryIdeal : Cert.PeerQueryIdeal.Facts) (hPeerQueryRefIdeal : Cert.PeerQueryRefIdeal.Facts) (hKernel : Cert.Kernel.Facts) (hKernelIdeal : Cert.KernelIdeal.Facts) (hReferenceIdeal : Cert.ReferenceIdeal.Facts) (hFinal : Cert.Final.Facts) (hFinalIdeal : Cert.FinalIdeal.Facts) (hFinalRefIdeal : Cert.FinalRefIdeal.Facts) (hPrompt : Cert.Prompt.Facts) (hPromptIdeal : Cert.PromptIdeal.Facts) (hPromptRefIdeal : Cert.PromptRefIdeal.Facts) (hPre_input_gate_below_inf : Cert.Pre_input_gate_below_inf.Facts),
    quiescent_ProjQk (hProjQk := hProjQk)
    ∧ quiescent_ProjQkIdeal (hProjQkIdeal := hProjQkIdeal)
    ∧ quiescent_ProjQkRefIdeal (hProjQkRefIdeal := hProjQkRefIdeal)
    ∧ quiescent_ProjVo (hProjVo := hProjVo)
    ∧ quiescent_ProjVoIdeal (hProjVoIdeal := hProjVoIdeal)
    ∧ quiescent_ProjVoRefIdeal (hProjVoRefIdeal := hProjVoRefIdeal)
    ∧ quiescent_ProjAq (hProjAq := hProjAq)
    ∧ quiescent_ProjAqIdeal (hProjAqIdeal := hProjAqIdeal)
    ∧ quiescent_ProjAqRefIdeal (hProjAqRefIdeal := hProjAqRefIdeal)
    ∧ quiescent_ProjAk (hProjAk := hProjAk)
    ∧ quiescent_ProjAkIdeal (hProjAkIdeal := hProjAkIdeal)
    ∧ quiescent_ProjAkRefIdeal (hProjAkRefIdeal := hProjAkRefIdeal)
    ∧ quiescent_ProjAv (hProjAv := hProjAv)
    ∧ quiescent_ProjAvIdeal (hProjAvIdeal := hProjAvIdeal)
    ∧ quiescent_ProjAvRefIdeal (hProjAvRefIdeal := hProjAvRefIdeal)
    ∧ quiescent_ProjBg (hProjBg := hProjBg)
    ∧ quiescent_ProjBgIdeal (hProjBgIdeal := hProjBgIdeal)
    ∧ quiescent_ProjBgRefIdeal (hProjBgRefIdeal := hProjBgRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_PeerQuery (hPeerQuery := hPeerQuery)
    ∧ quiescent_PeerQueryIdeal (hPeerQueryIdeal := hPeerQueryIdeal)
    ∧ quiescent_PeerQueryRefIdeal (hPeerQueryRefIdeal := hPeerQueryRefIdeal)
    ∧ quiescent_Kernel (hKernel := hKernel)
    ∧ quiescent_KernelIdeal (hKernelIdeal := hKernelIdeal)
    ∧ quiescent_KernelIdeal_pre_input_gate_below_inf (hKernelIdeal := hKernelIdeal) (hPre_input_gate_below_inf := hPre_input_gate_below_inf)
    ∧ quiescent_ReferenceIdeal (hReferenceIdeal := hReferenceIdeal)
    ∧ quiescent_ReferenceIdeal_pre_input_gate_below_inf (hReferenceIdeal := hReferenceIdeal) (hPre_input_gate_below_inf := hPre_input_gate_below_inf)
    ∧ quiescent_Final (hFinal := hFinal)
    ∧ quiescent_FinalIdeal (hFinalIdeal := hFinalIdeal)
    ∧ quiescent_FinalRefIdeal (hFinalRefIdeal := hFinalRefIdeal)
    ∧ quiescent_Prompt (hPrompt := hPrompt)
    ∧ quiescent_PromptIdeal (hPromptIdeal := hPromptIdeal)
    ∧ quiescent_PromptRefIdeal (hPromptRefIdeal := hPromptRefIdeal)
    ∧ preserves_ProjQk_ProjQkIdeal
    ∧ algebraic_ProjQkIdeal_ProjQkRefIdeal (hProjQkIdeal := hProjQkIdeal) (hProjQkRefIdeal := hProjQkRefIdeal)
    ∧ preserves_ProjVo_ProjVoIdeal
    ∧ algebraic_ProjVoIdeal_ProjVoRefIdeal (hProjVoIdeal := hProjVoIdeal) (hProjVoRefIdeal := hProjVoRefIdeal)
    ∧ preserves_ProjAq_ProjAqIdeal
    ∧ algebraic_ProjAqIdeal_ProjAqRefIdeal (hProjAqIdeal := hProjAqIdeal) (hProjAqRefIdeal := hProjAqRefIdeal)
    ∧ preserves_ProjAk_ProjAkIdeal
    ∧ algebraic_ProjAkIdeal_ProjAkRefIdeal (hProjAkIdeal := hProjAkIdeal) (hProjAkRefIdeal := hProjAkRefIdeal)
    ∧ preserves_ProjAv_ProjAvIdeal
    ∧ algebraic_ProjAvIdeal_ProjAvRefIdeal (hProjAvIdeal := hProjAvIdeal) (hProjAvRefIdeal := hProjAvRefIdeal)
    ∧ preserves_ProjBg_ProjBgIdeal
    ∧ algebraic_ProjBgIdeal_ProjBgRefIdeal (hProjBgIdeal := hProjBgIdeal) (hProjBgRefIdeal := hProjBgRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_PeerQuery_PeerQueryIdeal
    ∧ algebraic_PeerQueryIdeal_PeerQueryRefIdeal (hPeerQueryIdeal := hPeerQueryIdeal) (hPeerQueryRefIdeal := hPeerQueryRefIdeal)
    ∧ preserves_Kernel_KernelIdeal
    ∧ algebraic_KernelIdeal_ReferenceIdeal_pre_input_gate_below_inf (hKernelIdeal := hKernelIdeal) (hReferenceIdeal := hReferenceIdeal) (hPre_input_gate_below_inf := hPre_input_gate_below_inf)
    ∧ preserves_Final_FinalIdeal
    ∧ algebraic_FinalIdeal_FinalRefIdeal (hFinalIdeal := hFinalIdeal) (hFinalRefIdeal := hFinalRefIdeal)
    ∧ preserves_Prompt_PromptIdeal
    ∧ algebraic_PromptIdeal_PromptRefIdeal (hPromptIdeal := hPromptIdeal) (hPromptRefIdeal := hPromptRefIdeal)
-- ==== Pre_input_gate_below_inf.lean ====
abbrev S17408x2048 : Shape := ⟨2, ![17408, 2048]⟩
abbrev S17408x4096 : Shape := ⟨2, ![17408, 4096]⟩
abbrev S17408x128 : Shape := ⟨2, ![17408, 128]⟩
abbrev S32x3x2048 : Shape := ⟨3, ![32, 3, 2048]⟩
abbrev S4x2048 : Shape := ⟨2, ![4, 2048]⟩
abbrev S2048 : Shape := ⟨1, ![2048]⟩
abbrev S2x8 : Shape := ⟨2, ![2, 8]⟩
abbrev S8x256 : Shape := ⟨2, ![8, 256]⟩
abbrev S32x8x256x128 : Shape := ⟨4, ![32, 8, 256, 128]⟩
abbrev S32x8x128 : Shape := ⟨3, ![32, 8, 128]⟩
abbrev S32x8 : Shape := ⟨2, ![32, 8]⟩
abbrev S1024x8 : Shape := ⟨2, ![1024, 8]⟩
abbrev S1x8 : Shape := ⟨2, ![1, 8]⟩
abbrev S8 : Shape := ⟨1, ![8]⟩
abbrev S_ : Shape := ⟨0, ![]⟩

class Facts : Prop where
  slices_S17408x128_S1024x8_16384_0 : S17408x128.Slices ![16384, 0] S1024x8
  slices_S2x8_S1x8_0_0 : S2x8.Slices ![0, 0] S1x8
  shapeCasts_S1x8_S8 : S1x8.ShapeCasts S8
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)

variable [Facts]

def fn {F : FTy → Type} [FloatOps F] (main_arg0 : FVec F S17408x2048 .f32) (main_arg1 : FVec F S17408x4096 .bf16) (main_arg2 : FVec F S17408x128 .f32) (main_arg3 : FVec F S32x3x2048 .f32) (main_arg4 : FVec F S4x2048 .f32) (main_arg5 : FVec F S2048 .f32) (main_arg6 : FVec F S2x8 .f32) (main_arg7 : FVec F S8x256 .f32) (main_arg8 : FVec F S32x8x256x128 .f32) (main_arg9 : FVec F S32x8x128 .f32) (main_arg10 : FVec F S32x8 .f32) : IVec S1024x8 1 :=
  let main_v0 : FVec F S1024x8 .f32 := (extractStridedSlice S1024x8 ![16384, 0] · slices_S17408x128_S1024x8_16384_0) main_arg2
  let main_v1 : FVec F S1x8 .f32 := (extractStridedSlice S1x8 ![0, 0] · slices_S2x8_S1x8_0_0) main_arg6
  let main_v2 : FVec F S8 .f32 := shapeCast S8 main_v1 shapeCasts_S1x8_S8
  let main_v3 : FVec F S1x8 .f32 := broadcastInDim S1x8 ![1] bcast_S8_S1x8_1 main_v2
  let main_v4 : FVec F S1024x8 .f32 := broadcastInDim S1024x8 ![0, 1] bcast_S1x8_S1024x8_0_1 main_v3
  let main_v5 : FVec F S1024x8 .f32 := addf main_v0 main_v4
  let main_cst : FVec F S_ .f32 := constant S_ .f32 0x7F800000#32
  let main_v6 : FVec F S1024x8 .f32 := broadcastInDim S1024x8 ![] bcast_S_S1024x8 main_cst
  let main_v7 : IVec S1024x8 1 := cmpf .olt main_v5 main_v6
  main_v7
-- ==== ProjQk.lean ====
abbrev S17408x4096 : Shape := ⟨2, ![17408, 4096]⟩
abbrev S1x4096x20496 : Shape := ⟨3, ![1, 4096, 20496]⟩
abbrev S1x20496x4096 : Shape := ⟨3, ![1, 20496, 4096]⟩
abbrev S17408x2048 : Shape := ⟨2, ![17408, 2048]⟩
abbrev S1024x4096 : Shape := ⟨2, ![1024, 4096]⟩
abbrev S1x512x4096 : Shape := ⟨3, ![1, 512, 4096]⟩
abbrev S1x16x4096 : Shape := ⟨3, ![1, 16, 4096]⟩
abbrev S1024x512 : Shape := ⟨2, ![1024, 512]⟩
abbrev S512x4096 : Shape := ⟨2, ![512, 4096]⟩
abbrev S1x256x4096 : Shape := ⟨3, ![1, 256, 4096]⟩
abbrev S256x4096 : Shape := ⟨2, ![256, 4096]⟩

abbrev nBuf : Space → Nat
  | .hbm => 4
  | .vmem => 7
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S1x20496x4096, .f32⟩
  | .hbm, ⟨3, _⟩ => ⟨S17408x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x16x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQkRefIdeal.lean ====
abbrev S17408x4096 : Shape := ⟨2, ![17408, 4096]⟩
abbrev S1x4096x20496 : Shape := ⟨3, ![1, 4096, 20496]⟩
abbrev S4096x20496 : Shape := ⟨2, ![4096, 20496]⟩
abbrev S17408x20496 : Shape := ⟨2, ![17408, 20496]⟩
abbrev S17408x2048 : Shape := ⟨2, ![17408, 2048]⟩

abbrev nBuf : Space → Nat
  | .hbm => 6
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S17408x4096, .f32⟩
  | .hbm, ⟨3, _⟩ => ⟨S4096x20496, .f32⟩
  | .hbm, ⟨4, _⟩ => ⟨S17408x20496, .f32⟩
  | .hbm, ⟨5, _⟩ => ⟨S17408x2048, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjVo.lean ====
abbrev S17408x4096 : Shape := ⟨2, ![17408, 4096]⟩
abbrev S1x4096x20496 : Shape := ⟨3, ![1, 4096, 20496]⟩
abbrev S1x20496x4096 : Shape := ⟨3, ![1, 20496, 4096]⟩
abbrev S1024x4096 : Shape := ⟨2, ![1024, 4096]⟩
abbrev S1x1024x4096 : Shape := ⟨3, ![1, 1024, 4096]⟩
abbrev S1x16x4096 : Shape := ⟨3, ![1, 16, 4096]⟩
abbrev S1024x1024 : Shape := ⟨2, ![1024, 1024]⟩
abbrev S1x256x4096 : Shape := ⟨3, ![1, 256, 4096]⟩
abbrev S256x4096 : Shape := ⟨2, ![256, 4096]⟩

abbrev nBuf : Space → Nat
  | .hbm => 4
  | .vmem => 7
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S1x20496x4096, .f32⟩
  | .hbm, ⟨3, _⟩ => ⟨S17408x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .f32⟩
  | .local _ .vmem, ⟨3, _⟩ => ⟨S1x16x4096, .f32⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjVoRefIdeal.lean ====
abbrev S17408x4096 : Shape := ⟨2, ![17408, 4096]⟩
abbrev S1x4096x20496 : Shape := ⟨3, ![1, 4096, 20496]⟩
abbrev S4096x20496 : Shape := ⟨2, ![4096, 20496]⟩
abbrev S17408x20496 : Shape := ⟨2, ![17408, 20496]⟩

abbrev nBuf : Space → Nat
  | .hbm => 7
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S17408x4096, .f32⟩
  | .hbm, ⟨3, _⟩ => ⟨S4096x20496, .f32⟩
  | .hbm, ⟨4, _⟩ => ⟨S17408x20496, .f32⟩
  | .hbm, ⟨5, _⟩ => ⟨S17408x4096, .f32⟩
  | .hbm, ⟨6, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjAq.lean ====
abbrev S17408x4096 : Shape := ⟨2, ![17408, 4096]⟩
abbrev S1x4096x20496 : Shape := ⟨3, ![1, 4096, 20496]⟩
abbrev S1x20496x4096 : Shape := ⟨3, ![1, 20496, 4096]⟩
abbrev S17408x2048 : Shape := ⟨2, ![17408, 2048]⟩
abbrev S1024x4096 : Shape := ⟨2, ![1024, 4096]⟩
abbrev S1x1024x4096 : Shape := ⟨3, ![1, 1024, 4096]⟩
abbrev S1x16x4096 : Shape := ⟨3, ![1, 16, 4096]⟩
abbrev S1024x1024 : Shape := ⟨2, ![1024, 1024]⟩
abbrev S1x256x4096 : Shape := ⟨3, ![1, 256, 4096]⟩
abbrev S256x4096 : Shape := ⟨2, ![256, 4096]⟩
abbrev S1x240x4096 : Shape := ⟨3, ![1, 240, 4096]⟩
abbrev S240x4096 : Shape := ⟨2, ![240, 4096]⟩
abbrev S16x4096 : Shape := ⟨2, ![16, 4096]⟩

abbrev nBuf : Space → Nat
  | .hbm => 4
  | .vmem => 7
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S1x20496x4096, .f32⟩
  | .hbm, ⟨3, _⟩ => ⟨S17408x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .f32⟩
  | .local _ .vmem, ⟨3, _⟩ => ⟨S1x16x4096, .f32⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c1_i32 : BitVec 32 := 1#32
  let v1 : BitVec 32 := Scalar.addi v0 c1_i32
  let c64_i32 : BitVec 32 := 64#32
  let v2 : BitVec 32 := Scalar.muli v1 c64_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjAqIdeal.lean ====
variable {F : FTy → Type} [FloatOps F] [Named F]
def κ : String → Option EReal := fun
  | "s" => some (((Real.log 2)⁻¹ * (Real.sqrt 128)⁻¹ : ℝ) : EReal)
  | _ => none
-- ==== ProjAqRefIdeal.lean ====
abbrev S17408x4096 : Shape := ⟨2, ![17408, 4096]⟩
abbrev S1x4096x20496 : Shape := ⟨3, ![1, 4096, 20496]⟩
abbrev S4096x20496 : Shape := ⟨2, ![4096, 20496]⟩
abbrev S17408x20496 : Shape := ⟨2, ![17408, 20496]⟩
abbrev S17408x2048 : Shape := ⟨2, ![17408, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S17408x4096, .f32⟩
  | .hbm, ⟨3, _⟩ => ⟨S4096x20496, .f32⟩
  | .hbm, ⟨4, _⟩ => ⟨S17408x20496, .f32⟩
  | .hbm, ⟨5, _⟩ => ⟨S17408x2048, .f32⟩
  | .hbm, ⟨6, _⟩ => ⟨S_, .f32⟩
  | .hbm, ⟨7, _⟩ => ⟨S_, .f32⟩
  | .hbm, ⟨8, _⟩ => ⟨S17408x2048, .f32⟩
  | .hbm, ⟨9, _⟩ => ⟨S17408x2048, .f32⟩
  | .hbm, ⟨10, _⟩ => ⟨S_, .f32⟩
  | .hbm, ⟨11, _⟩ => ⟨S_, .f32⟩
  | .hbm, ⟨12, _⟩ => ⟨S17408x2048, .f32⟩
  | .hbm, ⟨13, _⟩ => ⟨S17408x2048, .f32⟩
  | .hbm, ⟨14, _⟩ => ⟨S17408x2048, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ProjAk.lean ====
abbrev S17408x4096 : Shape := ⟨2, ![17408, 4096]⟩
abbrev S1x4096x20496 : Shape := ⟨3, ![1, 4096, 20496]⟩
abbrev S1x20496x4096 : Shape := ⟨3, ![1, 20496, 4096]⟩
abbrev S17408x2048 : Shape := ⟨2, ![17408, 2048]⟩
abbrev S16384x2048 : Shape := ⟨2, ![16384, 2048]⟩
abbrev S1024x2048 : Shape := ⟨2, ![1024, 2048]⟩
abbrev S1024x4096 : Shape := ⟨2, ![1024, 4096]⟩
abbrev S1x512x4096 : Shape := ⟨3, ![1, 512, 4096]⟩
abbrev S1x16x4096 : Shape := ⟨3, ![1, 16, 4096]⟩
abbrev S1024x512 : Shape := ⟨2, ![1024, 512]⟩
abbrev S512x4096 : Shape := ⟨2, ![512, 4096]⟩
abbrev S1x256x4096 : Shape := ⟨3, ![1, 256, 4096]⟩
abbrev S256x4096 : Shape := ⟨2, ![256, 4096]⟩
abbrev S1x240x4096 : Shape := ⟨3, ![1, 240, 4096]⟩
abbrev S240x4096 : Shape := ⟨2, ![240, 4096]⟩
abbrev S16x4096 : Shape := ⟨2, ![16, 4096]⟩

abbrev nBuf : Space → Nat
  | .hbm => 6
  | .vmem => 11
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S1x20496x4096, .f32⟩
  | .hbm, ⟨3, _⟩ => ⟨S17408x2048, .bf16⟩
  | .hbm, ⟨4, _⟩ => ⟨S16384x2048, .f32⟩
  | .hbm, ⟨5, _⟩ => ⟨S1024x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x16x4096, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S512x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32 : BitVec 32 := 16#32
  let v8 : BitVec 1 := Scalar.cmpi .slt arg1 c16_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c16_i32_7 : BitVec 32 := 16#32
  let v11 : BitVec 1 := Scalar.cmpi .sge arg1 c16_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c1_i32 : BitVec 32 := 1#32
  let v1 : BitVec 32 := Scalar.addi v0 c1_i32
  let c32_i32 : BitVec 32 := 32#32
  let v2 : BitVec 32 := Scalar.muli v1 c32_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjAkRefIdeal.lean ====
abbrev S17408x4096 : Shape := ⟨2, ![17408, 4096]⟩
abbrev S1x4096x20496 : Shape := ⟨3, ![1, 4096, 20496]⟩
abbrev S4096x20496 : Shape := ⟨2, ![4096, 20496]⟩
abbrev S17408x20496 : Shape := ⟨2, ![17408, 20496]⟩
abbrev S17408x2048 : Shape := ⟨2, ![17408, 2048]⟩
abbrev S16384x2048 : Shape := ⟨2, ![16384, 2048]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S17408x4096, .f32⟩
  | .hbm, ⟨3, _⟩ => ⟨S4096x20496, .f32⟩
  | .hbm, ⟨4, _⟩ => ⟨S17408x20496, .f32⟩
  | .hbm, ⟨5, _⟩ => ⟨S17408x2048, .f32⟩
  | .hbm, ⟨6, _⟩ => ⟨S17408x2048, .bf16⟩
  | .hbm, ⟨7, _⟩ => ⟨S16384x2048, .f32⟩
  | .hbm, ⟨8, _⟩ => ⟨S1024x2048, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== ProjAv.lean ====
abbrev S17408x4096 : Shape := ⟨2, ![17408, 4096]⟩
abbrev S1x4096x20496 : Shape := ⟨3, ![1, 4096, 20496]⟩
abbrev S1x20496x4096 : Shape := ⟨3, ![1, 20496, 4096]⟩
abbrev S34x2048x512 : Shape := ⟨3, ![34, 2048, 512]⟩
abbrev S16384x2048 : Shape := ⟨2, ![16384, 2048]⟩
abbrev S1024x2048 : Shape := ⟨2, ![1024, 2048]⟩
abbrev S512x4096 : Shape := ⟨2, ![512, 4096]⟩
abbrev S1x512x4096 : Shape := ⟨3, ![1, 512, 4096]⟩
abbrev S1x16x4096 : Shape := ⟨3, ![1, 16, 4096]⟩
abbrev S1x512x512 : Shape := ⟨3, ![1, 512, 512]⟩
abbrev S512x512 : Shape := ⟨2, ![512, 512]⟩
abbrev S1x256x4096 : Shape := ⟨3, ![1, 256, 4096]⟩
abbrev S256x4096 : Shape := ⟨2, ![256, 4096]⟩
abbrev S1x240x4096 : Shape := ⟨3, ![1, 240, 4096]⟩
abbrev S240x4096 : Shape := ⟨2, ![240, 4096]⟩
abbrev S16x4096 : Shape := ⟨2, ![16, 4096]⟩

abbrev nBuf : Space → Nat
  | .hbm => 6
  | .vmem => 11
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S1x20496x4096, .f32⟩
  | .hbm, ⟨3, _⟩ => ⟨S34x2048x512, .bf16⟩
  | .hbm, ⟨4, _⟩ => ⟨S16384x2048, .f32⟩
  | .hbm, ⟨5, _⟩ => ⟨S1024x2048, .f32⟩
  | .local _ .vmem, ⟨0, _⟩ => ⟨S512x4096, .bf16⟩
  | .local _ .vmem, ⟨1, _⟩ => ⟨S512x4096, .bf16⟩
  | .local _ .vmem, ⟨2, _⟩ => ⟨S1x512x4096, .f32⟩
  | .local _ .vmem, ⟨3, _⟩ => ⟨S1x16x4096, .f32⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 34], ![false, false]⟩

def k0_cond2 (i : grid0.Coords) : BitVec 1 :=
  let arg1 : BitVec 32 := BitVec.ofNat 32 (i 1).val
  let c32_i32 : BitVec 32 := 32#32
  let v11 : BitVec 1 := Scalar.cmpi .slt arg1 c32_i32
  let v12 : BitVec 32 := Scalar.extui v11
  let c0_i32_7 : BitVec 32 := 0#32
  let v13 : BitVec 1 := Scalar.cmpi .ne v12 c0_i32_7
  v13

def k0_cond3 (i : grid0.Coords) : BitVec 1 :=
  let arg1 : BitVec 32 := BitVec.ofNat 32 (i 1).val
  let c32_i32_8 : BitVec 32 := 32#32
  let v14 : BitVec 1 := Scalar.cmpi .sge arg1 c32_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c1_i32 : BitVec 32 := 1#32
  let v1 : BitVec 32 := Scalar.addi v0 c1_i32
  let c32_i32 : BitVec 32 := 32#32
  let v2 : BitVec 32 := Scalar.muli v1 c32_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjAvRefIdeal.lean ====
abbrev S17408x4096 : Shape := ⟨2, ![17408, 4096]⟩
abbrev S1x4096x20496 : Shape := ⟨3, ![1, 4096, 20496]⟩
abbrev S4096x20496 : Shape := ⟨2, ![4096, 20496]⟩
abbrev S17408x20496 : Shape := ⟨2, ![17408, 20496]⟩
abbrev S17408x2048 : Shape := ⟨2, ![17408, 2048]⟩
abbrev S34x512x2048 : Shape := ⟨3, ![34, 512, 2048]⟩
abbrev S34x2048x512 : Shape := ⟨3, ![34, 2048, 512]⟩
abbrev S16384x2048 : Shape := ⟨2, ![16384, 2048]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S17408x4096, .f32⟩
  | .hbm, ⟨3, _⟩ => ⟨S4096x20496, .f32⟩
  | .hbm, ⟨4, _⟩ => ⟨S17408x20496, .f32⟩
  | .hbm, ⟨5, _⟩ => ⟨S17408x2048, .f32⟩
  | .hbm, ⟨6, _⟩ => ⟨S17408x2048, .bf16⟩
  | .hbm, ⟨7, _⟩ => ⟨S34x512x2048, .bf16⟩
  | .hbm, ⟨8, _⟩ => ⟨S34x2048x512, .bf16⟩
  | .hbm, ⟨9, _⟩ => ⟨S16384x2048, .f32⟩
  | .hbm, ⟨10, _⟩ => ⟨S1024x2048, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== ProjBg.lean ====
abbrev S17408x4096 : Shape := ⟨2, ![17408, 4096]⟩
abbrev S1x4096x20496 : Shape := ⟨3, ![1, 4096, 20496]⟩
abbrev S1x20496x4096 : Shape := ⟨3, ![1, 20496, 4096]⟩
abbrev S17408x8192 : Shape := ⟨2, ![17408, 8192]⟩
abbrev S1024x4096 : Shape := ⟨2, ![1024, 4096]⟩
abbrev S1x1024x4096 : Shape := ⟨3, ![1, 1024, 4096]⟩
abbrev S1x16x4096 : Shape := ⟨3, ![1, 16, 4096]⟩
abbrev S1024x1024 : Shape := ⟨2, ![1024, 1024]⟩
abbrev S1x256x4096 : Shape := ⟨3, ![1, 256, 4096]⟩
abbrev S256x4096 : Shape := ⟨2, ![256, 4096]⟩
abbrev S1x240x4096 : Shape := ⟨3, ![1, 240, 4096]⟩
abbrev S240x4096 : Shape := ⟨2, ![240, 4096]⟩
abbrev S16x4096 : Shape := ⟨2, ![16, 4096]⟩

abbrev nBuf : Space → Nat
  | .hbm => 4
  | .vmem => 7
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S1x20496x4096, .f32⟩
  | .hbm, ⟨3, _⟩ => ⟨S17408x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .f32⟩
  | .local _ .vmem, ⟨3, _⟩ => ⟨S1x16x4096, .f32⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c1_i32 : BitVec 32 := 1#32
  let v1 : BitVec 32 := Scalar.addi v0 c1_i32
  let c64_i32 : BitVec 32 := 64#32
  let v2 : BitVec 32 := Scalar.muli v1 c64_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjBgRefIdeal.lean ====
abbrev S17408x4096 : Shape := ⟨2, ![17408, 4096]⟩
abbrev S1x4096x20496 : Shape := ⟨3, ![1, 4096, 20496]⟩
abbrev S4096x20496 : Shape := ⟨2, ![4096, 20496]⟩
abbrev S17408x20496 : Shape := ⟨2, ![17408, 20496]⟩
abbrev S17408x8192 : Shape := ⟨2, ![17408, 8192]⟩

abbrev nBuf : Space → Nat
  | .hbm => 7
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x20496, .f32⟩
  | .hbm, ⟨2, _⟩ => ⟨S17408x4096, .f32⟩
  | .hbm, ⟨3, _⟩ => ⟨S4096x20496, .f32⟩
  | .hbm, ⟨4, _⟩ => ⟨S17408x20496, .f32⟩
  | .hbm, ⟨5, _⟩ => ⟨S17408x8192, .f32⟩
  | .hbm, ⟨6, _⟩ => ⟨S17408x8192, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S16384x2048 : Shape := ⟨2, ![16384, 2048]⟩
abbrev S1024x2048 : Shape := ⟨2, ![1024, 2048]⟩
abbrev S2048x4096 : Shape := ⟨2, ![2048, 4096]⟩
abbrev S17408x8192 : Shape := ⟨2, ![17408, 8192]⟩
abbrev S17408x4096 : Shape := ⟨2, ![17408, 4096]⟩
abbrev S2048x512 : Shape := ⟨2, ![2048, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S16384x2048, .bf16⟩
  | .hbm, ⟨3, _⟩ => ⟨S1024x2048, .bf16⟩
  | .hbm, ⟨4, _⟩ => ⟨S2048x4096, .bf16⟩
  | .hbm, ⟨5, _⟩ => ⟨S2048x4096, .bf16⟩
  | .hbm, ⟨6, _⟩ => ⟨S17408x8192, .bf16⟩
  | .hbm, ⟨7, _⟩ => ⟨S17408x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S16384x2048 : Shape := ⟨2, ![16384, 2048]⟩
abbrev S1024x2048 : Shape := ⟨2, ![1024, 2048]⟩
abbrev S2048x4096 : Shape := ⟨2, ![2048, 4096]⟩
abbrev S17408x8192 : Shape := ⟨2, ![17408, 8192]⟩
abbrev S17408x2048 : Shape := ⟨2, ![17408, 2048]⟩
abbrev S17408x4096 : Shape := ⟨2, ![17408, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S16384x2048, .bf16⟩
  | .hbm, ⟨3, _⟩ => ⟨S1024x2048, .bf16⟩
  | .hbm, ⟨4, _⟩ => ⟨S2048x4096, .bf16⟩
  | .hbm, ⟨5, _⟩ => ⟨S2048x4096, .bf16⟩
  | .hbm, ⟨6, _⟩ => ⟨S17408x8192, .bf16⟩
  | .hbm, ⟨7, _⟩ => ⟨S17408x2048, .bf16⟩
  | .hbm, ⟨8, _⟩ => ⟨S17408x2048, .f32⟩
  | .hbm, ⟨9, _⟩ => ⟨S17408x2048, .bf16⟩
  | .hbm, ⟨10, _⟩ => ⟨S17408x2048, .f32⟩
  | .hbm, ⟨11, _⟩ => ⟨S2048x4096, .f32⟩
  | .hbm, ⟨12, _⟩ => ⟨S17408x4096, .f32⟩
  | .hbm, ⟨13, _⟩ => ⟨S2048x4096, .f32⟩
  | .hbm, ⟨14, _⟩ => ⟨S17408x4096, .f32⟩
  | .hbm, ⟨15, _⟩ => ⟨S17408x8192, .f32⟩
  | .hbm, ⟨16, _⟩ => ⟨S17408x8192, .f32⟩
  | .hbm, ⟨17, _⟩ => ⟨S17408x8192, .f32⟩
  | .hbm, ⟨18, _⟩ => ⟨S_, .f32⟩
  | .hbm, ⟨19, _⟩ => ⟨S17408x8192, .f32⟩
  | .hbm, ⟨20, _⟩ => ⟨S17408x8192, .f32⟩
  | .hbm, ⟨21, _⟩ => ⟨S_, .f32⟩
  | .hbm, ⟨22, _⟩ => ⟨S17408x8192, .f32⟩
  | .hbm, ⟨23, _⟩ => ⟨S17408x8192, .f32⟩
  | .hbm, ⟨24, _⟩ => ⟨S17408x4096, .f32⟩
  | .hbm, ⟨25, _⟩ => ⟨S17408x4096, .f32⟩
  | .hbm, ⟨26, _⟩ => ⟨S17408x4096, .f32⟩
  | .hbm, ⟨27, _⟩ => ⟨S17408x4096, .f32⟩
  | .hbm, ⟨28, _⟩ => ⟨S17408x4096, .f32⟩
  | .hbm, ⟨29, _⟩ => ⟨S17408x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Outproj.lean ====
abbrev S17408x4096 : Shape := ⟨2, ![17408, 4096]⟩
abbrev S4096x4096 : Shape := ⟨2, ![4096, 4096]⟩
abbrev S16384x4096 : Shape := ⟨2, ![16384, 4096]⟩
abbrev S1024x4096 : Shape := ⟨2, ![1024, 4096]⟩
abbrev S40x6x1x4096 : Shape := ⟨4, ![40, 6, 1, 4096]⟩
abbrev S4096x512 : Shape := ⟨2, ![4096, 512]⟩
abbrev S1024x512 : Shape := ⟨2, ![1024, 512]⟩
abbrev S1x1x1x512 : Shape := ⟨4, ![1, 1, 1, 512]⟩
abbrev S32x1x1x512 : Shape := ⟨4, ![32, 1, 1, 512]⟩
abbrev S1x512 : Shape := ⟨2, ![1, 512]⟩
abbrev S1x1x512 : Shape := ⟨3, ![1, 1, 512]⟩
abbrev S1x1024x512 : Shape := ⟨3, ![1, 1024, 512]⟩
abbrev S32x1x512 : Shape := ⟨3, ![32, 1, 512]⟩
abbrev S32x32x512 : Shape := ⟨3, ![32, 32, 512]⟩

abbrev nBuf : Space → Nat
  | .hbm => 6
  | .vmem => 14
  | .smem => 0
  | _ => 0

abbrev bufTy : (tb : Table) → Fin (tcTables nBuf tb) → BufTy
  | .hbm, ⟨0, _⟩ => ⟨S17408x4096, .bf16⟩
  | .hbm, ⟨1, _⟩ => ⟨S4096x4096, .bf16⟩
  | .hbm, ⟨2, _⟩ => ⟨S16384x4096, .f32⟩
  | .hbm, ⟨3, _⟩ => ⟨S1024x4096, .f32⟩
  | .hbm, ⟨4, _⟩ => ⟨S40x6x1x4096, .f32⟩
  | .hbm, ⟨5, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1x1x512, .f32⟩
  | .local _ .vmem, ⟨9, _⟩ => ⟨S1x1x1x512, .f32⟩
  | .local _ .vmem, ⟨10, _⟩ => ⟨S32x1x1x512, .f32⟩
  | .local _ .vmem, ⟨11, _⟩ => ⟨S32x1x1x512, .f32⟩
  | .local _ .vmem, ⟨12, _⟩ => ⟨S1024x512, .f32⟩
  | .local _ .vmem, ⟨13, _⟩ => ⟨S1024x512, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32 : BitVec 32 := 0#32
  let v5 : BitVec 1 := Scalar.cmpi .ne v4 c0_i32
  v5

def k0_cond2 (i : grid0.Coords) : BitVec 1 :=
  let arg0 : BitVec 32 := BitVec.ofNat 32 (i 0).val
  let c16_i32_3 : BitVec 32 := 16#32
  let v6 : BitVec 1 := Scalar.cmpi .sge arg0 c16_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1024_i32 : BitVec 32 := 1024#32
  let v1 : BitVec 32 := Scalar.muli v0 c1024_i32
  let c8192_i32 : BitVec 32 := 8192#32
  let v2 : BitVec 32 := Scalar.divsi v1 c8192_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v1 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32 : BitVec 32 := 32#32
  let v19 : BitVec 32 := Scalar.addi c32_i32 v18
  let c2_i32 : BitVec 32 := 2#32
  let c0_i32_4 : BitVec 32 := 0#32
  let c0_i32_5 : BitVec 32 := 0#32
  ![v19.toNat, c2_i32.toNat, c0_i32_4.toNat, arg1.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![v1.toNat, c2_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutprojRefIdeal.lean ====
abbrev S17408x4096 : Shape := ⟨2, ![17408, 4096]⟩
abbrev S4096x4096 : Shape := ⟨2, ![4096, 4096]⟩
abbrev S16384x4096 : Shape := ⟨2, ![16384, 4096]⟩
abbrev S1024x4096 : Shape := ⟨2, ![1024, 4096]⟩
abbrev S40x6x1x4096 : Shape := ⟨4, ![40, 6, 1, 4096]⟩
abbrev S2x1x1x4096 : Shape := ⟨4, ![2, 1, 1, 4096]⟩
abbrev S2x1x4096 : Shape := ⟨3, ![2, 1, 4096]⟩
abbrev S32x1x1x4096 : Shape := ⟨4, ![32, 1, 1, 4096]⟩
abbrev S32x1x4096 : Shape := ⟨3, ![32, 1, 4096]⟩
abbrev S2x8192x4096 : Shape := ⟨3, ![2, 8192, 4096]⟩
abbrev S32x32x4096 : Shape := ⟨3, ![32, 32, 4096]⟩

abbrev nBuf : Space → Nat
  | .hbm => 27
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x4096, .bf16⟩
  | .hbm, ⟨2, _⟩ => ⟨S16384x4096, .f32⟩
  | .hbm, ⟨3, _⟩ => ⟨S1024x4096, .f32⟩
  | .hbm, ⟨4, _⟩ => ⟨S40x6x1x4096, .f32⟩
  | .hbm, ⟨5, _⟩ => ⟨S17408x4096, .f32⟩
  | .hbm, ⟨6, _⟩ => ⟨S4096x4096, .f32⟩
  | .hbm, ⟨7, _⟩ => ⟨S17408x4096, .f32⟩
  | .hbm, ⟨8, _⟩ => ⟨S2x1x1x4096, .f32⟩
  | .hbm, ⟨9, _⟩ => ⟨S2x1x4096, .f32⟩
  | .hbm, ⟨10, _⟩ => ⟨S32x1x1x4096, .f32⟩
  | .hbm, ⟨11, _⟩ => ⟨S32x1x4096, .f32⟩
  | .hbm, ⟨12, _⟩ => ⟨S2x8192x4096, .f32⟩
  | .hbm, ⟨13, _⟩ => ⟨S16384x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S32x32x4096, .f32⟩
  | .hbm, ⟨19, _⟩ => ⟨S1024x4096, .f32⟩
  | .hbm, ⟨20, _⟩ => ⟨S32x32x4096, .f32⟩
  | .hbm, ⟨21, _⟩ => ⟨S32x32x4096, .f32⟩
  | .hbm, ⟨22, _⟩ => ⟨S32x32x4096, .f32⟩
  | .hbm, ⟨23, _⟩ => ⟨S32x32x4096, .f32⟩
  | .hbm, ⟨24, _⟩ => ⟨S16384x4096, .f32⟩
  | .hbm, ⟨25, _⟩ => ⟨S1024x4096, .f32⟩
  | .hbm, ⟨26, _⟩ => ⟨S17408x4096, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== PeerQuery.lean ====
abbrev S17408x4096 : Shape := ⟨2, ![17408, 4096]⟩
abbrev S4096x2048 : Shape := ⟨2, ![4096, 2048]⟩
abbrev S17408x2048 : Shape := ⟨2, ![17408, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .bf16⟩
  | .hbm, ⟨2, _⟩ => ⟨S17408x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQueryRefIdeal.lean ====
abbrev S17408x4096 : Shape := ⟨2, ![17408, 4096]⟩
abbrev S4096x2048 : Shape := ⟨2, ![4096, 2048]⟩
abbrev S17408x2048 : Shape := ⟨2, ![17408, 2048]⟩

abbrev nBuf : Space → Nat
  | .hbm => 5
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .bf16⟩
  | .hbm, ⟨2, _⟩ => ⟨S17408x4096, .f32⟩
  | .hbm, ⟨3, _⟩ => ⟨S4096x2048, .f32⟩
  | .hbm, ⟨4, _⟩ => ⟨S17408x2048, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel.lean ====
abbrev S17408x2048 : Shape := ⟨2, ![17408, 2048]⟩
abbrev S17408x4096 : Shape := ⟨2, ![17408, 4096]⟩
abbrev S17408x128 : Shape := ⟨2, ![17408, 128]⟩
abbrev S32x3x2048 : Shape := ⟨3, ![32, 3, 2048]⟩
abbrev S4x2048 : Shape := ⟨2, ![4, 2048]⟩
abbrev S2048 : Shape := ⟨1, ![2048]⟩
abbrev S2x8 : Shape := ⟨2, ![2, 8]⟩
abbrev S8x256 : Shape := ⟨2, ![8, 256]⟩
abbrev S32x8x256x128 : Shape := ⟨4, ![32, 8, 256, 128]⟩
abbrev S32x8x128 : Shape := ⟨3, ![32, 8, 128]⟩
abbrev S32x8 : Shape := ⟨2, ![32, 8]⟩
abbrev S32x8x1 : Shape := ⟨3, ![32, 8, 1]⟩
abbrev S1x16 : Shape := ⟨2, ![1, 16]⟩
abbrev S_ : Shape := ⟨0, ![]⟩
abbrev S1x128 : Shape := ⟨2, ![1, 128]⟩
abbrev S1x2048 : Shape := ⟨2, ![1, 2048]⟩
abbrev S1024x2048 : Shape := ⟨2, ![1024, 2048]⟩
abbrev S32x2048 : Shape := ⟨2, ![32, 2048]⟩
abbrev S32x128 : Shape := ⟨2, ![32, 128]⟩
abbrev S1x3x2048 : Shape := ⟨3, ![1, 3, 2048]⟩
abbrev S1x8x256x128 : Shape := ⟨4, ![1, 8, 256, 128]⟩
abbrev S1x8x128 : Shape := ⟨3, ![1, 8, 128]⟩
abbrev S40x2048 : Shape := ⟨2, ![40, 2048]⟩
abbrev S3x2048 : Shape := ⟨2, ![3, 2048]⟩
abbrev S32x32 : Shape := ⟨2, ![32, 32]⟩
abbrev S128x128 : Shape := ⟨2, ![128, 128]⟩
abbrev S128x32 : Shape := ⟨2, ![128, 32]⟩
abbrev S32x256 : Shape := ⟨2, ![32, 256]⟩
abbrev S32x1 : Shape := ⟨2, ![32, 1]⟩
abbrev S1x32 : Shape := ⟨2, ![1, 32]⟩
abbrev S1x1x1 : Shape := ⟨3, ![1, 1, 1]⟩
abbrev S1x1 : Shape := ⟨2, ![1, 1]⟩
abbrev S32 : Shape := ⟨1, ![32]⟩
abbrev S1x1x256x128 : Shape := ⟨4, ![1, 1, 256, 128]⟩
abbrev S256x128 : Shape := ⟨2, ![256, 128]⟩
abbrev S1x1x128 : Shape := ⟨3, ![1, 1, 128]⟩
abbrev S128 : Shape := ⟨1, ![128]⟩
abbrev S1x256 : Shape := ⟨2, ![1, 256]⟩

abbrev nBuf : Space → Nat
  | .hbm => 23
  | .vmem => 31
  | .smem => 0
  | _ => 0

abbrev bufTy : (tb : Table) → Fin (tcTables nBuf tb) → BufTy
  | .hbm, ⟨0, _⟩ => ⟨S17408x2048, .f32⟩
  | .hbm, ⟨1, _⟩ => ⟨S17408x4096, .bf16⟩
  | .hbm, ⟨2, _⟩ => ⟨S17408x128, .f32⟩
  | .hbm, ⟨3, _⟩ => ⟨S32x3x2048, .f32⟩
  | .hbm, ⟨4, _⟩ => ⟨S4x2048, .f32⟩
  | .hbm, ⟨5, _⟩ => ⟨S2048, .f32⟩
  | .hbm, ⟨6, _⟩ => ⟨S2x8, .f32⟩
  | .hbm, ⟨7, _⟩ => ⟨S8x256, .f32⟩
  | .hbm, ⟨8, _⟩ => ⟨S32x8x256x128, .f32⟩
  | .hbm, ⟨9, _⟩ => ⟨S32x8x128, .f32⟩
  | .hbm, ⟨10, _⟩ => ⟨S32x8, .f32⟩
  | .hbm, ⟨11, _⟩ => ⟨S32x8x1, .f32⟩
  | .hbm, ⟨12, _⟩ => ⟨S32x8x128, .f32⟩
  | .hbm, ⟨13, _⟩ => ⟨S1x16, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x2048, .f32⟩
  | .hbm, ⟨18, _⟩ => ⟨S1024x2048, .bf16⟩
  | .hbm, ⟨19, _⟩ => ⟨S32x8x256x128, .f32⟩
  | .hbm, ⟨20, _⟩ => ⟨S32x8x128, .f32⟩
  | .hbm, ⟨21, _⟩ => ⟨S32x8x128, .f32⟩
  | .hbm, ⟨22, _⟩ => ⟨S32x3x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .bf16⟩
  | .local _ .vmem, ⟨3, _⟩ => ⟨S32x2048, .bf16⟩
  | .local _ .vmem, ⟨4, _⟩ => ⟨S32x2048, .bf16⟩
  | .local _ .vmem, ⟨5, _⟩ => ⟨S32x2048, .bf16⟩
  | .local _ .vmem, ⟨6, _⟩ => ⟨S32x128, .f32⟩
  | .local _ .vmem, ⟨7, _⟩ => ⟨S32x128, .f32⟩
  | .local _ .vmem, ⟨8, _⟩ => ⟨S1x3x2048, .f32⟩
  | .local _ .vmem, ⟨9, _⟩ => ⟨S1x3x2048, .f32⟩
  | .local _ .vmem, ⟨10, _⟩ => ⟨S4x2048, .f32⟩
  | .local _ .vmem, ⟨11, _⟩ => ⟨S1x2048, .f32⟩
  | .local _ .vmem, ⟨12, _⟩ => ⟨S1x128, .f32⟩
  | .local _ .vmem, ⟨13, _⟩ => ⟨S8x256, .f32⟩
  | .local _ .vmem, ⟨14, _⟩ => ⟨S1x8x256x128, .f32⟩
  | .local _ .vmem, ⟨15, _⟩ => ⟨S1x8x256x128, .f32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | .local _ .vmem, ⟨20, _⟩ => ⟨S32x2048, .bf16⟩
  | .local _ .vmem, ⟨21, _⟩ => ⟨S32x2048, .bf16⟩
  | .local _ .vmem, ⟨22, _⟩ => ⟨S1x8x256x128, .f32⟩
  | .local _ .vmem, ⟨23, _⟩ => ⟨S1x8x256x128, .f32⟩
  | .local _ .vmem, ⟨24, _⟩ => ⟨S1x8x128, .f32⟩
  | .local _ .vmem, ⟨25, _⟩ => ⟨S1x8x128, .f32⟩
  | .local _ .vmem, ⟨26, _⟩ => ⟨S1x8x128, .f32⟩
  | .local _ .vmem, ⟨27, _⟩ => ⟨S1x8x128, .f32⟩
  | .local _ .vmem, ⟨28, _⟩ => ⟨S1x3x2048, .f32⟩
  | .local _ .vmem, ⟨29, _⟩ => ⟨S1x3x2048, .f32⟩
  | .local _ .vmem, ⟨30, _⟩ => ⟨S40x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v5_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x3x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S17408x2048 : Shape := ⟨2, ![17408, 2048]⟩
abbrev S17408x4096 : Shape := ⟨2, ![17408, 4096]⟩
abbrev S17408x128 : Shape := ⟨2, ![17408, 128]⟩
abbrev S32x3x2048 : Shape := ⟨3, ![32, 3, 2048]⟩
abbrev S4x2048 : Shape := ⟨2, ![4, 2048]⟩
abbrev S2048 : Shape := ⟨1, ![2048]⟩
abbrev S2x8 : Shape := ⟨2, ![2, 8]⟩
abbrev S8x256 : Shape := ⟨2, ![8, 256]⟩
abbrev S32x8x256x128 : Shape := ⟨4, ![32, 8, 256, 128]⟩
abbrev S32x8x128 : Shape := ⟨3, ![32, 8, 128]⟩
abbrev S32x8 : Shape := ⟨2, ![32, 8]⟩
abbrev S1024x2048 : Shape := ⟨2, ![1024, 2048]⟩
abbrev S32x32x2048 : Shape := ⟨3, ![32, 32, 2048]⟩
abbrev S32x32x8x256 : Shape := ⟨4, ![32, 32, 8, 256]⟩
abbrev S1024x8 : Shape := ⟨2, ![1024, 8]⟩
abbrev S32x32x8 : Shape := ⟨3, ![32, 32, 8]⟩
abbrev S32x35x2048 : Shape := ⟨3, ![32, 35, 2048]⟩
abbrev S1x2048 : Shape := ⟨2, ![1, 2048]⟩
abbrev S1x1x2048 : Shape := ⟨3, ![1, 1, 2048]⟩
abbrev S_ : Shape := ⟨0, ![]⟩
abbrev S32x32x1024 : Shape := ⟨3, ![32, 32, 1024]⟩
abbrev S32x32x8x128 : Shape := ⟨4, ![32, 32, 8, 128]⟩
abbrev S1x8 : Shape := ⟨2, ![1, 8]⟩
abbrev S8 : Shape := ⟨1, ![8]⟩
abbrev S1x1x8 : Shape := ⟨3, ![1, 1, 8]⟩
abbrev S32x8x32x128 : Shape := ⟨4, ![32, 8, 32, 128]⟩
abbrev S32x8x32x256 : Shape := ⟨4, ![32, 8, 32, 256]⟩
abbrev S32x8x32 : Shape := ⟨3, ![32, 8, 32]⟩
abbrev S32x32 : Shape := ⟨2, ![32, 32]⟩
abbrev S32x8x32x1 : Shape := ⟨4, ![32, 8, 32, 1]⟩
abbrev S32x8x1x32 : Shape := ⟨4, ![32, 8, 1, 32]⟩
abbrev S32x8x32x32 : Shape := ⟨4, ![32, 8, 32, 32]⟩
abbrev S32x8x1 : Shape := ⟨3, ![32, 8, 1]⟩
abbrev S32x8x1x1 : Shape := ⟨4, ![32, 8, 1, 1]⟩
abbrev S32x32x8x1 : Shape := ⟨4, ![32, 32, 8, 1]⟩
abbrev S1x1x8x256 : Shape := ⟨4, ![1, 1, 8, 256]⟩

abbrev nBuf : Space → Nat
  | .hbm => 221
  | .vmem => 0
  | .smem => 0
  | _ => 0

abbrev hbmTy0_0 (i : Nat) : BufTy := match i % 128 with
  | 0 => ⟨S17408x2048, .f32⟩
  | 1 => ⟨S17408x4096, .bf16⟩
  | 2 => ⟨S17408x128, .f32⟩
  | 3 => ⟨S32x3x2048, .f32⟩
  | 4 => ⟨S4x2048, .f32⟩
  | 5 => ⟨S2048, .f32⟩
  | 6 => ⟨S2x8, .f32⟩
  | 7 => ⟨S8x256, .f32⟩
  | 8 => ⟨S32x8x256x128, .f32⟩
  | 9 => ⟨S32x8x128, .f32⟩
  | 10 => ⟨S32x8, .f32⟩
  | 11 => ⟨S1024x2048, .f32⟩
  | 12 => ⟨S32x32x2048, .f32⟩
  | 13 => ⟨S1024x2048, .bf16⟩
  | 14 => ⟨S32x32x8x256, .bf16⟩
  | 15 => ⟨S32x32x8x256, .f32⟩
  | 16 => ⟨S1024x2048, .bf16⟩
  | 17 => ⟨S32x32x2048, .bf16⟩
  | 18 => ⟨S32x32x2048, .f32⟩
  | 19 => ⟨S1024x8, .f32⟩
  | 20 => ⟨S32x32x8, .f32⟩
  | 21 => ⟨S1024x8, .f32⟩
  | 22 => ⟨S32x32x8, .f32⟩
  | 23 => ⟨S32x35x2048, .f32⟩
  | 24 => ⟨S32x32x2048, .f32⟩
  | 25 => ⟨S1x2048, .f32⟩
  | 26 => ⟨S2048, .f32⟩
  | 27 => ⟨S1x1x2048, .f32⟩
  | 28 => ⟨S32x32x2048, .f32⟩
  | 29 => ⟨S32x32x2048, .f32⟩
  | 30 => ⟨S1x1x2048, .f32⟩
  | 31 => ⟨S32x32x2048, .f32⟩
  | 32 => ⟨S32x32x2048, .f32⟩
  | 33 => ⟨S32x32x2048, .f32⟩
  | 34 => ⟨S1x2048, .f32⟩
  | 35 => ⟨S2048, .f32⟩
  | 36 => ⟨S1x1x2048, .f32⟩
  | 37 => ⟨S32x32x2048, .f32⟩
  | 38 => ⟨S32x32x2048, .f32⟩
  | 39 => ⟨S32x32x2048, .f32⟩
  | 40 => ⟨S32x32x2048, .f32⟩
  | 41 => ⟨S1x2048, .f32⟩
  | 42 => ⟨S2048, .f32⟩
  | 43 => ⟨S1x1x2048, .f32⟩
  | 44 => ⟨S32x32x2048, .f32⟩
  | 45 => ⟨S32x32x2048, .f32⟩
  | 46 => ⟨S32x32x2048, .f32⟩
  | 47 => ⟨S32x32x2048, .f32⟩
  | 48 => ⟨S1x2048, .f32⟩
  | 49 => ⟨S2048, .f32⟩
  | 50 => ⟨S1x1x2048, .f32⟩
  | 51 => ⟨S32x32x2048, .f32⟩
  | 52 => ⟨S32x32x2048, .f32⟩
  | 53 => ⟨S32x32x2048, .f32⟩
  | 54 => ⟨S32x3x2048, .f32⟩
  | 55 => ⟨S32x32x2048, .f32⟩
  | 56 => ⟨S32x32x2048, .f32⟩
  | 57 => ⟨S_, .f32⟩
  | 58 => ⟨S32x32x2048, .f32⟩
  | 59 => ⟨S32x32x2048, .f32⟩
  | 60 => ⟨S_, .f32⟩
  | 61 => ⟨S32x32x2048, .f32⟩
  | 62 => ⟨S32x32x2048, .f32⟩
  | 63 => ⟨S32x32x2048, .f32⟩
  | 64 => ⟨S32x32x1024, .f32⟩
  | 65 => ⟨S32x32x8x128, .f32⟩
  | 66 => ⟨S32x32x1024, .f32⟩
  | 67 => ⟨S32x32x8x128, .f32⟩
  | 68 => ⟨S_, .f32⟩
  | 69 => ⟨S_, .f32⟩
  | 70 => ⟨S32x32x8x128, .f32⟩
  | 71 => ⟨S32x32x8x128, .f32⟩
  | 72 => ⟨S1x8, .f32⟩
  | 73 => ⟨S8, .f32⟩
  | 74 => ⟨S1x1x8, .f32⟩
  | 75 => ⟨S32x32x8, .f32⟩
  | 76 => ⟨S32x32x8, .f32⟩
  | 77 => ⟨S1x8, .f32⟩
  | 78 => ⟨S8, .f32⟩
  | 79 => ⟨S1x1x8, .f32⟩
  | 80 => ⟨S32x32x8, .f32⟩
  | 81 => ⟨S32x32x8, .f32⟩
  | 82 => ⟨S32x8x32x128, .f32⟩
  | 83 => ⟨S32x8x32x128, .f32⟩
  | 84 => ⟨S32x8x32x256, .f32⟩
  | 85 => ⟨S32x8x32, .f32⟩
  | 86 => ⟨S32x32x8, .f32⟩
  | 87 => ⟨S_, .f32⟩
  | 88 => ⟨S32x32x8, .f32⟩
  | 89 => ⟨S32x32x8, .f32⟩
  | 90 => ⟨S32x32x8, .f32⟩
  | 91 => ⟨S32x32x8, .f32⟩
  | 92 => ⟨S32x32x8, .i1⟩
  | 93 => ⟨S32x32x8, .f32⟩
  | 94 => ⟨S32x32x8, .f32⟩
  | 95 => ⟨S32x32x8, .f32⟩
  | 96 => ⟨S32x32x8, .f32⟩
  | 97 => ⟨S32x32x8, .f32⟩
  | 98 => ⟨S32x32x8, .f32⟩
  | 99 => ⟨S32x32x8, .f32⟩
  | 100 => ⟨S32x32x8, .f32⟩
  | 101 => ⟨S32x32x8, .f32⟩
  | 102 => ⟨S32x8x32, .f32⟩
  | 103 => ⟨S_, .i1⟩
  | 104 => ⟨S32x32, .i1⟩
  | 105 => ⟨S32x32, .i32⟩
  | 106 => ⟨S_, .i32⟩
  | 107 => ⟨S32x32, .i32⟩
  | 108 => ⟨S32x32, .i32⟩
  | 109 => ⟨S32x32, .i32⟩
  | 110 => ⟨S32x32, .i1⟩
  | 111 => ⟨S_, .i1⟩
  | 112 => ⟨S32x32, .i1⟩
  | 113 => ⟨S32x32, .i1⟩
  | 114 => ⟨S_, .f32⟩
  | 115 => ⟨S_, .f32⟩
  | 116 => ⟨S32x8x32, .f32⟩
  | 117 => ⟨S32x8x32x1, .f32⟩
  | 118 => ⟨S32x8x1x32, .f32⟩
  | 119 => ⟨S32x8x32x32, .f32⟩
  | 120 => ⟨S32x8x32x32, .f32⟩
  | 121 => ⟨S32x8x32x32, .f32⟩
  | 122 => ⟨S32x8x1x32, .f32⟩
  | 123 => ⟨S32x8x32x32, .f32⟩
  | 124 => ⟨S32x8x32x32, .f32⟩
  | 125 => ⟨S_, .f32⟩
  | 126 => ⟨S_, .f32⟩
  | 127 => ⟨S32x8x32x32, .i1⟩
  | _ => ⟨S17408x2048, .f32⟩

abbrev hbmTy0_1 (i : Nat) : BufTy := match i % 128 with
  | 0 => ⟨S32x8x32x32, .f32⟩
  | 1 => ⟨S32x8x32x32, .f32⟩
  | 2 => ⟨S32x8x1, .f32⟩
  | 3 => ⟨S32x8x32, .f32⟩
  | 4 => ⟨S32x8x32, .f32⟩
  | 5 => ⟨S_, .f32⟩
  | 6 => ⟨S32x8x32, .f32⟩
  | 7 => ⟨S32x8x32, .f32⟩
  | 8 => ⟨S32x8x32x32, .f32⟩
  | 9 => ⟨S32x8x32x1, .f32⟩
  | 10 => ⟨S32x8x32x32, .f32⟩
  | 11 => ⟨S32x8x32x32, .f32⟩
  | 12 => ⟨S32x8x32x32, .f32⟩
  | 13 => ⟨S32x8x32x32, .f32⟩
  | 14 => ⟨S32x8x32, .f32⟩
  | 15 => ⟨S32x8x32, .f32⟩
  | 16 => ⟨S32x8x32x256, .f32⟩
  | 17 => ⟨S32x8x32x1, .f32⟩
  | 18 => ⟨S32x8x32x256, .f32⟩
  | 19 => ⟨S32x8x32x256, .f32⟩
  | 20 => ⟨S32x8x32x256, .f32⟩
  | 21 => ⟨S32x8x32x256, .f32⟩
  | 22 => ⟨S_, .f32⟩
  | 23 => ⟨S32x8x32, .f32⟩
  | 24 => ⟨S32x8x32, .f32⟩
  | 25 => ⟨S32x8x32, .f32⟩
  | 26 => ⟨S32x8x32, .f32⟩
  | 27 => ⟨S32x8x32, .f32⟩
  | 28 => ⟨S32x8x32, .f32⟩
  | 29 => ⟨S32x8x32, .f32⟩
  | 30 => ⟨S32x8x32, .f32⟩
  | 31 => ⟨S32x8x32x1, .f32⟩
  | 32 => ⟨S32x8x32x256, .f32⟩
  | 33 => ⟨S32x8x32x256, .f32⟩
  | 34 => ⟨S32x8x1, .f32⟩
  | 35 => ⟨S32x8, .f32⟩
  | 36 => ⟨S32x8x1, .f32⟩
  | 37 => ⟨S32x8, .f32⟩
  | 38 => ⟨S32x8, .f32⟩
  | 39 => ⟨S32x8, .f32⟩
  | 40 => ⟨S32x8, .f32⟩
  | 41 => ⟨S32x8x1, .f32⟩
  | 42 => ⟨S32x8x32, .f32⟩
  | 43 => ⟨S32x8x32, .f32⟩
  | 44 => ⟨S32x8x32, .f32⟩
  | 45 => ⟨S32x8x1, .f32⟩
  | 46 => ⟨S32x8x32, .f32⟩
  | 47 => ⟨S32x8x32, .f32⟩
  | 48 => ⟨S32x8x32, .f32⟩
  | 49 => ⟨S32x8x1x1, .f32⟩
  | 50 => ⟨S32x8x256x128, .f32⟩
  | 51 => ⟨S32x8x256x128, .f32⟩
  | 52 => ⟨S32x8x32x1, .f32⟩
  | 53 => ⟨S32x8x32x128, .f32⟩
  | 54 => ⟨S32x8x32x128, .f32⟩
  | 55 => ⟨S32x8x256x128, .f32⟩
  | 56 => ⟨S32x8x256x128, .f32⟩
  | 57 => ⟨S32x8x1, .f32⟩
  | 58 => ⟨S32x8x128, .f32⟩
  | 59 => ⟨S32x8x128, .f32⟩
  | 60 => ⟨S32x8x128, .f32⟩
  | 61 => ⟨S32x8x128, .f32⟩
  | 62 => ⟨S32x32x8x256, .f32⟩
  | 63 => ⟨S32x32x8x256, .f32⟩
  | 64 => ⟨S_, .f32⟩
  | 65 => ⟨S32x32x8, .f32⟩
  | 66 => ⟨S32x32x8x1, .f32⟩
  | 67 => ⟨S_, .f32⟩
  | 68 => ⟨S32x32x8x1, .f32⟩
  | 69 => ⟨S32x32x8x1, .f32⟩
  | 70 => ⟨S_, .f32⟩
  | 71 => ⟨S32x32x8x1, .f32⟩
  | 72 => ⟨S32x32x8x1, .f32⟩
  | 73 => ⟨S32x32x8x1, .f32⟩
  | 74 => ⟨S32x32x8x256, .f32⟩
  | 75 => ⟨S32x32x8x256, .f32⟩
  | 76 => ⟨S1x1x8x256, .f32⟩
  | 77 => ⟨S32x32x8x256, .f32⟩
  | 78 => ⟨S32x32x8x256, .f32⟩
  | 79 => ⟨S32x32x2048, .f32⟩
  | 80 => ⟨S32x32x2048, .f32⟩
  | 81 => ⟨S32x32x2048, .f32⟩
  | 82 => ⟨S_, .f32⟩
  | 83 => ⟨S32x32x2048, .f32⟩
  | 84 => ⟨S32x32x2048, .f32⟩
  | 85 => ⟨S_, .f32⟩
  | 86 => ⟨S32x32x2048, .f32⟩
  | 87 => ⟨S32x32x2048, .f32⟩
  | 88 => ⟨S32x32x2048, .f32⟩
  | 89 => ⟨S32x32x2048, .bf16⟩
  | 90 => ⟨S1024x2048, .bf16⟩
  | 91 => ⟨S32x8x1, .f32⟩
  | 92 => ⟨S32x8x128, .f32⟩
  | _ => ⟨S17408x2048, .f32⟩

abbrev hbmTy (i : Nat) : BufTy := match i / 128 with
  | 0 => hbmTy0_0 i
  | 1 => hbmTy0_1 i
  | _ => ⟨S17408x2048, .f32⟩

abbrev bufTy : (tb : Table) → Fin (tcTables nBuf tb) → BufTy
  | .hbm, ⟨i, _⟩ => hbmTy i
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call1_v0 : Ref sig .tc := ⟨.hbm, 86, rfl⟩
abbrev main_call1_call0_cst : Ref sig .tc := ⟨.hbm, 87, rfl⟩
abbrev main_call1_call0_v0 : Ref sig .tc := ⟨.hbm, 88, rfl⟩
abbrev main_call1_call0_v1 : Ref sig .tc := ⟨.hbm, 89, rfl⟩
abbrev main_call1_call0_v2 : Ref sig .tc := ⟨.hbm, 90, rfl⟩
abbrev main_call1_call0_v3 : Ref sig .tc := ⟨.hbm, 91, rfl⟩
abbrev main_call1_call0_v4 : Ref sig .tc := ⟨.hbm, 92, rfl⟩
abbrev main_call1_call0_v5 : Ref sig .tc := ⟨.hbm, 93, rfl⟩
abbrev main_call1_call0_v6 : Ref sig .tc := ⟨.hbm, 94, rfl⟩
abbrev main_call1_call0_v7 : Ref sig .tc := ⟨.hbm, 95, rfl⟩
abbrev main_call1_call0_v8 : Ref sig .tc := ⟨.hbm, 96, rfl⟩
abbrev main_call1_call0_v9 : Ref sig .tc := ⟨.hbm, 97, rfl⟩
abbrev main_call1_call0_v10 : Ref sig .tc := ⟨.hbm, 98, rfl⟩
abbrev main_call1_call0_v11 : Ref sig .tc := ⟨.hbm, 99, rfl⟩
abbrev main_call1_v1 : Ref sig .tc := ⟨.hbm, 100, rfl⟩
abbrev main_v66 : Ref sig .tc := ⟨.hbm, 101, rfl⟩
abbrev main_v67 : Ref sig .tc := ⟨.hbm, 102, rfl⟩
abbrev main_c : Ref sig .tc := ⟨.hbm, 103, rfl⟩
abbrev main_v68 : Ref sig .tc := ⟨.hbm, 104, rfl⟩
abbrev main_call2_v0 : Ref sig .tc := ⟨.hbm, 105, rfl⟩
abbrev main_call2_c : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_c_0 : Ref sig .tc := ⟨.hbm, 111, rfl⟩
abbrev main_call2_v5 : Ref sig .tc := ⟨.hbm, 112, rfl⟩
abbrev main_v69 : Ref sig .tc := ⟨.hbm, 113, rfl⟩
abbrev main_call3_call0_cst : Ref sig .tc := ⟨.hbm, 114, rfl⟩
abbrev main_call3_call0_v0 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_0 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_1 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_2 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_3 : Ref sig .tc := ⟨.hbm, 192, rfl⟩
abbrev main_v140 : Ref sig .tc := ⟨.hbm, 193, rfl⟩
abbrev main_v141 : Ref sig .tc := ⟨.hbm, 194, rfl⟩
abbrev main_cst_4 : Ref sig .tc := ⟨.hbm, 195, rfl⟩
abbrev main_v142 : Ref sig .tc := ⟨.hbm, 196, rfl⟩
abbrev main_v143 : Ref sig .tc := ⟨.hbm, 197, rfl⟩
abbrev main_cst_5 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_6 : Ref sig .tc := ⟨.hbm, 210, rfl⟩
abbrev main_v155 : Ref sig .tc := ⟨.hbm, 211, rfl⟩
abbrev main_v156 : Ref sig .tc := ⟨.hbm, 212, rfl⟩
abbrev main_cst_7 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩

abbrev nD : Nat := 1
abbrev τ : Topo := Topo.v7x

variable {F : FTy → Type} [FloatOps F]
-- ==== Final.lean ====
abbrev S17408x4096 : Shape := ⟨2, ![17408, 4096]⟩
abbrev S40x6x1x4096 : Shape := ⟨4, ![40, 6, 1, 4096]⟩
abbrev S4096 : Shape := ⟨1, ![4096]⟩
abbrev S1x4096 : Shape := ⟨2, ![1, 4096]⟩
abbrev S16384x4096 : Shape := ⟨2, ![16384, 4096]⟩
abbrev S1024x4096 : Shape := ⟨2, ![1024, 4096]⟩
abbrev S256x4096 : Shape := ⟨2, ![256, 4096]⟩
abbrev S1x1x1x4096 : Shape := ⟨4, ![1, 1, 1, 4096]⟩
abbrev S8x1x1x4096 : Shape := ⟨4, ![8, 1, 1, 4096]⟩
abbrev S1x1x4096 : Shape := ⟨3, ![1, 1, 4096]⟩
abbrev S1x256x4096 : Shape := ⟨3, ![1, 256, 4096]⟩
abbrev S256 : Shape := ⟨1, ![256]⟩
abbrev S256x1 : Shape := ⟨2, ![256, 1]⟩
abbrev S8x1x4096 : Shape := ⟨3, ![8, 1, 4096]⟩
abbrev S8x32x4096 : Shape := ⟨3, ![8, 32, 4096]⟩

abbrev nBuf : Space → Nat
  | .hbm => 7
  | .vmem => 13
  | .smem => 0
  | _ => 0

abbrev bufTy : (tb : Table) → Fin (tcTables nBuf tb) → BufTy
  | .hbm, ⟨0, _⟩ => ⟨S17408x4096, .f32⟩
  | .hbm, ⟨1, _⟩ => ⟨S17408x4096, .f32⟩
  | .hbm, ⟨2, _⟩ => ⟨S40x6x1x4096, .f32⟩
  | .hbm, ⟨3, _⟩ => ⟨S4096, .f32⟩
  | .hbm, ⟨4, _⟩ => ⟨S1x4096, .f32⟩
  | .hbm, ⟨5, _⟩ => ⟨S16384x4096, .f32⟩
  | .hbm, ⟨6, _⟩ => ⟨S1024x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S8x1x1x4096, .f32⟩
  | .local _ .vmem, ⟨7, _⟩ => ⟨S8x1x1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![68], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c63_i32 : BitVec 32 := 63#32
  let v0 : BitVec 32 := Scalar.minsi arg0 c63_i32
  let c256_i32 : BitVec 32 := 256#32
  let v1 : BitVec 32 := Scalar.muli v0 c256_i32
  let c8192_i32 : BitVec 32 := 8192#32
  let v2 : BitVec 32 := Scalar.divsi v1 c8192_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v1 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32 : BitVec 32 := 32#32
  let v19 : BitVec 32 := Scalar.addi c32_i32 v18
  let c5_i32 : BitVec 32 := 5#32
  let c0_i32_4 : BitVec 32 := 0#32
  let c0_i32_5 : BitVec 32 := 0#32
  let c0_i32_6 : BitVec 32 := 0#32
  ![v19.toNat, c5_i32.toNat, c0_i32_4.toNat, c0_i32_5.toNat]

def cc0_transform_3 (i : grid0.Coords) : Fin 4 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c5_i32 : BitVec 32 := 5#32
  let c0_i32_0 : BitVec 32 := 0#32
  let c0_i32_1 : BitVec 32 := 0#32
  let c0_i32_2 : BitVec 32 := 0#32
  ![v1.toNat, c5_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinalRefIdeal.lean ====
abbrev S17408x4096 : Shape := ⟨2, ![17408, 4096]⟩
abbrev S40x6x1x4096 : Shape := ⟨4, ![40, 6, 1, 4096]⟩
abbrev S4096 : Shape := ⟨1, ![4096]⟩
abbrev S2x1x1x4096 : Shape := ⟨4, ![2, 1, 1, 4096]⟩
abbrev S2x1x4096 : Shape := ⟨3, ![2, 1, 4096]⟩
abbrev S32x1x1x4096 : Shape := ⟨4, ![32, 1, 1, 4096]⟩
abbrev S32x1x4096 : Shape := ⟨3, ![32, 1, 4096]⟩
abbrev S16384x4096 : Shape := ⟨2, ![16384, 4096]⟩
abbrev S2x8192x4096 : Shape := ⟨3, ![2, 8192, 4096]⟩
abbrev S1024x4096 : Shape := ⟨2, ![1024, 4096]⟩
abbrev S32x32x4096 : Shape := ⟨3, ![32, 32, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S32x32 : Shape := ⟨2, ![32, 32]⟩
abbrev S32x32x1 : Shape := ⟨3, ![32, 32, 1]⟩

abbrev nBuf : Space → Nat
  | .hbm => 56
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x4096, .f32⟩
  | .hbm, ⟨2, _⟩ => ⟨S40x6x1x4096, .f32⟩
  | .hbm, ⟨3, _⟩ => ⟨S4096, .f32⟩
  | .hbm, ⟨4, _⟩ => ⟨S2x1x1x4096, .f32⟩
  | .hbm, ⟨5, _⟩ => ⟨S2x1x4096, .f32⟩
  | .hbm, ⟨6, _⟩ => ⟨S32x1x1x4096, .f32⟩
  | .hbm, ⟨7, _⟩ => ⟨S32x1x4096, .f32⟩
  | .hbm, ⟨8, _⟩ => ⟨S16384x4096, .f32⟩
  | .hbm, ⟨9, _⟩ => ⟨S2x8192x4096, .f32⟩
  | .hbm, ⟨10, _⟩ => ⟨S16384x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S1024x4096, .f32⟩
  | .hbm, ⟨16, _⟩ => ⟨S32x32x4096, .f32⟩
  | .hbm, ⟨17, _⟩ => ⟨S1024x4096, .f32⟩
  | .hbm, ⟨18, _⟩ => ⟨S32x32x4096, .f32⟩
  | .hbm, ⟨19, _⟩ => ⟨S32x32x4096, .f32⟩
  | .hbm, ⟨20, _⟩ => ⟨S32x32x4096, .f32⟩
  | .hbm, ⟨21, _⟩ => ⟨S32x32x4096, .f32⟩
  | .hbm, ⟨22, _⟩ => ⟨S2x8192x4096, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x4096, .f32⟩
  | .hbm, ⟨34, _⟩ => ⟨S2x8192x4096, .f32⟩
  | .hbm, ⟨35, _⟩ => ⟨S1x1x4096, .f32⟩
  | .hbm, ⟨36, _⟩ => ⟨S2x8192x4096, .f32⟩
  | .hbm, ⟨37, _⟩ => ⟨S2x8192x4096, .f32⟩
  | .hbm, ⟨38, _⟩ => ⟨S16384x4096, .f32⟩
  | .hbm, ⟨39, _⟩ => ⟨S32x32x4096, .f32⟩
  | .hbm, ⟨40, _⟩ => ⟨S_, .f32⟩
  | .hbm, ⟨41, _⟩ => ⟨S32x32, .f32⟩
  | .hbm, ⟨42, _⟩ => ⟨S32x32x1, .f32⟩
  | .hbm, ⟨43, _⟩ => ⟨S_, .f32⟩
  | .hbm, ⟨44, _⟩ => ⟨S32x32x1, .f32⟩
  | .hbm, ⟨45, _⟩ => ⟨S32x32x1, .f32⟩
  | .hbm, ⟨46, _⟩ => ⟨S_, .f32⟩
  | .hbm, ⟨47, _⟩ => ⟨S32x32x1, .f32⟩
  | .hbm, ⟨48, _⟩ => ⟨S32x32x1, .f32⟩
  | .hbm, ⟨49, _⟩ => ⟨S32x32x1, .f32⟩
  | .hbm, ⟨50, _⟩ => ⟨S32x32x4096, .f32⟩
  | .hbm, ⟨51, _⟩ => ⟨S32x32x4096, .f32⟩
  | .hbm, ⟨52, _⟩ => ⟨S1x1x4096, .f32⟩
  | .hbm, ⟨53, _⟩ => ⟨S32x32x4096, .f32⟩
  | .hbm, ⟨54, _⟩ => ⟨S32x32x4096, .f32⟩
  | .hbm, ⟨55, _⟩ => ⟨S1024x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Prompt.lean ====
abbrev S17408x2048 : Shape := ⟨2, ![17408, 2048]⟩
abbrev S17408x4096 : Shape := ⟨2, ![17408, 4096]⟩
abbrev S17408x128 : Shape := ⟨2, ![17408, 128]⟩
abbrev S4x2048 : Shape := ⟨2, ![4, 2048]⟩
abbrev S2048 : Shape := ⟨1, ![2048]⟩
abbrev S2x8 : Shape := ⟨2, ![2, 8]⟩
abbrev S8x256 : Shape := ⟨2, ![8, 256]⟩
abbrev S_ : Shape := ⟨0, ![]⟩
abbrev S2x3x2048 : Shape := ⟨3, ![2, 3, 2048]⟩
abbrev S2x8x256x128 : Shape := ⟨4, ![2, 8, 256, 128]⟩
abbrev S2x8x128 : Shape := ⟨3, ![2, 8, 128]⟩
abbrev S2x8x1 : Shape := ⟨3, ![2, 8, 1]⟩
abbrev S1x16 : Shape := ⟨2, ![1, 16]⟩
abbrev S1x128 : Shape := ⟨2, ![1, 128]⟩
abbrev S1x2048 : Shape := ⟨2, ![1, 2048]⟩
abbrev S16384x2048 : Shape := ⟨2, ![16384, 2048]⟩
abbrev S256x2048 : Shape := ⟨2, ![256, 2048]⟩
abbrev S256x128 : Shape := ⟨2, ![256, 128]⟩
abbrev S1x3x2048 : Shape := ⟨3, ![1, 3, 2048]⟩
abbrev S1x8x256x128 : Shape := ⟨4, ![1, 8, 256, 128]⟩
abbrev S1x8x128 : Shape := ⟨3, ![1, 8, 128]⟩
abbrev S264x2048 : Shape := ⟨2, ![264, 2048]⟩
abbrev S3x2048 : Shape := ⟨2, ![3, 2048]⟩
abbrev S256x256 : Shape := ⟨2, ![256, 256]⟩
abbrev S128x128 : Shape := ⟨2, ![128, 128]⟩
abbrev S128x256 : Shape := ⟨2, ![128, 256]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S256 : Shape := ⟨1, ![256]⟩
abbrev S1x1x256x128 : Shape := ⟨4, ![1, 1, 256, 128]⟩
abbrev S1x1x128 : Shape := ⟨3, ![1, 1, 128]⟩
abbrev S128 : Shape := ⟨1, ![128]⟩

abbrev nBuf : Space → Nat
  | .hbm => 27
  | .vmem => 31
  | .smem => 0
  | _ => 0

abbrev bufTy : (tb : Table) → Fin (tcTables nBuf tb) → BufTy
  | .hbm, ⟨0, _⟩ => ⟨S17408x2048, .f32⟩
  | .hbm, ⟨1, _⟩ => ⟨S17408x4096, .bf16⟩
  | .hbm, ⟨2, _⟩ => ⟨S17408x128, .f32⟩
  | .hbm, ⟨3, _⟩ => ⟨S4x2048, .f32⟩
  | .hbm, ⟨4, _⟩ => ⟨S2048, .f32⟩
  | .hbm, ⟨5, _⟩ => ⟨S2x8, .f32⟩
  | .hbm, ⟨6, _⟩ => ⟨S8x256, .f32⟩
  | .hbm, ⟨7, _⟩ => ⟨S_, .f32⟩
  | .hbm, ⟨8, _⟩ => ⟨S2x3x2048, .f32⟩
  | .hbm, ⟨9, _⟩ => ⟨S_, .f32⟩
  | .hbm, ⟨10, _⟩ => ⟨S2x8x256x128, .f32⟩
  | .hbm, ⟨11, _⟩ => ⟨S_, .f32⟩
  | .hbm, ⟨12, _⟩ => ⟨S2x8x128, .f32⟩
  | .hbm, ⟨13, _⟩ => ⟨S_, .f32⟩
  | .hbm, ⟨14, _⟩ => ⟨S2x8, .f32⟩
  | .hbm, ⟨15, _⟩ => ⟨S2x8x1, .f32⟩
  | .hbm, ⟨16, _⟩ => ⟨S2x8x128, .f32⟩
  | .hbm, ⟨17, _⟩ => ⟨S1x16, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x2048, .f32⟩
  | .hbm, ⟨22, _⟩ => ⟨S16384x2048, .bf16⟩
  | .hbm, ⟨23, _⟩ => ⟨S2x8x256x128, .f32⟩
  | .hbm, ⟨24, _⟩ => ⟨S2x8x128, .f32⟩
  | .hbm, ⟨25, _⟩ => ⟨S2x8x128, .f32⟩
  | .hbm, ⟨26, _⟩ => ⟨S2x3x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S1x3x2048, .f32⟩
  | .local _ .vmem, ⟨9, _⟩ => ⟨S1x3x2048, .f32⟩
  | .local _ .vmem, ⟨10, _⟩ => ⟨S4x2048, .f32⟩
  | .local _ .vmem, ⟨11, _⟩ => ⟨S1x2048, .f32⟩
  | .local _ .vmem, ⟨12, _⟩ => ⟨S1x128, .f32⟩
  | .local _ .vmem, ⟨13, _⟩ => ⟨S8x256, .f32⟩
  | .local _ .vmem, ⟨14, _⟩ => ⟨S1x8x256x128, .f32⟩
  | .local _ .vmem, ⟨15, _⟩ => ⟨S1x8x256x128, .f32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | .local _ .vmem, ⟨20, _⟩ => ⟨S256x2048, .bf16⟩
  | .local _ .vmem, ⟨21, _⟩ => ⟨S256x2048, .bf16⟩
  | .local _ .vmem, ⟨22, _⟩ => ⟨S1x8x256x128, .f32⟩
  | .local _ .vmem, ⟨23, _⟩ => ⟨S1x8x256x128, .f32⟩
  | .local _ .vmem, ⟨24, _⟩ => ⟨S1x8x128, .f32⟩
  | .local _ .vmem, ⟨25, _⟩ => ⟨S1x8x128, .f32⟩
  | .local _ .vmem, ⟨26, _⟩ => ⟨S1x8x128, .f32⟩
  | .local _ .vmem, ⟨27, _⟩ => ⟨S1x8x128, .f32⟩
  | .local _ .vmem, ⟨28, _⟩ => ⟨S1x3x2048, .f32⟩
  | .local _ .vmem, ⟨29, _⟩ => ⟨S1x3x2048, .f32⟩
  | .local _ .vmem, ⟨30, _⟩ => ⟨S264x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x3x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== PromptRefIdeal.lean ====
abbrev S17408x2048 : Shape := ⟨2, ![17408, 2048]⟩
abbrev S17408x4096 : Shape := ⟨2, ![17408, 4096]⟩
abbrev S17408x128 : Shape := ⟨2, ![17408, 128]⟩
abbrev S4x2048 : Shape := ⟨2, ![4, 2048]⟩
abbrev S2048 : Shape := ⟨1, ![2048]⟩
abbrev S2x8 : Shape := ⟨2, ![2, 8]⟩
abbrev S8x256 : Shape := ⟨2, ![8, 256]⟩
abbrev S16384x2048 : Shape := ⟨2, ![16384, 2048]⟩
abbrev S2x8192x2048 : Shape := ⟨3, ![2, 8192, 2048]⟩
abbrev S_ : Shape := ⟨0, ![]⟩
abbrev S2x3x2048 : Shape := ⟨3, ![2, 3, 2048]⟩
abbrev S2x8195x2048 : Shape := ⟨3, ![2, 8195, 2048]⟩

abbrev nBuf : Space → Nat
  | .hbm => 13
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x4096, .bf16⟩
  | .hbm, ⟨2, _⟩ => ⟨S17408x128, .f32⟩
  | .hbm, ⟨3, _⟩ => ⟨S4x2048, .f32⟩
  | .hbm, ⟨4, _⟩ => ⟨S2048, .f32⟩
  | .hbm, ⟨5, _⟩ => ⟨S2x8, .f32⟩
  | .hbm, ⟨6, _⟩ => ⟨S8x256, .f32⟩
  | .hbm, ⟨7, _⟩ => ⟨S16384x2048, .f32⟩
  | .hbm, ⟨8, _⟩ => ⟨S2x8192x2048, .f32⟩
  | .hbm, ⟨9, _⟩ => ⟨S_, .f32⟩
  | .hbm, ⟨10, _⟩ => ⟨S2x3x2048, .f32⟩
  | .hbm, ⟨11, _⟩ => ⟨S2x8195x2048, .f32⟩
  | .hbm, ⟨12, _⟩ => ⟨S2x3x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== Proof.Common.lean ====
module
public import Idealize.ShloMosaic.Lib.MatmulPlain
public import Idealize.ShloMosaic.Lib.Pipeline.Value
public import Idealize.ShloMosaic.Lib.Pipeline.ValueKit
public import Idealize.ShloMosaic.Lib.Tactic
/-! Facts shared by the proofs of the single programs. -/
@[expose] public section
noncomputable section
namespace Cert.Common
open Idealize.ShloMosaic Idealize.ShloMosaic.TcCoe Idealize.SL.Sem

/-- A slab of weights cast to rows, rounded and cast once more, read at one place, is the slab at that place:
    over the extended reals the rounding changes nothing. -/
theorem slab_apply {n k : ℕ} (v : Vec Ideal ⟨3, ![1, n, k]⟩ .f32) (h1 : (⟨3, ![1, n, k]⟩ : Shape).ShapeCasts ⟨2, ![n, k]⟩)
    (hb : FTy.bits .bf16 < FTy.bits .f32) (h3 : (⟨2, ![n, k]⟩ : Shape).ShapeCasts ⟨2, ![n, k]⟩) (x : (⟨2, ![n, k]⟩ : Shape).Idx) :
    shapeCast ⟨2, ![n, k]⟩ (truncf (F := Ideal) .bf16 (shapeCast ⟨2, ![n, k]⟩ v h1) hb) h3 x = v (ValueIdx.ix3 0 (x 0) (x 1)) := by
  rw [shapeCast_apply _ h3 x x rfl]
  show shapeCast ⟨2, ![n, k]⟩ v h1 x = _
  rw [shapeCast_apply v h1 x (ValueIdx.ix3 0 (x 0) (x 1))]
  rw [Shape.rowMajor_val_three, Shape.rowMajor_val_two]
  show (0 * n + (x 0).val) * k + (x 1).val = (x 0).val * k + (x 1).val
  rw [Nat.zero_mul, Nat.zero_add]

/-- The row of a row-major position. -/
theorem row_of (k c n : ℕ) {b : ℕ} (hk : k < b) (hc : c < n) : (k * n + c) / n % b = k := by
  rw [Nat.add_comm, Nat.add_mul_div_right _ _ (by omega), Nat.div_eq_of_lt hc, Nat.zero_add, Nat.mod_eq_of_lt hk]

/-- The column of a row-major position. -/
theorem col_of (k c n : ℕ) (hc : c < n) : (k * n + c) % n = c := by
  rw [Nat.add_comm, Nat.add_mul_mod_self_right, Nat.mod_eq_of_lt hc]

/-- A product with the transposed right operand, into zeros, read at one place. -/
theorem dotT_apply {M K N : ℕ} {φ₁ φ₂ : FTy} (lhs : FVec Ideal ⟨2, ![M, K]⟩ φ₁) (rhs : FVec Ideal ⟨2, ![N, K]⟩ φ₂) (j : (⟨2, ![M, N]⟩ : Shape).Idx) :
    FloatOps.matmul (DotDims.transposedRhs M K N) none lhs rhs (constant (F := Ideal) ⟨2, ![M, N]⟩ .f32 0x00000000#32) j
      = ∑ k : Fin K, lhs (ValueIdx.ix2 (j 0) k) * rhs (ValueIdx.ix2 (j 1) k) := by
  have hj : j = ValueIdx.ix2 (j 0) (j 1) := by
    funext a
    match a with
    | ⟨0, _⟩ => rfl
    | ⟨1, _⟩ => rfl
  have key : ∀ (r : Fin M) (l : Fin N), FloatOps.matmul (DotDims.transposedRhs M K N) none lhs rhs (constant (F := Ideal) ⟨2, ![M, N]⟩ .f32 0x00000000#32)
      (ValueIdx.ix2 r l) = ∑ k : Fin K, lhs (ValueIdx.ix2 r k) * rhs (ValueIdx.ix2 l k) := by
    intro r l
    rw [Ideal.matmul_transposedRhs_apply]
    show Ideal.ofBits .f32 0x00000000#32 + _ = _
    rw [Ideal.ofBits_zero_f32, zero_add]
  exact (congrArg _ hj).trans (key (j 0) (j 1))

/-- A plain product into zeros, read at one place. -/
theorem dotP_apply {M K N : ℕ} {φ₁ φ₂ : FTy} (lhs : FVec Ideal ⟨2, ![M, K]⟩ φ₁) (rhs : FVec Ideal ⟨2, ![K, N]⟩ φ₂) (j : (⟨2, ![M, N]⟩ : Shape).Idx) :
    FloatOps.matmul (DotDims.plain M K N) none lhs rhs (constant (F := Ideal) ⟨2, ![M, N]⟩ .f32 0x00000000#32) j
      = ∑ k : Fin K, lhs (ValueIdx.ix2 (j 0) k) * rhs (ValueIdx.ix2 k (j 1)) := by
  have hj : j = ValueIdx.ix2 (j 0) (j 1) := by
    funext a
    match a with
    | ⟨0, _⟩ => rfl
    | ⟨1, _⟩ => rfl
  have key : ∀ (r : Fin M) (l : Fin N), FloatOps.matmul (DotDims.plain M K N) none lhs rhs (constant (F := Ideal) ⟨2, ![M, N]⟩ .f32 0x00000000#32)
      (ValueIdx.ix2 r l) = ∑ k : Fin K, lhs (ValueIdx.ix2 r k) * rhs (ValueIdx.ix2 k l) := by
    intro r l
    rw [Ideal.matmul_plain_apply]
    show Ideal.ofBits .f32 0x00000000#32 + _ = _
    rw [Ideal.ofBits_zero_f32, zero_add]
  exact (congrArg _ hj).trans (key (j 0) (j 1))

end Cert.Common
end
-- ==== Proof.ProjQk.lean ====
module
public import proofs.«01_k».proof.Proof.Gen.ProjQkIdeal.Value
public import proofs.«01_k».proof.Proof.Gen.ProjQkRefIdeal.Read
public import proofs.«01_k».proof.Proof.Common
public import proofs.«01_k».proof.Defs
public import Idealize.ShloMosaic.Lib.Quiescent
@[expose] public section
set_option maxRecDepth 16384
noncomputable section
namespace Cert.ProjQkIdeal.Hand
open Cert.ProjQkIdeal Cert.ProjQkIdeal.Gen Idealize.ShloMosaic Idealize.ShloMosaic.TcCoe Idealize.SL.Sem

/-- The block of weight rows the first row tile of a column tile stores: rows 0 and on of the one window, then the
    first rows of the other. -/
def wblk (x1 : Vec Ideal S1x512x4096 .f32) (x2 : Vec Ideal S1x16x4096 .f32) : Vec Ideal S512x4096 .bf16 := fun y =>
  if h : (y 0).val + 0 < 512 then x1 (ValueIdx.ix3 0 ⟨(y 0).val + 0, h⟩ (y 1))
  else x2 (ValueIdx.ix3 0 ⟨(y 0).val + 0 - 512, by have h0 : (y 0).val < 512 := (y 0).isLt; omega⟩ (y 1))

theorem wblk_in (x1 : Vec Ideal S1x512x4096 .f32) (x2 : Vec Ideal S1x16x4096 .f32) (y : S512x4096.Idx) (h : (y 0).val + 0 < 512) :
    wblk x1 x2 y = x1 (ValueIdx.ix3 0 ⟨(y 0).val + 0, h⟩ (y 1)) := dif_pos h

theorem wblk_past (x1 : Vec Ideal S1x512x4096 .f32) (x2 : Vec Ideal S1x16x4096 .f32) (y : S512x4096.Idx) (h : ¬(y 0).val + 0 < 512) :
    wblk x1 x2 y = x2 (ValueIdx.ix3 0 ⟨(y 0).val + 0 - 512, by have h0 : (y 0).val < 512 := (y 0).isLt; omega⟩ (y 1)) := dif_neg h

/-! The stores of the slabs, read at one place. -/

theorem k0_pay1_apply (v : Vec Ideal S1x256x4096 .f32) (x : S256x4096.Idx) :
    k0_pay1 v x = v (ValueIdx.ix3 0 (x 0) (x 1)) := by
  unfold k0_pay1
  exact Cert.Common.slab_apply (n := 256) (k := 4096) v _ _ _ x

theorem k0_pay2_apply (v : Vec Ideal S1x256x4096 .f32) (x : S256x4096.Idx) :
    k0_pay2 v x = v (ValueIdx.ix3 0 (x 0) (x 1)) := by
  unfold k0_pay2
  exact Cert.Common.slab_apply (n := 256) (k := 4096) v _ _ _ x

/-- The stores of the weight block. -/
def wpieces (x1 : Vec Ideal S1x512x4096 .f32) (x2 : Vec Ideal S1x16x4096 .f32) : List (View.Piece (Elt Ideal) S512x4096 .bf16) :=
  [(⟨Rect.unit (s := S512x4096) ![256, 0] S256x4096.size inb_S512x4096_S256x4096_256_0, k0_pay2 (View.ld x1 (Rect.unit (s := S1x512x4096) ![0, 256, 0] S1x256x4096.size inb_S1x512x4096_S1x256x4096_0_256_0))⟩ : View.Piece (Elt Ideal) S512x4096 .bf16),
   (⟨Rect.unit (s := S512x4096) ![0, 0] S256x4096.size inb_S512x4096_S256x4096_0_0, k0_pay1 (View.ld x1 (Rect.unit (s := S1x512x4096) ![0, 0, 0] S1x256x4096.size inb_S1x512x4096_S1x256x4096_0_0_0))⟩ : View.Piece (Elt Ideal) S512x4096 .bf16)]

theorem wpieces_cover (x1 : Vec Ideal S1x512x4096 .f32) (x2 : Vec Ideal S1x16x4096 .f32) (y : S512x4096.Idx) :
    ∃ p ∈ wpieces x1 x2, y ∈ p.1.set :=
  View.cover_of_tiledBy (wpieces x1 x2) ![256, 4096] (by sl_kernel_rfl) y

/-- Together the stores leave the weight block. -/
theorem wpieces_canon (x1 : Vec Ideal S1x512x4096 .f32) (x2 : Vec Ideal S1x16x4096 .f32) : View.canon (wpieces x1 x2) = wblk x1 x2 := by
  funext y
  refine View.canon_apply_of_pieces (wblk x1 x2) _ ?_ y (wpieces_cover x1 x2 y)
  intro p hp x
  simp only [wpieces, List.mem_cons, List.not_mem_nil, or_false] at hp
  rcases hp with rfl | rfl
  · dsimp only [] at x ⊢
    refine (k0_pay2_apply _ x).trans ?_
    have hx0 : (x 0).val < 256 := (x 0).isLt
    have e0 : (((Rect.unit (s := S512x4096) ![256, 0] S256x4096.size inb_S512x4096_S256x4096_256_0).emb x) 0).val = 256 + 1 * (x 0).val := rfl
    have e1 : (((Rect.unit (s := S512x4096) ![256, 0] S256x4096.size inb_S512x4096_S256x4096_256_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 256 + (x 0).val; dsimp only [ValueIdx.ix3]; rw [e0]; omega
    | ⟨2, _⟩ => show _ = 0 + (x 1).val; dsimp only [ValueIdx.ix3]; rw [e1]; omega
  · dsimp only [] at x ⊢
    refine (k0_pay1_apply _ x).trans ?_
    have hx0 : (x 0).val < 256 := (x 0).isLt
    have e0 : (((Rect.unit (s := S512x4096) ![0, 0] S256x4096.size inb_S512x4096_S256x4096_0_0).emb x) 0).val = 0 + 1 * (x 0).val := rfl
    have e1 : (((Rect.unit (s := S512x4096) ![0, 0] S256x4096.size inb_S512x4096_S256x4096_0_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 0 + (x 0).val; dsimp only [ValueIdx.ix3]; rw [e0]; omega
    | ⟨2, _⟩ => show _ = 0 + (x 1).val; dsimp only [ValueIdx.ix3]; rw [e1]; omega

/-- What the first row tile of a column tile leaves in the scratch: the weight block. -/
theorem sout_A (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .f32) (harg5 : arg5.IsWhole) (arg6 : Memref sig .tc .vmem S512x4096 .bf16) (harg6 : arg6.IsWhole) (hc0 : cond0_0 i)
    (x0 : Vec Ideal S1024x4096 .bf16) (x1 : Vec Ideal S1x512x4096 .f32) (x2 : Vec Ideal S1x16x4096 .f32) : sout0_A_0 (F := Ideal) c i arg2 harg2 arg3 harg3 arg4 harg4 arg5 harg5 arg6 harg6 hc0 x0 x1 x2 = wblk x1 x2 := by
  unfold sout0_A_0
  rw [View.read_writes_eq_canon _ _ _ (scover0_A_0 c i arg2 harg2 arg3 harg3 arg4 harg4 arg5 harg5 arg6 harg6 hc0 x0 x1 x2)]
  refine Eq.trans ?_ (wpieces_canon x1 x2)
  unfold kernelRun0_A; dsimp only; sl_unfold_words
  simp only [View.readAt_eq_ld, harg3.read_unread, harg4.read_unread]
  rfl

/-- What the first row tile of a column tile stores: the rows times the weight block. -/
theorem out_A (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .f32) (harg5 : arg5.IsWhole) (arg6 : Memref sig .tc .vmem S512x4096 .bf16) (harg6 : arg6.IsWhole) (hc0 : cond0_0 i)
    (x0 : Vec Ideal S1024x4096 .bf16) (x1 : Vec Ideal S1x512x4096 .f32) (x2 : Vec Ideal S1x16x4096 .f32) : out0_A_3 (F := Ideal) c i arg2 harg2 arg3 harg3 arg4 harg4 arg5 harg5 arg6 harg6 hc0 x0 x1 x2 = k0_pay3 x0 (wblk x1 x2) := by
  unfold out0_A_3
  rw [View.read_writes_eq_canon _ _ _ (cover0_A_3 c i arg2 harg2 arg3 harg3 arg4 harg4 arg5 harg5 arg6 harg6 hc0 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay3 (View.ld_unit_zero (by decide) _ x0) ?_
  refine (View.readCov_eq_canon_ld _ (wpieces x1 x2) _ (wpieces_cover x1 x2)).trans ?_
  rw [wpieces_canon]
  exact View.ld_unit_zero (by decide) _ _

/-- What every other row tile stores: the rows times the scratch. -/
theorem out_B (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .f32) (harg5 : arg5.IsWhole) (arg6 : Memref sig .tc .vmem S512x4096 .bf16) (harg6 : arg6.IsWhole) (hc0 : ¬cond0_0 i)
    (x0 : Vec Ideal S1024x4096 .bf16) (x1 : Vec Ideal S1x512x4096 .f32) (x2 : Vec Ideal S1x16x4096 .f32) (xs0 : Vec Ideal S512x4096 .bf16) : out0_B_3 (F := Ideal) c i arg2 harg2 arg3 harg3 arg4 harg4 arg5 harg5 arg6 harg6 hc0 x0 x1 x2 xs0 = k0_pay3 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only; sl_unfold_words
  simp only [View.readAt_eq_ld, harg2.read_unread, harg6.read_unread]
  refine (View.canon_unit_zero (by decide) _ _).trans ?_
  exact congrArg₂ k0_pay3 (View.ld_unit_zero (by decide) _ x0) (View.ld_unit_zero (by decide) _ xs0)

/-! ## What the windows hold -/

variable (m : (ℓ : Loc nD τ sig) → Buf (Elt Ideal) ℓ)

/-- The weights as the kernel finds them: transposed. -/
theorem V_v0 (c : Dev nD) : V m c main_v0 = transpose S1x20496x4096 [0, 2, 1] (m ((c : Thread nD τ).loc main_arg1)) transposes_S1x4096x20496_S1x20496x4096_0_2_1 := by
  show StableHlo.after hostOps0 _ (Proc.devRef .tc main_v0) = _
  after_results <;> rfl

theorem V_v0_apply (c : Dev nD) (j : S1x20496x4096.Idx) : V m c main_v0 j = m ((c : Thread nD τ).loc main_arg1) (ValueIdx.ix3 0 (j 2) (j 1)) := by
  rw [V_v0]
  refine transpose_apply _ _ _ j _ ?_
  intro b
  match b with
  | ⟨0, _⟩ => have h : (j 0).val < 1 := (j 0).isLt; show 0 = (j 0).val; omega
  | ⟨1, _⟩ => rfl
  | ⟨2, _⟩ => rfl

theorem facts0 : ∀ t : Fin cfg0.N, win0_0.index t (0 : Fin 2) = t.val % 17 ∧ win0_0.index t (1 : Fin 2) = 0 :=
  (by decide +kernel : ∀ t : Fin grid0.N, _)
theorem facts1 : ∀ t : Fin cfg0.N, win0_1.index t (0 : Fin 3) = 0 ∧ win0_1.index t (1 : Fin 3) = 0 + t.val / 17 ∧ win0_1.index t (2 : Fin 3) = 0 :=
  (by decide +kernel : ∀ t : Fin grid0.N, _)
theorem facts3 : ∀ t : Fin cfg0.N, win0_3.index t (0 : Fin 2) = t.val % 17 ∧ win0_3.index t (1 : Fin 2) = t.val / 17 :=
  (by decide +kernel : ∀ t : Fin grid0.N, _)

/-- Window 0 at a point: its row tile. -/
theorem rows_apply (c : Dev nD) (t : Fin cfg0.N) (y : S1024x4096.Idx) :
    (iblk m c 0 t : Vec Ideal S1024x4096 .bf16) y = m ((c : Thread nD τ).loc main_arg0)
      (ValueIdx.ix2 ⟨1024 * (t.val % 17) + (y 0).val, by have h0 : (y 0).val < 1024 := (y 0).isLt; omega⟩ (y 1)) := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = 1024 * (t.val % 17) + (y 0).val; rw [e0]; omega
  | ⟨1, _⟩ => show win0_0.index t (1 : Fin 2) * 4096 + 1 * (y 1).val = (y 1).val; rw [e1]; omega

/-- Window 1 at a point: the rows of the transposed weights its column tile begins in. -/
theorem wrows_apply (c : Dev nD) (t : Fin cfg0.N) (y : S1x512x4096.Idx) (b : Fin 20496) (hb : b.val = 0 + 512 * (t.val / 17) + (y 1).val) :
    (X0_1 m c t : Vec Ideal S1x512x4096 .f32) y = m ((c : Thread nD τ).loc main_arg1) (ValueIdx.ix3 0 (y 2) b) := by
  obtain ⟨e0, e1, e2⟩ := facts1 t
  unfold X0_1 Pipeline.Window.fill
  rw [dif_pos (moved0_1 t y)]
  show V m c main_v0 (((cfg0.win 1).blk t).view.emb _) = _
  rw [V_v0_apply]
  refine congrArg _ (funext fun a => Fin.ext ?_)
  match a with
  | ⟨0, _⟩ => rfl
  | ⟨1, _⟩ => show win0_1.index t (2 : Fin 3) * 4096 + 1 * (y 2).val = (y 2).val; rw [e2]; omega
  | ⟨2, _⟩ => show win0_1.index t (1 : Fin 3) * 512 + 1 * (y 1).val = b.val; rw [e1, hb]; omega

/-! ## The scratch: the weights of the column tile -/

/-- The columns of the weights in column tile `j`, one to a row. -/
def wcols (W : Vec Ideal S1x4096x20496 .f32) (j : ℕ) (hj : j < 4) : Vec Ideal S512x4096 .bf16 := fun y =>
  W (ValueIdx.ix3 0 (y 1) ⟨0 + 512 * j + (y 0).val, by have h0 : (y 0).val < 512 := (y 0).isLt; omega⟩)

theorem col_lt (t : Fin cfg0.N) : t.val / 17 < 4 := by
  have h := lt_of_lt_of_eq t.isLt (show cfg0.N = 68 from N_0)
  omega

/-- The weight block made at a point is the columns of its column tile. -/
theorem wblk_eq (c : Dev nD) (t : Fin cfg0.N) :
    wblk (X0_1 m c t) (iblk m c 2 t) = wcols (m ((c : Thread nD τ).loc main_arg1)) (t.val / 17) (col_lt t) := by
  have hN := lt_of_lt_of_eq t.isLt (show cfg0.N = 68 from N_0)
  funext y
  have hy : (y 0).val < 512 := (y 0).isLt
  by_cases h : (y 0).val + 0 < 512
  · rw [wblk_in _ _ _ h]
    refine (wrows_apply m c t _ ⟨0 + 512 * (t.val / 17) + (y 0).val, by omega⟩ ?_).trans rfl
    show 0 + 512 * (t.val / 17) + (y 0).val = 0 + 512 * (t.val / 17) + ((y 0).val + 0)
    omega
  · exact absurd hy (by omega)

theorem wcols_congr (W : Vec Ideal S1x4096x20496 .f32) (j j' : ℕ) (hj : j < 4) (hj' : j' < 4) (e : j = j') : wcols W j hj = wcols W j' hj' := by
  subst e; rfl

/-- After every point the scratch holds the columns of the point's column tile. -/
theorem scratch_eq (c : Dev nD) : ∀ (n : ℕ) (hn : n < cfg0.N),
    (outsAt0 m c n hn).2 = wcols (m ((c : Thread nD τ).loc main_arg1)) (n / 17) (col_lt ⟨n, hn⟩)
  | 0, hn => by
    rw [outsAt0_A m c ⟨0, hn⟩ (Nat.zero_mod _)]
    dsimp only
    rw [sout_A]
    exact wblk_eq m c ⟨0, hn⟩
  | n + 1, hn => by
    by_cases h : (n + 1) % 17 = 0
    · rw [outsAt0_A m c ⟨n + 1, hn⟩ h]
      dsimp only
      rw [sout_A]
      exact wblk_eq m c ⟨n + 1, hn⟩
    · rw [outsAt0_B m c ⟨n + 1, hn⟩ h]
      refine Eq.trans (scratch_eq c n (Nat.lt_of_succ_lt hn)) (wcols_congr _ _ _ _ _ ?_)
      omega

/-- After every point the staged output holds the product of the point's row tile and column tile. -/
theorem stored_eq (c : Dev nD) (t : Fin cfg0.N) :
    (outsAt0 m c t.val t.isLt).1 = k0_pay3 (iblk m c 0 t) (wcols (m ((c : Thread nD τ).loc main_arg1)) (t.val / 17) (col_lt t)) := by
  by_cases h : t.val % 17 = 0
  · rw [outsAt0_A m c t h]
    dsimp only
    rw [out_A]
    exact congrArg _ (wblk_eq m c t)
  · rw [outsAt0_B m c t h]
    have hN := lt_of_lt_of_eq t.isLt (show cfg0.N = 68 from N_0)
    dsimp only
    rw [out_B]
    refine congrArg _ ?_
    refine (scratch_eq m c _ _).trans (wcols_congr _ _ _ _ _ ?_)
    omega

/-- The product read at one place. -/
theorem k0_pay3_apply (v : Vec Ideal S1024x4096 .bf16) (w : Vec Ideal S512x4096 .bf16) (y : S1024x512.Idx) :
    k0_pay3 v w y = ∑ k : Fin 4096, v (ValueIdx.ix2 (y 0) k) * w (ValueIdx.ix2 (y 1) k) := by
  unfold k0_pay3
  exact Cert.Common.dotT_apply (φ₁ := .bf16) (φ₂ := .bf16) (M := 1024) (K := 4096) (N := 512) v w y

/-! ## The array after the run -/

/-- The array the kernel returns is the reference's. -/
theorem final_eq (c : Dev nD) : (dats m 0 c).arrAt 3 cfg0.N
    = Cert.ProjQkRefIdeal.Read.val_main_v3 (F := Ideal) (m ((c : Thread nD τ).loc main_arg0)) (m ((c : Thread nD τ).loc main_arg1)) := by
  refine (dats m 0 c).arrAt_eq_of_cover 3 _ (fun t hf => ?_) (fun i => (Cert.ProjQkIdeal.Value.covered_iff3 i).2 (by
    have h0 : (i 0).val < 17408 := (i 0).isLt; have h1 : (i 1).val < 2048 := (i 1).isLt; omega))
  obtain ⟨e0, e1⟩ := facts3 t
  have hN := lt_of_lt_of_eq t.isLt (show cfg0.N = 68 from N_0)
  rw [Cert.ProjQkIdeal.Value.flushed3, stored_eq]
  funext y
  have hy0 : (y 0).val < 1024 := (y 0).isLt
  have hy1 : (y 1).val < 512 := (y 1).isLt
  show k0_pay3 (F := Ideal) _ _ ((cfg0.win 3).xinj (grid0.coords t) y) = Cert.ProjQkRefIdeal.Read.val_main_v3 (F := Ideal) _ _ (((cfg0.win 3).blk t).view.emb y)
  rw [k0_pay3_apply]
  generalize hz : ((cfg0.win 3).blk t).view.emb y = z
  have hb0 : (z 0).val = win0_3.index t (0 : Fin 2) * 1024 + 1 * (y 0).val := by subst hz; rfl
  have hb1 : (z 1).val = win0_3.index t (1 : Fin 2) * 512 + 1 * (y 1).val := by subst hz; rfl
  rw [Cert.ProjQkRefIdeal.Read.val_main_v3_apply, Cert.ProjQkRefIdeal.Read.val_main_v2_apply]
  refine Finset.sum_congr rfl fun k _ => ?_
  rw [rows_apply]
  refine congrArg₂ (· * ·) ?_ ?_
  · show m _ _ = m _ _
    refine congrArg _ (funext fun a => Fin.ext ?_)
    match a with
    | ⟨0, _⟩ => show 1024 * (t.val % 17) + (y 0).val = (z 0).val; rw [hb0, e0]; omega
    | ⟨1, _⟩ => rfl
  · rw [Cert.ProjQkRefIdeal.Read.val_main_v1_apply]
    show m _ _ = m _ _
    refine congrArg _ (funext fun a => Fin.ext ?_)
    have hk : k.val < 4096 := k.isLt
    match a with
    | ⟨0, _⟩ => rfl
    | ⟨1, _⟩ => show k.val = (k.val * 20496 + (z 1).val) / 20496 % 4096; exact (Cert.Common.row_of _ _ _ hk (by rw [hb1, e1]; omega)).symm
    | ⟨2, _⟩ => show 0 + 512 * (t.val / 17) + (y 1).val = (k.val * 20496 + (z 1).val) % 20496; rw [Cert.Common.col_of _ _ _ (by rw [hb1, e1]; omega), hb1, e1]; omega

end Cert.ProjQkIdeal.Hand

namespace Cert.Proof
open Idealize.ShloMosaic Idealize.ShloMosaic.TcCoe Idealize.SL.Sem

theorem algebraic_ProjQkIdeal_ProjQkRefIdeal_proof : Cert.algebraic_ProjQkIdeal_ProjQkRefIdeal := by
  intro m g m' g' _ hargs
  refine ⟨fun c => Cert.ProjQkRefIdeal.Read.val_main_v3 (F := Ideal) (m ((c.tc : Thread Cert.ProjQkIdeal.nD Cert.ProjQkIdeal.τ).loc Cert.ProjQkIdeal.main_arg0)) (m ((c.tc : Thread Cert.ProjQkIdeal.nD Cert.ProjQkIdeal.τ).loc Cert.ProjQkIdeal.main_arg1)), ?_, ?_⟩
  · refine (θ_run _ _ _).mono (fun r h c => ?_) (Cert.ProjQkIdeal.Value.run_blocks m g)
    exact ⟨(h c).1.trans (Cert.ProjQkIdeal.Hand.final_eq m c), (h c).2⟩
  · refine (θ_run _ _ _).mono (fun r h c => ?_) (Cert.ProjQkRefIdeal.Value.run m' g')
    refine ⟨(h c).1.trans ?_, (h c).2⟩
    have e := hargs c
    rw [e.1, e.2]
    exact Cert.ProjQkRefIdeal.Read.val_main_v3_eq (F := Ideal) _ _

theorem preserves_ProjQk_ProjQkIdeal_proof : Cert.preserves_ProjQk_ProjQkIdeal := trivial

end Cert.Proof

end
-- ==== Proof.ProjVo.lean ====
module
public import proofs.«01_k».proof.Proof.Gen.ProjVoIdeal.Value
public import proofs.«01_k».proof.Proof.Gen.ProjVoRefIdeal.Read
public import proofs.«01_k».proof.Proof.Common
public import proofs.«01_k».proof.Defs
public import Idealize.ShloMosaic.Lib.Quiescent
@[expose] public section
set_option maxRecDepth 16384
noncomputable section
namespace Cert.ProjVoIdeal.Hand
open Cert.ProjVoIdeal Cert.ProjVoIdeal.Gen Idealize.ShloMosaic Idealize.ShloMosaic.TcCoe Idealize.SL.Sem

/-- The block of weight rows the first row tile of a column tile stores: rows 0 and on of the one window, then the
    first rows of the other. -/
def wblk (x1 : Vec Ideal S1x1024x4096 .f32) (x2 : Vec Ideal S1x16x4096 .f32) : Vec Ideal S1024x4096 .bf16 := fun y =>
  if h : (y 0).val + 0 < 1024 then x1 (ValueIdx.ix3 0 ⟨(y 0).val + 0, h⟩ (y 1))
  else x2 (ValueIdx.ix3 0 ⟨(y 0).val + 0 - 1024, by have h0 : (y 0).val < 1024 := (y 0).isLt; omega⟩ (y 1))

theorem wblk_in (x1 : Vec Ideal S1x1024x4096 .f32) (x2 : Vec Ideal S1x16x4096 .f32) (y : S1024x4096.Idx) (h : (y 0).val + 0 < 1024) :
    wblk x1 x2 y = x1 (ValueIdx.ix3 0 ⟨(y 0).val + 0, h⟩ (y 1)) := dif_pos h

theorem wblk_past (x1 : Vec Ideal S1x1024x4096 .f32) (x2 : Vec Ideal S1x16x4096 .f32) (y : S1024x4096.Idx) (h : ¬(y 0).val + 0 < 1024) :
    wblk x1 x2 y = x2 (ValueIdx.ix3 0 ⟨(y 0).val + 0 - 1024, by have h0 : (y 0).val < 1024 := (y 0).isLt; omega⟩ (y 1)) := dif_neg h

/-! The stores of the slabs, read at one place. -/

theorem k0_pay1_apply (v : Vec Ideal S1x256x4096 .f32) (x : S256x4096.Idx) :
    k0_pay1 v x = v (ValueIdx.ix3 0 (x 0) (x 1)) := by
  unfold k0_pay1
  exact Cert.Common.slab_apply (n := 256) (k := 4096) v _ _ _ x

theorem k0_pay2_apply (v : Vec Ideal S1x256x4096 .f32) (x : S256x4096.Idx) :
    k0_pay2 v x = v (ValueIdx.ix3 0 (x 0) (x 1)) := by
  unfold k0_pay2
  exact Cert.Common.slab_apply (n := 256) (k := 4096) v _ _ _ x

theorem k0_pay3_apply (v : Vec Ideal S1x256x4096 .f32) (x : S256x4096.Idx) :
    k0_pay3 v x = v (ValueIdx.ix3 0 (x 0) (x 1)) := by
  unfold k0_pay3
  exact Cert.Common.slab_apply (n := 256) (k := 4096) v _ _ _ x

theorem k0_pay4_apply (v : Vec Ideal S1x256x4096 .f32) (x : S256x4096.Idx) :
    k0_pay4 v x = v (ValueIdx.ix3 0 (x 0) (x 1)) := by
  unfold k0_pay4
  exact Cert.Common.slab_apply (n := 256) (k := 4096) v _ _ _ x

/-- The stores of the weight block. -/
def wpieces (x1 : Vec Ideal S1x1024x4096 .f32) (x2 : Vec Ideal S1x16x4096 .f32) : List (View.Piece (Elt Ideal) S1024x4096 .bf16) :=
  [(⟨Rect.unit (s := S1024x4096) ![768, 0] S256x4096.size inb_S1024x4096_S256x4096_768_0, k0_pay4 (View.ld x1 (Rect.unit (s := S1x1024x4096) ![0, 768, 0] S1x256x4096.size inb_S1x1024x4096_S1x256x4096_0_768_0))⟩ : View.Piece (Elt Ideal) S1024x4096 .bf16),
   (⟨Rect.unit (s := S1024x4096) ![512, 0] S256x4096.size inb_S1024x4096_S256x4096_512_0, k0_pay3 (View.ld x1 (Rect.unit (s := S1x1024x4096) ![0, 512, 0] S1x256x4096.size inb_S1x1024x4096_S1x256x4096_0_512_0))⟩ : View.Piece (Elt Ideal) S1024x4096 .bf16),
   (⟨Rect.unit (s := S1024x4096) ![256, 0] S256x4096.size inb_S1024x4096_S256x4096_256_0, k0_pay2 (View.ld x1 (Rect.unit (s := S1x1024x4096) ![0, 256, 0] S1x256x4096.size inb_S1x1024x4096_S1x256x4096_0_256_0))⟩ : View.Piece (Elt Ideal) S1024x4096 .bf16),
   (⟨Rect.unit (s := S1024x4096) ![0, 0] S256x4096.size inb_S1024x4096_S256x4096_0_0, k0_pay1 (View.ld x1 (Rect.unit (s := S1x1024x4096) ![0, 0, 0] S1x256x4096.size inb_S1x1024x4096_S1x256x4096_0_0_0))⟩ : View.Piece (Elt Ideal) S1024x4096 .bf16)]

theorem wpieces_cover (x1 : Vec Ideal S1x1024x4096 .f32) (x2 : Vec Ideal S1x16x4096 .f32) (y : S1024x4096.Idx) :
    ∃ p ∈ wpieces x1 x2, y ∈ p.1.set :=
  View.cover_of_tiledBy (wpieces x1 x2) ![256, 4096] (by sl_kernel_rfl) y

/-- Together the stores leave the weight block. -/
theorem wpieces_canon (x1 : Vec Ideal S1x1024x4096 .f32) (x2 : Vec Ideal S1x16x4096 .f32) : View.canon (wpieces x1 x2) = wblk x1 x2 := by
  funext y
  refine View.canon_apply_of_pieces (wblk x1 x2) _ ?_ y (wpieces_cover x1 x2 y)
  intro p hp x
  simp only [wpieces, List.mem_cons, List.not_mem_nil, or_false] at hp
  rcases hp with rfl | rfl | rfl | rfl
  · dsimp only [] at x ⊢
    refine (k0_pay4_apply _ x).trans ?_
    have hx0 : (x 0).val < 256 := (x 0).isLt
    have e0 : (((Rect.unit (s := S1024x4096) ![768, 0] S256x4096.size inb_S1024x4096_S256x4096_768_0).emb x) 0).val = 768 + 1 * (x 0).val := rfl
    have e1 : (((Rect.unit (s := S1024x4096) ![768, 0] S256x4096.size inb_S1024x4096_S256x4096_768_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 768 + (x 0).val; dsimp only [ValueIdx.ix3]; rw [e0]; omega
    | ⟨2, _⟩ => show _ = 0 + (x 1).val; dsimp only [ValueIdx.ix3]; rw [e1]; omega
  · dsimp only [] at x ⊢
    refine (k0_pay3_apply _ x).trans ?_
    have hx0 : (x 0).val < 256 := (x 0).isLt
    have e0 : (((Rect.unit (s := S1024x4096) ![512, 0] S256x4096.size inb_S1024x4096_S256x4096_512_0).emb x) 0).val = 512 + 1 * (x 0).val := rfl
    have e1 : (((Rect.unit (s := S1024x4096) ![512, 0] S256x4096.size inb_S1024x4096_S256x4096_512_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 512 + (x 0).val; dsimp only [ValueIdx.ix3]; rw [e0]; omega
    | ⟨2, _⟩ => show _ = 0 + (x 1).val; dsimp only [ValueIdx.ix3]; rw [e1]; omega
  · dsimp only [] at x ⊢
    refine (k0_pay2_apply _ x).trans ?_
    have hx0 : (x 0).val < 256 := (x 0).isLt
    have e0 : (((Rect.unit (s := S1024x4096) ![256, 0] S256x4096.size inb_S1024x4096_S256x4096_256_0).emb x) 0).val = 256 + 1 * (x 0).val := rfl
    have e1 : (((Rect.unit (s := S1024x4096) ![256, 0] S256x4096.size inb_S1024x4096_S256x4096_256_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 256 + (x 0).val; dsimp only [ValueIdx.ix3]; rw [e0]; omega
    | ⟨2, _⟩ => show _ = 0 + (x 1).val; dsimp only [ValueIdx.ix3]; rw [e1]; omega
  · dsimp only [] at x ⊢
    refine (k0_pay1_apply _ x).trans ?_
    have hx0 : (x 0).val < 256 := (x 0).isLt
    have e0 : (((Rect.unit (s := S1024x4096) ![0, 0] S256x4096.size inb_S1024x4096_S256x4096_0_0).emb x) 0).val = 0 + 1 * (x 0).val := rfl
    have e1 : (((Rect.unit (s := S1024x4096) ![0, 0] S256x4096.size inb_S1024x4096_S256x4096_0_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 0 + (x 0).val; dsimp only [ValueIdx.ix3]; rw [e0]; omega
    | ⟨2, _⟩ => show _ = 0 + (x 1).val; dsimp only [ValueIdx.ix3]; rw [e1]; omega

/-- What the first row tile of a column tile leaves in the scratch: the weight block. -/
theorem sout_A (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : cond0_0 i)
    (x0 : Vec Ideal S1024x4096 .bf16) (x1 : Vec Ideal S1x1024x4096 .f32) (x2 : Vec Ideal S1x16x4096 .f32) : sout0_A_0 (F := Ideal) c i arg2 harg2 arg3 harg3 arg4 harg4 arg5 harg5 arg6 harg6 hc0 x0 x1 x2 = wblk x1 x2 := by
  unfold sout0_A_0
  rw [View.read_writes_eq_canon _ _ _ (scover0_A_0 c i arg2 harg2 arg3 harg3 arg4 harg4 arg5 harg5 arg6 harg6 hc0 x0 x1 x2)]
  refine Eq.trans ?_ (wpieces_canon x1 x2)
  unfold kernelRun0_A; dsimp only; sl_unfold_words
  simp only [View.readAt_eq_ld, harg3.read_unread, harg4.read_unread]
  rfl

/-- What the first row tile of a column tile stores: the rows times the weight block. -/
theorem out_A (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : cond0_0 i)
    (x0 : Vec Ideal S1024x4096 .bf16) (x1 : Vec Ideal S1x1024x4096 .f32) (x2 : Vec Ideal S1x16x4096 .f32) : out0_A_3 (F := Ideal) c i arg2 harg2 arg3 harg3 arg4 harg4 arg5 harg5 arg6 harg6 hc0 x0 x1 x2 = k0_pay5 x0 (wblk x1 x2) := by
  unfold out0_A_3
  rw [View.read_writes_eq_canon _ _ _ (cover0_A_3 c i arg2 harg2 arg3 harg3 arg4 harg4 arg5 harg5 arg6 harg6 hc0 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay5 (View.ld_unit_zero (by decide) _ x0) ?_
  refine (View.readCov_eq_canon_ld _ (wpieces x1 x2) _ (wpieces_cover x1 x2)).trans ?_
  rw [wpieces_canon]
  exact View.ld_unit_zero (by decide) _ _

/-- What every other row tile stores: the rows times the scratch. -/
theorem out_B (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : ¬cond0_0 i)
    (x0 : Vec Ideal S1024x4096 .bf16) (x1 : Vec Ideal S1x1024x4096 .f32) (x2 : Vec Ideal S1x16x4096 .f32) (xs0 : Vec Ideal S1024x4096 .bf16) : out0_B_3 (F := Ideal) c i arg2 harg2 arg3 harg3 arg4 harg4 arg5 harg5 arg6 harg6 hc0 x0 x1 x2 xs0 = k0_pay5 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only; sl_unfold_words
  simp only [View.readAt_eq_ld, harg2.read_unread, harg6.read_unread]
  refine (View.canon_unit_zero (by decide) _ _).trans ?_
  exact congrArg₂ k0_pay5 (View.ld_unit_zero (by decide) _ x0) (View.ld_unit_zero (by decide) _ xs0)

/-! ## What the windows hold -/

variable (m : (ℓ : Loc nD τ sig) → Buf (Elt Ideal) ℓ)

/-- The weights as the kernel finds them: transposed. -/
theorem V_v0 (c : Dev nD) : V m c main_v0 = transpose S1x20496x4096 [0, 2, 1] (m ((c : Thread nD τ).loc main_arg1)) transposes_S1x4096x20496_S1x20496x4096_0_2_1 := by
  show StableHlo.after hostOps0 _ (Proc.devRef .tc main_v0) = _
  after_results <;> rfl

theorem V_v0_apply (c : Dev nD) (j : S1x20496x4096.Idx) : V m c main_v0 j = m ((c : Thread nD τ).loc main_arg1) (ValueIdx.ix3 0 (j 2) (j 1)) := by
  rw [V_v0]
  refine transpose_apply _ _ _ j _ ?_
  intro b
  match b with
  | ⟨0, _⟩ => have h : (j 0).val < 1 := (j 0).isLt; show 0 = (j 0).val; omega
  | ⟨1, _⟩ => rfl
  | ⟨2, _⟩ => rfl

theorem facts0 : ∀ t : Fin cfg0.N, win0_0.index t (0 : Fin 2) = t.val % 17 ∧ win0_0.index t (1 : Fin 2) = 0 :=
  (by decide +kernel : ∀ t : Fin grid0.N, _)
theorem facts1 : ∀ t : Fin cfg0.N, win0_1.index t (0 : Fin 3) = 0 ∧ win0_1.index t (1 : Fin 3) = 2 + t.val / 17 ∧ win0_1.index t (2 : Fin 3) = 0 :=
  (by decide +kernel : ∀ t : Fin grid0.N, _)
theorem facts3 : ∀ t : Fin cfg0.N, win0_3.index t (0 : Fin 2) = t.val % 17 ∧ win0_3.index t (1 : Fin 2) = t.val / 17 :=
  (by decide +kernel : ∀ t : Fin grid0.N, _)

/-- Window 0 at a point: its row tile. -/
theorem rows_apply (c : Dev nD) (t : Fin cfg0.N) (y : S1024x4096.Idx) :
    (iblk m c 0 t : Vec Ideal S1024x4096 .bf16) y = m ((c : Thread nD τ).loc main_arg0)
      (ValueIdx.ix2 ⟨1024 * (t.val % 17) + (y 0).val, by have h0 : (y 0).val < 1024 := (y 0).isLt; omega⟩ (y 1)) := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = 1024 * (t.val % 17) + (y 0).val; rw [e0]; omega
  | ⟨1, _⟩ => show win0_0.index t (1 : Fin 2) * 4096 + 1 * (y 1).val = (y 1).val; rw [e1]; omega

/-- Window 1 at a point: the rows of the transposed weights its column tile begins in. -/
theorem wrows_apply (c : Dev nD) (t : Fin cfg0.N) (y : S1x1024x4096.Idx) (b : Fin 20496) (hb : b.val = 2048 + 1024 * (t.val / 17) + (y 1).val) :
    (X0_1 m c t : Vec Ideal S1x1024x4096 .f32) y = m ((c : Thread nD τ).loc main_arg1) (ValueIdx.ix3 0 (y 2) b) := by
  obtain ⟨e0, e1, e2⟩ := facts1 t
  unfold X0_1 Pipeline.Window.fill
  rw [dif_pos (moved0_1 t y)]
  show V m c main_v0 (((cfg0.win 1).blk t).view.emb _) = _
  rw [V_v0_apply]
  refine congrArg _ (funext fun a => Fin.ext ?_)
  match a with
  | ⟨0, _⟩ => rfl
  | ⟨1, _⟩ => show win0_1.index t (2 : Fin 3) * 4096 + 1 * (y 2).val = (y 2).val; rw [e2]; omega
  | ⟨2, _⟩ => show win0_1.index t (1 : Fin 3) * 1024 + 1 * (y 1).val = b.val; rw [e1, hb]; omega

/-! ## The scratch: the weights of the column tile -/

/-- The columns of the weights in column tile `j`, one to a row. -/
def wcols (W : Vec Ideal S1x4096x20496 .f32) (j : ℕ) (hj : j < 4) : Vec Ideal S1024x4096 .bf16 := fun y =>
  W (ValueIdx.ix3 0 (y 1) ⟨2048 + 1024 * j + (y 0).val, by have h0 : (y 0).val < 1024 := (y 0).isLt; omega⟩)

theorem col_lt (t : Fin cfg0.N) : t.val / 17 < 4 := by
  have h := lt_of_lt_of_eq t.isLt (show cfg0.N = 68 from N_0)
  omega

/-- The weight block made at a point is the columns of its column tile. -/
theorem wblk_eq (c : Dev nD) (t : Fin cfg0.N) :
    wblk (X0_1 m c t) (iblk m c 2 t) = wcols (m ((c : Thread nD τ).loc main_arg1)) (t.val / 17) (col_lt t) := by
  have hN := lt_of_lt_of_eq t.isLt (show cfg0.N = 68 from N_0)
  funext y
  have hy : (y 0).val < 1024 := (y 0).isLt
  by_cases h : (y 0).val + 0 < 1024
  · rw [wblk_in _ _ _ h]
    refine (wrows_apply m c t _ ⟨2048 + 1024 * (t.val / 17) + (y 0).val, by omega⟩ ?_).trans rfl
    show 2048 + 1024 * (t.val / 17) + (y 0).val = 2048 + 1024 * (t.val / 17) + ((y 0).val + 0)
    omega
  · exact absurd hy (by omega)

theorem wcols_congr (W : Vec Ideal S1x4096x20496 .f32) (j j' : ℕ) (hj : j < 4) (hj' : j' < 4) (e : j = j') : wcols W j hj = wcols W j' hj' := by
  subst e; rfl

/-- After every point the scratch holds the columns of the point's column tile. -/
theorem scratch_eq (c : Dev nD) : ∀ (n : ℕ) (hn : n < cfg0.N),
    (outsAt0 m c n hn).2 = wcols (m ((c : Thread nD τ).loc main_arg1)) (n / 17) (col_lt ⟨n, hn⟩)
  | 0, hn => by
    rw [outsAt0_A m c ⟨0, hn⟩ (Nat.zero_mod _)]
    dsimp only
    rw [sout_A]
    exact wblk_eq m c ⟨0, hn⟩
  | n + 1, hn => by
    by_cases h : (n + 1) % 17 = 0
    · rw [outsAt0_A m c ⟨n + 1, hn⟩ h]
      dsimp only
      rw [sout_A]
      exact wblk_eq m c ⟨n + 1, hn⟩
    · rw [outsAt0_B m c ⟨n + 1, hn⟩ h]
      refine Eq.trans (scratch_eq c n (Nat.lt_of_succ_lt hn)) (wcols_congr _ _ _ _ _ ?_)
      omega

/-- After every point the staged output holds the product of the point's row tile and column tile. -/
theorem stored_eq (c : Dev nD) (t : Fin cfg0.N) :
    (outsAt0 m c t.val t.isLt).1 = k0_pay5 (iblk m c 0 t) (wcols (m ((c : Thread nD τ).loc main_arg1)) (t.val / 17) (col_lt t)) := by
  by_cases h : t.val % 17 = 0
  · rw [outsAt0_A m c t h]
    dsimp only
    rw [out_A]
    exact congrArg _ (wblk_eq m c t)
  · rw [outsAt0_B m c t h]
    have hN := lt_of_lt_of_eq t.isLt (show cfg0.N = 68 from N_0)
    dsimp only
    rw [out_B]
    refine congrArg _ ?_
    refine (scratch_eq m c _ _).trans (wcols_congr _ _ _ _ _ ?_)
    omega

/-- The product read at one place. -/
theorem k0_pay5_apply (v : Vec Ideal S1024x4096 .bf16) (w : Vec Ideal S1024x4096 .bf16) (y : S1024x1024.Idx) :
    k0_pay5 v w y = ∑ k : Fin 4096, v (ValueIdx.ix2 (y 0) k) * w (ValueIdx.ix2 (y 1) k) := by
  unfold k0_pay5
  exact Cert.Common.dotT_apply (φ₁ := .bf16) (φ₂ := .bf16) (M := 1024) (K := 4096) (N := 1024) v w y

/-! ## The array after the run -/

/-- The array the kernel returns is the reference's. -/
theorem final_eq (c : Dev nD) : (dats m 0 c).arrAt 3 cfg0.N
    = Cert.ProjVoRefIdeal.Read.val_main_v4 (F := Ideal) (m ((c : Thread nD τ).loc main_arg0)) (m ((c : Thread nD τ).loc main_arg1)) := by
  refine (dats m 0 c).arrAt_eq_of_cover 3 _ (fun t hf => ?_) (fun i => (Cert.ProjVoIdeal.Value.covered_iff3 i).2 (by
    have h0 : (i 0).val < 17408 := (i 0).isLt; have h1 : (i 1).val < 4096 := (i 1).isLt; omega))
  obtain ⟨e0, e1⟩ := facts3 t
  have hN := lt_of_lt_of_eq t.isLt (show cfg0.N = 68 from N_0)
  rw [Cert.ProjVoIdeal.Value.flushed3, stored_eq]
  funext y
  have hy0 : (y 0).val < 1024 := (y 0).isLt
  have hy1 : (y 1).val < 1024 := (y 1).isLt
  show k0_pay5 (F := Ideal) _ _ ((cfg0.win 3).xinj (grid0.coords t) y) = Cert.ProjVoRefIdeal.Read.val_main_v4 (F := Ideal) _ _ (((cfg0.win 3).blk t).view.emb y)
  rw [k0_pay5_apply]
  generalize hz : ((cfg0.win 3).blk t).view.emb y = z
  have hb0 : (z 0).val = win0_3.index t (0 : Fin 2) * 1024 + 1 * (y 0).val := by subst hz; rfl
  have hb1 : (z 1).val = win0_3.index t (1 : Fin 2) * 1024 + 1 * (y 1).val := by subst hz; rfl
  show _ = Cert.ProjVoRefIdeal.Read.val_main_v3 (F := Ideal) _ _ z
  rw [Cert.ProjVoRefIdeal.Read.val_main_v3_apply, Cert.ProjVoRefIdeal.Read.val_main_v2_apply]
  refine Finset.sum_congr rfl fun k _ => ?_
  rw [rows_apply]
  refine congrArg₂ (· * ·) ?_ ?_
  · show m _ _ = m _ _
    refine congrArg _ (funext fun a => Fin.ext ?_)
    match a with
    | ⟨0, _⟩ => show 1024 * (t.val % 17) + (y 0).val = (z 0).val; rw [hb0, e0]; omega
    | ⟨1, _⟩ => rfl
  · rw [Cert.ProjVoRefIdeal.Read.val_main_v1_apply]
    show m _ _ = m _ _
    refine congrArg _ (funext fun a => Fin.ext ?_)
    have hk : k.val < 4096 := k.isLt
    match a with
    | ⟨0, _⟩ => rfl
    | ⟨1, _⟩ => show k.val = (k.val * 20496 + (2048 + (z 1).val)) / 20496 % 4096; exact (Cert.Common.row_of _ _ _ hk (by rw [hb1, e1]; omega)).symm
    | ⟨2, _⟩ => show 2048 + 1024 * (t.val / 17) + (y 1).val = (k.val * 20496 + (2048 + (z 1).val)) % 20496; rw [Cert.Common.col_of _ _ _ (by rw [hb1, e1]; omega), hb1, e1]; omega

end Cert.ProjVoIdeal.Hand

namespace Cert.Proof
open Idealize.ShloMosaic Idealize.ShloMosaic.TcCoe Idealize.SL.Sem

theorem algebraic_ProjVoIdeal_ProjVoRefIdeal_proof : Cert.algebraic_ProjVoIdeal_ProjVoRefIdeal := by
  intro m g m' g' _ hargs
  refine ⟨fun c => Cert.ProjVoRefIdeal.Read.val_main_v4 (F := Ideal) (m ((c.tc : Thread Cert.ProjVoIdeal.nD Cert.ProjVoIdeal.τ).loc Cert.ProjVoIdeal.main_arg0)) (m ((c.tc : Thread Cert.ProjVoIdeal.nD Cert.ProjVoIdeal.τ).loc Cert.ProjVoIdeal.main_arg1)), ?_, ?_⟩
  · refine (θ_run _ _ _).mono (fun r h c => ?_) (Cert.ProjVoIdeal.Value.run_blocks m g)
    exact ⟨(h c).1.trans (Cert.ProjVoIdeal.Hand.final_eq m c), (h c).2⟩
  · refine (θ_run _ _ _).mono (fun r h c => ?_) (Cert.ProjVoRefIdeal.Value.run m' g')
    refine ⟨(h c).1.trans ?_, (h c).2⟩
    have e := hargs c
    rw [e.1, e.2]
    exact Cert.ProjVoRefIdeal.Read.val_main_v4_eq (F := Ideal) _ _

theorem preserves_ProjVo_ProjVoIdeal_proof : Cert.preserves_ProjVo_ProjVoIdeal := trivial

end Cert.Proof

end
-- ==== Proof.Consts.lean ====
module
public import Idealize.ShloMosaic.PureOps.Ideal
/-! The constants the programs spell, as the real numbers they stand for. -/
@[expose] public section
noncomputable section
namespace Cert.Consts
open Idealize.ShloMosaic

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- Dividing by the root of 128 is multiplying by its reciprocal. -/
theorem div_sqrt_128 (x : EReal) : Ideal.div x (Ideal.sqrt (Ideal.ofBits .f32 0x43000000#32)) = x * (((Real.sqrt 128)⁻¹ : ℝ) : EReal) := by
  rw [ofBits_128, Ideal.sqrt_coe, if_neg (by norm_num), Ideal.div_coe (Real.sqrt_pos.mpr (by norm_num)).ne', one_div]

/-- Dividing by the natural logarithm of 2 is multiplying by its reciprocal. -/
theorem div_log_2 (x : EReal) : Ideal.div x (Ideal.log (Ideal.ofBits .f32 0x40000000#32)) = x * (((Real.log 2)⁻¹ : ℝ) : EReal) := by
  rw [ofBits_2, Ideal.log_coe, if_neg (by norm_num), Ideal.div_coe (Real.log_pos (by norm_num)).ne', one_div]

/-- The two divisions one after the other are one multiplication. -/
theorem div_sqrt_log (x : EReal) : Ideal.div (Ideal.div x (Ideal.sqrt (Ideal.ofBits .f32 0x43000000#32))) (Ideal.log (Ideal.ofBits .f32 0x40000000#32))
    = x * (((Real.log 2)⁻¹ * (Real.sqrt 128)⁻¹ : ℝ) : EReal) := by
  rw [div_sqrt_128, div_log_2, EReal.coe_mul, mul_assoc, mul_comm (((Real.sqrt 128)⁻¹ : ℝ) : EReal)]

end Cert.Consts
end
-- ==== Proof.ProjAq.lean ====
module
public import proofs.«01_k».proof.Proof.Gen.ProjAqIdeal.Value
public import proofs.«01_k».proof.Proof.Gen.ProjAqRefIdeal.Read
public import proofs.«01_k».proof.Proof.Common
public import proofs.«01_k».proof.Proof.Consts
public import proofs.«01_k».proof.Defs
public import Idealize.ShloMosaic.Lib.Quiescent
@[expose] public section
set_option maxRecDepth 16384
noncomputable section
namespace Cert.ProjAqIdeal.Hand
open Cert.ProjAqIdeal Cert.ProjAqIdeal.Gen Idealize.ShloMosaic Idealize.ShloMosaic.TcCoe Idealize.SL.Sem

/-- The block of weight rows the first row tile of a column tile stores: rows 16 and on of the one window, then the
    first rows of the other. -/
def wblk (x1 : Vec Ideal S1x1024x4096 .f32) (x2 : Vec Ideal S1x16x4096 .f32) : Vec Ideal S1024x4096 .bf16 := fun y =>
  if h : (y 0).val + 16 < 1024 then x1 (ValueIdx.ix3 0 ⟨(y 0).val + 16, h⟩ (y 1))
  else x2 (ValueIdx.ix3 0 ⟨(y 0).val + 16 - 1024, by have h0 : (y 0).val < 1024 := (y 0).isLt; omega⟩ (y 1))

theorem wblk_in (x1 : Vec Ideal S1x1024x4096 .f32) (x2 : Vec Ideal S1x16x4096 .f32) (y : S1024x4096.Idx) (h : (y 0).val + 16 < 1024) :
    wblk x1 x2 y = x1 (ValueIdx.ix3 0 ⟨(y 0).val + 16, h⟩ (y 1)) := dif_pos h

theorem wblk_past (x1 : Vec Ideal S1x1024x4096 .f32) (x2 : Vec Ideal S1x16x4096 .f32) (y : S1024x4096.Idx) (h : ¬(y 0).val + 16 < 1024) :
    wblk x1 x2 y = x2 (ValueIdx.ix3 0 ⟨(y 0).val + 16 - 1024, by have h0 : (y 0).val < 1024 := (y 0).isLt; omega⟩ (y 1)) := dif_neg h

/-! The stores of the slabs, read at one place. -/

theorem k0_pay2_apply (v : Vec Ideal S1x256x4096 .f32) (x : S256x4096.Idx) :
    k0_pay2 v x = v (ValueIdx.ix3 0 (x 0) (x 1)) := by
  unfold k0_pay2
  exact Cert.Common.slab_apply (n := 256) (k := 4096) v _ _ _ x

theorem k0_pay3_apply (v : Vec Ideal S1x256x4096 .f32) (x : S256x4096.Idx) :
    k0_pay3 v x = v (ValueIdx.ix3 0 (x 0) (x 1)) := by
  unfold k0_pay3
  exact Cert.Common.slab_apply (n := 256) (k := 4096) v _ _ _ x

theorem k0_pay4_apply (v : Vec Ideal S1x256x4096 .f32) (x : S256x4096.Idx) :
    k0_pay4 v x = v (ValueIdx.ix3 0 (x 0) (x 1)) := by
  unfold k0_pay4
  exact Cert.Common.slab_apply (n := 256) (k := 4096) v _ _ _ x

theorem k0_pay5_apply (v : Vec Ideal S1x240x4096 .f32) (x : S240x4096.Idx) :
    k0_pay5 v x = v (ValueIdx.ix3 0 (x 0) (x 1)) := by
  unfold k0_pay5
  exact Cert.Common.slab_apply (n := 240) (k := 4096) v _ _ _ x

theorem k0_pay6_apply (v : Vec Ideal S1x16x4096 .f32) (x : S16x4096.Idx) :
    k0_pay6 v x = v (ValueIdx.ix3 0 (x 0) (x 1)) := by
  unfold k0_pay6
  exact Cert.Common.slab_apply (n := 16) (k := 4096) v _ _ _ x

/-- The stores of the weight block. -/
def wpieces (x1 : Vec Ideal S1x1024x4096 .f32) (x2 : Vec Ideal S1x16x4096 .f32) : List (View.Piece (Elt Ideal) S1024x4096 .bf16) :=
  [(⟨Rect.unit (s := S1024x4096) ![1008, 0] S16x4096.size inb_S1024x4096_S16x4096_1008_0, k0_pay6 (View.ld x2 (Rect.unit (s := S1x16x4096) ![0, 0, 0] S1x16x4096.size inb_S1x16x4096_S1x16x4096_0_0_0))⟩ : View.Piece (Elt Ideal) S1024x4096 .bf16),
   (⟨Rect.unit (s := S1024x4096) ![768, 0] S240x4096.size inb_S1024x4096_S240x4096_768_0, k0_pay5 (View.ld x1 (Rect.unit (s := S1x1024x4096) ![0, 784, 0] S1x240x4096.size inb_S1x1024x4096_S1x240x4096_0_784_0))⟩ : View.Piece (Elt Ideal) S1024x4096 .bf16),
   (⟨Rect.unit (s := S1024x4096) ![512, 0] S256x4096.size inb_S1024x4096_S256x4096_512_0, k0_pay4 (View.ld x1 (Rect.unit (s := S1x1024x4096) ![0, 528, 0] S1x256x4096.size inb_S1x1024x4096_S1x256x4096_0_528_0))⟩ : View.Piece (Elt Ideal) S1024x4096 .bf16),
   (⟨Rect.unit (s := S1024x4096) ![256, 0] S256x4096.size inb_S1024x4096_S256x4096_256_0, k0_pay3 (View.ld x1 (Rect.unit (s := S1x1024x4096) ![0, 272, 0] S1x256x4096.size inb_S1x1024x4096_S1x256x4096_0_272_0))⟩ : View.Piece (Elt Ideal) S1024x4096 .bf16),
   (⟨Rect.unit (s := S1024x4096) ![0, 0] S256x4096.size inb_S1024x4096_S256x4096_0_0, k0_pay2 (View.ld x1 (Rect.unit (s := S1x1024x4096) ![0, 16, 0] S1x256x4096.size inb_S1x1024x4096_S1x256x4096_0_16_0))⟩ : View.Piece (Elt Ideal) S1024x4096 .bf16)]

theorem wpieces_cover (x1 : Vec Ideal S1x1024x4096 .f32) (x2 : Vec Ideal S1x16x4096 .f32) (y : S1024x4096.Idx) :
    ∃ p ∈ wpieces x1 x2, y ∈ p.1.set :=
  View.cover_of_tiledBy (wpieces x1 x2) ![16, 4096] (by sl_kernel_rfl) y

/-- Together the stores leave the weight block. -/
theorem wpieces_canon (x1 : Vec Ideal S1x1024x4096 .f32) (x2 : Vec Ideal S1x16x4096 .f32) : View.canon (wpieces x1 x2) = wblk x1 x2 := by
  funext y
  refine View.canon_apply_of_pieces (wblk x1 x2) _ ?_ y (wpieces_cover x1 x2 y)
  intro p hp x
  simp only [wpieces, List.mem_cons, List.not_mem_nil, or_false] at hp
  rcases hp with rfl | rfl | rfl | rfl | rfl
  · dsimp only [] at x ⊢
    refine (k0_pay6_apply _ x).trans ?_
    have hx0 : (x 0).val < 16 := (x 0).isLt
    have e0 : (((Rect.unit (s := S1024x4096) ![1008, 0] S16x4096.size inb_S1024x4096_S16x4096_1008_0).emb x) 0).val = 1008 + 1 * (x 0).val := rfl
    have e1 : (((Rect.unit (s := S1024x4096) ![1008, 0] S16x4096.size inb_S1024x4096_S16x4096_1008_0).emb x) 1).val = 0 + 1 * (x 1).val := rfl
    refine (View.ld_unit_apply_of _ _ _ _ _ _ ?_).trans (wblk_past x1 x2 _ (by rw [e0]; omega)).symm
    intro a
    match a with
    | ⟨0, _⟩ => rfl
    | ⟨1, _⟩ => show _ = 0 + (x 0).val; dsimp only [ValueIdx.ix3]; rw [e0]; omega
    | ⟨2, _⟩ => show _ = 0 + (x 1).val; dsimp only [ValueIdx.ix3]; rw [e1]; omega
  · dsimp only [] at x ⊢
    refine (k0_pay5_apply _ x).trans ?_
    have hx0 : (x 0).val < 240 := (x 0).isLt
    have e0 : (((Rect.unit (s := S1024x4096) ![768, 0] S240x4096.size inb_S1024x4096_S240x4096_768_0).emb x) 0).val = 768 + 1 * (x 0).val := rfl
    have e1 : (((Rect.unit (s := S1024x4096) ![768, 0] S240x4096.size inb_S1024x4096_S240x4096_768_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 784 + (x 0).val; dsimp only [ValueIdx.ix3]; rw [e0]; omega
    | ⟨2, _⟩ => show _ = 0 + (x 1).val; dsimp only [ValueIdx.ix3]; rw [e1]; omega
  · dsimp only [] at x ⊢
    refine (k0_pay4_apply _ x).trans ?_
    have hx0 : (x 0).val < 256 := (x 0).isLt
    have e0 : (((Rect.unit (s := S1024x4096) ![512, 0] S256x4096.size inb_S1024x4096_S256x4096_512_0).emb x) 0).val = 512 + 1 * (x 0).val := rfl
    have e1 : (((Rect.unit (s := S1024x4096) ![512, 0] S256x4096.size inb_S1024x4096_S256x4096_512_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 528 + (x 0).val; dsimp only [ValueIdx.ix3]; rw [e0]; omega
    | ⟨2, _⟩ => show _ = 0 + (x 1).val; dsimp only [ValueIdx.ix3]; rw [e1]; omega
  · dsimp only [] at x ⊢
    refine (k0_pay3_apply _ x).trans ?_
    have hx0 : (x 0).val < 256 := (x 0).isLt
    have e0 : (((Rect.unit (s := S1024x4096) ![256, 0] S256x4096.size inb_S1024x4096_S256x4096_256_0).emb x) 0).val = 256 + 1 * (x 0).val := rfl
    have e1 : (((Rect.unit (s := S1024x4096) ![256, 0] S256x4096.size inb_S1024x4096_S256x4096_256_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 272 + (x 0).val; dsimp only [ValueIdx.ix3]; rw [e0]; omega
    | ⟨2, _⟩ => show _ = 0 + (x 1).val; dsimp only [ValueIdx.ix3]; rw [e1]; omega
  · dsimp only [] at x ⊢
    refine (k0_pay2_apply _ x).trans ?_
    have hx0 : (x 0).val < 256 := (x 0).isLt
    have e0 : (((Rect.unit (s := S1024x4096) ![0, 0] S256x4096.size inb_S1024x4096_S256x4096_0_0).emb x) 0).val = 0 + 1 * (x 0).val := rfl
    have e1 : (((Rect.unit (s := S1024x4096) ![0, 0] S256x4096.size inb_S1024x4096_S256x4096_0_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 16 + (x 0).val; dsimp only [ValueIdx.ix3]; rw [e0]; omega
    | ⟨2, _⟩ => show _ = 0 + (x 1).val; dsimp only [ValueIdx.ix3]; rw [e1]; omega

/-- What the first row tile of a column tile leaves in the scratch: the weight block. -/
theorem sout_A (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : cond0_0 i)
    (x0 : Vec Ideal S1024x4096 .bf16) (x1 : Vec Ideal S1x1024x4096 .f32) (x2 : Vec Ideal S1x16x4096 .f32) : sout0_A_0 (F := Ideal) c i arg2 harg2 arg3 harg3 arg4 harg4 arg5 harg5 arg6 harg6 hc0 x0 x1 x2 = wblk x1 x2 := by
  unfold sout0_A_0
  rw [View.read_writes_eq_canon _ _ _ (scover0_A_0 c i arg2 harg2 arg3 harg3 arg4 harg4 arg5 harg5 arg6 harg6 hc0 x0 x1 x2)]
  refine Eq.trans ?_ (wpieces_canon x1 x2)
  unfold kernelRun0_A; dsimp only; sl_unfold_words
  simp only [View.readAt_eq_ld, harg3.read_unread, harg4.read_unread]
  rfl

/-- What the first row tile of a column tile stores: the rows times the weight block. -/
theorem out_A (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : cond0_0 i)
    (x0 : Vec Ideal S1024x4096 .bf16) (x1 : Vec Ideal S1x1024x4096 .f32) (x2 : Vec Ideal S1x16x4096 .f32) : out0_A_3 (F := Ideal) c i arg2 harg2 arg3 harg3 arg4 harg4 arg5 harg5 arg6 harg6 hc0 x0 x1 x2 = k0_pay1 x0 (wblk x1 x2) := by
  unfold out0_A_3
  rw [View.read_writes_eq_canon _ _ _ (cover0_A_3 c i arg2 harg2 arg3 harg3 arg4 harg4 arg5 harg5 arg6 harg6 hc0 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay1 (View.ld_unit_zero (by decide) _ x0) ?_
  refine (View.readCov_eq_canon_ld _ (wpieces x1 x2) _ (wpieces_cover x1 x2)).trans ?_
  rw [wpieces_canon]
  exact View.ld_unit_zero (by decide) _ _

/-- What every other row tile stores: the rows times the scratch. -/
theorem out_B (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : ¬cond0_0 i)
    (x0 : Vec Ideal S1024x4096 .bf16) (x1 : Vec Ideal S1x1024x4096 .f32) (x2 : Vec Ideal S1x16x4096 .f32) (xs0 : Vec Ideal S1024x4096 .bf16) : out0_B_3 (F := Ideal) c i arg2 harg2 arg3 harg3 arg4 harg4 arg5 harg5 arg6 harg6 hc0 x0 x1 x2 xs0 = k0_pay1 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only; sl_unfold_words
  simp only [View.readAt_eq_ld, harg2.read_unread, harg6.read_unread]
  refine (View.canon_unit_zero (by decide) _ _).trans ?_
  exact congrArg₂ k0_pay1 (View.ld_unit_zero (by decide) _ x0) (View.ld_unit_zero (by decide) _ xs0)

/-! ## What the windows hold -/

variable (m : (ℓ : Loc nD τ sig) → Buf (Elt Ideal) ℓ)

/-- The weights as the kernel finds them: transposed. -/
theorem V_v0 (c : Dev nD) : V m c main_v0 = transpose S1x20496x4096 [0, 2, 1] (m ((c : Thread nD τ).loc main_arg1)) transposes_S1x4096x20496_S1x20496x4096_0_2_1 := by
  show StableHlo.after hostOps0 _ (Proc.devRef .tc main_v0) = _
  after_results <;> rfl

theorem V_v0_apply (c : Dev nD) (j : S1x20496x4096.Idx) : V m c main_v0 j = m ((c : Thread nD τ).loc main_arg1) (ValueIdx.ix3 0 (j 2) (j 1)) := by
  rw [V_v0]
  refine transpose_apply _ _ _ j _ ?_
  intro b
  match b with
  | ⟨0, _⟩ => have h : (j 0).val < 1 := (j 0).isLt; show 0 = (j 0).val; omega
  | ⟨1, _⟩ => rfl
  | ⟨2, _⟩ => rfl

theorem facts0 : ∀ t : Fin cfg0.N, win0_0.index t (0 : Fin 2) = t.val % 17 ∧ win0_0.index t (1 : Fin 2) = 0 :=
  (by decide +kernel : ∀ t : Fin grid0.N, _)
theorem facts1 : ∀ t : Fin cfg0.N, win0_1.index t (0 : Fin 3) = 0 ∧ win0_1.index t (1 : Fin 3) = 6 + t.val / 17 ∧ win0_1.index t (2 : Fin 3) = 0 :=
  (by decide +kernel : ∀ t : Fin grid0.N, _)
theorem facts3 : ∀ t : Fin cfg0.N, win0_3.index t (0 : Fin 2) = t.val % 17 ∧ win0_3.index t (1 : Fin 2) = t.val / 17 :=
  (by decide +kernel : ∀ t : Fin grid0.N, _)

/-- Window 0 at a point: its row tile. -/
theorem rows_apply (c : Dev nD) (t : Fin cfg0.N) (y : S1024x4096.Idx) :
    (iblk m c 0 t : Vec Ideal S1024x4096 .bf16) y = m ((c : Thread nD τ).loc main_arg0)
      (ValueIdx.ix2 ⟨1024 * (t.val % 17) + (y 0).val, by have h0 : (y 0).val < 1024 := (y 0).isLt; omega⟩ (y 1)) := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = 1024 * (t.val % 17) + (y 0).val; rw [e0]; omega
  | ⟨1, _⟩ => show win0_0.index t (1 : Fin 2) * 4096 + 1 * (y 1).val = (y 1).val; rw [e1]; omega

/-- Window 1 at a point: the rows of the transposed weights its column tile begins in. -/
theorem wrows_apply (c : Dev nD) (t : Fin cfg0.N) (y : S1x1024x4096.Idx) (b : Fin 20496) (hb : b.val = 6144 + 1024 * (t.val / 17) + (y 1).val) :
    (X0_1 m c t : Vec Ideal S1x1024x4096 .f32) y = m ((c : Thread nD τ).loc main_arg1) (ValueIdx.ix3 0 (y 2) b) := by
  obtain ⟨e0, e1, e2⟩ := facts1 t
  unfold X0_1 Pipeline.Window.fill
  rw [dif_pos (moved0_1 t y)]
  show V m c main_v0 (((cfg0.win 1).blk t).view.emb _) = _
  rw [V_v0_apply]
  refine congrArg _ (funext fun a => Fin.ext ?_)
  match a with
  | ⟨0, _⟩ => rfl
  | ⟨1, _⟩ => show win0_1.index t (2 : Fin 3) * 4096 + 1 * (y 2).val = (y 2).val; rw [e2]; omega
  | ⟨2, _⟩ => show win0_1.index t (1 : Fin 3) * 1024 + 1 * (y 1).val = b.val; rw [e1, hb]; omega

theorem facts2 : ∀ t : Fin cfg0.N, win0_2.index t (0 : Fin 3) = 0 ∧ win0_2.index t (1 : Fin 3) = 448 + 64 * (t.val / 17) ∧ win0_2.index t (2 : Fin 3) = 0 :=
  (by decide +kernel : ∀ t : Fin grid0.N, _)

/-- Window 2 at a point: the rows of the transposed weights its column tile ends in. -/
theorem wtail_apply (c : Dev nD) (t : Fin cfg0.N) (y : S1x16x4096.Idx) (b : Fin 20496) (hb : b.val = 7168 + 1024 * (t.val / 17) + (y 1).val) :
    (iblk m c 2 t : Vec Ideal S1x16x4096 .f32) y = m ((c : Thread nD τ).loc main_arg1) (ValueIdx.ix3 0 (y 2) b) := by
  obtain ⟨e0, e1, e2⟩ := facts2 t
  show V m c main_v0 (((cfg0.win 2).blk t).view.emb y) = _
  rw [V_v0_apply]
  refine congrArg _ (funext fun a => Fin.ext ?_)
  match a with
  | ⟨0, _⟩ => rfl
  | ⟨1, _⟩ => show win0_2.index t (2 : Fin 3) * 4096 + 1 * (y 2).val = (y 2).val; rw [e2]; omega
  | ⟨2, _⟩ => show win0_2.index t (1 : Fin 3) * 16 + 1 * (y 1).val = b.val; rw [e1, hb]; omega

/-! ## The scratch: the weights of the column tile -/

/-- The columns of the weights in column tile `j`, one to a row. -/
def wcols (W : Vec Ideal S1x4096x20496 .f32) (j : ℕ) (hj : j < 2) : Vec Ideal S1024x4096 .bf16 := fun y =>
  W (ValueIdx.ix3 0 (y 1) ⟨6160 + 1024 * j + (y 0).val, by have h0 : (y 0).val < 1024 := (y 0).isLt; omega⟩)

theorem col_lt (t : Fin cfg0.N) : t.val / 17 < 2 := by
  have h := lt_of_lt_of_eq t.isLt (show cfg0.N = 34 from N_0)
  omega

/-- The weight block made at a point is the columns of its column tile. -/
theorem wblk_eq (c : Dev nD) (t : Fin cfg0.N) :
    wblk (X0_1 m c t) (iblk m c 2 t) = wcols (m ((c : Thread nD τ).loc main_arg1)) (t.val / 17) (col_lt t) := by
  have hN := lt_of_lt_of_eq t.isLt (show cfg0.N = 34 from N_0)
  funext y
  have hy : (y 0).val < 1024 := (y 0).isLt
  by_cases h : (y 0).val + 16 < 1024
  · rw [wblk_in _ _ _ h]
    refine (wrows_apply m c t _ ⟨6160 + 1024 * (t.val / 17) + (y 0).val, by omega⟩ ?_).trans rfl
    show 6160 + 1024 * (t.val / 17) + (y 0).val = 6144 + 1024 * (t.val / 17) + ((y 0).val + 16)
    omega
  · rw [wblk_past _ _ _ h]
    refine (wtail_apply m c t _ ⟨6160 + 1024 * (t.val / 17) + (y 0).val, by omega⟩ ?_).trans rfl
    show 6160 + 1024 * (t.val / 17) + (y 0).val = 7168 + 1024 * (t.val / 17) + ((y 0).val + 16 - 1024)
    omega

theorem wcols_congr (W : Vec Ideal S1x4096x20496 .f32) (j j' : ℕ) (hj : j < 2) (hj' : j' < 2) (e : j = j') : wcols W j hj = wcols W j' hj' := by
  subst e; rfl

/-- After every point the scratch holds the columns of the point's column tile. -/
theorem scratch_eq (c : Dev nD) : ∀ (n : ℕ) (hn : n < cfg0.N),
    (outsAt0 m c n hn).2 = wcols (m ((c : Thread nD τ).loc main_arg1)) (n / 17) (col_lt ⟨n, hn⟩)
  | 0, hn => by
    rw [outsAt0_A m c ⟨0, hn⟩ (Nat.zero_mod _)]
    dsimp only
    rw [sout_A]
    exact wblk_eq m c ⟨0, hn⟩
  | n + 1, hn => by
    by_cases h : (n + 1) % 17 = 0
    · rw [outsAt0_A m c ⟨n + 1, hn⟩ h]
      dsimp only
      rw [sout_A]
      exact wblk_eq m c ⟨n + 1, hn⟩
    · rw [outsAt0_B m c ⟨n + 1, hn⟩ h]
      refine Eq.trans (scratch_eq c n (Nat.lt_of_succ_lt hn)) (wcols_congr _ _ _ _ _ ?_)
      omega

/-- After every point the staged output holds the product of the point's row tile and column tile. -/
theorem stored_eq (c : Dev nD) (t : Fin cfg0.N) :
    (outsAt0 m c t.val t.isLt).1 = k0_pay1 (iblk m c 0 t) (wcols (m ((c : Thread nD τ).loc main_arg1)) (t.val / 17) (col_lt t)) := by
  by_cases h : t.val % 17 = 0
  · rw [outsAt0_A m c t h]
    dsimp only
    rw [out_A]
    exact congrArg _ (wblk_eq m c t)
  · rw [outsAt0_B m c t h]
    have hN := lt_of_lt_of_eq t.isLt (show cfg0.N = 34 from N_0)
    dsimp only
    rw [out_B]
    refine congrArg _ ?_
    refine (scratch_eq m c _ _).trans (wcols_congr _ _ _ _ _ ?_)
    omega

/-- The named scale is the real number it was rounded from. -/
theorem scale_eq : Named.named (F := Ideal) κ "s" (φ := .f32) 0x3E0293EE#32 = (((Real.log 2)⁻¹ * (Real.sqrt 128)⁻¹ : ℝ) : EReal) :=
  IdealRules.named_const.ideal_named_scalar _ _ _ _ rfl

/-- The product read at one place. -/
theorem k0_pay1_apply (v : Vec Ideal S1024x4096 .bf16) (w : Vec Ideal S1024x4096 .bf16) (y : S1024x1024.Idx) :
    k0_pay1 v w y = (∑ k : Fin 4096, v (ValueIdx.ix2 (y 0) k) * w (ValueIdx.ix2 (y 1) k)) * (((Real.log 2)⁻¹ * (Real.sqrt 128)⁻¹ : ℝ) : EReal) := by
  rw [← scale_eq]
  unfold k0_pay1
  exact congrArg (· * Named.named (F := Ideal) κ "s" (φ := .f32) 0x3E0293EE#32) (Cert.Common.dotT_apply (φ₁ := .bf16) (φ₂ := .bf16) (M := 1024) (K := 4096) (N := 1024) v w y)

/-! ## The array after the run -/

/-- The array the kernel returns is the reference's. -/
theorem final_eq (c : Dev nD) : (dats m 0 c).arrAt 3 cfg0.N
    = Cert.ProjAqRefIdeal.Read.val_main_v10 (F := Ideal) (m ((c : Thread nD τ).loc main_arg0)) (m ((c : Thread nD τ).loc main_arg1)) := by
  refine (dats m 0 c).arrAt_eq_of_cover 3 _ (fun t hf => ?_) (fun i => (Cert.ProjAqIdeal.Value.covered_iff3 i).2 (by
    have h0 : (i 0).val < 17408 := (i 0).isLt; have h1 : (i 1).val < 2048 := (i 1).isLt; omega))
  obtain ⟨e0, e1⟩ := facts3 t
  have hN := lt_of_lt_of_eq t.isLt (show cfg0.N = 34 from N_0)
  rw [Cert.ProjAqIdeal.Value.flushed3, stored_eq]
  funext y
  have hy0 : (y 0).val < 1024 := (y 0).isLt
  have hy1 : (y 1).val < 1024 := (y 1).isLt
  show k0_pay1 (F := Ideal) _ _ ((cfg0.win 3).xinj (grid0.coords t) y) = Cert.ProjAqRefIdeal.Read.val_main_v10 (F := Ideal) _ _ (((cfg0.win 3).blk t).view.emb y)
  rw [k0_pay1_apply]
  generalize hz : ((cfg0.win 3).blk t).view.emb y = z
  have hb0 : (z 0).val = win0_3.index t (0 : Fin 2) * 1024 + 1 * (y 0).val := by subst hz; rfl
  have hb1 : (z 1).val = win0_3.index t (1 : Fin 2) * 1024 + 1 * (y 1).val := by subst hz; rfl
  show _ = Ideal.div (Ideal.div (Cert.ProjAqRefIdeal.Read.val_main_v3 (F := Ideal) _ _ z) (Ideal.sqrt (Ideal.ofBits .f32 0x43000000#32)))
    (Ideal.log (Ideal.ofBits .f32 0x40000000#32))
  rw [Cert.Consts.div_sqrt_log]
  refine congrArg (· * (((Real.log 2)⁻¹ * (Real.sqrt 128)⁻¹ : ℝ) : EReal)) ?_
  rw [Cert.ProjAqRefIdeal.Read.val_main_v3_apply, Cert.ProjAqRefIdeal.Read.val_main_v2_apply]
  refine Finset.sum_congr rfl fun k _ => ?_
  rw [rows_apply]
  refine congrArg₂ (· * ·) ?_ ?_
  · show m _ _ = m _ _
    refine congrArg _ (funext fun a => Fin.ext ?_)
    match a with
    | ⟨0, _⟩ => show 1024 * (t.val % 17) + (y 0).val = (z 0).val; rw [hb0, e0]; omega
    | ⟨1, _⟩ => rfl
  · rw [Cert.ProjAqRefIdeal.Read.val_main_v1_apply]
    show m _ _ = m _ _
    refine congrArg _ (funext fun a => Fin.ext ?_)
    have hk : k.val < 4096 := k.isLt
    match a with
    | ⟨0, _⟩ => rfl
    | ⟨1, _⟩ => show k.val = (k.val * 20496 + (6160 + (z 1).val)) / 20496 % 4096; exact (Cert.Common.row_of _ _ _ hk (by rw [hb1, e1]; omega)).symm
    | ⟨2, _⟩ => show 6160 + 1024 * (t.val / 17) + (y 1).val = (k.val * 20496 + (6160 + (z 1).val)) % 20496; rw [Cert.Common.col_of _ _ _ (by rw [hb1, e1]; omega), hb1, e1]; omega

end Cert.ProjAqIdeal.Hand

namespace Cert.Proof
open Idealize.ShloMosaic Idealize.ShloMosaic.TcCoe Idealize.SL.Sem

theorem algebraic_ProjAqIdeal_ProjAqRefIdeal_proof : Cert.algebraic_ProjAqIdeal_ProjAqRefIdeal := by
  intro m g m' g' _ hargs
  refine ⟨fun c => Cert.ProjAqRefIdeal.Read.val_main_v10 (F := Ideal) (m ((c.tc : Thread Cert.ProjAqIdeal.nD Cert.ProjAqIdeal.τ).loc Cert.ProjAqIdeal.main_arg0)) (m ((c.tc : Thread Cert.ProjAqIdeal.nD Cert.ProjAqIdeal.τ).loc Cert.ProjAqIdeal.main_arg1)), ?_, ?_⟩
  · refine (θ_run _ _ _).mono (fun r h c => ?_) (Cert.ProjAqIdeal.Value.run_blocks m g)
    exact ⟨(h c).1.trans (Cert.ProjAqIdeal.Hand.final_eq m c), (h c).2⟩
  · refine (θ_run _ _ _).mono (fun r h c => ?_) (Cert.ProjAqRefIdeal.Value.run m' g')
    refine ⟨(h c).1.trans ?_, (h c).2⟩
    have e := hargs c
    rw [e.1, e.2]
    exact Cert.ProjAqRefIdeal.Read.val_main_v10_eq (F := Ideal) _ _

theorem preserves_ProjAq_ProjAqIdeal_proof : Cert.preserves_ProjAq_ProjAqIdeal :=
  IdealRules.named_const.statement Cert.ProjAqIdeal.κ "s" .f32 0x3E0293EE#32 (((Real.log 2)⁻¹ * (Real.sqrt 128)⁻¹ : ℝ) : EReal) rfl

end Cert.Proof

end
-- ==== Proof.ProjAkRun.lean ====
module
public import proofs.«01_k».proof.Proof.Gen.ProjAkIdeal.Frame
public import proofs.«01_k».proof.Proof.Gen.ProjAkIdeal.Skeleton
public import Idealize.ShloMosaic.Lib.Pipeline.FrameBody
public import Idealize.ShloMosaic.Lib.Tactic
public import Idealize.ShloMosaic.Lib.Claim
public import Idealize.ShloMosaic.Lib.Pipeline.Value
public import Idealize.ShloMosaic.Lib.Pipeline.ValueKit
/-! The projection's program: its body at every point of the grid, what its windows and its scratch hold between points,
and its run with the arrays it leaves. -/
@[expose] public section
set_option maxRecDepth 16384
noncomputable section
namespace Cert.ProjAkIdeal.Run
open Cert.ProjAkIdeal Cert.ProjAkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The stores of the weight block: the rows of the one window from row 16 on, then the rows of the other. -/
def wpieces (x1 : Vec F S1x512x4096 .f32) (x2 : Vec F S1x16x4096 .f32) : List (View.Piece (Elt F) S512x4096 .bf16) :=
  [(⟨Rect.unit (s := S512x4096) ![496, 0] S16x4096.size inb_S512x4096_S16x4096_496_0, k0_pay3 (View.ld x2 (Rect.unit (s := S1x16x4096) ![0, 0, 0] S1x16x4096.size inb_S1x16x4096_S1x16x4096_0_0_0))⟩ : View.Piece (Elt F) S512x4096 .bf16),
   (⟨Rect.unit (s := S512x4096) ![256, 0] S240x4096.size inb_S512x4096_S240x4096_256_0, k0_pay2 (View.ld x1 (Rect.unit (s := S1x512x4096) ![0, 272, 0] S1x240x4096.size inb_S1x512x4096_S1x240x4096_0_272_0))⟩ : View.Piece (Elt F) S512x4096 .bf16),
   (⟨Rect.unit (s := S512x4096) ![0, 0] S256x4096.size inb_S512x4096_S256x4096_0_0, k0_pay1 (View.ld x1 (Rect.unit (s := S1x512x4096) ![0, 16, 0] S1x256x4096.size inb_S1x512x4096_S1x256x4096_0_16_0))⟩ : View.Piece (Elt F) S512x4096 .bf16)]

theorem wpieces_cover (x1 : Vec F S1x512x4096 .f32) (x2 : Vec F S1x16x4096 .f32) (y : S512x4096.Idx) : ∃ p ∈ wpieces x1 x2, y ∈ p.1.set :=
  View.cover_of_tiledBy (wpieces x1 x2) ![16, 4096] (by sl_kernel_rfl) y

/-- The weight block. -/
def wst (x1 : Vec F S1x512x4096 .f32) (x2 : Vec F S1x16x4096 .f32) : Vec F S512x4096 .bf16 := View.canon (wpieces x1 x2)

/-! ## The conditions of the body, over the points -/

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 17 = 0 :=
  (by decide +kernel : ∀ t : Fin grid0.N, cond0_0 (grid0.coords t) ↔ t.val % 17 = 0)
theorem hcond0_1 : ∀ t : Fin cfg0.N, k0_cond2 (grid0.coords t) = 1#1 ↔ t.val % 17 < 16 :=
  (by decide +kernel : ∀ t : Fin grid0.N, k0_cond2 (grid0.coords t) = 1#1 ↔ t.val % 17 < 16)
theorem hcond0_2 : ∀ t : Fin cfg0.N, k0_cond3 (grid0.coords t) = 1#1 ↔ ¬t.val % 17 < 16 :=
  (by decide +kernel : ∀ t : Fin grid0.N, k0_cond3 (grid0.coords t) = 1#1 ↔ ¬t.val % 17 < 16)
theorem live4 : ∀ t : Fin cfg0.N, t.val % 17 < 16 → cfg0.idle 4 (grid0.coords t) = false :=
  (by decide +kernel : ∀ t : Fin grid0.N, t.val % 17 < 16 → idle0 4 (grid0.coords t) = false)
theorem idle4 : ∀ t : Fin cfg0.N, ¬t.val % 17 < 16 → cfg0.idle 4 (grid0.coords t) = true :=
  (by decide +kernel : ∀ t : Fin grid0.N, ¬t.val % 17 < 16 → idle0 4 (grid0.coords t) = true)
theorem live5 : ∀ t : Fin cfg0.N, ¬t.val % 17 < 16 → cfg0.idle 5 (grid0.coords t) = false :=
  (by decide +kernel : ∀ t : Fin grid0.N, ¬t.val % 17 < 16 → idle0 5 (grid0.coords t) = false)
theorem idle5 : ∀ t : Fin cfg0.N, t.val % 17 < 16 → cfg0.idle 5 (grid0.coords t) = true :=
  (by decide +kernel : ∀ t : Fin grid0.N, t.val % 17 < 16 → idle0 5 (grid0.coords t) = true)
theorem keep5 : ∀ t : Fin cfg0.N, t.val % 17 < 16 → (cfg0.win 5).flush t = false :=
  (by decide +kernel : ∀ t : Fin grid0.N, t.val % 17 < 16 → win0_5.flush t = false)
/-- The prompts' window stays on its last block over the samples' row tiles: written back at the last of them. -/
theorem keep4 : ∀ t : Fin cfg0.N, 15 ≤ t.val % 17 → t.val % 17 < 16 → (cfg0.win 4).flush t = false :=
  (by decide +kernel : ∀ t : Fin grid0.N, 15 ≤ t.val % 17 → t.val % 17 < 16 → win0_4.flush t = false)
theorem fetch4 : ∀ t : Fin cfg0.N, (cfg0.win 4).fetch t = false :=
  (by decide +kernel : ∀ t : Fin grid0.N, win0_4.fetch t = false)

/-! ## The staging buffers -/

abbrev ms0_0 (t : Fin cfg0.N) : Memref sig .tc .vmem S1024x4096 .bf16 := win0_0.stage (cfg0.slots t 0)
abbrev ms0_1 (t : Fin cfg0.N) : Memref sig .tc .vmem S1x512x4096 .f32 := win0_1.stage (cfg0.slots t 1)
abbrev ms0_2 (t : Fin cfg0.N) : Memref sig .tc .vmem S1x16x4096 .f32 := win0_2.stage (cfg0.slots t 2)
abbrev ms0_3 (t : Fin cfg0.N) : Memref sig .tc .vmem S1024x512 .bf16 := win0_3.stage (cfg0.slots t 3)
abbrev ms0_4 (t : Fin cfg0.N) : Memref sig .tc .vmem S1024x512 .f32 := win0_4.stage (cfg0.slots t 4)
abbrev ms0_5 (t : Fin cfg0.N) : Memref sig .tc .vmem S1024x512 .f32 := win0_5.stage (cfg0.slots t 5)
abbrev scM0_0 : Memref sig .tc .vmem S512x4096 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's runs -/

set_option maxHeartbeats 1000000 in
/-- At the first row tile of a column tile: the stores the body makes, and that it runs to its end having made them. -/
noncomputable def kernelRun0_A (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : cond0_0 i) (hc1 : k0_cond2 i = 1#1) (hc2 : ¬k0_cond3 i = 1#1)
    (x0 : Vec F S1024x4096 .bf16) (x1 : Vec F S1x512x4096 .f32) (x2 : Vec F S1x16x4096 .f32) :
    Σ' (L3 : List (View.Piece (Elt F) S1024x512 .bf16)), Σ' (L4 : List (View.Piece (Elt F) S1024x512 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0_proj_kv i arg2 harg2 arg3 harg3 arg4 harg4 arg5 harg5 arg6 harg6 arg7 harg7 arg8 harg8) K } := by
  refine ⟨?_, ?_, ?_, fun E K => ?run⟩
  case run =>
    simp only [cc0_proj_kv_eq_skeleton]; unfold cc0_proj_kv_skel
    unfold owns
    iintro ⟨⟨%f0, %hf0, H0⟩, ⟨%f1, %hf1, H1⟩, ⟨%f2, %hf2, H2⟩, ⟨%dL3, %fL3, -, H3⟩, ⟨%dL4, %fL4, -, H4⟩, ⟨%dLS0, %fLS0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 1000000 in
/-- At a later row tile of the prompts: the stores the body makes, and that it runs to its end having made them. -/
noncomputable def kernelRun0_B (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1)
    (x0 : Vec F S1024x4096 .bf16) (xs0 : Vec F S512x4096 .bf16) :
    Σ' (L3 : List (View.Piece (Elt F) S1024x512 .bf16)), { L4 : List (View.Piece (Elt F) S1024x512 .f32) //
      ∀ (E : Set ℕ) (K : PUnit → sProp 𝕄),
        iprop(owns (c : Thread nD τ) arg2 fullShare x0 ∗ owns (c : Thread nD τ) arg8 fullShare xs0 ∗ (∃ d, owns (c : Thread nD τ) arg5 fullShare d) ∗ (∃ d, owns (c : Thread nD τ) arg6 fullShare d)
            ∗ (iprop(owns (c : Thread nD τ) arg2 fullShare x0 ∗ owns (c : Thread nD τ) arg8 fullShare xs0 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_proj_kv i arg2 harg2 arg3 harg3 arg4 harg4 arg5 harg5 arg6 harg6 arg7 harg7 arg8 harg8) K } := by
  refine ⟨?_, ?_, fun E K => ?run⟩
  case run =>
    simp only [cc0_proj_kv_eq_skeleton]; unfold cc0_proj_kv_skel
    unfold owns
    iintro ⟨⟨%f0, %hf0, H0⟩, ⟨%fs0, %hfs0, HS0⟩, ⟨%dL3, %fL3, -, H3⟩, ⟨%dL4, %fL4, -, H4⟩, Hk⟩
    obtain rfl := harg2.eq_unread hf0; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [HS0]
    · iexists _; isplitr; · ipureintro; exact harg8.read_unread _
      iexact HS0
    isplitl [H3]; · iexists _; iexact H3
    iexists _; iexact H4

set_option maxHeartbeats 1000000 in
/-- At a row tile of the samples: the stores the body makes, and that it runs to its end having made them. -/
noncomputable def kernelRun0_C (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1)
    (x0 : Vec F S1024x4096 .bf16) (xs0 : Vec F S512x4096 .bf16) :
    Σ' (L3 : List (View.Piece (Elt F) S1024x512 .bf16)), { L5 : List (View.Piece (Elt F) S1024x512 .f32) //
      ∀ (E : Set ℕ) (K : PUnit → sProp 𝕄),
        iprop(owns (c : Thread nD τ) arg2 fullShare x0 ∗ owns (c : Thread nD τ) arg8 fullShare xs0 ∗ (∃ d, owns (c : Thread nD τ) arg5 fullShare d) ∗ (∃ d, owns (c : Thread nD τ) arg7 fullShare d)
            ∗ (iprop(owns (c : Thread nD τ) arg2 fullShare x0 ∗ owns (c : Thread nD τ) arg8 fullShare xs0 ∗ (∃ f, arg5.view.loc (c : Thread nD τ) ↦[arg5.view.set]{fullShare} arg5.view.writes (Elt F) f L3) ∗ (∃ f, arg7.view.loc (c : Thread nD τ) ↦[arg7.view.set]{fullShare} arg7.view.writes (Elt F) f L5)) -∗ K ⟨⟩))
          ⊢ wp frame (wpE (defs₀ (F := F)) Variants.none c none) E (cc0_proj_kv i arg2 harg2 arg3 harg3 arg4 harg4 arg5 harg5 arg6 harg6 arg7 harg7 arg8 harg8) K } := by
  refine ⟨?_, ?_, fun E K => ?run⟩
  case run =>
    simp only [cc0_proj_kv_eq_skeleton]; unfold cc0_proj_kv_skel
    unfold owns
    iintro ⟨⟨%f0, %hf0, H0⟩, ⟨%fs0, %hfs0, HS0⟩, ⟨%dL3, %fL3, -, H3⟩, ⟨%dL5, %fL5, -, H5⟩, Hk⟩
    obtain rfl := harg2.eq_unread hf0; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [HS0]
    · iexists _; isplitr; · ipureintro; exact harg8.read_unread _
      iexact HS0
    isplitl [H3]; · iexists _; iexact H3
    iexists _; iexact H5

theorem coverA_3 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S1024x4096 .bf16) (x1 : Vec F S1x512x4096 .f32) (x2 : Vec F S1x16x4096 .f32) (y : S1024x512.Idx) : ∃ pc ∈ (kernelRun0_A c i arg2 harg2 arg3 harg3 arg4 harg4 arg5 harg5 arg6 harg6 arg7 harg7 arg8 harg8 hc0 hc1 hc2 x0 x1 x2).1, y ∈ pc.1.set :=
  View.cover_of_tiledL (kernelRun0_A c i arg2 harg2 arg3 harg3 arg4 harg4 arg5 harg5 arg6 harg6 arg7 harg7 arg8 harg8 hc0 hc1 hc2 x0 x1 x2).1 S1024x512.size (by sl_kernel_rfl) y

/-- What this leaves in the window's buffer. -/
theorem leftA_3 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S1024x4096 .bf16) (x1 : Vec F S1x512x4096 .f32) (x2 : Vec F S1x16x4096 .f32) (f) : arg5.view.read (Elt F) (arg5.view.writes (Elt F) f (kernelRun0_A c i arg2 harg2 arg3 harg3 arg4 harg4 arg5 harg5 arg6 harg6 arg7 harg7 arg8 harg8 hc0 hc1 hc2 x0 x1 x2).1) = k0_pay5 x0 (wst x1 x2) := by
  rw [View.read_writes_eq_canon _ _ _ (coverA_3 c i arg2 harg2 arg3 harg3 arg4 harg4 arg5 harg5 arg6 harg6 arg7 harg7 arg8 harg8 hc0 hc1 hc2 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay5 (View.ld_unit_zero (by decide) _ x0) ?_
  refine (View.readCov_eq_canon_ld _ (wpieces x1 x2) _ (wpieces_cover x1 x2)).trans ?_
  exact View.ld_unit_zero (by decide) _ _

theorem coverA_4 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S1024x4096 .bf16) (x1 : Vec F S1x512x4096 .f32) (x2 : Vec F S1x16x4096 .f32) (y : S1024x512.Idx) : ∃ pc ∈ (kernelRun0_A c i arg2 harg2 arg3 harg3 arg4 harg4 arg5 harg5 arg6 harg6 arg7 harg7 arg8 harg8 hc0 hc1 hc2 x0 x1 x2).2.1, y ∈ pc.1.set :=
  View.cover_of_tiledL (kernelRun0_A c i arg2 harg2 arg3 harg3 arg4 harg4 arg5 harg5 arg6 harg6 arg7 harg7 arg8 harg8 hc0 hc1 hc2 x0 x1 x2).2.1 S1024x512.size (by sl_kernel_rfl) y

/-- What this leaves in the window's buffer. -/
theorem leftA_4 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S1024x4096 .bf16) (x1 : Vec F S1x512x4096 .f32) (x2 : Vec F S1x16x4096 .f32) (f) : arg6.view.read (Elt F) (arg6.view.writes (Elt F) f (kernelRun0_A c i arg2 harg2 arg3 harg3 arg4 harg4 arg5 harg5 arg6 harg6 arg7 harg7 arg8 harg8 hc0 hc1 hc2 x0 x1 x2).2.1) = k0_pay4 x0 (wst x1 x2) := by
  rw [View.read_writes_eq_canon _ _ _ (coverA_4 c i arg2 harg2 arg3 harg3 arg4 harg4 arg5 harg5 arg6 harg6 arg7 harg7 arg8 harg8 hc0 hc1 hc2 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay4 (View.ld_unit_zero (by decide) _ x0) ?_
  refine (View.readCov_eq_canon_ld _ (wpieces x1 x2) _ (wpieces_cover x1 x2)).trans ?_
  exact View.ld_unit_zero (by decide) _ _

theorem piecesA_s (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S1024x4096 .bf16) (x1 : Vec F S1x512x4096 .f32) (x2 : Vec F S1x16x4096 .f32) : (kernelRun0_A c i arg2 harg2 arg3 harg3 arg4 harg4 arg5 harg5 arg6 harg6 arg7 harg7 arg8 harg8 hc0 hc1 hc2 x0 x1 x2).2.2.1 = wpieces x1 x2 := by
  unfold kernelRun0_A; dsimp only; sl_unfold_words
  simp only [View.readAt_eq_ld, harg3.read_unread, harg4.read_unread]
  rfl

/-- What this leaves in the scratch. -/
theorem leftA_s (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S1024x4096 .bf16) (x1 : Vec F S1x512x4096 .f32) (x2 : Vec F S1x16x4096 .f32) (f) : arg8.view.read (Elt F) (arg8.view.writes (Elt F) f (kernelRun0_A c i arg2 harg2 arg3 harg3 arg4 harg4 arg5 harg5 arg6 harg6 arg7 harg7 arg8 harg8 hc0 hc1 hc2 x0 x1 x2).2.2.1) = wst x1 x2 := by
  rw [piecesA_s, View.read_writes_eq_canon _ _ _ (wpieces_cover x1 x2)]; rfl

theorem coverB_3 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S1024x4096 .bf16) (xs0 : Vec F S512x4096 .bf16) (y : S1024x512.Idx) : ∃ pc ∈ (kernelRun0_B c i arg2 harg2 arg3 harg3 arg4 harg4 arg5 harg5 arg6 harg6 arg7 harg7 arg8 harg8 hc0 hc1 hc2 x0 xs0).1, y ∈ pc.1.set :=
  View.cover_of_tiledL (kernelRun0_B c i arg2 harg2 arg3 harg3 arg4 harg4 arg5 harg5 arg6 harg6 arg7 harg7 arg8 harg8 hc0 hc1 hc2 x0 xs0).1 S1024x512.size (by sl_kernel_rfl) y

/-- What this leaves in the window's buffer. -/
theorem leftB_3 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S1024x4096 .bf16) (xs0 : Vec F S512x4096 .bf16) (f) : arg5.view.read (Elt F) (arg5.view.writes (Elt F) f (kernelRun0_B c i arg2 harg2 arg3 harg3 arg4 harg4 arg5 harg5 arg6 harg6 arg7 harg7 arg8 harg8 hc0 hc1 hc2 x0 xs0).1) = k0_pay5 x0 xs0 := by
  rw [View.read_writes_eq_canon _ _ _ (coverB_3 c i arg2 harg2 arg3 harg3 arg4 harg4 arg5 harg5 arg6 harg6 arg7 harg7 arg8 harg8 hc0 hc1 hc2 x0 xs0)]
  unfold kernelRun0_B; dsimp only; sl_unfold_words
  simp only [View.readAt_eq_ld, harg2.read_unread, harg8.read_unread]
  refine (View.canon_unit_zero (by decide) _ _).trans ?_
  refine congrArg₂ k0_pay5 (View.ld_unit_zero (by decide) _ x0) ?_
  exact View.ld_unit_zero (by decide) _ xs0

theorem coverB_4 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S1024x4096 .bf16) (xs0 : Vec F S512x4096 .bf16) (y : S1024x512.Idx) : ∃ pc ∈ (kernelRun0_B c i arg2 harg2 arg3 harg3 arg4 harg4 arg5 harg5 arg6 harg6 arg7 harg7 arg8 harg8 hc0 hc1 hc2 x0 xs0).2.1, y ∈ pc.1.set :=
  View.cover_of_tiledL (kernelRun0_B c i arg2 harg2 arg3 harg3 arg4 harg4 arg5 harg5 arg6 harg6 arg7 harg7 arg8 harg8 hc0 hc1 hc2 x0 xs0).2.1 S1024x512.size (by sl_kernel_rfl) y

/-- What this leaves in the window's buffer. -/
theorem leftB_4 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S1024x4096 .bf16) (xs0 : Vec F S512x4096 .bf16) (f) : arg6.view.read (Elt F) (arg6.view.writes (Elt F) f (kernelRun0_B c i arg2 harg2 arg3 harg3 arg4 harg4 arg5 harg5 arg6 harg6 arg7 harg7 arg8 harg8 hc0 hc1 hc2 x0 xs0).2.1) = k0_pay4 x0 xs0 := by
  rw [View.read_writes_eq_canon _ _ _ (coverB_4 c i arg2 harg2 arg3 harg3 arg4 harg4 arg5 harg5 arg6 harg6 arg7 harg7 arg8 harg8 hc0 hc1 hc2 x0 xs0)]
  unfold kernelRun0_B; dsimp only; sl_unfold_words
  simp only [View.readAt_eq_ld, harg2.read_unread, harg8.read_unread]
  refine (View.canon_unit_zero (by decide) _ _).trans ?_
  refine congrArg₂ k0_pay4 (View.ld_unit_zero (by decide) _ x0) ?_
  exact View.ld_unit_zero (by decide) _ xs0

theorem coverC_3 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S1024x4096 .bf16) (xs0 : Vec F S512x4096 .bf16) (y : S1024x512.Idx) : ∃ pc ∈ (kernelRun0_C c i arg2 harg2 arg3 harg3 arg4 harg4 arg5 harg5 arg6 harg6 arg7 harg7 arg8 harg8 hc0 hc1 hc2 x0 xs0).1, y ∈ pc.1.set :=
  View.cover_of_tiledL (kernelRun0_C c i arg2 harg2 arg3 harg3 arg4 harg4 arg5 harg5 arg6 harg6 arg7 harg7 arg8 harg8 hc0 hc1 hc2 x0 xs0).1 S1024x512.size (by sl_kernel_rfl) y

/-- What this leaves in the window's buffer. -/
theorem leftC_3 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S1024x4096 .bf16) (xs0 : Vec F S512x4096 .bf16) (f) : arg5.view.read (Elt F) (arg5.view.writes (Elt F) f (kernelRun0_C c i arg2 harg2 arg3 harg3 arg4 harg4 arg5 harg5 arg6 harg6 arg7 harg7 arg8 harg8 hc0 hc1 hc2 x0 xs0).1) = k0_pay5 x0 xs0 := by
  rw [View.read_writes_eq_canon _ _ _ (coverC_3 c i arg2 harg2 arg3 harg3 arg4 harg4 arg5 harg5 arg6 harg6 arg7 harg7 arg8 harg8 hc0 hc1 hc2 x0 xs0)]
  unfold kernelRun0_C; dsimp only; sl_unfold_words
  simp only [View.readAt_eq_ld, harg2.read_unread, harg8.read_unread]
  refine (View.canon_unit_zero (by decide) _ _).trans ?_
  refine congrArg₂ k0_pay5 (View.ld_unit_zero (by decide) _ x0) ?_
  exact View.ld_unit_zero (by decide) _ xs0

theorem coverC_5 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S1024x4096 .bf16) (xs0 : Vec F S512x4096 .bf16) (y : S1024x512.Idx) : ∃ pc ∈ (kernelRun0_C c i arg2 harg2 arg3 harg3 arg4 harg4 arg5 harg5 arg6 harg6 arg7 harg7 arg8 harg8 hc0 hc1 hc2 x0 xs0).2.1, y ∈ pc.1.set :=
  View.cover_of_tiledL (kernelRun0_C c i arg2 harg2 arg3 harg3 arg4 harg4 arg5 harg5 arg6 harg6 arg7 harg7 arg8 harg8 hc0 hc1 hc2 x0 xs0).2.1 S1024x512.size (by sl_kernel_rfl) y

/-- What this leaves in the window's buffer. -/
theorem leftC_5 (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S1024x4096 .bf16) (xs0 : Vec F S512x4096 .bf16) (f) : arg7.view.read (Elt F) (arg7.view.writes (Elt F) f (kernelRun0_C c i arg2 harg2 arg3 harg3 arg4 harg4 arg5 harg5 arg6 harg6 arg7 harg7 arg8 harg8 hc0 hc1 hc2 x0 xs0).2.1) = k0_pay4 x0 xs0 := by
  rw [View.read_writes_eq_canon _ _ _ (coverC_5 c i arg2 harg2 arg3 harg3 arg4 harg4 arg5 harg5 arg6 harg6 arg7 harg7 arg8 harg8 hc0 hc1 hc2 x0 xs0)]
  unfold kernelRun0_C; dsimp only; sl_unfold_words
  simp only [View.readAt_eq_ld, harg2.read_unread, harg8.read_unread]
  refine (View.canon_unit_zero (by decide) _ _).trans ?_
  refine congrArg₂ k0_pay4 (View.ld_unit_zero (by decide) _ x0) ?_
  exact View.ld_unit_zero (by decide) _ xs0

/-! ## What the scratch and the prompts' window hold after each point -/

/-- The weight block the scratch holds after the point `n`: made at the first row tile of its column tile. -/
def wbAt (c : Dev nD) : (n : ℕ) → n < cfg0.N → Vec F S512x4096 .bf16
  | 0, hn => wst (X0_1 m c ⟨0, hn⟩) (iblk m c 2 ⟨0, hn⟩)
  | n + 1, hn => if (n + 1) % 17 = 0 then wst (X0_1 m c ⟨n + 1, hn⟩) (iblk m c 2 ⟨n + 1, hn⟩) else wbAt c n (Nat.lt_of_succ_lt hn)

theorem wbAt_first (c : Dev nD) (t : Fin cfg0.N) (h : t.val % 17 = 0) : wbAt m c t.val t.isLt = wst (X0_1 m c t) (iblk m c 2 t) := by
  obtain ⟨n, hn⟩ := t
  cases n with
  | zero => rfl
  | succ n => exact if_pos h

theorem wbAt_next (c : Dev nD) (t : Fin cfg0.N) (h : ¬t.val % 17 = 0) :
    wbAt m c t.val t.isLt = wbAt m c (t.val - 1) (Nat.lt_of_le_of_lt (Nat.sub_le _ _) t.isLt) := by
  obtain ⟨n, hn⟩ := t
  cases n with
  | zero => exact absurd (Nat.zero_mod _) h
  | succ n => exact if_neg h

/-- The product made at a point. -/
def accAt (c : Dev nD) (n : ℕ) (hn : n < cfg0.N) : Vec F S1024x512 .f32 := k0_pay4 (iblk m c 0 ⟨n, hn⟩) (wbAt m c n hn)

/-- What the prompts' window holds after the point `n`: the product of the last row tile of the prompts so far. -/
def w4At (c : Dev nD) : (n : ℕ) → n < cfg0.N → Vec F S1024x512 .f32
  | 0, hn => accAt m c 0 hn
  | n + 1, hn => if (n + 1) % 17 < 16 then accAt m c (n + 1) hn else w4At c n (Nat.lt_of_succ_lt hn)

theorem w4At_live (c : Dev nD) (t : Fin cfg0.N) (h : t.val % 17 < 16) : w4At m c t.val t.isLt = accAt m c t.val t.isLt := by
  obtain ⟨n, hn⟩ := t
  cases n with
  | zero => rfl
  | succ n => exact if_pos h

theorem w4At_idle (c : Dev nD) (t : Fin cfg0.N) (h : ¬t.val % 17 < 16) :
    w4At m c t.val t.isLt = w4At m c (t.val - 1) (Nat.lt_of_le_of_lt (Nat.sub_le _ _) t.isLt) := by
  obtain ⟨n, hn⟩ := t
  cases n with
  | zero => exact absurd (by show 0 % 17 < 16; decide) h
  | succ n => exact if_neg h

/-- The invariant before the point `n`: the scratch at what the point before left in it. -/
def PhiS (c : Dev nD) : (n : ℕ) → n ≤ cfg0.N → sProp 𝕄
  | 0, _ => Pipeline.ΦA spec0 c
  | n + 1, hn => iprop(iprop(owns (c : Thread nD τ) scM0_0 fullShare (wbAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (wbAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (wbAt m c (n - 1) (by omega))) ∗ (∃ r, prngReg c r)) := by
  cases n with
  | zero => exact absurd rfl hz
  | succ n => rfl

/-- The data of the pipeline: after each point the inputs' windows at their blocks and the outputs' at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => k0_pay5 (iblk m c 0 t) (wbAt m c t.val t.isLt)
    | ⟨4, _⟩ => w4At m c t.val t.isLt
    | ⟨5, _⟩ => accAt m c t.val t.isLt
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay5 (iblk m c 0 t) (wbAt m c t.val t.isLt) := by dsimp only [dats]
theorem after0_4 (c : Dev nD) (t : Fin cfg0.N) : (dats m 0 c).after 4 t = w4At m c t.val t.isLt := by dsimp only [dats]
theorem after0_5 (c : Dev nD) (t : Fin cfg0.N) : (dats m 0 c).after 5 t = accAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a row tile of the samples the body finds the prompts' window as the last row tile of the prompts left it. -/
theorem before0_4 (c : Dev nD) : ∀ (n : ℕ) (hn : n < cfg0.N) (d), ¬n % 17 < 16 →
    (dats m 0 c).before 4 ⟨n, hn⟩ d = w4At m c n hn
  | 0, _, _, h => absurd (by show 0 % 17 < 16; decide) h
  | n + 1, hn, d, h => by
    have e := w4At_idle m c ⟨n + 1, hn⟩ h
    rw [show (dats m 0 c).before 4 ⟨n + 1, hn⟩ d = (dats m 0 c).left 4 ⟨n, Nat.lt_of_succ_lt hn⟩ d from by
      rw [Dat.before_of_pos _ _ _ (Nat.succ_ne_zero n) (fetch4 _)]
      rw [if_neg (by rw [show (cfg0.win 4).flush ⟨(⟨n + 1, hn⟩ : Fin cfg0.N).val - 1, _⟩ = false from keep4 ⟨n, Nat.lt_of_succ_lt hn⟩ (by show 15 ≤ n % 17; omega) (by show n % 17 < 16; omega)]; decide)]
      rfl]
    refine Eq.trans ?_ e.symm
    unfold Dat.left
    by_cases h' : n % 17 < 16
    · rw [live4 ⟨n, Nat.lt_of_succ_lt hn⟩ h']
      show (dats m 0 c).kept 4 _ d = _
      unfold Dat.kept
      rw [Pipeline.fill_of_clip_none 4 _ (fun _ => rfl) d ((dats m 0 c).after 4 _), Pipeline.Window.fill_cut]
      exact after0_4 m c _
    · rw [idle4 ⟨n, Nat.lt_of_succ_lt hn⟩ h']
      exact before0_4 c n (Nat.lt_of_succ_lt hn) d h'

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0_0 t) fullShare (iblk m c 0 t) := by
  rw [← after0_0]
theorem leaves1 (c : Dev nD) (t : Fin cfg0.N) : (dats m 0 c).leavesExact 1 t = owns (c : Thread nD τ) (ms0_1 t) fullShare (X0_1 m c t) := by
  rw [← after0_1]
theorem leaves2 (c : Dev nD) (t : Fin cfg0.N) : (dats m 0 c).leavesExact 2 t = owns (c : Thread nD τ) (ms0_2 t) fullShare (iblk m c 2 t) := by
  rw [← after0_2]
theorem leaves3 (c : Dev nD) (t : Fin cfg0.N) : (dats m 0 c).leavesExact 3 t = owns (c : Thread nD τ) (ms0_3 t) fullShare (k0_pay5 (iblk m c 0 t) (wbAt m c t.val t.isLt)) := by
  rw [← after0_3]
theorem leaves4 (c : Dev nD) (t : Fin cfg0.N) (h : t.val % 17 < 16) :
    (dats m 0 c).leavesExact 4 t = owns (c : Thread nD τ) (ms0_4 t) fullShare (accAt m c t.val t.isLt) := by
  rw [← w4At_live m c t h, ← after0_4]
  unfold Dat.leavesExact; rw [live4 t h]
theorem leaves5 (c : Dev nD) (t : Fin cfg0.N) (h : ¬t.val % 17 < 16) :
    (dats m 0 c).leavesExact 5 t = owns (c : Thread nD τ) (ms0_5 t) fullShare (accAt m c t.val t.isLt) := by
  rw [← after0_5]
  unfold Dat.leavesExact; rw [live5 t h]
/-- The samples' window at a row tile of the prompts: handed back as it was. -/
theorem leaves5_idle (c : Dev nD) (t : Fin cfg0.N) (h : t.val % 17 < 16) :
    iprop(∃ d, owns (c : Thread nD τ) (ms0_5 t) fullShare ((dats m 0 c).before 5 t d)) ⊢ ((dats m 0 c).leavesExact 5 t : sProp 𝕄) := by
  rw [Dat.leavesExact_idle _ _ _ (idle5 t h) (keep5 t h)]
/-- The prompts' window at a row tile of the samples: handed back as it was, with the last block of the prompts. -/
theorem leaves4_idle (c : Dev nD) (t : Fin cfg0.N) (h : ¬t.val % 17 < 16) :
    iprop(∃ d, owns (c : Thread nD τ) (ms0_4 t) fullShare ((dats m 0 c).before 4 t d)) ⊢ ((dats m 0 c).leavesExact 4 t : sProp 𝕄) := by
  by_cases hf : (cfg0.win 4).flush t = true
  · rw [show (dats m 0 c).leavesExact 4 t = owns (c : Thread nD τ) (ms0_4 t) fullShare (w4At m c t.val t.isLt) from by
      rw [← after0_4]; unfold Dat.leavesExact; rw [idle4 t h, hf]]
    iintro ⟨%d, H⟩
    rw [show (dats m 0 c).before 4 t d = w4At m c t.val t.isLt from before0_4 m c t.val t.isLt d h]
    iexact H
  · rw [Dat.leavesExact_idle _ _ _ (idle4 t h) (Bool.eq_false_iff.mpr hf)]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 68 := lt_of_lt_of_eq t.isLt (show cfg0.N = 68 from N_0)
  by_cases h0 : t.val % 17 = 0
  · have h1 : t.val % 17 < 16 := by omega
    rw [leaves4 m c t h1]
    unfold accAt
    rw [wbAt_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) ((hcond0_1 t).mpr h1) (fun h => (hcond0_2 t).mp h h1) (iblk m c 0 t) (X0_1 m c t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact leftA_s c _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftA_3 c _ _ _ _ _ _ _ _ _ _ _ _ _ _ _ _ _ _ _ _ _ _
      isplitl [H4]
      · unfold owns; iexists _; isplitr
        swap; · iexact H4
        ipureintro; exact leftA_4 c _ _ _ _ _ _ _ _ _ _ _ _ _ _ _ _ _ _ _ _ _ _
      iapply (leaves5_idle m c t h1); iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) ((hcond0_1 t).mpr h1) (fun h => (hcond0_2 t).mp h h1) (iblk m c 0 t) (X0_1 m c t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact leftA_s c _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftA_3 c _ _ _ _ _ _ _ _ _ _ _ _ _ _ _ _ _ _ _ _ _ _
      isplitl [H4]
      · unfold owns; iexists _; isplitr
        swap; · iexact H4
        ipureintro; exact leftA_4 c _ _ _ _ _ _ _ _ _ _ _ _ _ _ _ _ _ _ _ _ _ _
      iapply (leaves5_idle m c t h1); iexact H5
  · have hz : t.val ≠ 0 := fun e => h0 (by rw [e])
    rw [PhiS_castSucc m c t, PhiS_pos m c _ _ hz]
    rw [wbAt_next m c t h0]
    by_cases h1 : t.val % 17 < 16
    · rw [leaves4 m c t h1]
      unfold accAt
      rw [wbAt_next m c t h0]
      iintro ⟨⟨HS0, Hg⟩, Ho, ⟨%d0, H0⟩, ⟨%d1, H1⟩, ⟨%d2, H2⟩, ⟨%d3, H3⟩, ⟨%d4, H4⟩, H5⟩
      iapply ((kernelRun0_B c (grid0.coords t) _ _ _ _ _ _ _ _ _ _ _ _ _ _ (fun h => h0 ((hcond0_0 t).mp h)) ((hcond0_1 t).mpr h1) (fun h => (hcond0_2 t).mp h h1) (iblk m c 0 t) _).2.2 Set.univ _)
      isplitl [H0]; · iexact H0
      isplitl [HS0]; · iexact HS0
      isplitl [H3]; · iexists _; iexact H3
      isplitl [H4]; · iexists _; iexact H4
      iintro ⟨H0, HS0, ⟨%e3, H3⟩, ⟨%e4, H4⟩⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftB_3 c _ _ _ _ _ _ _ _ _ _ _ _ _ _ _ _ _ _ _ _ _
      isplitl [H4]
      · unfold owns; iexists _; isplitr
        swap; · iexact H4
        ipureintro; exact leftB_4 c _ _ _ _ _ _ _ _ _ _ _ _ _ _ _ _ _ _ _ _ _
      iapply (leaves5_idle m c t h1); iexact H5
    · rw [leaves5 m c t h1]
      unfold accAt
      rw [wbAt_next m c t h0]
      iintro ⟨⟨HS0, Hg⟩, Ho, ⟨%d0, H0⟩, ⟨%d1, H1⟩, ⟨%d2, H2⟩, ⟨%d3, H3⟩, H4, ⟨%d5, H5⟩⟩
      iapply ((kernelRun0_C c (grid0.coords t) _ _ _ _ _ _ _ _ _ _ _ _ _ _ (fun h => h0 ((hcond0_0 t).mp h)) (fun h => h1 ((hcond0_1 t).mp h)) ((hcond0_2 t).mpr h1) (iblk m c 0 t) _).2.2 Set.univ _)
      isplitl [H0]; · iexact H0
      isplitl [HS0]; · iexact HS0
      isplitl [H3]; · iexists _; iexact H3
      isplitl [H5]; · iexists _; iexact H5
      iintro ⟨H0, HS0, ⟨%e3, H3⟩, ⟨%e5, H5⟩⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftC_3 c _ _ _ _ _ _ _ _ _ _ _ _ _ _ _ _ _ _ _ _ _
      isplitl [H4]
      · iapply (leaves4_idle m c t h1); iexact H4
      unfold owns; iexists _; isplitr
      swap; · iexact H5
      ipureintro; exact leftC_5 c _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 68 := N_0; omega), PhiA0_eq]
  iintro ⟨HS0, Hg⟩
  isplitl [HS0]
  · iexists _; iexact HS0
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The program runs to an end with the arguments unchanged and no semaphore left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The run with the arrays it leaves. -/
theorem run_arrays : θ_run defs (onTc (τ := τ) (main (F := F))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_v1_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (frame m ρ) ((θ_run defs _ _).mono (fun _ h => h.1) (run_main_quiescent m ρ)))
  exact ⟨(h.2 c).1 3, (h.2 c).1 4, (h.2 c).1 5, h.1.1 c⟩

end Cert.ProjAkIdeal.Run
end
-- ==== Proof.ProjAk.lean ====
module
public import proofs.«01_k».proof.Proof.ProjAkRun
public import proofs.«01_k».proof.Proof.Gen.ProjAkRefIdeal.Read
public import proofs.«01_k».proof.Proof.Common
public import proofs.«01_k».proof.Defs
/-! The arrays the projection's program leaves are the reference's. -/
@[expose] public section
set_option maxRecDepth 16384
noncomputable section
namespace Cert.ProjAkIdeal.Hand
open Cert.ProjAkIdeal Cert.ProjAkIdeal.Gen Cert.ProjAkIdeal.Run Idealize.ShloMosaic Idealize.ShloMosaic.TcCoe Idealize.SL.Sem

/-- The block of weight rows the first row tile of a column tile stores: rows 16 and on of the one window, then the
    first rows of the other. -/
def wblk (x1 : Vec Ideal S1x512x4096 .f32) (x2 : Vec Ideal S1x16x4096 .f32) : Vec Ideal S512x4096 .bf16 := fun y =>
  if h : (y 0).val + 16 < 512 then x1 (ValueIdx.ix3 0 ⟨(y 0).val + 16, h⟩ (y 1))
  else x2 (ValueIdx.ix3 0 ⟨(y 0).val + 16 - 512, by have h0 : (y 0).val < 512 := (y 0).isLt; omega⟩ (y 1))

theorem wblk_in (x1 : Vec Ideal S1x512x4096 .f32) (x2 : Vec Ideal S1x16x4096 .f32) (y : S512x4096.Idx) (h : (y 0).val + 16 < 512) :
    wblk x1 x2 y = x1 (ValueIdx.ix3 0 ⟨(y 0).val + 16, h⟩ (y 1)) := dif_pos h

theorem wblk_past (x1 : Vec Ideal S1x512x4096 .f32) (x2 : Vec Ideal S1x16x4096 .f32) (y : S512x4096.Idx) (h : ¬(y 0).val + 16 < 512) :
    wblk x1 x2 y = x2 (ValueIdx.ix3 0 ⟨(y 0).val + 16 - 512, by have h0 : (y 0).val < 512 := (y 0).isLt; omega⟩ (y 1)) := dif_neg h

/-! The stores of the slabs, read at one place. -/

theorem k0_pay1_apply (v : Vec Ideal S1x256x4096 .f32) (x : S256x4096.Idx) :
    k0_pay1 v x = v (ValueIdx.ix3 0 (x 0) (x 1)) := by
  unfold k0_pay1
  exact Cert.Common.slab_apply (n := 256) (k := 4096) v _ _ _ x

theorem k0_pay2_apply (v : Vec Ideal S1x240x4096 .f32) (x : S240x4096.Idx) :
    k0_pay2 v x = v (ValueIdx.ix3 0 (x 0) (x 1)) := by
  unfold k0_pay2
  exact Cert.Common.slab_apply (n := 240) (k := 4096) v _ _ _ x

theorem k0_pay3_apply (v : Vec Ideal S1x16x4096 .f32) (x : S16x4096.Idx) :
    k0_pay3 v x = v (ValueIdx.ix3 0 (x 0) (x 1)) := by
  unfold k0_pay3
  exact Cert.Common.slab_apply (n := 16) (k := 4096) v _ _ _ x

/-- Together the stores leave the weight block. -/
theorem wst_eq (x1 : Vec Ideal S1x512x4096 .f32) (x2 : Vec Ideal S1x16x4096 .f32) : wst x1 x2 = wblk x1 x2 := by
  unfold wst
  funext y
  refine View.canon_apply_of_pieces (wblk x1 x2) _ ?_ y (wpieces_cover x1 x2 y)
  intro p hp x
  simp only [wpieces, List.mem_cons, List.not_mem_nil, or_false] at hp
  rcases hp with rfl | rfl | rfl
  · dsimp only [] at x ⊢
    refine (k0_pay3_apply _ x).trans ?_
    have hx0 : (x 0).val < 16 := (x 0).isLt
    have e0 : (((Rect.unit (s := S512x4096) ![496, 0] S16x4096.size inb_S512x4096_S16x4096_496_0).emb x) 0).val = 496 + 1 * (x 0).val := rfl
    have e1 : (((Rect.unit (s := S512x4096) ![496, 0] S16x4096.size inb_S512x4096_S16x4096_496_0).emb x) 1).val = 0 + 1 * (x 1).val := rfl
    refine (View.ld_unit_apply_of _ _ _ _ _ _ ?_).trans (wblk_past x1 x2 _ (by rw [e0]; omega)).symm
    intro a
    match a with
    | ⟨0, _⟩ => rfl
    | ⟨1, _⟩ => show _ = 0 + (x 0).val; dsimp only [ValueIdx.ix3]; rw [e0]; omega
    | ⟨2, _⟩ => show _ = 0 + (x 1).val; dsimp only [ValueIdx.ix3]; rw [e1]; omega
  · dsimp only [] at x ⊢
    refine (k0_pay2_apply _ x).trans ?_
    have hx0 : (x 0).val < 240 := (x 0).isLt
    have e0 : (((Rect.unit (s := S512x4096) ![256, 0] S240x4096.size inb_S512x4096_S240x4096_256_0).emb x) 0).val = 256 + 1 * (x 0).val := rfl
    have e1 : (((Rect.unit (s := S512x4096) ![256, 0] S240x4096.size inb_S512x4096_S240x4096_256_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 272 + (x 0).val; dsimp only [ValueIdx.ix3]; rw [e0]; omega
    | ⟨2, _⟩ => show _ = 0 + (x 1).val; dsimp only [ValueIdx.ix3]; rw [e1]; omega
  · dsimp only [] at x ⊢
    refine (k0_pay1_apply _ x).trans ?_
    have hx0 : (x 0).val < 256 := (x 0).isLt
    have e0 : (((Rect.unit (s := S512x4096) ![0, 0] S256x4096.size inb_S512x4096_S256x4096_0_0).emb x) 0).val = 0 + 1 * (x 0).val := rfl
    have e1 : (((Rect.unit (s := S512x4096) ![0, 0] S256x4096.size inb_S512x4096_S256x4096_0_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 16 + (x 0).val; dsimp only [ValueIdx.ix3]; rw [e0]; omega
    | ⟨2, _⟩ => show _ = 0 + (x 1).val; dsimp only [ValueIdx.ix3]; rw [e1]; omega

/-- The product read at one place. -/
theorem k0_pay4_apply (v : Vec Ideal S1024x4096 .bf16) (w : Vec Ideal S512x4096 .bf16) (y : S1024x512.Idx) :
    k0_pay4 v w y = ∑ k : Fin 4096, v (ValueIdx.ix2 (y 0) k) * w (ValueIdx.ix2 (y 1) k) := by
  unfold k0_pay4
  exact Cert.Common.dotT_apply (φ₁ := .bf16) (φ₂ := .bf16) (M := 1024) (K := 4096) (N := 512) v w y

theorem k0_pay5_apply (v : Vec Ideal S1024x4096 .bf16) (w : Vec Ideal S512x4096 .bf16) (y : S1024x512.Idx) :
    k0_pay5 v w y = k0_pay4 v w y := rfl

/-! ## What the windows hold -/

variable (m : (ℓ : Loc nD τ sig) → Buf (Elt Ideal) ℓ)

/-- The weights as the kernel finds them: transposed. -/
theorem V_v0 (c : Dev nD) : V m c main_v0 = transpose S1x20496x4096 [0, 2, 1] (m ((c : Thread nD τ).loc main_arg1)) transposes_S1x4096x20496_S1x20496x4096_0_2_1 := by
  show StableHlo.after hostOps0 _ (Proc.devRef .tc main_v0) = _
  after_results <;> rfl

theorem V_v0_apply (c : Dev nD) (j : S1x20496x4096.Idx) : V m c main_v0 j = m ((c : Thread nD τ).loc main_arg1) (ValueIdx.ix3 0 (j 2) (j 1)) := by
  rw [V_v0]
  refine transpose_apply _ _ _ j _ ?_
  intro b
  match b with
  | ⟨0, _⟩ => have h : (j 0).val < 1 := (j 0).isLt; show 0 = (j 0).val; omega
  | ⟨1, _⟩ => rfl
  | ⟨2, _⟩ => rfl

theorem facts0 : ∀ t : Fin cfg0.N, win0_0.index t (0 : Fin 2) = t.val % 17 ∧ win0_0.index t (1 : Fin 2) = 0 :=
  (by decide +kernel : ∀ t : Fin grid0.N, _)
theorem facts1 : ∀ t : Fin cfg0.N, win0_1.index t (0 : Fin 3) = 0 ∧ win0_1.index t (1 : Fin 3) = 16 + t.val / 17 ∧ win0_1.index t (2 : Fin 3) = 0 :=
  (by decide +kernel : ∀ t : Fin grid0.N, _)
theorem facts2 : ∀ t : Fin cfg0.N, win0_2.index t (0 : Fin 3) = 0 ∧ win0_2.index t (1 : Fin 3) = 544 + 32 * (t.val / 17) ∧ win0_2.index t (2 : Fin 3) = 0 :=
  (by decide +kernel : ∀ t : Fin grid0.N, _)

/-- Window 0 at a point: its row tile. -/
theorem rows_apply (c : Dev nD) (t : Fin cfg0.N) (y : S1024x4096.Idx) :
    (iblk m c 0 t : Vec Ideal S1024x4096 .bf16) y = m ((c : Thread nD τ).loc main_arg0)
      (ValueIdx.ix2 ⟨1024 * (t.val % 17) + (y 0).val, by have h0 : (y 0).val < 1024 := (y 0).isLt; omega⟩ (y 1)) := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = 1024 * (t.val % 17) + (y 0).val; rw [e0]; omega
  | ⟨1, _⟩ => show win0_0.index t (1 : Fin 2) * 4096 + 1 * (y 1).val = (y 1).val; rw [e1]; omega

/-- Window 1 at a point: the rows of the transposed weights its column tile begins in. -/
theorem wrows_apply (c : Dev nD) (t : Fin cfg0.N) (y : S1x512x4096.Idx) (b : Fin 20496) (hb : b.val = 8192 + 512 * (t.val / 17) + (y 1).val) :
    (X0_1 m c t : Vec Ideal S1x512x4096 .f32) y = m ((c : Thread nD τ).loc main_arg1) (ValueIdx.ix3 0 (y 2) b) := by
  obtain ⟨e0, e1, e2⟩ := facts1 t
  unfold X0_1 Pipeline.Window.fill
  rw [dif_pos (moved0_1 t y)]
  show V m c main_v0 (((cfg0.win 1).blk t).view.emb _) = _
  rw [V_v0_apply]
  refine congrArg _ (funext fun a => Fin.ext ?_)
  match a with
  | ⟨0, _⟩ => rfl
  | ⟨1, _⟩ => show win0_1.index t (2 : Fin 3) * 4096 + 1 * (y 2).val = (y 2).val; rw [e2]; omega
  | ⟨2, _⟩ => show win0_1.index t (1 : Fin 3) * 512 + 1 * (y 1).val = b.val; rw [e1, hb]; omega

/-- Window 2 at a point: the rows of the transposed weights its column tile ends in. -/
theorem wtail_apply (c : Dev nD) (t : Fin cfg0.N) (y : S1x16x4096.Idx) (b : Fin 20496) (hb : b.val = 8704 + 512 * (t.val / 17) + (y 1).val) :
    (iblk m c 2 t : Vec Ideal S1x16x4096 .f32) y = m ((c : Thread nD τ).loc main_arg1) (ValueIdx.ix3 0 (y 2) b) := by
  obtain ⟨e0, e1, e2⟩ := facts2 t
  show V m c main_v0 (((cfg0.win 2).blk t).view.emb y) = _
  rw [V_v0_apply]
  refine congrArg _ (funext fun a => Fin.ext ?_)
  match a with
  | ⟨0, _⟩ => rfl
  | ⟨1, _⟩ => show win0_2.index t (2 : Fin 3) * 4096 + 1 * (y 2).val = (y 2).val; rw [e2]; omega
  | ⟨2, _⟩ => show win0_2.index t (1 : Fin 3) * 16 + 1 * (y 1).val = b.val; rw [e1, hb]; omega

/-! ## The scratch: the weights of the column tile -/

/-- The columns of the weights in column tile `j`, one to a row. -/
def wcols (W : Vec Ideal S1x4096x20496 .f32) (j : ℕ) (hj : j < 4) : Vec Ideal S512x4096 .bf16 := fun y =>
  W (ValueIdx.ix3 0 (y 1) ⟨8208 + 512 * j + (y 0).val, by have h0 : (y 0).val < 512 := (y 0).isLt; omega⟩)

theorem pt_lt (n : ℕ) (hn : n < cfg0.N) : n < 68 := lt_of_lt_of_eq hn (show cfg0.N = 68 from N_0)

theorem col_lt (n : ℕ) (hn : n < cfg0.N) : n / 17 < 4 := by
  have h := pt_lt n hn
  omega

/-- The weight block made at a point is the columns of its column tile. -/
theorem wst_cols (c : Dev nD) (t : Fin cfg0.N) :
    wst (X0_1 m c t) (iblk m c 2 t) = wcols (m ((c : Thread nD τ).loc main_arg1)) (t.val / 17) (col_lt t.val t.isLt) := by
  have hN := pt_lt t.val t.isLt
  rw [wst_eq]
  funext y
  have hy : (y 0).val < 512 := (y 0).isLt
  by_cases h : (y 0).val + 16 < 512
  · rw [wblk_in _ _ _ h]
    refine (wrows_apply m c t _ ⟨8208 + 512 * (t.val / 17) + (y 0).val, by omega⟩ ?_).trans rfl
    show 8208 + 512 * (t.val / 17) + (y 0).val = 8192 + 512 * (t.val / 17) + ((y 0).val + 16)
    omega
  · rw [wblk_past _ _ _ h]
    refine (wtail_apply m c t _ ⟨8208 + 512 * (t.val / 17) + (y 0).val, by omega⟩ ?_).trans rfl
    show 8208 + 512 * (t.val / 17) + (y 0).val = 8704 + 512 * (t.val / 17) + ((y 0).val + 16 - 512)
    omega

theorem wcols_congr (W : Vec Ideal S1x4096x20496 .f32) (j j' : ℕ) (hj : j < 4) (hj' : j' < 4) (e : j = j') : wcols W j hj = wcols W j' hj' := by
  subst e; rfl

/-- After every point the scratch holds the columns of the point's column tile. -/
theorem scratch_eq (c : Dev nD) : ∀ (n : ℕ) (hn : n < cfg0.N),
    wbAt m c n hn = wcols (m ((c : Thread nD τ).loc main_arg1)) (n / 17) (col_lt n hn)
  | 0, hn => (wbAt_first m c ⟨0, hn⟩ (Nat.zero_mod _)).trans (wst_cols m c ⟨0, hn⟩)
  | n + 1, hn => by
    by_cases h : (n + 1) % 17 = 0
    · exact (wbAt_first m c ⟨n + 1, hn⟩ h).trans (wst_cols m c ⟨n + 1, hn⟩)
    · refine (wbAt_next m c ⟨n + 1, hn⟩ h).trans ((scratch_eq c n (Nat.lt_of_succ_lt hn)).trans (wcols_congr _ _ _ _ _ ?_))
      omega

/-- The product made at a point, read at one place, is the reference's product at that place's row and column. -/
theorem acc_apply (c : Dev nD) (n : ℕ) (hn : n < cfg0.N) (y : S1024x512.Idx) (z : Cert.ProjAkRefIdeal.S17408x2048.Idx)
    (h0 : (z 0).val = 1024 * (n % 17) + (y 0).val) (h1 : (z 1).val = 512 * (n / 17) + (y 1).val) :
    accAt m c n hn y = Cert.ProjAkRefIdeal.Read.val_main_v3 (F := Ideal) (m ((c : Thread nD τ).loc main_arg0)) (m ((c : Thread nD τ).loc main_arg1)) z := by
  have hN := pt_lt n hn
  have hy0 : (y 0).val < 1024 := (y 0).isLt
  have hy1 : (y 1).val < 512 := (y 1).isLt
  unfold accAt
  rw [scratch_eq, k0_pay4_apply, Cert.ProjAkRefIdeal.Read.val_main_v3_apply, Cert.ProjAkRefIdeal.Read.val_main_v2_apply]
  refine Finset.sum_congr rfl fun k _ => ?_
  rw [rows_apply]
  refine congrArg₂ (· * ·) ?_ ?_
  · show m _ _ = m _ _
    refine congrArg _ (funext fun a => Fin.ext ?_)
    match a with
    | ⟨0, _⟩ => exact h0.symm
    | ⟨1, _⟩ => rfl
  · rw [Cert.ProjAkRefIdeal.Read.val_main_v1_apply]
    show m _ _ = m _ _
    refine congrArg _ (funext fun a => Fin.ext ?_)
    have hk : k.val < 4096 := k.isLt
    match a with
    | ⟨0, _⟩ => rfl
    | ⟨1, _⟩ => show k.val = (k.val * 20496 + (8208 + (z 1).val)) / 20496 % 4096; exact (Cert.Common.row_of _ _ _ hk (by rw [h1]; omega)).symm
    | ⟨2, _⟩ => show 8208 + 512 * (n / 17) + (y 1).val = (k.val * 20496 + (8208 + (z 1).val)) % 20496; rw [Cert.Common.col_of _ _ _ (by rw [h1]; omega), h1]; omega

/-- What the prompts' window holds after a point: the product of the last row tile of the prompts so far. -/
theorem w4_apply (c : Dev nD) : ∀ (n : ℕ) (hn : n < cfg0.N) (y : S1024x512.Idx) (z : Cert.ProjAkRefIdeal.S17408x2048.Idx),
    (z 0).val = 1024 * min (n % 17) 15 + (y 0).val → (z 1).val = 512 * (n / 17) + (y 1).val →
    w4At m c n hn y = Cert.ProjAkRefIdeal.Read.val_main_v3 (F := Ideal) (m ((c : Thread nD τ).loc main_arg0)) (m ((c : Thread nD τ).loc main_arg1)) z := by
  intro n
  induction n with
  | zero => exact fun hn y z h0 h1 => acc_apply m c 0 hn y z (h0.trans rfl) h1
  | succ n ih =>
    intro hn y z h0 h1
    by_cases h : (n + 1) % 17 < 16
    · rw [show w4At m c (n + 1) hn = accAt m c (n + 1) hn from w4At_live m c ⟨n + 1, hn⟩ h]
      exact acc_apply m c (n + 1) hn y z (h0.trans (by omega)) h1
    · rw [show w4At m c (n + 1) hn = w4At m c n (Nat.lt_of_succ_lt hn) from w4At_idle m c ⟨n + 1, hn⟩ h]
      exact ih (Nat.lt_of_succ_lt hn) y z (h0.trans (by omega)) (h1.trans (by omega))

/-! ## The arrays after the run -/

theorem facts4 : ∀ t : Fin cfg0.N, win0_4.index t (0 : Fin 2) = min (t.val % 17) 15 ∧ win0_4.index t (1 : Fin 2) = t.val / 17 :=
  (by decide +kernel : ∀ t : Fin grid0.N, _)
theorem flush4 : ∀ t : Fin cfg0.N, (t.val % 17 < 15 ∨ t.val % 17 = 16) → (cfg0.win 4).flush t = true :=
  (by decide +kernel : ∀ t : Fin grid0.N, (t.val % 17 < 15 ∨ t.val % 17 = 16) → win0_4.flush t = true)
theorem flush5 : ∀ t : Fin cfg0.N, 16 ≤ t.val % 17 → (cfg0.win 5).flush t = true :=
  (by decide +kernel : ∀ t : Fin grid0.N, 16 ≤ t.val % 17 → win0_5.flush t = true)
theorem flushed5 : ∀ t : Fin cfg0.N, (cfg0.win 5).flush t = true → 16 ≤ t.val % 17 :=
  (by decide +kernel : ∀ t : Fin grid0.N, win0_5.flush t = true → 16 ≤ t.val % 17)
theorem facts5 : ∀ t : Fin cfg0.N, win0_5.index t (0 : Fin 2) = t.val % 17 - 16 ∧ win0_5.index t (1 : Fin 2) = t.val / 17 :=
  (by decide +kernel : ∀ t : Fin grid0.N, _)
theorem facts3 : ∀ t : Fin cfg0.N, win0_3.index t (0 : Fin 2) = t.val % 17 ∧ win0_3.index t (1 : Fin 2) = t.val / 17 :=
  (by decide +kernel : ∀ t : Fin grid0.N, _)

theorem mem_block3 (t : Fin cfg0.N) (i : S17408x2048.Idx) :
    i ∈ ((cfg0.win 3).blk t).view.set ↔ ∀ a, win0_3.index t a * win0_3.block.size a ≤ (i a).val ∧ (i a).val < win0_3.index t a * win0_3.block.size a + win0_3.block.size a := by
  show i ∈ ((win0_3.arr).view.slice (win0_3.rect t)).set ↔ _
  rw [View.set_slice_whole, Rect.mem_set_unit]

theorem covers3 (i : S17408x2048.Idx) : ∃ t : Fin cfg0.N, (cfg0.win 3).flush t = true ∧ i ∈ ((cfg0.win 3).blk t).view.set := by
  have h0 : (i 0).val < 17408 := (i 0).isLt
  have h1 : (i 1).val < 2048 := (i 1).isLt
  let t : Fin cfg0.N := ⟨17 * ((i 1).val / 512) + (i 0).val / 1024, lt_of_lt_of_eq (by omega) (show 68 = cfg0.N from N_0.symm)⟩
  have hv : t.val = 17 * ((i 1).val / 512) + (i 0).val / 1024 := rfl
  obtain ⟨e0, e1⟩ := facts3 t
  refine ⟨t, flush0_3 t, (mem_block3 t i).2 fun a => ?_⟩
  match a with
  | ⟨0, _⟩ => show win0_3.index t (0 : Fin 2) * 1024 ≤ (i 0).val ∧ (i 0).val < win0_3.index t (0 : Fin 2) * 1024 + 1024; rw [e0, hv]; omega
  | ⟨1, _⟩ => show win0_3.index t (1 : Fin 2) * 512 ≤ (i 1).val ∧ (i 1).val < win0_3.index t (1 : Fin 2) * 512 + 512; rw [e1, hv]; omega

/-- The rounded array the kernel returns is the reference's. -/
theorem final3 (c : Dev nD) : (dats m 0 c).arrAt 3 cfg0.N = Cert.ProjAkRefIdeal.Read.val_main_v4 (F := Ideal) (m ((c : Thread nD τ).loc main_arg0)) (m ((c : Thread nD τ).loc main_arg1)) := by
  refine (dats m 0 c).arrAt_eq_of_cover 3 _ (fun t hf => ?_) covers3
  obtain ⟨e0, e1⟩ := facts3 t
  show (cfg0.win 3).cut (grid0.coords t) ((dats m 0 c).after 3 t) = _
  rw [after0_3]
  funext y
  show k0_pay5 (F := Ideal) _ _ ((cfg0.win 3).xinj (grid0.coords t) y) = Cert.ProjAkRefIdeal.Read.val_main_v4 (F := Ideal) _ _ (((cfg0.win 3).blk t).view.emb y)
  rw [k0_pay5_apply]
  refine acc_apply m c t.val t.isLt _ _ ?_ ?_
  · show win0_3.index t (0 : Fin 2) * 1024 + 1 * (y 0).val = 1024 * (t.val % 17) + (y 0).val; rw [e0]; omega
  · show win0_3.index t (1 : Fin 2) * 512 + 1 * (y 1).val = 512 * (t.val / 17) + (y 1).val; rw [e1]; omega

theorem mem_block4 (t : Fin cfg0.N) (i : S16384x2048.Idx) :
    i ∈ ((cfg0.win 4).blk t).view.set ↔ ∀ a, win0_4.index t a * win0_4.block.size a ≤ (i a).val ∧ (i a).val < win0_4.index t a * win0_4.block.size a + win0_4.block.size a := by
  show i ∈ ((win0_4.arr).view.slice (win0_4.rect t)).set ↔ _
  rw [View.set_slice_whole, Rect.mem_set_unit]

theorem covers4 (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  have hr : ∃ r, r < 17 ∧ (r < 15 ∨ r = 16) ∧ min r 15 = (i 0).val / 1024 := by
    by_cases h : (i 0).val / 1024 < 15
    · exact ⟨(i 0).val / 1024, by omega, Or.inl h, by omega⟩
    · exact ⟨16, by omega, Or.inr rfl, by omega⟩
  obtain ⟨r, hr0, hr1, hr2⟩ := hr
  let t : Fin cfg0.N := ⟨17 * ((i 1).val / 512) + r, lt_of_lt_of_eq (by omega) (show 68 = cfg0.N from N_0.symm)⟩
  have hv : t.val = 17 * ((i 1).val / 512) + r := rfl
  have hm : t.val % 17 = r := by rw [hv]; omega
  have hd : t.val / 17 = (i 1).val / 512 := by rw [hv]; omega
  obtain ⟨e0, e1⟩ := facts4 t
  refine ⟨t, flush4 t (by rw [hm]; exact hr1), (mem_block4 t i).2 fun a => ?_⟩
  match a with
  | ⟨0, _⟩ => show win0_4.index t (0 : Fin 2) * 1024 ≤ (i 0).val ∧ (i 0).val < win0_4.index t (0 : Fin 2) * 1024 + 1024; rw [e0, hm, hr2]; omega
  | ⟨1, _⟩ => show win0_4.index t (1 : Fin 2) * 512 ≤ (i 1).val ∧ (i 1).val < win0_4.index t (1 : Fin 2) * 512 + 512; rw [e1, hd]; omega

/-- The prompts' rows the kernel returns are the reference's. -/
theorem final4 (c : Dev nD) : (dats m 0 c).arrAt 4 cfg0.N = Cert.ProjAkRefIdeal.Read.val_main_v5 (F := Ideal) (m ((c : Thread nD τ).loc main_arg0)) (m ((c : Thread nD τ).loc main_arg1)) := by
  refine (dats m 0 c).arrAt_eq_of_cover 4 _ (fun t hf => ?_) covers4
  obtain ⟨e0, e1⟩ := facts4 t
  show (cfg0.win 4).cut (grid0.coords t) ((dats m 0 c).after 4 t) = _
  rw [after0_4]
  funext y
  show w4At m c t.val t.isLt ((cfg0.win 4).xinj (grid0.coords t) y) = Cert.ProjAkRefIdeal.Read.val_main_v5 (F := Ideal) _ _ (((cfg0.win 4).blk t).view.emb y)
  rw [Cert.ProjAkRefIdeal.Read.val_main_v5_apply]
  refine w4_apply m c t.val t.isLt _ _ ?_ ?_
  · show win0_4.index t (0 : Fin 2) * 1024 + 1 * (y 0).val = 1024 * min (t.val % 17) 15 + (y 0).val; rw [e0]; omega
  · show win0_4.index t (1 : Fin 2) * 512 + 1 * (y 1).val = 512 * (t.val / 17) + (y 1).val; rw [e1]; omega

theorem mem_block5 (t : Fin cfg0.N) (i : S1024x2048.Idx) :
    i ∈ ((cfg0.win 5).blk t).view.set ↔ ∀ a, win0_5.index t a * win0_5.block.size a ≤ (i a).val ∧ (i a).val < win0_5.index t a * win0_5.block.size a + win0_5.block.size a := by
  show i ∈ ((win0_5.arr).view.slice (win0_5.rect t)).set ↔ _
  rw [View.set_slice_whole, Rect.mem_set_unit]

theorem covers5 (i : S1024x2048.Idx) : ∃ t : Fin cfg0.N, (cfg0.win 5).flush t = true ∧ i ∈ ((cfg0.win 5).blk t).view.set := by
  have h0 : (i 0).val < 1024 := (i 0).isLt
  have h1 : (i 1).val < 2048 := (i 1).isLt
  let t : Fin cfg0.N := ⟨17 * ((i 1).val / 512) + (16 + (i 0).val / 1024), lt_of_lt_of_eq (by omega) (show 68 = cfg0.N from N_0.symm)⟩
  have hv : t.val = 17 * ((i 1).val / 512) + (16 + (i 0).val / 1024) := rfl
  obtain ⟨e0, e1⟩ := facts5 t
  refine ⟨t, flush5 t (by rw [hv]; omega), (mem_block5 t i).2 fun a => ?_⟩
  match a with
  | ⟨0, _⟩ => show win0_5.index t (0 : Fin 2) * 1024 ≤ (i 0).val ∧ (i 0).val < win0_5.index t (0 : Fin 2) * 1024 + 1024; rw [e0, hv]; omega
  | ⟨1, _⟩ => show win0_5.index t (1 : Fin 2) * 512 ≤ (i 1).val ∧ (i 1).val < win0_5.index t (1 : Fin 2) * 512 + 512; rw [e1, hv]; omega

/-- The samples' rows the kernel returns are the reference's. -/
theorem final5 (c : Dev nD) : (dats m 0 c).arrAt 5 cfg0.N = Cert.ProjAkRefIdeal.Read.val_main_v6 (F := Ideal) (m ((c : Thread nD τ).loc main_arg0)) (m ((c : Thread nD τ).loc main_arg1)) := by
  refine (dats m 0 c).arrAt_eq_of_cover 5 _ (fun t hf => ?_) covers5
  obtain ⟨e0, e1⟩ := facts5 t
  have hp := flushed5 t hf
  show (cfg0.win 5).cut (grid0.coords t) ((dats m 0 c).after 5 t) = _
  rw [after0_5]
  funext y
  show accAt m c t.val t.isLt ((cfg0.win 5).xinj (grid0.coords t) y) = Cert.ProjAkRefIdeal.Read.val_main_v6 (F := Ideal) _ _ (((cfg0.win 5).blk t).view.emb y)
  rw [Cert.ProjAkRefIdeal.Read.val_main_v6_apply]
  refine acc_apply m c t.val t.isLt _ _ ?_ ?_
  · show 16384 + (win0_5.index t (0 : Fin 2) * 1024 + 1 * (y 0).val) = 1024 * (t.val % 17) + (y 0).val; rw [e0]; omega
  · show win0_5.index t (1 : Fin 2) * 512 + 1 * (y 1).val = 512 * (t.val / 17) + (y 1).val; rw [e1]; omega

end Cert.ProjAkIdeal.Hand

namespace Cert.Proof
open Idealize.ShloMosaic Idealize.ShloMosaic.TcCoe Idealize.SL.Sem

theorem algebraic_ProjAkIdeal_ProjAkRefIdeal_proof : Cert.algebraic_ProjAkIdeal_ProjAkRefIdeal := by
  intro m g m' g' _ hargs
  refine ⟨fun c => Cert.ProjAkRefIdeal.Read.val_main_v4 (F := Ideal) (m ((c.tc : Thread Cert.ProjAkIdeal.nD Cert.ProjAkIdeal.τ).loc Cert.ProjAkIdeal.main_arg0)) (m ((c.tc : Thread Cert.ProjAkIdeal.nD Cert.ProjAkIdeal.τ).loc Cert.ProjAkIdeal.main_arg1)),
    fun c => Cert.ProjAkRefIdeal.Read.val_main_v5 (F := Ideal) (m ((c.tc : Thread Cert.ProjAkIdeal.nD Cert.ProjAkIdeal.τ).loc Cert.ProjAkIdeal.main_arg0)) (m ((c.tc : Thread Cert.ProjAkIdeal.nD Cert.ProjAkIdeal.τ).loc Cert.ProjAkIdeal.main_arg1)),
    fun c => Cert.ProjAkRefIdeal.Read.val_main_v6 (F := Ideal) (m ((c.tc : Thread Cert.ProjAkIdeal.nD Cert.ProjAkIdeal.τ).loc Cert.ProjAkIdeal.main_arg0)) (m ((c.tc : Thread Cert.ProjAkIdeal.nD Cert.ProjAkIdeal.τ).loc Cert.ProjAkIdeal.main_arg1)), ?_, ?_⟩
  · refine (θ_run _ _ _).mono (fun r h c => ?_) (Cert.ProjAkIdeal.Run.run_arrays m g)
    obtain ⟨a0, a1, a2, a3⟩ := h c
    exact ⟨a0.trans (Cert.ProjAkIdeal.Hand.final3 m c), a1.trans (Cert.ProjAkIdeal.Hand.final4 m c), a2.trans (Cert.ProjAkIdeal.Hand.final5 m c), a3⟩
  · refine (θ_run _ _ _).mono (fun r h c => ?_) (Cert.ProjAkRefIdeal.Value.run m' g')
    obtain ⟨a0, a1, a2, a3⟩ := h c
    have e := hargs c
    refine ⟨a0.trans ?_, a1.trans ?_, a2.trans ?_, a3⟩
    · rw [e.1, e.2]
      exact Cert.ProjAkRefIdeal.Read.val_main_v4_eq (F := Ideal) _ _
    · rw [e.1, e.2]
      exact Cert.ProjAkRefIdeal.Read.val_main_v5_eq (F := Ideal) _ _
    · rw [e.1, e.2]
      exact Cert.ProjAkRefIdeal.Read.val_main_v6_eq (F := Ideal) _ _

theorem preserves_ProjAk_ProjAkIdeal_proof : Cert.preserves_ProjAk_ProjAkIdeal := trivial

end Cert.Proof
end
-- ==== Proof.ProjAvRun.lean ====
module
public import proofs.«01_k».proof.Proof.Gen.ProjAvIdeal.Frame
public import proofs.«01_k».proof.Proof.Gen.ProjAvIdeal.Skeleton
public import Idealize.ShloMosaic.Lib.Pipeline.FrameBody
public import Idealize.ShloMosaic.Lib.Tactic
public import Idealize.ShloMosaic.Lib.Claim
public import Idealize.ShloMosaic.Lib.Pipeline.Value
public import Idealize.ShloMosaic.Lib.Pipeline.ValueKit
/-! The projection's program: its body at every point of the grid, what its windows and its scratch hold between points,
and its run with the arrays it leaves. -/
@[expose] public section
set_option maxRecDepth 16384
noncomputable section
namespace Cert.ProjAvIdeal.Run
open Cert.ProjAvIdeal Cert.ProjAvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The stores of the weight block: the rows of the one window from row 16 on, then the rows of the other. -/
def wpieces (x1 : Vec F S1x512x4096 .f32) (x2 : Vec F S1x16x4096 .f32) : List (View.Piece (Elt F) S512x4096 .bf16) :=
  [(⟨Rect.unit (s := S512x4096) ![496, 0] S16x4096.size inb_S512x4096_S16x4096_496_0, k0_pay3 (View.ld x2 (Rect.unit (s := S1x16x4096) ![0, 0, 0] S1x16x4096.size inb_S1x16x4096_S1x16x4096_0_0_0))⟩ : View.Piece (Elt F) S512x4096 .bf16),
   (⟨Rect.unit (s := S512x4096) ![256, 0] S240x4096.size inb_S512x4096_S240x4096_256_0, k0_pay2 (View.ld x1 (Rect.unit (s := S1x512x4096) ![0, 272, 0] S1x240x4096.size inb_S1x512x4096_S1x240x4096_0_272_0))⟩ : View.Piece (Elt F) S512x4096 .bf16),
   (⟨Rect.unit (s := S512x4096) ![0, 0] S256x4096.size inb_S512x4096_S256x4096_0_0, k0_pay1 (View.ld x1 (Rect.unit (s := S1x512x4096) ![0, 16, 0] S1x256x4096.size inb_S1x512x4096_S1x256x4096_0_16_0))⟩ : View.Piece (Elt F) S512x4096 .bf16)]

theorem wpieces_cover (x1 : Vec F S1x512x4096 .f32) (x2 : Vec F S1x16x4096 .f32) (y : S512x4096.Idx) : ∃ p ∈ wpieces x1 x2, y ∈ p.1.set :=
  View.cover_of_tiledBy (wpieces x1 x2) ![16, 4096] (by sl_kernel_rfl) y

/-- The weight block. -/
def wst (x1 : Vec F S1x512x4096 .f32) (x2 : Vec F S1x16x4096 .f32) : Vec F S512x4096 .bf16 := View.canon (wpieces x1 x2)

/-! ## The conditions of the body, over the points -/

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 34 = 0 :=
  (by decide +kernel : ∀ t : Fin grid0.N, cond0_0 (grid0.coords t) ↔ t.val % 34 = 0)
theorem hcond0_1 : ∀ t : Fin cfg0.N, k0_cond2 (grid0.coords t) = 1#1 ↔ t.val % 34 < 32 :=
  (by decide +kernel : ∀ t : Fin grid0.N, k0_cond2 (grid0.coords t) = 1#1 ↔ t.val % 34 < 32)
theorem hcond0_2 : ∀ t : Fin cfg0.N, k0_cond3 (grid0.coords t) = 1#1 ↔ ¬t.val % 34 < 32 :=
  (by decide +kernel : ∀ t : Fin grid0.N, k0_cond3 (grid0.coords t) = 1#1 ↔ ¬t.val % 34 < 32)
theorem live4 : ∀ t : Fin cfg0.N, t.val % 34 < 32 → cfg0.idle 4 (grid0.coords t) = false :=
  (by decide +kernel : ∀ t : Fin grid0.N, t.val % 34 < 32 → idle0 4 (grid0.coords t) = false)
theorem idle4 : ∀ t : Fin cfg0.N, ¬t.val % 34 < 32 → cfg0.idle 4 (grid0.coords t) = true :=
  (by decide +kernel : ∀ t : Fin grid0.N, ¬t.val % 34 < 32 → idle0 4 (grid0.coords t) = true)
theorem live5 : ∀ t : Fin cfg0.N, ¬t.val % 34 < 32 → cfg0.idle 5 (grid0.coords t) = false :=
  (by decide +kernel : ∀ t : Fin grid0.N, ¬t.val % 34 < 32 → idle0 5 (grid0.coords t) = false)
theorem idle5 : ∀ t : Fin cfg0.N, t.val % 34 < 32 → cfg0.idle 5 (grid0.coords t) = true :=
  (by decide +kernel : ∀ t : Fin grid0.N, t.val % 34 < 32 → idle0 5 (grid0.coords t) = true)
theorem keep5 : ∀ t : Fin cfg0.N, t.val % 34 < 32 → (cfg0.win 5).flush t = false :=
  (by decide +kernel : ∀ t : Fin grid0.N, t.val % 34 < 32 → win0_5.flush t = false)
/-- The prompts' window stays on its last block over the samples' row tiles: written back at the last of them. -/
theorem keep4 : ∀ t : Fin cfg0.N, 31 ≤ t.val % 34 → t.val % 34 < 33 → (cfg0.win 4).flush t = false :=
  (by decide +kernel : ∀ t : Fin grid0.N, 31 ≤ t.val % 34 → t.val % 34 < 33 → win0_4.flush t = false)
theorem fetch4 : ∀ t : Fin cfg0.N, (cfg0.win 4).fetch t = false :=
  (by decide +kernel : ∀ t : Fin grid0.N, win0_4.fetch t = false)

/-! ## The staging buffers -/

abbrev ms0_0 (t : Fin cfg0.N) : Memref sig .tc .vmem S512x4096 .bf16 := win0_0.stage (cfg0.slots t 0)
abbrev ms0_1 (t : Fin cfg0.N) : Memref sig .tc .vmem S1x512x4096 .f32 := win0_1.stage (cfg0.slots t 1)
abbrev ms0_2 (t : Fin cfg0.N) : Memref sig .tc .vmem S1x16x4096 .f32 := win0_2.stage (cfg0.slots t 2)
abbrev ms0_3 (t : Fin cfg0.N) : Memref sig .tc .vmem S1x512x512 .bf16 := win0_3.stage (cfg0.slots t 3)
abbrev ms0_4 (t : Fin cfg0.N) : Memref sig .tc .vmem S512x512 .f32 := win0_4.stage (cfg0.slots t 4)
abbrev ms0_5 (t : Fin cfg0.N) : Memref sig .tc .vmem S512x512 .f32 := win0_5.stage (cfg0.slots t 5)
abbrev scM0_0 : Memref sig .tc .vmem S512x4096 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's runs -/

set_option maxHeartbeats 1000000 in
/-- At the first row tile of a column tile: the stores the body makes, and that it runs to its end having made them. -/
noncomputable def kernelRun0_A (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : cond0_0 i) (hc1 : k0_cond2 i = 1#1) (hc2 : ¬k0_cond3 i = 1#1)
    (x0 : Vec F S512x4096 .bf16) (x1 : Vec F S1x512x4096 .f32) (x2 : Vec F S1x16x4096 .f32) :
    Σ' (L3 : List (View.Piece (Elt F) S1x512x512 .bf16)), Σ' (L4 : List (View.Piece (Elt F) S512x512 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0_proj_kvt i arg2 harg2 arg3 harg3 arg4 harg4 arg5 harg5 arg6 harg6 arg7 harg7 arg8 harg8) K } := by
  refine ⟨?_, ?_, ?_, fun E K => ?run⟩
  case run =>
    simp only [cc0_proj_kvt_eq_skeleton]; unfold cc0_proj_kvt_skel
    unfold owns
    iintro ⟨⟨%f0, %hf0, H0⟩, ⟨%f1, %hf1, H1⟩, ⟨%f2, %hf2, H2⟩, ⟨%dL3, %fL3, -, H3⟩, ⟨%dL4, %fL4, -, H4⟩, ⟨%dLS0, %fLS0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 1000000 in
/-- At a later row tile of the prompts: the stores the body makes, and that it runs to its end having made them. -/
noncomputable def kernelRun0_B (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1)
    (x0 : Vec F S512x4096 .bf16) (xs0 : Vec F S512x4096 .bf16) :
    Σ' (L3 : List (View.Piece (Elt F) S1x512x512 .bf16)), { L4 : List (View.Piece (Elt F) S512x512 .f32) //
      ∀ (E : Set ℕ) (K : PUnit → sProp 𝕄),
        iprop(owns (c : Thread nD τ) arg2 fullShare x0 ∗ owns (c : Thread nD τ) arg8 fullShare xs0 ∗ (∃ d, owns (c : Thread nD τ) arg5 fullShare d) ∗ (∃ d, owns (c : Thread nD τ) arg6 fullShare d)
            ∗ (iprop(owns (c : Thread nD τ) arg2 fullShare x0 ∗ owns (c : Thread nD τ) arg8 fullShare xs0 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_proj_kvt i arg2 harg2 arg3 harg3 arg4 harg4 arg5 harg5 arg6 harg6 arg7 harg7 arg8 harg8) K } := by
  refine ⟨?_, ?_, fun E K => ?run⟩
  case run =>
    simp only [cc0_proj_kvt_eq_skeleton]; unfold cc0_proj_kvt_skel
    unfold owns
    iintro ⟨⟨%f0, %hf0, H0⟩, ⟨%fs0, %hfs0, HS0⟩, ⟨%dL3, %fL3, -, H3⟩, ⟨%dL4, %fL4, -, H4⟩, Hk⟩
    obtain rfl := harg2.eq_unread hf0; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [HS0]
    · iexists _; isplitr; · ipureintro; exact harg8.read_unread _
      iexact HS0
    isplitl [H3]; · iexists _; iexact H3
    iexists _; iexact H4

set_option maxHeartbeats 1000000 in
/-- At a row tile of the samples: the stores the body makes, and that it runs to its end having made them. -/
noncomputable def kernelRun0_C (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1)
    (x0 : Vec F S512x4096 .bf16) (xs0 : Vec F S512x4096 .bf16) :
    Σ' (L3 : List (View.Piece (Elt F) S1x512x512 .bf16)), { L5 : List (View.Piece (Elt F) S512x512 .f32) //
      ∀ (E : Set ℕ) (K : PUnit → sProp 𝕄),
        iprop(owns (c : Thread nD τ) arg2 fullShare x0 ∗ owns (c : Thread nD τ) arg8 fullShare xs0 ∗ (∃ d, owns (c : Thread nD τ) arg5 fullShare d) ∗ (∃ d, owns (c : Thread nD τ) arg7 fullShare d)
            ∗ (iprop(owns (c : Thread nD τ) arg2 fullShare x0 ∗ owns (c : Thread nD τ) arg8 fullShare xs0 ∗ (∃ f, arg5.view.loc (c : Thread nD τ) ↦[arg5.view.set]{fullShare} arg5.view.writes (Elt F) f L3) ∗ (∃ f, arg7.view.loc (c : Thread nD τ) ↦[arg7.view.set]{fullShare} arg7.view.writes (Elt F) f L5)) -∗ K ⟨⟩))
          ⊢ wp frame (wpE (defs₀ (F := F)) Variants.none c none) E (cc0_proj_kvt i arg2 harg2 arg3 harg3 arg4 harg4 arg5 harg5 arg6 harg6 arg7 harg7 arg8 harg8) K } := by
  refine ⟨?_, ?_, fun E K => ?run⟩
  case run =>
    simp only [cc0_proj_kvt_eq_skeleton]; unfold cc0_proj_kvt_skel
    unfold owns
    iintro ⟨⟨%f0, %hf0, H0⟩, ⟨%fs0, %hfs0, HS0⟩, ⟨%dL3, %fL3, -, H3⟩, ⟨%dL5, %fL5, -, H5⟩, Hk⟩
    obtain rfl := harg2.eq_unread hf0; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [HS0]
    · iexists _; isplitr; · ipureintro; exact harg8.read_unread _
      iexact HS0
    isplitl [H3]; · iexists _; iexact H3
    iexists _; iexact H5

theorem coverA_3 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S512x4096 .bf16) (x1 : Vec F S1x512x4096 .f32) (x2 : Vec F S1x16x4096 .f32) (y : S1x512x512.Idx) : ∃ pc ∈ (kernelRun0_A c i arg2 harg2 arg3 harg3 arg4 harg4 arg5 harg5 arg6 harg6 arg7 harg7 arg8 harg8 hc0 hc1 hc2 x0 x1 x2).1, y ∈ pc.1.set :=
  View.cover_of_tiledL (kernelRun0_A c i arg2 harg2 arg3 harg3 arg4 harg4 arg5 harg5 arg6 harg6 arg7 harg7 arg8 harg8 hc0 hc1 hc2 x0 x1 x2).1 S1x512x512.size (by sl_kernel_rfl) y

/-- What this leaves in the window's buffer. -/
theorem leftA_3 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S512x4096 .bf16) (x1 : Vec F S1x512x4096 .f32) (x2 : Vec F S1x16x4096 .f32) (f) : arg5.view.read (Elt F) (arg5.view.writes (Elt F) f (kernelRun0_A c i arg2 harg2 arg3 harg3 arg4 harg4 arg5 harg5 arg6 harg6 arg7 harg7 arg8 harg8 hc0 hc1 hc2 x0 x1 x2).1) = k0_pay5 x0 (wst x1 x2) := by
  rw [View.read_writes_eq_canon _ _ _ (coverA_3 c i arg2 harg2 arg3 harg3 arg4 harg4 arg5 harg5 arg6 harg6 arg7 harg7 arg8 harg8 hc0 hc1 hc2 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay5 (View.ld_unit_zero (by decide) _ x0) ?_
  refine (View.readCov_eq_canon_ld _ (wpieces x1 x2) _ (wpieces_cover x1 x2)).trans ?_
  exact View.ld_unit_zero (by decide) _ _

theorem coverA_4 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S512x4096 .bf16) (x1 : Vec F S1x512x4096 .f32) (x2 : Vec F S1x16x4096 .f32) (y : S512x512.Idx) : ∃ pc ∈ (kernelRun0_A c i arg2 harg2 arg3 harg3 arg4 harg4 arg5 harg5 arg6 harg6 arg7 harg7 arg8 harg8 hc0 hc1 hc2 x0 x1 x2).2.1, y ∈ pc.1.set :=
  View.cover_of_tiledL (kernelRun0_A c i arg2 harg2 arg3 harg3 arg4 harg4 arg5 harg5 arg6 harg6 arg7 harg7 arg8 harg8 hc0 hc1 hc2 x0 x1 x2).2.1 S512x512.size (by sl_kernel_rfl) y

/-- What this leaves in the window's buffer. -/
theorem leftA_4 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S512x4096 .bf16) (x1 : Vec F S1x512x4096 .f32) (x2 : Vec F S1x16x4096 .f32) (f) : arg6.view.read (Elt F) (arg6.view.writes (Elt F) f (kernelRun0_A c i arg2 harg2 arg3 harg3 arg4 harg4 arg5 harg5 arg6 harg6 arg7 harg7 arg8 harg8 hc0 hc1 hc2 x0 x1 x2).2.1) = k0_pay4 x0 (wst x1 x2) := by
  rw [View.read_writes_eq_canon _ _ _ (coverA_4 c i arg2 harg2 arg3 harg3 arg4 harg4 arg5 harg5 arg6 harg6 arg7 harg7 arg8 harg8 hc0 hc1 hc2 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay4 (View.ld_unit_zero (by decide) _ x0) ?_
  refine (View.readCov_eq_canon_ld _ (wpieces x1 x2) _ (wpieces_cover x1 x2)).trans ?_
  exact View.ld_unit_zero (by decide) _ _

theorem piecesA_s (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S512x4096 .bf16) (x1 : Vec F S1x512x4096 .f32) (x2 : Vec F S1x16x4096 .f32) : (kernelRun0_A c i arg2 harg2 arg3 harg3 arg4 harg4 arg5 harg5 arg6 harg6 arg7 harg7 arg8 harg8 hc0 hc1 hc2 x0 x1 x2).2.2.1 = wpieces x1 x2 := by
  unfold kernelRun0_A; dsimp only; sl_unfold_words
  simp only [View.readAt_eq_ld, harg3.read_unread, harg4.read_unread]
  rfl

/-- What this leaves in the scratch. -/
theorem leftA_s (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : cond0_0 i) (hc1 : k0_cond2 i = 1#1) (hc2 : ¬k0_cond3 i = 1#1) (x0 : Vec F S512x4096 .bf16) (x1 : Vec F S1x512x4096 .f32) (x2 : Vec F S1x16x4096 .f32) (f) : arg8.view.read (Elt F) (arg8.view.writes (Elt F) f (kernelRun0_A c i arg2 harg2 arg3 harg3 arg4 harg4 arg5 harg5 arg6 harg6 arg7 harg7 arg8 harg8 hc0 hc1 hc2 x0 x1 x2).2.2.1) = wst x1 x2 := by
  rw [piecesA_s, View.read_writes_eq_canon _ _ _ (wpieces_cover x1 x2)]; rfl

theorem coverB_3 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S512x4096 .bf16) (xs0 : Vec F S512x4096 .bf16) (y : S1x512x512.Idx) : ∃ pc ∈ (kernelRun0_B c i arg2 harg2 arg3 harg3 arg4 harg4 arg5 harg5 arg6 harg6 arg7 harg7 arg8 harg8 hc0 hc1 hc2 x0 xs0).1, y ∈ pc.1.set :=
  View.cover_of_tiledL (kernelRun0_B c i arg2 harg2 arg3 harg3 arg4 harg4 arg5 harg5 arg6 harg6 arg7 harg7 arg8 harg8 hc0 hc1 hc2 x0 xs0).1 S1x512x512.size (by sl_kernel_rfl) y

/-- What this leaves in the window's buffer. -/
theorem leftB_3 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S512x4096 .bf16) (xs0 : Vec F S512x4096 .bf16) (f) : arg5.view.read (Elt F) (arg5.view.writes (Elt F) f (kernelRun0_B c i arg2 harg2 arg3 harg3 arg4 harg4 arg5 harg5 arg6 harg6 arg7 harg7 arg8 harg8 hc0 hc1 hc2 x0 xs0).1) = k0_pay5 x0 xs0 := by
  rw [View.read_writes_eq_canon _ _ _ (coverB_3 c i arg2 harg2 arg3 harg3 arg4 harg4 arg5 harg5 arg6 harg6 arg7 harg7 arg8 harg8 hc0 hc1 hc2 x0 xs0)]
  unfold kernelRun0_B; dsimp only; sl_unfold_words
  simp only [View.readAt_eq_ld, harg2.read_unread, harg8.read_unread]
  refine (View.canon_unit_zero (by decide) _ _).trans ?_
  refine congrArg₂ k0_pay5 (View.ld_unit_zero (by decide) _ x0) ?_
  exact View.ld_unit_zero (by decide) _ xs0

theorem coverB_4 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S512x4096 .bf16) (xs0 : Vec F S512x4096 .bf16) (y : S512x512.Idx) : ∃ pc ∈ (kernelRun0_B c i arg2 harg2 arg3 harg3 arg4 harg4 arg5 harg5 arg6 harg6 arg7 harg7 arg8 harg8 hc0 hc1 hc2 x0 xs0).2.1, y ∈ pc.1.set :=
  View.cover_of_tiledL (kernelRun0_B c i arg2 harg2 arg3 harg3 arg4 harg4 arg5 harg5 arg6 harg6 arg7 harg7 arg8 harg8 hc0 hc1 hc2 x0 xs0).2.1 S512x512.size (by sl_kernel_rfl) y

/-- What this leaves in the window's buffer. -/
theorem leftB_4 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : k0_cond2 i = 1#1) (hc2 : ¬k0_cond3 i = 1#1) (x0 : Vec F S512x4096 .bf16) (xs0 : Vec F S512x4096 .bf16) (f) : arg6.view.read (Elt F) (arg6.view.writes (Elt F) f (kernelRun0_B c i arg2 harg2 arg3 harg3 arg4 harg4 arg5 harg5 arg6 harg6 arg7 harg7 arg8 harg8 hc0 hc1 hc2 x0 xs0).2.1) = k0_pay4 x0 xs0 := by
  rw [View.read_writes_eq_canon _ _ _ (coverB_4 c i arg2 harg2 arg3 harg3 arg4 harg4 arg5 harg5 arg6 harg6 arg7 harg7 arg8 harg8 hc0 hc1 hc2 x0 xs0)]
  unfold kernelRun0_B; dsimp only; sl_unfold_words
  simp only [View.readAt_eq_ld, harg2.read_unread, harg8.read_unread]
  refine (View.canon_unit_zero (by decide) _ _).trans ?_
  refine congrArg₂ k0_pay4 (View.ld_unit_zero (by decide) _ x0) ?_
  exact View.ld_unit_zero (by decide) _ xs0

theorem coverC_3 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S512x4096 .bf16) (xs0 : Vec F S512x4096 .bf16) (y : S1x512x512.Idx) : ∃ pc ∈ (kernelRun0_C c i arg2 harg2 arg3 harg3 arg4 harg4 arg5 harg5 arg6 harg6 arg7 harg7 arg8 harg8 hc0 hc1 hc2 x0 xs0).1, y ∈ pc.1.set :=
  View.cover_of_tiledL (kernelRun0_C c i arg2 harg2 arg3 harg3 arg4 harg4 arg5 harg5 arg6 harg6 arg7 harg7 arg8 harg8 hc0 hc1 hc2 x0 xs0).1 S1x512x512.size (by sl_kernel_rfl) y

/-- What this leaves in the window's buffer. -/
theorem leftC_3 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S512x4096 .bf16) (xs0 : Vec F S512x4096 .bf16) (f) : arg5.view.read (Elt F) (arg5.view.writes (Elt F) f (kernelRun0_C c i arg2 harg2 arg3 harg3 arg4 harg4 arg5 harg5 arg6 harg6 arg7 harg7 arg8 harg8 hc0 hc1 hc2 x0 xs0).1) = k0_pay5 x0 xs0 := by
  rw [View.read_writes_eq_canon _ _ _ (coverC_3 c i arg2 harg2 arg3 harg3 arg4 harg4 arg5 harg5 arg6 harg6 arg7 harg7 arg8 harg8 hc0 hc1 hc2 x0 xs0)]
  unfold kernelRun0_C; dsimp only; sl_unfold_words
  simp only [View.readAt_eq_ld, harg2.read_unread, harg8.read_unread]
  refine (View.canon_unit_zero (by decide) _ _).trans ?_
  refine congrArg₂ k0_pay5 (View.ld_unit_zero (by decide) _ x0) ?_
  exact View.ld_unit_zero (by decide) _ xs0

theorem coverC_5 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S512x4096 .bf16) (xs0 : Vec F S512x4096 .bf16) (y : S512x512.Idx) : ∃ pc ∈ (kernelRun0_C c i arg2 harg2 arg3 harg3 arg4 harg4 arg5 harg5 arg6 harg6 arg7 harg7 arg8 harg8 hc0 hc1 hc2 x0 xs0).2.1, y ∈ pc.1.set :=
  View.cover_of_tiledL (kernelRun0_C c i arg2 harg2 arg3 harg3 arg4 harg4 arg5 harg5 arg6 harg6 arg7 harg7 arg8 harg8 hc0 hc1 hc2 x0 xs0).2.1 S512x512.size (by sl_kernel_rfl) y

/-- What this leaves in the window's buffer. -/
theorem leftC_5 (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x16x4096 .f32) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i) (hc1 : ¬k0_cond2 i = 1#1) (hc2 : k0_cond3 i = 1#1) (x0 : Vec F S512x4096 .bf16) (xs0 : Vec F S512x4096 .bf16) (f) : arg7.view.read (Elt F) (arg7.view.writes (Elt F) f (kernelRun0_C c i arg2 harg2 arg3 harg3 arg4 harg4 arg5 harg5 arg6 harg6 arg7 harg7 arg8 harg8 hc0 hc1 hc2 x0 xs0).2.1) = k0_pay4 x0 xs0 := by
  rw [View.read_writes_eq_canon _ _ _ (coverC_5 c i arg2 harg2 arg3 harg3 arg4 harg4 arg5 harg5 arg6 harg6 arg7 harg7 arg8 harg8 hc0 hc1 hc2 x0 xs0)]
  unfold kernelRun0_C; dsimp only; sl_unfold_words
  simp only [View.readAt_eq_ld, harg2.read_unread, harg8.read_unread]
  refine (View.canon_unit_zero (by decide) _ _).trans ?_
  refine congrArg₂ k0_pay4 (View.ld_unit_zero (by decide) _ x0) ?_
  exact View.ld_unit_zero (by decide) _ xs0

/-! ## What the scratch and the prompts' window hold after each point -/

/-- The weight block the scratch holds after the point `n`: made at the first row tile of its column tile. -/
def wbAt (c : Dev nD) : (n : ℕ) → n < cfg0.N → Vec F S512x4096 .bf16
  | 0, hn => wst (X0_1 m c ⟨0, hn⟩) (iblk m c 2 ⟨0, hn⟩)
  | n + 1, hn => if (n + 1) % 34 = 0 then wst (X0_1 m c ⟨n + 1, hn⟩) (iblk m c 2 ⟨n + 1, hn⟩) else wbAt c n (Nat.lt_of_succ_lt hn)

theorem wbAt_first (c : Dev nD) (t : Fin cfg0.N) (h : t.val % 34 = 0) : wbAt m c t.val t.isLt = wst (X0_1 m c t) (iblk m c 2 t) := by
  obtain ⟨n, hn⟩ := t
  cases n with
  | zero => rfl
  | succ n => exact if_pos h

theorem wbAt_next (c : Dev nD) (t : Fin cfg0.N) (h : ¬t.val % 34 = 0) :
    wbAt m c t.val t.isLt = wbAt m c (t.val - 1) (Nat.lt_of_le_of_lt (Nat.sub_le _ _) t.isLt) := by
  obtain ⟨n, hn⟩ := t
  cases n with
  | zero => exact absurd (Nat.zero_mod _) h
  | succ n => exact if_neg h

/-- The product made at a point. -/
def accAt (c : Dev nD) (n : ℕ) (hn : n < cfg0.N) : Vec F S512x512 .f32 := k0_pay4 (iblk m c 0 ⟨n, hn⟩) (wbAt m c n hn)

/-- What the prompts' window holds after the point `n`: the product of the last row tile of the prompts so far. -/
def w4At (c : Dev nD) : (n : ℕ) → n < cfg0.N → Vec F S512x512 .f32
  | 0, hn => accAt m c 0 hn
  | n + 1, hn => if (n + 1) % 34 < 32 then accAt m c (n + 1) hn else w4At c n (Nat.lt_of_succ_lt hn)

theorem w4At_live (c : Dev nD) (t : Fin cfg0.N) (h : t.val % 34 < 32) : w4At m c t.val t.isLt = accAt m c t.val t.isLt := by
  obtain ⟨n, hn⟩ := t
  cases n with
  | zero => rfl
  | succ n => exact if_pos h

theorem w4At_idle (c : Dev nD) (t : Fin cfg0.N) (h : ¬t.val % 34 < 32) :
    w4At m c t.val t.isLt = w4At m c (t.val - 1) (Nat.lt_of_le_of_lt (Nat.sub_le _ _) t.isLt) := by
  obtain ⟨n, hn⟩ := t
  cases n with
  | zero => exact absurd (by show 0 % 34 < 32; decide) h
  | succ n => exact if_neg h

/-- The invariant before the point `n`: the scratch at what the point before left in it. -/
def PhiS (c : Dev nD) : (n : ℕ) → n ≤ cfg0.N → sProp 𝕄
  | 0, _ => Pipeline.ΦA spec0 c
  | n + 1, hn => iprop(iprop(owns (c : Thread nD τ) scM0_0 fullShare (wbAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (wbAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (wbAt m c (n - 1) (by omega))) ∗ (∃ r, prngReg c r)) := by
  cases n with
  | zero => exact absurd rfl hz
  | succ n => rfl

/-- The data of the pipeline: after each point the inputs' windows at their blocks and the outputs' at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => k0_pay5 (iblk m c 0 t) (wbAt m c t.val t.isLt)
    | ⟨4, _⟩ => w4At m c t.val t.isLt
    | ⟨5, _⟩ => accAt m c t.val t.isLt
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay5 (iblk m c 0 t) (wbAt m c t.val t.isLt) := by dsimp only [dats]
theorem after0_4 (c : Dev nD) (t : Fin cfg0.N) : (dats m 0 c).after 4 t = w4At m c t.val t.isLt := by dsimp only [dats]
theorem after0_5 (c : Dev nD) (t : Fin cfg0.N) : (dats m 0 c).after 5 t = accAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a row tile of the samples the body finds the prompts' window as the last row tile of the prompts left it. -/
theorem before0_4 (c : Dev nD) : ∀ (n : ℕ) (hn : n < cfg0.N) (d), ¬n % 34 < 32 →
    (dats m 0 c).before 4 ⟨n, hn⟩ d = w4At m c n hn
  | 0, _, _, h => absurd (by show 0 % 34 < 32; decide) h
  | n + 1, hn, d, h => by
    have e := w4At_idle m c ⟨n + 1, hn⟩ h
    rw [show (dats m 0 c).before 4 ⟨n + 1, hn⟩ d = (dats m 0 c).left 4 ⟨n, Nat.lt_of_succ_lt hn⟩ d from by
      rw [Dat.before_of_pos _ _ _ (Nat.succ_ne_zero n) (fetch4 _)]
      rw [if_neg (by rw [show (cfg0.win 4).flush ⟨(⟨n + 1, hn⟩ : Fin cfg0.N).val - 1, _⟩ = false from keep4 ⟨n, Nat.lt_of_succ_lt hn⟩ (by show 31 ≤ n % 34; omega) (by show n % 34 < 33; omega)]; decide)]
      rfl]
    refine Eq.trans ?_ e.symm
    unfold Dat.left
    by_cases h' : n % 34 < 32
    · rw [live4 ⟨n, Nat.lt_of_succ_lt hn⟩ h']
      show (dats m 0 c).kept 4 _ d = _
      unfold Dat.kept
      rw [Pipeline.fill_of_clip_none 4 _ (fun _ => rfl) d ((dats m 0 c).after 4 _), Pipeline.Window.fill_cut]
      exact after0_4 m c _
    · rw [idle4 ⟨n, Nat.lt_of_succ_lt hn⟩ h']
      exact before0_4 c n (Nat.lt_of_succ_lt hn) d h'

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0_0 t) fullShare (iblk m c 0 t) := by
  rw [← after0_0]
theorem leaves1 (c : Dev nD) (t : Fin cfg0.N) : (dats m 0 c).leavesExact 1 t = owns (c : Thread nD τ) (ms0_1 t) fullShare (X0_1 m c t) := by
  rw [← after0_1]
theorem leaves2 (c : Dev nD) (t : Fin cfg0.N) : (dats m 0 c).leavesExact 2 t = owns (c : Thread nD τ) (ms0_2 t) fullShare (iblk m c 2 t) := by
  rw [← after0_2]
theorem leaves3 (c : Dev nD) (t : Fin cfg0.N) : (dats m 0 c).leavesExact 3 t = owns (c : Thread nD τ) (ms0_3 t) fullShare (k0_pay5 (iblk m c 0 t) (wbAt m c t.val t.isLt)) := by
  rw [← after0_3]
theorem leaves4 (c : Dev nD) (t : Fin cfg0.N) (h : t.val % 34 < 32) :
    (dats m 0 c).leavesExact 4 t = owns (c : Thread nD τ) (ms0_4 t) fullShare (accAt m c t.val t.isLt) := by
  rw [← w4At_live m c t h, ← after0_4]
  unfold Dat.leavesExact; rw [live4 t h]
theorem leaves5 (c : Dev nD) (t : Fin cfg0.N) (h : ¬t.val % 34 < 32) :
    (dats m 0 c).leavesExact 5 t = owns (c : Thread nD τ) (ms0_5 t) fullShare (accAt m c t.val t.isLt) := by
  rw [← after0_5]
  unfold Dat.leavesExact; rw [live5 t h]
/-- The samples' window at a row tile of the prompts: handed back as it was. -/
theorem leaves5_idle (c : Dev nD) (t : Fin cfg0.N) (h : t.val % 34 < 32) :
    iprop(∃ d, owns (c : Thread nD τ) (ms0_5 t) fullShare ((dats m 0 c).before 5 t d)) ⊢ ((dats m 0 c).leavesExact 5 t : sProp 𝕄) := by
  rw [Dat.leavesExact_idle _ _ _ (idle5 t h) (keep5 t h)]
/-- The prompts' window at a row tile of the samples: handed back as it was, with the last block of the prompts. -/
theorem leaves4_idle (c : Dev nD) (t : Fin cfg0.N) (h : ¬t.val % 34 < 32) :
    iprop(∃ d, owns (c : Thread nD τ) (ms0_4 t) fullShare ((dats m 0 c).before 4 t d)) ⊢ ((dats m 0 c).leavesExact 4 t : sProp 𝕄) := by
  by_cases hf : (cfg0.win 4).flush t = true
  · rw [show (dats m 0 c).leavesExact 4 t = owns (c : Thread nD τ) (ms0_4 t) fullShare (w4At m c t.val t.isLt) from by
      rw [← after0_4]; unfold Dat.leavesExact; rw [idle4 t h, hf]]
    iintro ⟨%d, H⟩
    rw [show (dats m 0 c).before 4 t d = w4At m c t.val t.isLt from before0_4 m c t.val t.isLt d h]
    iexact H
  · rw [Dat.leavesExact_idle _ _ _ (idle4 t h) (Bool.eq_false_iff.mpr hf)]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 136 := lt_of_lt_of_eq t.isLt (show cfg0.N = 136 from N_0)
  by_cases h0 : t.val % 34 = 0
  · have h1 : t.val % 34 < 32 := by omega
    rw [leaves4 m c t h1]
    unfold accAt
    rw [wbAt_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) ((hcond0_1 t).mpr h1) (fun h => (hcond0_2 t).mp h h1) (iblk m c 0 t) (X0_1 m c t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact leftA_s c _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftA_3 c _ _ _ _ _ _ _ _ _ _ _ _ _ _ _ _ _ _ _ _ _ _
      isplitl [H4]
      · unfold owns; iexists _; isplitr
        swap; · iexact H4
        ipureintro; exact leftA_4 c _ _ _ _ _ _ _ _ _ _ _ _ _ _ _ _ _ _ _ _ _ _
      iapply (leaves5_idle m c t h1); iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) ((hcond0_1 t).mpr h1) (fun h => (hcond0_2 t).mp h h1) (iblk m c 0 t) (X0_1 m c t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact leftA_s c _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftA_3 c _ _ _ _ _ _ _ _ _ _ _ _ _ _ _ _ _ _ _ _ _ _
      isplitl [H4]
      · unfold owns; iexists _; isplitr
        swap; · iexact H4
        ipureintro; exact leftA_4 c _ _ _ _ _ _ _ _ _ _ _ _ _ _ _ _ _ _ _ _ _ _
      iapply (leaves5_idle m c t h1); iexact H5
  · have hz : t.val ≠ 0 := fun e => h0 (by rw [e])
    rw [PhiS_castSucc m c t, PhiS_pos m c _ _ hz]
    rw [wbAt_next m c t h0]
    by_cases h1 : t.val % 34 < 32
    · rw [leaves4 m c t h1]
      unfold accAt
      rw [wbAt_next m c t h0]
      iintro ⟨⟨HS0, Hg⟩, Ho, ⟨%d0, H0⟩, ⟨%d1, H1⟩, ⟨%d2, H2⟩, ⟨%d3, H3⟩, ⟨%d4, H4⟩, H5⟩
      iapply ((kernelRun0_B c (grid0.coords t) _ _ _ _ _ _ _ _ _ _ _ _ _ _ (fun h => h0 ((hcond0_0 t).mp h)) ((hcond0_1 t).mpr h1) (fun h => (hcond0_2 t).mp h h1) (iblk m c 0 t) _).2.2 Set.univ _)
      isplitl [H0]; · iexact H0
      isplitl [HS0]; · iexact HS0
      isplitl [H3]; · iexists _; iexact H3
      isplitl [H4]; · iexists _; iexact H4
      iintro ⟨H0, HS0, ⟨%e3, H3⟩, ⟨%e4, H4⟩⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftB_3 c _ _ _ _ _ _ _ _ _ _ _ _ _ _ _ _ _ _ _ _ _
      isplitl [H4]
      · unfold owns; iexists _; isplitr
        swap; · iexact H4
        ipureintro; exact leftB_4 c _ _ _ _ _ _ _ _ _ _ _ _ _ _ _ _ _ _ _ _ _
      iapply (leaves5_idle m c t h1); iexact H5
    · rw [leaves5 m c t h1]
      unfold accAt
      rw [wbAt_next m c t h0]
      iintro ⟨⟨HS0, Hg⟩, Ho, ⟨%d0, H0⟩, ⟨%d1, H1⟩, ⟨%d2, H2⟩, ⟨%d3, H3⟩, H4, ⟨%d5, H5⟩⟩
      iapply ((kernelRun0_C c (grid0.coords t) _ _ _ _ _ _ _ _ _ _ _ _ _ _ (fun h => h0 ((hcond0_0 t).mp h)) (fun h => h1 ((hcond0_1 t).mp h)) ((hcond0_2 t).mpr h1) (iblk m c 0 t) _).2.2 Set.univ _)
      isplitl [H0]; · iexact H0
      isplitl [HS0]; · iexact HS0
      isplitl [H3]; · iexists _; iexact H3
      isplitl [H5]; · iexists _; iexact H5
      iintro ⟨H0, HS0, ⟨%e3, H3⟩, ⟨%e5, H5⟩⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact leftC_3 c _ _ _ _ _ _ _ _ _ _ _ _ _ _ _ _ _ _ _ _ _
      isplitl [H4]
      · iapply (leaves4_idle m c t h1); iexact H4
      unfold owns; iexists _; isplitr
      swap; · iexact H5
      ipureintro; exact leftC_5 c _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 136 := N_0; omega), PhiA0_eq]
  iintro ⟨HS0, Hg⟩
  isplitl [HS0]
  · iexists _; iexact HS0
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The program runs to an end with the arguments unchanged and no semaphore left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The run with the arrays it leaves. -/
theorem run_arrays : θ_run defs (onTc (τ := τ) (main (F := F))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_v1_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (frame m ρ) ((θ_run defs _ _).mono (fun _ h => h.1) (run_main_quiescent m ρ)))
  exact ⟨(h.2 c).1 3, (h.2 c).1 4, (h.2 c).1 5, h.1.1 c⟩

end Cert.ProjAvIdeal.Run
end
-- ==== Proof.ProjAv.lean ====
module
public import proofs.«01_k».proof.Proof.ProjAvRun
public import proofs.«01_k».proof.Proof.Gen.ProjAvRefIdeal.Read
public import proofs.«01_k».proof.Proof.Common
public import proofs.«01_k».proof.Defs
/-! The arrays the projection's program leaves are the reference's. -/
@[expose] public section
set_option maxRecDepth 16384
noncomputable section
namespace Cert.ProjAvIdeal.Hand
open Cert.ProjAvIdeal Cert.ProjAvIdeal.Gen Cert.ProjAvIdeal.Run Idealize.ShloMosaic Idealize.ShloMosaic.TcCoe Idealize.SL.Sem

/-- The block of weight rows the first row tile of a column tile stores: rows 16 and on of the one window, then the
    first rows of the other. -/
def wblk (x1 : Vec Ideal S1x512x4096 .f32) (x2 : Vec Ideal S1x16x4096 .f32) : Vec Ideal S512x4096 .bf16 := fun y =>
  if h : (y 0).val + 16 < 512 then x1 (ValueIdx.ix3 0 ⟨(y 0).val + 16, h⟩ (y 1))
  else x2 (ValueIdx.ix3 0 ⟨(y 0).val + 16 - 512, by have h0 : (y 0).val < 512 := (y 0).isLt; omega⟩ (y 1))

theorem wblk_in (x1 : Vec Ideal S1x512x4096 .f32) (x2 : Vec Ideal S1x16x4096 .f32) (y : S512x4096.Idx) (h : (y 0).val + 16 < 512) :
    wblk x1 x2 y = x1 (ValueIdx.ix3 0 ⟨(y 0).val + 16, h⟩ (y 1)) := dif_pos h

theorem wblk_past (x1 : Vec Ideal S1x512x4096 .f32) (x2 : Vec Ideal S1x16x4096 .f32) (y : S512x4096.Idx) (h : ¬(y 0).val + 16 < 512) :
    wblk x1 x2 y = x2 (ValueIdx.ix3 0 ⟨(y 0).val + 16 - 512, by have h0 : (y 0).val < 512 := (y 0).isLt; omega⟩ (y 1)) := dif_neg h

/-! The stores of the slabs, read at one place. -/

theorem k0_pay1_apply (v : Vec Ideal S1x256x4096 .f32) (x : S256x4096.Idx) :
    k0_pay1 v x = v (ValueIdx.ix3 0 (x 0) (x 1)) := by
  unfold k0_pay1
  exact Cert.Common.slab_apply (n := 256) (k := 4096) v _ _ _ x

theorem k0_pay2_apply (v : Vec Ideal S1x240x4096 .f32) (x : S240x4096.Idx) :
    k0_pay2 v x = v (ValueIdx.ix3 0 (x 0) (x 1)) := by
  unfold k0_pay2
  exact Cert.Common.slab_apply (n := 240) (k := 4096) v _ _ _ x

theorem k0_pay3_apply (v : Vec Ideal S1x16x4096 .f32) (x : S16x4096.Idx) :
    k0_pay3 v x = v (ValueIdx.ix3 0 (x 0) (x 1)) := by
  unfold k0_pay3
  exact Cert.Common.slab_apply (n := 16) (k := 4096) v _ _ _ x

/-- Together the stores leave the weight block. -/
theorem wst_eq (x1 : Vec Ideal S1x512x4096 .f32) (x2 : Vec Ideal S1x16x4096 .f32) : wst x1 x2 = wblk x1 x2 := by
  unfold wst
  funext y
  refine View.canon_apply_of_pieces (wblk x1 x2) _ ?_ y (wpieces_cover x1 x2 y)
  intro p hp x
  simp only [wpieces, List.mem_cons, List.not_mem_nil, or_false] at hp
  rcases hp with rfl | rfl | rfl
  · dsimp only [] at x ⊢
    refine (k0_pay3_apply _ x).trans ?_
    have hx0 : (x 0).val < 16 := (x 0).isLt
    have e0 : (((Rect.unit (s := S512x4096) ![496, 0] S16x4096.size inb_S512x4096_S16x4096_496_0).emb x) 0).val = 496 + 1 * (x 0).val := rfl
    have e1 : (((Rect.unit (s := S512x4096) ![496, 0] S16x4096.size inb_S512x4096_S16x4096_496_0).emb x) 1).val = 0 + 1 * (x 1).val := rfl
    refine (View.ld_unit_apply_of _ _ _ _ _ _ ?_).trans (wblk_past x1 x2 _ (by rw [e0]; omega)).symm
    intro a
    match a with
    | ⟨0, _⟩ => rfl
    | ⟨1, _⟩ => show _ = 0 + (x 0).val; dsimp only [ValueIdx.ix3]; rw [e0]; omega
    | ⟨2, _⟩ => show _ = 0 + (x 1).val; dsimp only [ValueIdx.ix3]; rw [e1]; omega
  · dsimp only [] at x ⊢
    refine (k0_pay2_apply _ x).trans ?_
    have hx0 : (x 0).val < 240 := (x 0).isLt
    have e0 : (((Rect.unit (s := S512x4096) ![256, 0] S240x4096.size inb_S512x4096_S240x4096_256_0).emb x) 0).val = 256 + 1 * (x 0).val := rfl
    have e1 : (((Rect.unit (s := S512x4096) ![256, 0] S240x4096.size inb_S512x4096_S240x4096_256_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 272 + (x 0).val; dsimp only [ValueIdx.ix3]; rw [e0]; omega
    | ⟨2, _⟩ => show _ = 0 + (x 1).val; dsimp only [ValueIdx.ix3]; rw [e1]; omega
  · dsimp only [] at x ⊢
    refine (k0_pay1_apply _ x).trans ?_
    have hx0 : (x 0).val < 256 := (x 0).isLt
    have e0 : (((Rect.unit (s := S512x4096) ![0, 0] S256x4096.size inb_S512x4096_S256x4096_0_0).emb x) 0).val = 0 + 1 * (x 0).val := rfl
    have e1 : (((Rect.unit (s := S512x4096) ![0, 0] S256x4096.size inb_S512x4096_S256x4096_0_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 16 + (x 0).val; dsimp only [ValueIdx.ix3]; rw [e0]; omega
    | ⟨2, _⟩ => show _ = 0 + (x 1).val; dsimp only [ValueIdx.ix3]; rw [e1]; omega

/-- The product read at one place. -/
theorem k0_pay4_apply (v : Vec Ideal S512x4096 .bf16) (w : Vec Ideal S512x4096 .bf16) (y : S512x512.Idx) :
    k0_pay4 v w y = ∑ k : Fin 4096, v (ValueIdx.ix2 (y 0) k) * w (ValueIdx.ix2 (y 1) k) := by
  unfold k0_pay4
  exact Cert.Common.dotT_apply (φ₁ := .bf16) (φ₂ := .bf16) (M := 512) (K := 4096) (N := 512) v w y

/-- The transposed product read at one place. -/
theorem k0_pay5_apply (v : Vec Ideal S512x4096 .bf16) (w : Vec Ideal S512x4096 .bf16) (y : S1x512x512.Idx) :
    k0_pay5 v w y = k0_pay4 v w (ValueIdx.ix2 (y 2) (y 1)) := by
  unfold k0_pay5
  have h0 : (y 0).val < 1 := (y 0).isLt
  refine (shapeCast_apply _ _ y (ValueIdx.ix2 (y 1) (y 2)) ?_).trans ?_
  · rw [Shape.rowMajor_val_three, Shape.rowMajor_val_two]
    show (y 1).val * 512 + (y 2).val = ((y 0).val * 512 + (y 1).val) * 512 + (y 2).val
    omega
  · refine transpose_apply _ (k0_pay4 v w) _ _ _ ?_
    intro b
    match b with
    | ⟨0, _⟩ => rfl
    | ⟨1, _⟩ => rfl

/-! ## What the windows hold -/

variable (m : (ℓ : Loc nD τ sig) → Buf (Elt Ideal) ℓ)

/-- The weights as the kernel finds them: transposed. -/
theorem V_v0 (c : Dev nD) : V m c main_v0 = transpose S1x20496x4096 [0, 2, 1] (m ((c : Thread nD τ).loc main_arg1)) transposes_S1x4096x20496_S1x20496x4096_0_2_1 := by
  show StableHlo.after hostOps0 _ (Proc.devRef .tc main_v0) = _
  after_results <;> rfl

theorem V_v0_apply (c : Dev nD) (j : S1x20496x4096.Idx) : V m c main_v0 j = m ((c : Thread nD τ).loc main_arg1) (ValueIdx.ix3 0 (j 2) (j 1)) := by
  rw [V_v0]
  refine transpose_apply _ _ _ j _ ?_
  intro b
  match b with
  | ⟨0, _⟩ => have h : (j 0).val < 1 := (j 0).isLt; show 0 = (j 0).val; omega
  | ⟨1, _⟩ => rfl
  | ⟨2, _⟩ => rfl

theorem facts0 : ∀ t : Fin cfg0.N, win0_0.index t (0 : Fin 2) = t.val % 34 ∧ win0_0.index t (1 : Fin 2) = 0 :=
  (by decide +kernel : ∀ t : Fin grid0.N, _)
theorem facts1 : ∀ t : Fin cfg0.N, win0_1.index t (0 : Fin 3) = 0 ∧ win0_1.index t (1 : Fin 3) = 20 + t.val / 34 ∧ win0_1.index t (2 : Fin 3) = 0 :=
  (by decide +kernel : ∀ t : Fin grid0.N, _)
theorem facts2 : ∀ t : Fin cfg0.N, win0_2.index t (0 : Fin 3) = 0 ∧ win0_2.index t (1 : Fin 3) = 672 + 32 * (t.val / 34) ∧ win0_2.index t (2 : Fin 3) = 0 :=
  (by decide +kernel : ∀ t : Fin grid0.N, _)

/-- Window 0 at a point: its row tile. -/
theorem rows_apply (c : Dev nD) (t : Fin cfg0.N) (y : S512x4096.Idx) :
    (iblk m c 0 t : Vec Ideal S512x4096 .bf16) y = m ((c : Thread nD τ).loc main_arg0)
      (ValueIdx.ix2 ⟨512 * (t.val % 34) + (y 0).val, by have h0 : (y 0).val < 512 := (y 0).isLt; omega⟩ (y 1)) := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 512 + 1 * (y 0).val = 512 * (t.val % 34) + (y 0).val; rw [e0]; omega
  | ⟨1, _⟩ => show win0_0.index t (1 : Fin 2) * 4096 + 1 * (y 1).val = (y 1).val; rw [e1]; omega

/-- Window 1 at a point: the rows of the transposed weights its column tile begins in. -/
theorem wrows_apply (c : Dev nD) (t : Fin cfg0.N) (y : S1x512x4096.Idx) (b : Fin 20496) (hb : b.val = 10240 + 512 * (t.val / 34) + (y 1).val) :
    (X0_1 m c t : Vec Ideal S1x512x4096 .f32) y = m ((c : Thread nD τ).loc main_arg1) (ValueIdx.ix3 0 (y 2) b) := by
  obtain ⟨e0, e1, e2⟩ := facts1 t
  unfold X0_1 Pipeline.Window.fill
  rw [dif_pos (moved0_1 t y)]
  show V m c main_v0 (((cfg0.win 1).blk t).view.emb _) = _
  rw [V_v0_apply]
  refine congrArg _ (funext fun a => Fin.ext ?_)
  match a with
  | ⟨0, _⟩ => rfl
  | ⟨1, _⟩ => show win0_1.index t (2 : Fin 3) * 4096 + 1 * (y 2).val = (y 2).val; rw [e2]; omega
  | ⟨2, _⟩ => show win0_1.index t (1 : Fin 3) * 512 + 1 * (y 1).val = b.val; rw [e1, hb]; omega

/-- Window 2 at a point: the rows of the transposed weights its column tile ends in. -/
theorem wtail_apply (c : Dev nD) (t : Fin cfg0.N) (y : S1x16x4096.Idx) (b : Fin 20496) (hb : b.val = 10752 + 512 * (t.val / 34) + (y 1).val) :
    (iblk m c 2 t : Vec Ideal S1x16x4096 .f32) y = m ((c : Thread nD τ).loc main_arg1) (ValueIdx.ix3 0 (y 2) b) := by
  obtain ⟨e0, e1, e2⟩ := facts2 t
  show V m c main_v0 (((cfg0.win 2).blk t).view.emb y) = _
  rw [V_v0_apply]
  refine congrArg _ (funext fun a => Fin.ext ?_)
  match a with
  | ⟨0, _⟩ => rfl
  | ⟨1, _⟩ => show win0_2.index t (2 : Fin 3) * 4096 + 1 * (y 2).val = (y 2).val; rw [e2]; omega
  | ⟨2, _⟩ => show win0_2.index t (1 : Fin 3) * 16 + 1 * (y 1).val = b.val; rw [e1, hb]; omega

/-! ## The scratch: the weights of the column tile -/

/-- The columns of the weights in column tile `j`, one to a row. -/
def wcols (W : Vec Ideal S1x4096x20496 .f32) (j : ℕ) (hj : j < 4) : Vec Ideal S512x4096 .bf16 := fun y =>
  W (ValueIdx.ix3 0 (y 1) ⟨10256 + 512 * j + (y 0).val, by have h0 : (y 0).val < 512 := (y 0).isLt; omega⟩)

theorem pt_lt (n : ℕ) (hn : n < cfg0.N) : n < 136 := lt_of_lt_of_eq hn (show cfg0.N = 136 from N_0)

theorem col_lt (n : ℕ) (hn : n < cfg0.N) : n / 34 < 4 := by
  have h := pt_lt n hn
  omega

/-- The weight block made at a point is the columns of its column tile. -/
theorem wst_cols (c : Dev nD) (t : Fin cfg0.N) :
    wst (X0_1 m c t) (iblk m c 2 t) = wcols (m ((c : Thread nD τ).loc main_arg1)) (t.val / 34) (col_lt t.val t.isLt) := by
  have hN := pt_lt t.val t.isLt
  rw [wst_eq]
  funext y
  have hy : (y 0).val < 512 := (y 0).isLt
  by_cases h : (y 0).val + 16 < 512
  · rw [wblk_in _ _ _ h]
    refine (wrows_apply m c t _ ⟨10256 + 512 * (t.val / 34) + (y 0).val, by omega⟩ ?_).trans rfl
    show 10256 + 512 * (t.val / 34) + (y 0).val = 10240 + 512 * (t.val / 34) + ((y 0).val + 16)
    omega
  · rw [wblk_past _ _ _ h]
    refine (wtail_apply m c t _ ⟨10256 + 512 * (t.val / 34) + (y 0).val, by omega⟩ ?_).trans rfl
    show 10256 + 512 * (t.val / 34) + (y 0).val = 10752 + 512 * (t.val / 34) + ((y 0).val + 16 - 512)
    omega

theorem wcols_congr (W : Vec Ideal S1x4096x20496 .f32) (j j' : ℕ) (hj : j < 4) (hj' : j' < 4) (e : j = j') : wcols W j hj = wcols W j' hj' := by
  subst e; rfl

/-- After every point the scratch holds the columns of the point's column tile. -/
theorem scratch_eq (c : Dev nD) : ∀ (n : ℕ) (hn : n < cfg0.N),
    wbAt m c n hn = wcols (m ((c : Thread nD τ).loc main_arg1)) (n / 34) (col_lt n hn)
  | 0, hn => (wbAt_first m c ⟨0, hn⟩ (Nat.zero_mod _)).trans (wst_cols m c ⟨0, hn⟩)
  | n + 1, hn => by
    by_cases h : (n + 1) % 34 = 0
    · exact (wbAt_first m c ⟨n + 1, hn⟩ h).trans (wst_cols m c ⟨n + 1, hn⟩)
    · refine (wbAt_next m c ⟨n + 1, hn⟩ h).trans ((scratch_eq c n (Nat.lt_of_succ_lt hn)).trans (wcols_congr _ _ _ _ _ ?_))
      omega

/-- The product made at a point, read at one place, is the reference's product at that place's row and column. -/
theorem acc_apply (c : Dev nD) (n : ℕ) (hn : n < cfg0.N) (y : S512x512.Idx) (z : Cert.ProjAvRefIdeal.S17408x2048.Idx)
    (h0 : (z 0).val = 512 * (n % 34) + (y 0).val) (h1 : (z 1).val = 512 * (n / 34) + (y 1).val) :
    accAt m c n hn y = Cert.ProjAvRefIdeal.Read.val_main_v3 (F := Ideal) (m ((c : Thread nD τ).loc main_arg0)) (m ((c : Thread nD τ).loc main_arg1)) z := by
  have hN := pt_lt n hn
  have hy0 : (y 0).val < 512 := (y 0).isLt
  have hy1 : (y 1).val < 512 := (y 1).isLt
  unfold accAt
  rw [scratch_eq, k0_pay4_apply, Cert.ProjAvRefIdeal.Read.val_main_v3_apply, Cert.ProjAvRefIdeal.Read.val_main_v2_apply]
  refine Finset.sum_congr rfl fun k _ => ?_
  rw [rows_apply]
  refine congrArg₂ (· * ·) ?_ ?_
  · show m _ _ = m _ _
    refine congrArg _ (funext fun a => Fin.ext ?_)
    match a with
    | ⟨0, _⟩ => exact h0.symm
    | ⟨1, _⟩ => rfl
  · rw [Cert.ProjAvRefIdeal.Read.val_main_v1_apply]
    show m _ _ = m _ _
    refine congrArg _ (funext fun a => Fin.ext ?_)
    have hk : k.val < 4096 := k.isLt
    match a with
    | ⟨0, _⟩ => rfl
    | ⟨1, _⟩ => show k.val = (k.val * 20496 + (10256 + (z 1).val)) / 20496 % 4096; exact (Cert.Common.row_of _ _ _ hk (by rw [h1]; omega)).symm
    | ⟨2, _⟩ => show 10256 + 512 * (n / 34) + (y 1).val = (k.val * 20496 + (10256 + (z 1).val)) % 20496; rw [Cert.Common.col_of _ _ _ (by rw [h1]; omega), h1]; omega

/-- What the prompts' window holds after a point: the product of the last row tile of the prompts so far. -/
theorem w4_apply (c : Dev nD) : ∀ (n : ℕ) (hn : n < cfg0.N) (y : S512x512.Idx) (z : Cert.ProjAvRefIdeal.S17408x2048.Idx),
    (z 0).val = 512 * min (n % 34) 31 + (y 0).val → (z 1).val = 512 * (n / 34) + (y 1).val →
    w4At m c n hn y = Cert.ProjAvRefIdeal.Read.val_main_v3 (F := Ideal) (m ((c : Thread nD τ).loc main_arg0)) (m ((c : Thread nD τ).loc main_arg1)) z := by
  intro n
  induction n with
  | zero => exact fun hn y z h0 h1 => acc_apply m c 0 hn y z (h0.trans rfl) h1
  | succ n ih =>
    intro hn y z h0 h1
    by_cases h : (n + 1) % 34 < 32
    · rw [show w4At m c (n + 1) hn = accAt m c (n + 1) hn from w4At_live m c ⟨n + 1, hn⟩ h]
      exact acc_apply m c (n + 1) hn y z (h0.trans (by omega)) h1
    · rw [show w4At m c (n + 1) hn = w4At m c n (Nat.lt_of_succ_lt hn) from w4At_idle m c ⟨n + 1, hn⟩ h]
      exact ih (Nat.lt_of_succ_lt hn) y z (h0.trans (by omega)) (h1.trans (by omega))

/-! ## The arrays after the run -/

theorem facts4 : ∀ t : Fin cfg0.N, win0_4.index t (0 : Fin 2) = min (t.val % 34) 31 ∧ win0_4.index t (1 : Fin 2) = t.val / 34 :=
  (by decide +kernel : ∀ t : Fin grid0.N, _)
theorem flush4 : ∀ t : Fin cfg0.N, (t.val % 34 < 31 ∨ t.val % 34 = 33) → (cfg0.win 4).flush t = true :=
  (by decide +kernel : ∀ t : Fin grid0.N, (t.val % 34 < 31 ∨ t.val % 34 = 33) → win0_4.flush t = true)
theorem flush5 : ∀ t : Fin cfg0.N, 32 ≤ t.val % 34 → (cfg0.win 5).flush t = true :=
  (by decide +kernel : ∀ t : Fin grid0.N, 32 ≤ t.val % 34 → win0_5.flush t = true)
theorem flushed5 : ∀ t : Fin cfg0.N, (cfg0.win 5).flush t = true → 32 ≤ t.val % 34 :=
  (by decide +kernel : ∀ t : Fin grid0.N, win0_5.flush t = true → 32 ≤ t.val % 34)
theorem facts5 : ∀ t : Fin cfg0.N, win0_5.index t (0 : Fin 2) = t.val % 34 - 32 ∧ win0_5.index t (1 : Fin 2) = t.val / 34 :=
  (by decide +kernel : ∀ t : Fin grid0.N, _)
theorem facts3 : ∀ t : Fin cfg0.N, win0_3.index t (0 : Fin 3) = t.val % 34 ∧ win0_3.index t (1 : Fin 3) = t.val / 34 ∧ win0_3.index t (2 : Fin 3) = 0 :=
  (by decide +kernel : ∀ t : Fin grid0.N, _)

theorem mem_block3 (t : Fin cfg0.N) (i : S34x2048x512.Idx) :
    i ∈ ((cfg0.win 3).blk t).view.set ↔ ∀ a, win0_3.index t a * win0_3.block.size a ≤ (i a).val ∧ (i a).val < win0_3.index t a * win0_3.block.size a + win0_3.block.size a := by
  show i ∈ ((win0_3.arr).view.slice (win0_3.rect t)).set ↔ _
  rw [View.set_slice_whole, Rect.mem_set_unit]

theorem covers3 (i : S34x2048x512.Idx) : ∃ t : Fin cfg0.N, (cfg0.win 3).flush t = true ∧ i ∈ ((cfg0.win 3).blk t).view.set := by
  have h0 : (i 0).val < 34 := (i 0).isLt
  have h1 : (i 1).val < 2048 := (i 1).isLt
  have h2 : (i 2).val < 512 := (i 2).isLt
  let t : Fin cfg0.N := ⟨34 * ((i 1).val / 512) + (i 0).val, lt_of_lt_of_eq (by omega) (show 136 = cfg0.N from N_0.symm)⟩
  have hv : t.val = 34 * ((i 1).val / 512) + (i 0).val := rfl
  obtain ⟨e0, e1, e2⟩ := facts3 t
  refine ⟨t, flush0_3 t, (mem_block3 t i).2 fun a => ?_⟩
  match a with
  | ⟨0, _⟩ => show win0_3.index t (0 : Fin 3) * 1 ≤ (i 0).val ∧ (i 0).val < win0_3.index t (0 : Fin 3) * 1 + 1; rw [e0, hv]; omega
  | ⟨1, _⟩ => show win0_3.index t (1 : Fin 3) * 512 ≤ (i 1).val ∧ (i 1).val < win0_3.index t (1 : Fin 3) * 512 + 512; rw [e1, hv]; omega
  | ⟨2, _⟩ => show win0_3.index t (2 : Fin 3) * 512 ≤ (i 2).val ∧ (i 2).val < win0_3.index t (2 : Fin 3) * 512 + 512; rw [e2]; omega

/-- The transposed array the kernel returns is the reference's. -/
theorem final3 (c : Dev nD) : (dats m 0 c).arrAt 3 cfg0.N = Cert.ProjAvRefIdeal.Read.val_main_v6 (F := Ideal) (m ((c : Thread nD τ).loc main_arg0)) (m ((c : Thread nD τ).loc main_arg1)) := by
  refine (dats m 0 c).arrAt_eq_of_cover 3 _ (fun t hf => ?_) covers3
  obtain ⟨e0, e1, e2⟩ := facts3 t
  show (cfg0.win 3).cut (grid0.coords t) ((dats m 0 c).after 3 t) = _
  rw [after0_3]
  funext y
  have hN := pt_lt t.val t.isLt
  have hy0 : (y 0).val < 1 := (y 0).isLt
  have hy1 : (y 1).val < 512 := (y 1).isLt
  have hy2 : (y 2).val < 512 := (y 2).isLt
  show k0_pay5 (F := Ideal) _ _ ((cfg0.win 3).xinj (grid0.coords t) y) = Cert.ProjAvRefIdeal.Read.val_main_v6 (F := Ideal) _ _ (((cfg0.win 3).blk t).view.emb y)
  rw [k0_pay5_apply]
  generalize hz : ((cfg0.win 3).blk t).view.emb y = z
  have hb0 : (z 0).val = win0_3.index t (0 : Fin 3) * 1 + 1 * (y 0).val := by subst hz; rfl
  have hb1 : (z 1).val = win0_3.index t (1 : Fin 3) * 512 + 1 * (y 1).val := by subst hz; rfl
  have hb2 : (z 2).val = win0_3.index t (2 : Fin 3) * 512 + 1 * (y 2).val := by subst hz; rfl
  rw [Cert.ProjAvRefIdeal.Read.val_main_v6_apply, Cert.ProjAvRefIdeal.Read.val_main_v5_apply]
  refine acc_apply m c t.val t.isLt _ _ ?_ ?_
  · show (((z 0).val * 512 + (z 2).val) * 2048 + (z 1).val) / 2048 = 512 * (t.val % 34) + (y 2).val
    rw [hb0, hb1, hb2, e0, e1, e2]; omega
  · show (((z 0).val * 512 + (z 2).val) * 2048 + (z 1).val) % 2048 = 512 * (t.val / 34) + (y 1).val
    rw [hb0, hb1, hb2, e0, e1, e2]; omega

theorem mem_block4 (t : Fin cfg0.N) (i : S16384x2048.Idx) :
    i ∈ ((cfg0.win 4).blk t).view.set ↔ ∀ a, win0_4.index t a * win0_4.block.size a ≤ (i a).val ∧ (i a).val < win0_4.index t a * win0_4.block.size a + win0_4.block.size a := by
  show i ∈ ((win0_4.arr).view.slice (win0_4.rect t)).set ↔ _
  rw [View.set_slice_whole, Rect.mem_set_unit]

theorem covers4 (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  have hr : ∃ r, r < 34 ∧ (r < 31 ∨ r = 33) ∧ min r 31 = (i 0).val / 512 := by
    by_cases h : (i 0).val / 512 < 31
    · exact ⟨(i 0).val / 512, by omega, Or.inl h, by omega⟩
    · exact ⟨33, by omega, Or.inr rfl, by omega⟩
  obtain ⟨r, hr0, hr1, hr2⟩ := hr
  let t : Fin cfg0.N := ⟨34 * ((i 1).val / 512) + r, lt_of_lt_of_eq (by omega) (show 136 = cfg0.N from N_0.symm)⟩
  have hv : t.val = 34 * ((i 1).val / 512) + r := rfl
  have hm : t.val % 34 = r := by rw [hv]; omega
  have hd : t.val / 34 = (i 1).val / 512 := by rw [hv]; omega
  obtain ⟨e0, e1⟩ := facts4 t
  refine ⟨t, flush4 t (by rw [hm]; exact hr1), (mem_block4 t i).2 fun a => ?_⟩
  match a with
  | ⟨0, _⟩ => show win0_4.index t (0 : Fin 2) * 512 ≤ (i 0).val ∧ (i 0).val < win0_4.index t (0 : Fin 2) * 512 + 512; rw [e0, hm, hr2]; omega
  | ⟨1, _⟩ => show win0_4.index t (1 : Fin 2) * 512 ≤ (i 1).val ∧ (i 1).val < win0_4.index t (1 : Fin 2) * 512 + 512; rw [e1, hd]; omega

/-- The prompts' rows the kernel returns are the reference's. -/
theorem final4 (c : Dev nD) : (dats m 0 c).arrAt 4 cfg0.N = Cert.ProjAvRefIdeal.Read.val_main_v7 (F := Ideal) (m ((c : Thread nD τ).loc main_arg0)) (m ((c : Thread nD τ).loc main_arg1)) := by
  refine (dats m 0 c).arrAt_eq_of_cover 4 _ (fun t hf => ?_) covers4
  obtain ⟨e0, e1⟩ := facts4 t
  show (cfg0.win 4).cut (grid0.coords t) ((dats m 0 c).after 4 t) = _
  rw [after0_4]
  funext y
  show w4At m c t.val t.isLt ((cfg0.win 4).xinj (grid0.coords t) y) = Cert.ProjAvRefIdeal.Read.val_main_v7 (F := Ideal) _ _ (((cfg0.win 4).blk t).view.emb y)
  rw [Cert.ProjAvRefIdeal.Read.val_main_v7_apply]
  refine w4_apply m c t.val t.isLt _ _ ?_ ?_
  · show win0_4.index t (0 : Fin 2) * 512 + 1 * (y 0).val = 512 * min (t.val % 34) 31 + (y 0).val; rw [e0]; omega
  · show win0_4.index t (1 : Fin 2) * 512 + 1 * (y 1).val = 512 * (t.val / 34) + (y 1).val; rw [e1]; omega

theorem mem_block5 (t : Fin cfg0.N) (i : S1024x2048.Idx) :
    i ∈ ((cfg0.win 5).blk t).view.set ↔ ∀ a, win0_5.index t a * win0_5.block.size a ≤ (i a).val ∧ (i a).val < win0_5.index t a * win0_5.block.size a + win0_5.block.size a := by
  show i ∈ ((win0_5.arr).view.slice (win0_5.rect t)).set ↔ _
  rw [View.set_slice_whole, Rect.mem_set_unit]

theorem covers5 (i : S1024x2048.Idx) : ∃ t : Fin cfg0.N, (cfg0.win 5).flush t = true ∧ i ∈ ((cfg0.win 5).blk t).view.set := by
  have h0 : (i 0).val < 1024 := (i 0).isLt
  have h1 : (i 1).val < 2048 := (i 1).isLt
  let t : Fin cfg0.N := ⟨34 * ((i 1).val / 512) + (32 + (i 0).val / 512), lt_of_lt_of_eq (by omega) (show 136 = cfg0.N from N_0.symm)⟩
  have hv : t.val = 34 * ((i 1).val / 512) + (32 + (i 0).val / 512) := rfl
  obtain ⟨e0, e1⟩ := facts5 t
  refine ⟨t, flush5 t (by rw [hv]; omega), (mem_block5 t i).2 fun a => ?_⟩
  match a with
  | ⟨0, _⟩ => show win0_5.index t (0 : Fin 2) * 512 ≤ (i 0).val ∧ (i 0).val < win0_5.index t (0 : Fin 2) * 512 + 512; rw [e0, hv]; omega
  | ⟨1, _⟩ => show win0_5.index t (1 : Fin 2) * 512 ≤ (i 1).val ∧ (i 1).val < win0_5.index t (1 : Fin 2) * 512 + 512; rw [e1, hv]; omega

/-- The samples' rows the kernel returns are the reference's. -/
theorem final5 (c : Dev nD) : (dats m 0 c).arrAt 5 cfg0.N = Cert.ProjAvRefIdeal.Read.val_main_v8 (F := Ideal) (m ((c : Thread nD τ).loc main_arg0)) (m ((c : Thread nD τ).loc main_arg1)) := by
  refine (dats m 0 c).arrAt_eq_of_cover 5 _ (fun t hf => ?_) covers5
  obtain ⟨e0, e1⟩ := facts5 t
  have hp := flushed5 t hf
  show (cfg0.win 5).cut (grid0.coords t) ((dats m 0 c).after 5 t) = _
  rw [after0_5]
  funext y
  show accAt m c t.val t.isLt ((cfg0.win 5).xinj (grid0.coords t) y) = Cert.ProjAvRefIdeal.Read.val_main_v8 (F := Ideal) _ _ (((cfg0.win 5).blk t).view.emb y)
  rw [Cert.ProjAvRefIdeal.Read.val_main_v8_apply]
  refine acc_apply m c t.val t.isLt _ _ ?_ ?_
  · show 16384 + (win0_5.index t (0 : Fin 2) * 512 + 1 * (y 0).val) = 512 * (t.val % 34) + (y 0).val; rw [e0]; omega
  · show win0_5.index t (1 : Fin 2) * 512 + 1 * (y 1).val = 512 * (t.val / 34) + (y 1).val; rw [e1]; omega

end Cert.ProjAvIdeal.Hand

namespace Cert.Proof
open Idealize.ShloMosaic Idealize.ShloMosaic.TcCoe Idealize.SL.Sem

theorem algebraic_ProjAvIdeal_ProjAvRefIdeal_proof : Cert.algebraic_ProjAvIdeal_ProjAvRefIdeal := by
  intro m g m' g' _ hargs
  refine ⟨fun c => Cert.ProjAvRefIdeal.Read.val_main_v6 (F := Ideal) (m ((c.tc : Thread Cert.ProjAvIdeal.nD Cert.ProjAvIdeal.τ).loc Cert.ProjAvIdeal.main_arg0)) (m ((c.tc : Thread Cert.ProjAvIdeal.nD Cert.ProjAvIdeal.τ).loc Cert.ProjAvIdeal.main_arg1)),
    fun c => Cert.ProjAvRefIdeal.Read.val_main_v7 (F := Ideal) (m ((c.tc : Thread Cert.ProjAvIdeal.nD Cert.ProjAvIdeal.τ).loc Cert.ProjAvIdeal.main_arg0)) (m ((c.tc : Thread Cert.ProjAvIdeal.nD Cert.ProjAvIdeal.τ).loc Cert.ProjAvIdeal.main_arg1)),
    fun c => Cert.ProjAvRefIdeal.Read.val_main_v8 (F := Ideal) (m ((c.tc : Thread Cert.ProjAvIdeal.nD Cert.ProjAvIdeal.τ).loc Cert.ProjAvIdeal.main_arg0)) (m ((c.tc : Thread Cert.ProjAvIdeal.nD Cert.ProjAvIdeal.τ).loc Cert.ProjAvIdeal.main_arg1)), ?_, ?_⟩
  · refine (θ_run _ _ _).mono (fun r h c => ?_) (Cert.ProjAvIdeal.Run.run_arrays m g)
    obtain ⟨a0, a1, a2, a3⟩ := h c
    exact ⟨a0.trans (Cert.ProjAvIdeal.Hand.final3 m c), a1.trans (Cert.ProjAvIdeal.Hand.final4 m c), a2.trans (Cert.ProjAvIdeal.Hand.final5 m c), a3⟩
  · refine (θ_run _ _ _).mono (fun r h c => ?_) (Cert.ProjAvRefIdeal.Value.run m' g')
    obtain ⟨a0, a1, a2, a3⟩ := h c
    have e := hargs c
    refine ⟨a0.trans ?_, a1.trans ?_, a2.trans ?_, a3⟩
    · rw [e.1, e.2]
      exact Cert.ProjAvRefIdeal.Read.val_main_v6_eq (F := Ideal) _ _
    · rw [e.1, e.2]
      exact Cert.ProjAvRefIdeal.Read.val_main_v7_eq (F := Ideal) _ _
    · rw [e.1, e.2]
      exact Cert.ProjAvRefIdeal.Read.val_main_v8_eq (F := Ideal) _ _

theorem preserves_ProjAv_ProjAvIdeal_proof : Cert.preserves_ProjAv_ProjAvIdeal := trivial

end Cert.Proof
end
-- ==== Proof.ProjBg.lean ====
module
public import proofs.«01_k».proof.Proof.Gen.ProjBgIdeal.Value
public import proofs.«01_k».proof.Proof.Gen.ProjBgRefIdeal.Read
public import proofs.«01_k».proof.Proof.Common
public import proofs.«01_k».proof.Defs
public import Idealize.ShloMosaic.Lib.Quiescent
@[expose] public section
set_option maxRecDepth 16384
noncomputable section
namespace Cert.ProjBgIdeal.Hand
open Cert.ProjBgIdeal Cert.ProjBgIdeal.Gen Idealize.ShloMosaic Idealize.ShloMosaic.TcCoe Idealize.SL.Sem

/-- The block of weight rows the first row tile of a column tile stores: rows 16 and on of the one window, then the
    first rows of the other. -/
def wblk (x1 : Vec Ideal S1x1024x4096 .f32) (x2 : Vec Ideal S1x16x4096 .f32) : Vec Ideal S1024x4096 .bf16 := fun y =>
  if h : (y 0).val + 16 < 1024 then x1 (ValueIdx.ix3 0 ⟨(y 0).val + 16, h⟩ (y 1))
  else x2 (ValueIdx.ix3 0 ⟨(y 0).val + 16 - 1024, by have h0 : (y 0).val < 1024 := (y 0).isLt; omega⟩ (y 1))

theorem wblk_in (x1 : Vec Ideal S1x1024x4096 .f32) (x2 : Vec Ideal S1x16x4096 .f32) (y : S1024x4096.Idx) (h : (y 0).val + 16 < 1024) :
    wblk x1 x2 y = x1 (ValueIdx.ix3 0 ⟨(y 0).val + 16, h⟩ (y 1)) := dif_pos h

theorem wblk_past (x1 : Vec Ideal S1x1024x4096 .f32) (x2 : Vec Ideal S1x16x4096 .f32) (y : S1024x4096.Idx) (h : ¬(y 0).val + 16 < 1024) :
    wblk x1 x2 y = x2 (ValueIdx.ix3 0 ⟨(y 0).val + 16 - 1024, by have h0 : (y 0).val < 1024 := (y 0).isLt; omega⟩ (y 1)) := dif_neg h

/-! The stores of the slabs, read at one place. -/

theorem k0_pay2_apply (v : Vec Ideal S1x256x4096 .f32) (x : S256x4096.Idx) :
    k0_pay2 v x = v (ValueIdx.ix3 0 (x 0) (x 1)) := by
  unfold k0_pay2
  exact Cert.Common.slab_apply (n := 256) (k := 4096) v _ _ _ x

theorem k0_pay3_apply (v : Vec Ideal S1x256x4096 .f32) (x : S256x4096.Idx) :
    k0_pay3 v x = v (ValueIdx.ix3 0 (x 0) (x 1)) := by
  unfold k0_pay3
  exact Cert.Common.slab_apply (n := 256) (k := 4096) v _ _ _ x

theorem k0_pay4_apply (v : Vec Ideal S1x256x4096 .f32) (x : S256x4096.Idx) :
    k0_pay4 v x = v (ValueIdx.ix3 0 (x 0) (x 1)) := by
  unfold k0_pay4
  exact Cert.Common.slab_apply (n := 256) (k := 4096) v _ _ _ x

theorem k0_pay5_apply (v : Vec Ideal S1x240x4096 .f32) (x : S240x4096.Idx) :
    k0_pay5 v x = v (ValueIdx.ix3 0 (x 0) (x 1)) := by
  unfold k0_pay5
  exact Cert.Common.slab_apply (n := 240) (k := 4096) v _ _ _ x

theorem k0_pay6_apply (v : Vec Ideal S1x16x4096 .f32) (x : S16x4096.Idx) :
    k0_pay6 v x = v (ValueIdx.ix3 0 (x 0) (x 1)) := by
  unfold k0_pay6
  exact Cert.Common.slab_apply (n := 16) (k := 4096) v _ _ _ x

/-- The stores of the weight block. -/
def wpieces (x1 : Vec Ideal S1x1024x4096 .f32) (x2 : Vec Ideal S1x16x4096 .f32) : List (View.Piece (Elt Ideal) S1024x4096 .bf16) :=
  [(⟨Rect.unit (s := S1024x4096) ![1008, 0] S16x4096.size inb_S1024x4096_S16x4096_1008_0, k0_pay6 (View.ld x2 (Rect.unit (s := S1x16x4096) ![0, 0, 0] S1x16x4096.size inb_S1x16x4096_S1x16x4096_0_0_0))⟩ : View.Piece (Elt Ideal) S1024x4096 .bf16),
   (⟨Rect.unit (s := S1024x4096) ![768, 0] S240x4096.size inb_S1024x4096_S240x4096_768_0, k0_pay5 (View.ld x1 (Rect.unit (s := S1x1024x4096) ![0, 784, 0] S1x240x4096.size inb_S1x1024x4096_S1x240x4096_0_784_0))⟩ : View.Piece (Elt Ideal) S1024x4096 .bf16),
   (⟨Rect.unit (s := S1024x4096) ![512, 0] S256x4096.size inb_S1024x4096_S256x4096_512_0, k0_pay4 (View.ld x1 (Rect.unit (s := S1x1024x4096) ![0, 528, 0] S1x256x4096.size inb_S1x1024x4096_S1x256x4096_0_528_0))⟩ : View.Piece (Elt Ideal) S1024x4096 .bf16),
   (⟨Rect.unit (s := S1024x4096) ![256, 0] S256x4096.size inb_S1024x4096_S256x4096_256_0, k0_pay3 (View.ld x1 (Rect.unit (s := S1x1024x4096) ![0, 272, 0] S1x256x4096.size inb_S1x1024x4096_S1x256x4096_0_272_0))⟩ : View.Piece (Elt Ideal) S1024x4096 .bf16),
   (⟨Rect.unit (s := S1024x4096) ![0, 0] S256x4096.size inb_S1024x4096_S256x4096_0_0, k0_pay2 (View.ld x1 (Rect.unit (s := S1x1024x4096) ![0, 16, 0] S1x256x4096.size inb_S1x1024x4096_S1x256x4096_0_16_0))⟩ : View.Piece (Elt Ideal) S1024x4096 .bf16)]

theorem wpieces_cover (x1 : Vec Ideal S1x1024x4096 .f32) (x2 : Vec Ideal S1x16x4096 .f32) (y : S1024x4096.Idx) :
    ∃ p ∈ wpieces x1 x2, y ∈ p.1.set :=
  View.cover_of_tiledBy (wpieces x1 x2) ![16, 4096] (by sl_kernel_rfl) y

/-- Together the stores leave the weight block. -/
theorem wpieces_canon (x1 : Vec Ideal S1x1024x4096 .f32) (x2 : Vec Ideal S1x16x4096 .f32) : View.canon (wpieces x1 x2) = wblk x1 x2 := by
  funext y
  refine View.canon_apply_of_pieces (wblk x1 x2) _ ?_ y (wpieces_cover x1 x2 y)
  intro p hp x
  simp only [wpieces, List.mem_cons, List.not_mem_nil, or_false] at hp
  rcases hp with rfl | rfl | rfl | rfl | rfl
  · dsimp only [] at x ⊢
    refine (k0_pay6_apply _ x).trans ?_
    have hx0 : (x 0).val < 16 := (x 0).isLt
    have e0 : (((Rect.unit (s := S1024x4096) ![1008, 0] S16x4096.size inb_S1024x4096_S16x4096_1008_0).emb x) 0).val = 1008 + 1 * (x 0).val := rfl
    have e1 : (((Rect.unit (s := S1024x4096) ![1008, 0] S16x4096.size inb_S1024x4096_S16x4096_1008_0).emb x) 1).val = 0 + 1 * (x 1).val := rfl
    refine (View.ld_unit_apply_of _ _ _ _ _ _ ?_).trans (wblk_past x1 x2 _ (by rw [e0]; omega)).symm
    intro a
    match a with
    | ⟨0, _⟩ => rfl
    | ⟨1, _⟩ => show _ = 0 + (x 0).val; dsimp only [ValueIdx.ix3]; rw [e0]; omega
    | ⟨2, _⟩ => show _ = 0 + (x 1).val; dsimp only [ValueIdx.ix3]; rw [e1]; omega
  · dsimp only [] at x ⊢
    refine (k0_pay5_apply _ x).trans ?_
    have hx0 : (x 0).val < 240 := (x 0).isLt
    have e0 : (((Rect.unit (s := S1024x4096) ![768, 0] S240x4096.size inb_S1024x4096_S240x4096_768_0).emb x) 0).val = 768 + 1 * (x 0).val := rfl
    have e1 : (((Rect.unit (s := S1024x4096) ![768, 0] S240x4096.size inb_S1024x4096_S240x4096_768_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 784 + (x 0).val; dsimp only [ValueIdx.ix3]; rw [e0]; omega
    | ⟨2, _⟩ => show _ = 0 + (x 1).val; dsimp only [ValueIdx.ix3]; rw [e1]; omega
  · dsimp only [] at x ⊢
    refine (k0_pay4_apply _ x).trans ?_
    have hx0 : (x 0).val < 256 := (x 0).isLt
    have e0 : (((Rect.unit (s := S1024x4096) ![512, 0] S256x4096.size inb_S1024x4096_S256x4096_512_0).emb x) 0).val = 512 + 1 * (x 0).val := rfl
    have e1 : (((Rect.unit (s := S1024x4096) ![512, 0] S256x4096.size inb_S1024x4096_S256x4096_512_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 528 + (x 0).val; dsimp only [ValueIdx.ix3]; rw [e0]; omega
    | ⟨2, _⟩ => show _ = 0 + (x 1).val; dsimp only [ValueIdx.ix3]; rw [e1]; omega
  · dsimp only [] at x ⊢
    refine (k0_pay3_apply _ x).trans ?_
    have hx0 : (x 0).val < 256 := (x 0).isLt
    have e0 : (((Rect.unit (s := S1024x4096) ![256, 0] S256x4096.size inb_S1024x4096_S256x4096_256_0).emb x) 0).val = 256 + 1 * (x 0).val := rfl
    have e1 : (((Rect.unit (s := S1024x4096) ![256, 0] S256x4096.size inb_S1024x4096_S256x4096_256_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 272 + (x 0).val; dsimp only [ValueIdx.ix3]; rw [e0]; omega
    | ⟨2, _⟩ => show _ = 0 + (x 1).val; dsimp only [ValueIdx.ix3]; rw [e1]; omega
  · dsimp only [] at x ⊢
    refine (k0_pay2_apply _ x).trans ?_
    have hx0 : (x 0).val < 256 := (x 0).isLt
    have e0 : (((Rect.unit (s := S1024x4096) ![0, 0] S256x4096.size inb_S1024x4096_S256x4096_0_0).emb x) 0).val = 0 + 1 * (x 0).val := rfl
    have e1 : (((Rect.unit (s := S1024x4096) ![0, 0] S256x4096.size inb_S1024x4096_S256x4096_0_0).emb x) 1).val = 0 + 1 * (x 1).val := rfl
    refine (View.ld_unit_apply_of _ _ _ _ _ _ ?_).trans (wblk_in x1 x2 _ (by rw [e0]; omega)).symm
    intro a
    match a with
    | ⟨0, _⟩ => rfl
    | ⟨1, _⟩ => show _ = 16 + (x 0).val; dsimp only [ValueIdx.ix3]; rw [e0]; omega
    | ⟨2, _⟩ => show _ = 0 + (x 1).val; dsimp only [ValueIdx.ix3]; rw [e1]; omega

/-- What the first row tile of a column tile leaves in the scratch: the weight block. -/
theorem sout_A (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : cond0_0 i)
    (x0 : Vec Ideal S1024x4096 .bf16) (x1 : Vec Ideal S1x1024x4096 .f32) (x2 : Vec Ideal S1x16x4096 .f32) : sout0_A_0 (F := Ideal) c i arg2 harg2 arg3 harg3 arg4 harg4 arg5 harg5 arg6 harg6 hc0 x0 x1 x2 = wblk x1 x2 := by
  unfold sout0_A_0
  rw [View.read_writes_eq_canon _ _ _ (scover0_A_0 c i arg2 harg2 arg3 harg3 arg4 harg4 arg5 harg5 arg6 harg6 hc0 x0 x1 x2)]
  refine Eq.trans ?_ (wpieces_canon x1 x2)
  unfold kernelRun0_A; dsimp only; sl_unfold_words
  simp only [View.readAt_eq_ld, harg3.read_unread, harg4.read_unread]
  rfl

/-- What the first row tile of a column tile stores: the rows times the weight block. -/
theorem out_A (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : cond0_0 i)
    (x0 : Vec Ideal S1024x4096 .bf16) (x1 : Vec Ideal S1x1024x4096 .f32) (x2 : Vec Ideal S1x16x4096 .f32) : out0_A_3 (F := Ideal) c i arg2 harg2 arg3 harg3 arg4 harg4 arg5 harg5 arg6 harg6 hc0 x0 x1 x2 = k0_pay1 x0 (wblk x1 x2) := by
  unfold out0_A_3
  rw [View.read_writes_eq_canon _ _ _ (cover0_A_3 c i arg2 harg2 arg3 harg3 arg4 harg4 arg5 harg5 arg6 harg6 hc0 x0 x1 x2)]
  unfold kernelRun0_A; dsimp only; sl_unfold_words
  simp only [View.readAt_eq_ld, harg2.read_unread, harg3.read_unread, harg4.read_unread]
  refine (View.canon_unit_zero (by decide) _ _).trans ?_
  refine congrArg₂ k0_pay1 (View.ld_unit_zero (by decide) _ x0) ?_
  refine (View.readCov_eq_canon_ld _ (wpieces x1 x2) _ (wpieces_cover x1 x2)).trans ?_
  rw [wpieces_canon]
  exact View.ld_unit_zero (by decide) _ _

/-- What every other row tile stores: the rows times the scratch. -/
theorem out_B (c : Dev nD) (i : grid0.Coords) (arg2 : Memref sig .tc .vmem S1024x4096 .bf16) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1024x1024 .bf16) (harg5 : arg5.IsWhole) (arg6 : Memref sig .tc .vmem S1024x4096 .bf16) (harg6 : arg6.IsWhole) (hc0 : ¬cond0_0 i)
    (x0 : Vec Ideal S1024x4096 .bf16) (x1 : Vec Ideal S1x1024x4096 .f32) (x2 : Vec Ideal S1x16x4096 .f32) (xs0 : Vec Ideal S1024x4096 .bf16) : out0_B_3 (F := Ideal) c i arg2 harg2 arg3 harg3 arg4 harg4 arg5 harg5 arg6 harg6 hc0 x0 x1 x2 xs0 = k0_pay1 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only; sl_unfold_words
  simp only [View.readAt_eq_ld, harg2.read_unread, harg6.read_unread]
  refine (View.canon_unit_zero (by decide) _ _).trans ?_
  exact congrArg₂ k0_pay1 (View.ld_unit_zero (by decide) _ x0) (View.ld_unit_zero (by decide) _ xs0)

/-! ## What the windows hold -/

variable (m : (ℓ : Loc nD τ sig) → Buf (Elt Ideal) ℓ)

/-- The weights as the kernel finds them: transposed. -/
theorem V_v0 (c : Dev nD) : V m c main_v0 = transpose S1x20496x4096 [0, 2, 1] (m ((c : Thread nD τ).loc main_arg1)) transposes_S1x4096x20496_S1x20496x4096_0_2_1 := by
  show StableHlo.after hostOps0 _ (Proc.devRef .tc main_v0) = _
  after_results <;> rfl

theorem V_v0_apply (c : Dev nD) (j : S1x20496x4096.Idx) : V m c main_v0 j = m ((c : Thread nD τ).loc main_arg1) (ValueIdx.ix3 0 (j 2) (j 1)) := by
  rw [V_v0]
  refine transpose_apply _ _ _ j _ ?_
  intro b
  match b with
  | ⟨0, _⟩ => have h : (j 0).val < 1 := (j 0).isLt; show 0 = (j 0).val; omega
  | ⟨1, _⟩ => rfl
  | ⟨2, _⟩ => rfl

theorem facts0 : ∀ t : Fin cfg0.N, win0_0.index t (0 : Fin 2) = t.val % 17 ∧ win0_0.index t (1 : Fin 2) = 0 :=
  (by decide +kernel : ∀ t : Fin grid0.N, _)
theorem facts1 : ∀ t : Fin cfg0.N, win0_1.index t (0 : Fin 3) = 0 ∧ win0_1.index t (1 : Fin 3) = 12 + t.val / 17 ∧ win0_1.index t (2 : Fin 3) = 0 :=
  (by decide +kernel : ∀ t : Fin grid0.N, _)
theorem facts3 : ∀ t : Fin cfg0.N, win0_3.index t (0 : Fin 2) = t.val % 17 ∧ win0_3.index t (1 : Fin 2) = t.val / 17 :=
  (by decide +kernel : ∀ t : Fin grid0.N, _)

/-- Window 0 at a point: its row tile. -/
theorem rows_apply (c : Dev nD) (t : Fin cfg0.N) (y : S1024x4096.Idx) :
    (iblk m c 0 t : Vec Ideal S1024x4096 .bf16) y = m ((c : Thread nD τ).loc main_arg0)
      (ValueIdx.ix2 ⟨1024 * (t.val % 17) + (y 0).val, by have h0 : (y 0).val < 1024 := (y 0).isLt; omega⟩ (y 1)) := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = 1024 * (t.val % 17) + (y 0).val; rw [e0]; omega
  | ⟨1, _⟩ => show win0_0.index t (1 : Fin 2) * 4096 + 1 * (y 1).val = (y 1).val; rw [e1]; omega

/-- Window 1 at a point: the rows of the transposed weights its column tile begins in. -/
theorem wrows_apply (c : Dev nD) (t : Fin cfg0.N) (y : S1x1024x4096.Idx) (b : Fin 20496) (hb : b.val = 12288 + 1024 * (t.val / 17) + (y 1).val) :
    (X0_1 m c t : Vec Ideal S1x1024x4096 .f32) y = m ((c : Thread nD τ).loc main_arg1) (ValueIdx.ix3 0 (y 2) b) := by
  obtain ⟨e0, e1, e2⟩ := facts1 t
  unfold X0_1 Pipeline.Window.fill
  rw [dif_pos (moved0_1 t y)]
  show V m c main_v0 (((cfg0.win 1).blk t).view.emb _) = _
  rw [V_v0_apply]
  refine congrArg _ (funext fun a => Fin.ext ?_)
  match a with
  | ⟨0, _⟩ => rfl
  | ⟨1, _⟩ => show win0_1.index t (2 : Fin 3) * 4096 + 1 * (y 2).val = (y 2).val; rw [e2]; omega
  | ⟨2, _⟩ => show win0_1.index t (1 : Fin 3) * 1024 + 1 * (y 1).val = b.val; rw [e1, hb]; omega

theorem facts2 : ∀ t : Fin cfg0.N, win0_2.index t (0 : Fin 3) = 0 ∧ win0_2.index t (1 : Fin 3) = 832 + 64 * (t.val / 17) ∧ win0_2.index t (2 : Fin 3) = 0 :=
  (by decide +kernel : ∀ t : Fin grid0.N, _)

/-- Window 2 at a point: the rows of the transposed weights its column tile ends in. -/
theorem wtail_apply (c : Dev nD) (t : Fin cfg0.N) (y : S1x16x4096.Idx) (b : Fin 20496) (hb : b.val = 13312 + 1024 * (t.val / 17) + (y 1).val) :
    (iblk m c 2 t : Vec Ideal S1x16x4096 .f32) y = m ((c : Thread nD τ).loc main_arg1) (ValueIdx.ix3 0 (y 2) b) := by
  obtain ⟨e0, e1, e2⟩ := facts2 t
  show V m c main_v0 (((cfg0.win 2).blk t).view.emb y) = _
  rw [V_v0_apply]
  refine congrArg _ (funext fun a => Fin.ext ?_)
  match a with
  | ⟨0, _⟩ => rfl
  | ⟨1, _⟩ => show win0_2.index t (2 : Fin 3) * 4096 + 1 * (y 2).val = (y 2).val; rw [e2]; omega
  | ⟨2, _⟩ => show win0_2.index t (1 : Fin 3) * 16 + 1 * (y 1).val = b.val; rw [e1, hb]; omega

/-! ## The scratch: the weights of the column tile -/

/-- The columns of the weights in column tile `j`, one to a row. -/
def wcols (W : Vec Ideal S1x4096x20496 .f32) (j : ℕ) (hj : j < 8) : Vec Ideal S1024x4096 .bf16 := fun y =>
  W (ValueIdx.ix3 0 (y 1) ⟨12304 + 1024 * j + (y 0).val, by have h0 : (y 0).val < 1024 := (y 0).isLt; omega⟩)

theorem col_lt (t : Fin cfg0.N) : t.val / 17 < 8 := by
  have h := lt_of_lt_of_eq t.isLt (show cfg0.N = 136 from N_0)
  omega

/-- The weight block made at a point is the columns of its column tile. -/
theorem wblk_eq (c : Dev nD) (t : Fin cfg0.N) :
    wblk (X0_1 m c t) (iblk m c 2 t) = wcols (m ((c : Thread nD τ).loc main_arg1)) (t.val / 17) (col_lt t) := by
  have hN := lt_of_lt_of_eq t.isLt (show cfg0.N = 136 from N_0)
  funext y
  have hy : (y 0).val < 1024 := (y 0).isLt
  by_cases h : (y 0).val + 16 < 1024
  · rw [wblk_in _ _ _ h]
    refine (wrows_apply m c t _ ⟨12304 + 1024 * (t.val / 17) + (y 0).val, by omega⟩ ?_).trans rfl
    show 12304 + 1024 * (t.val / 17) + (y 0).val = 12288 + 1024 * (t.val / 17) + ((y 0).val + 16)
    omega
  · rw [wblk_past _ _ _ h]
    refine (wtail_apply m c t _ ⟨12304 + 1024 * (t.val / 17) + (y 0).val, by omega⟩ ?_).trans rfl
    show 12304 + 1024 * (t.val / 17) + (y 0).val = 13312 + 1024 * (t.val / 17) + ((y 0).val + 16 - 1024)
    omega

theorem wcols_congr (W : Vec Ideal S1x4096x20496 .f32) (j j' : ℕ) (hj : j < 8) (hj' : j' < 8) (e : j = j') : wcols W j hj = wcols W j' hj' := by
  subst e; rfl

/-- After every point the scratch holds the columns of the point's column tile. -/
theorem scratch_eq (c : Dev nD) : ∀ (n : ℕ) (hn : n < cfg0.N),
    (outsAt0 m c n hn).2 = wcols (m ((c : Thread nD τ).loc main_arg1)) (n / 17) (col_lt ⟨n, hn⟩)
  | 0, hn => by
    rw [outsAt0_A m c ⟨0, hn⟩ (Nat.zero_mod _)]
    dsimp only
    rw [sout_A]
    exact wblk_eq m c ⟨0, hn⟩
  | n + 1, hn => by
    by_cases h : (n + 1) % 17 = 0
    · rw [outsAt0_A m c ⟨n + 1, hn⟩ h]
      dsimp only
      rw [sout_A]
      exact wblk_eq m c ⟨n + 1, hn⟩
    · rw [outsAt0_B m c ⟨n + 1, hn⟩ h]
      refine Eq.trans (scratch_eq c n (Nat.lt_of_succ_lt hn)) (wcols_congr _ _ _ _ _ ?_)
      omega

/-- After every point the staged output holds the product of the point's row tile and column tile. -/
theorem stored_eq (c : Dev nD) (t : Fin cfg0.N) :
    (outsAt0 m c t.val t.isLt).1 = k0_pay1 (iblk m c 0 t) (wcols (m ((c : Thread nD τ).loc main_arg1)) (t.val / 17) (col_lt t)) := by
  by_cases h : t.val % 17 = 0
  · rw [outsAt0_A m c t h]
    dsimp only
    rw [out_A]
    exact congrArg _ (wblk_eq m c t)
  · rw [outsAt0_B m c t h]
    have hN := lt_of_lt_of_eq t.isLt (show cfg0.N = 136 from N_0)
    dsimp only
    rw [out_B]
    refine congrArg _ ?_
    refine (scratch_eq m c _ _).trans (wcols_congr _ _ _ _ _ ?_)
    omega

/-- The product read at one place. -/
theorem k0_pay1_apply (v : Vec Ideal S1024x4096 .bf16) (w : Vec Ideal S1024x4096 .bf16) (y : S1024x1024.Idx) :
    k0_pay1 v w y = ∑ k : Fin 4096, v (ValueIdx.ix2 (y 0) k) * w (ValueIdx.ix2 (y 1) k) := by
  unfold k0_pay1
  exact Cert.Common.dotT_apply (φ₁ := .bf16) (φ₂ := .bf16) (M := 1024) (K := 4096) (N := 1024) v w y

/-! ## The array after the run -/

/-- The array the kernel returns is the reference's. -/
theorem final_eq (c : Dev nD) : (dats m 0 c).arrAt 3 cfg0.N
    = Cert.ProjBgRefIdeal.Read.val_main_v4 (F := Ideal) (m ((c : Thread nD τ).loc main_arg0)) (m ((c : Thread nD τ).loc main_arg1)) := by
  refine (dats m 0 c).arrAt_eq_of_cover 3 _ (fun t hf => ?_) (fun i => (Cert.ProjBgIdeal.Value.covered_iff3 i).2 (by
    have h0 : (i 0).val < 17408 := (i 0).isLt; have h1 : (i 1).val < 8192 := (i 1).isLt; omega))
  obtain ⟨e0, e1⟩ := facts3 t
  have hN := lt_of_lt_of_eq t.isLt (show cfg0.N = 136 from N_0)
  rw [Cert.ProjBgIdeal.Value.flushed3, stored_eq]
  funext y
  have hy0 : (y 0).val < 1024 := (y 0).isLt
  have hy1 : (y 1).val < 1024 := (y 1).isLt
  show k0_pay1 (F := Ideal) _ _ ((cfg0.win 3).xinj (grid0.coords t) y) = Cert.ProjBgRefIdeal.Read.val_main_v4 (F := Ideal) _ _ (((cfg0.win 3).blk t).view.emb y)
  rw [k0_pay1_apply]
  generalize hz : ((cfg0.win 3).blk t).view.emb y = z
  have hb0 : (z 0).val = win0_3.index t (0 : Fin 2) * 1024 + 1 * (y 0).val := by subst hz; rfl
  have hb1 : (z 1).val = win0_3.index t (1 : Fin 2) * 1024 + 1 * (y 1).val := by subst hz; rfl
  show _ = Cert.ProjBgRefIdeal.Read.val_main_v3 (F := Ideal) _ _ z
  rw [Cert.ProjBgRefIdeal.Read.val_main_v3_apply, Cert.ProjBgRefIdeal.Read.val_main_v2_apply]
  refine Finset.sum_congr rfl fun k _ => ?_
  rw [rows_apply]
  refine congrArg₂ (· * ·) ?_ ?_
  · show m _ _ = m _ _
    refine congrArg _ (funext fun a => Fin.ext ?_)
    match a with
    | ⟨0, _⟩ => show 1024 * (t.val % 17) + (y 0).val = (z 0).val; rw [hb0, e0]; omega
    | ⟨1, _⟩ => rfl
  · rw [Cert.ProjBgRefIdeal.Read.val_main_v1_apply]
    show m _ _ = m _ _
    refine congrArg _ (funext fun a => Fin.ext ?_)
    have hk : k.val < 4096 := k.isLt
    match a with
    | ⟨0, _⟩ => rfl
    | ⟨1, _⟩ => show k.val = (k.val * 20496 + (12304 + (z 1).val)) / 20496 % 4096; exact (Cert.Common.row_of _ _ _ hk (by rw [hb1, e1]; omega)).symm
    | ⟨2, _⟩ => show 12304 + 1024 * (t.val / 17) + (y 1).val = (k.val * 20496 + (12304 + (z 1).val)) % 20496; rw [Cert.Common.col_of _ _ _ (by rw [hb1, e1]; omega), hb1, e1]; omega

end Cert.ProjBgIdeal.Hand

namespace Cert.Proof
open Idealize.ShloMosaic Idealize.ShloMosaic.TcCoe Idealize.SL.Sem

theorem algebraic_ProjBgIdeal_ProjBgRefIdeal_proof : Cert.algebraic_ProjBgIdeal_ProjBgRefIdeal := by
  intro m g m' g' _ hargs
  refine ⟨fun c => Cert.ProjBgRefIdeal.Read.val_main_v4 (F := Ideal) (m ((c.tc : Thread Cert.ProjBgIdeal.nD Cert.ProjBgIdeal.τ).loc Cert.ProjBgIdeal.main_arg0)) (m ((c.tc : Thread Cert.ProjBgIdeal.nD Cert.ProjBgIdeal.τ).loc Cert.ProjBgIdeal.main_arg1)), ?_, ?_⟩
  · refine (θ_run _ _ _).mono (fun r h c => ?_) (Cert.ProjBgIdeal.Value.run_blocks m g)
    exact ⟨(h c).1.trans (Cert.ProjBgIdeal.Hand.final_eq m c), (h c).2⟩
  · refine (θ_run _ _ _).mono (fun r h c => ?_) (Cert.ProjBgRefIdeal.Value.run m' g')
    refine ⟨(h c).1.trans ?_, (h c).2⟩
    have e := hargs c
    rw [e.1, e.2]
    exact Cert.ProjBgRefIdeal.Read.val_main_v4_eq (F := Ideal) _ _

theorem preserves_ProjBg_ProjBgIdeal_proof : Cert.preserves_ProjBg_ProjBgIdeal := trivial

end Cert.Proof

end
-- ==== Proof.Merge.lean ====
module
public import proofs.«01_k».proof.Proof.Gen.MergeIdeal.Value
public import proofs.«01_k».proof.Proof.Gen.MergeRefIdeal.Read
public import proofs.«01_k».proof.Proof.Common
public import proofs.«01_k».proof.Defs
public import Idealize.ShloMosaic.Lib.Quiescent
@[expose] public section
set_option maxRecDepth 16384
noncomputable section
namespace Cert.MergeIdeal.Hand
open Cert.MergeIdeal Cert.MergeIdeal.Gen Idealize.ShloMosaic Idealize.ShloMosaic.TcCoe Idealize.SL.Sem

/-- What a point of the prompts stores. -/
theorem out_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (hc0 : cond0_0 i) (hc1 : ¬cond0_1 i)
    (x0 : Vec Ideal S1024x2048 .bf16) (x1 : Vec Ideal S1024x2048 .bf16) (x2 : Vec Ideal S1024x2048 .bf16) (x3 : Vec Ideal S1024x2048 .bf16) (x4 : Vec Ideal S2048x512 .bf16) (x5 : Vec Ideal S2048x512 .bf16) (x6 : Vec Ideal S1024x512 .bf16) (x7 : Vec Ideal S1024x512 .bf16) :
    out0_A_8 (F := Ideal) c i arg2 harg2 arg3 harg3 arg4 harg4 arg5 harg5 arg6 harg6 arg7 harg7 arg8 harg8 arg9 harg9 arg10 harg10 hc0 hc1 x0 x1 x2 x3 x4 x5 x6 x7 = k0_pay1 x0 x4 x2 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 hc0 hc1 x0 x1 x2 x3 x4 x5 x6 x7)]
  unfold kernelRun0_A; dsimp only; sl_unfold_words
  simp only [View.readAt_eq_ld, harg2.read_unread, harg6.read_unread, harg4.read_unread, harg7.read_unread, harg8.read_unread, harg9.read_unread]
  refine (View.canon_unit_zero (by decide) _ _).trans ?_
  congr 1 <;> exact View.ld_unit_zero (by decide) _ _

/-- What a point of the samples stores. -/
theorem out_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (hc0 : ¬cond0_0 i) (hc1 : cond0_1 i)
    (x0 : Vec Ideal S1024x2048 .bf16) (x1 : Vec Ideal S1024x2048 .bf16) (x2 : Vec Ideal S1024x2048 .bf16) (x3 : Vec Ideal S1024x2048 .bf16) (x4 : Vec Ideal S2048x512 .bf16) (x5 : Vec Ideal S2048x512 .bf16) (x6 : Vec Ideal S1024x512 .bf16) (x7 : Vec Ideal S1024x512 .bf16) :
    out0_B_8 (F := Ideal) c i arg2 harg2 arg3 harg3 arg4 harg4 arg5 harg5 arg6 harg6 arg7 harg7 arg8 harg8 arg9 harg9 arg10 harg10 hc0 hc1 x0 x1 x2 x3 x4 x5 x6 x7 = k0_pay2 x1 x4 x3 x5 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 hc0 hc1 x0 x1 x2 x3 x4 x5 x6 x7)]
  unfold kernelRun0_B; dsimp only; sl_unfold_words
  simp only [View.readAt_eq_ld, harg3.read_unread, harg6.read_unread, harg5.read_unread, harg7.read_unread, harg8.read_unread, harg9.read_unread]
  refine (View.canon_unit_zero (by decide) _ _).trans ?_
  congr 1 <;> exact View.ld_unit_zero (by decide) _ _

theorem k0_pay1_apply (a : Vec Ideal S1024x2048 .bf16) (wa : Vec Ideal S2048x512 .bf16) (b : Vec Ideal S1024x2048 .bf16) (wb : Vec Ideal S2048x512 .bf16) (ga gb : Vec Ideal S1024x512 .bf16) (y : S1024x512.Idx) :
    k0_pay1 a wa b wb ga gb y = Ideal.logistic (ga y) * (∑ k : Fin 2048, a (ValueIdx.ix2 (y 0) k) * wa (ValueIdx.ix2 k (y 1)))
      + Ideal.logistic (gb y) * (∑ k : Fin 2048, b (ValueIdx.ix2 (y 0) k) * wb (ValueIdx.ix2 k (y 1))) := by
  unfold k0_pay1
  exact congrArg₂ (fun p q : EReal => Ideal.logistic (ga y) * p + Ideal.logistic (gb y) * q)
    (Cert.Common.dotP_apply (φ₁ := .bf16) (φ₂ := .bf16) (M := 1024) (K := 2048) (N := 512) a wa y)
    (Cert.Common.dotP_apply (φ₁ := .bf16) (φ₂ := .bf16) (M := 1024) (K := 2048) (N := 512) b wb y)

theorem k0_pay2_apply (a : Vec Ideal S1024x2048 .bf16) (wa : Vec Ideal S2048x512 .bf16) (b : Vec Ideal S1024x2048 .bf16) (wb : Vec Ideal S2048x512 .bf16) (ga gb : Vec Ideal S1024x512 .bf16) (y : S1024x512.Idx) :
    k0_pay2 a wa b wb ga gb y = Ideal.logistic (ga y) * (∑ k : Fin 2048, a (ValueIdx.ix2 (y 0) k) * wa (ValueIdx.ix2 k (y 1)))
      + Ideal.logistic (gb y) * (∑ k : Fin 2048, b (ValueIdx.ix2 (y 0) k) * wb (ValueIdx.ix2 k (y 1))) := by
  unfold k0_pay2
  exact congrArg₂ (fun p q : EReal => Ideal.logistic (ga y) * p + Ideal.logistic (gb y) * q)
    (Cert.Common.dotP_apply (φ₁ := .bf16) (φ₂ := .bf16) (M := 1024) (K := 2048) (N := 512) a wa y)
    (Cert.Common.dotP_apply (φ₁ := .bf16) (φ₂ := .bf16) (M := 1024) (K := 2048) (N := 512) b wb y)

/-! ## The reference at one place -/

theorem rows0_left (x0 : Vec Ideal S16384x2048 .bf16) (x1 : Vec Ideal S1024x2048 .bf16) (z : Cert.MergeRefIdeal.S17408x2048.Idx) (i : S16384x2048.Idx) (h0 : (i 0).val = (z 0).val) (h1 : (i 1).val = (z 1).val) :
    Cert.MergeRefIdeal.Read.val_main_v0 (F := Ideal) x0 x1 z = x0 i := by
  unfold Cert.MergeRefIdeal.Read.val_main_v0
  refine concatenate_pair_apply_left (s₁ := S16384x2048) (s₂ := S1024x2048) _ _ _ _ z rfl i fun b => ?_
  match b with
  | ⟨0, _⟩ => exact h0
  | ⟨1, _⟩ => exact h1

theorem rows0_right (x0 : Vec Ideal S16384x2048 .bf16) (x1 : Vec Ideal S1024x2048 .bf16) (z : Cert.MergeRefIdeal.S17408x2048.Idx) (i : S1024x2048.Idx) (h0 : (i 0).val + 16384 = (z 0).val) (h1 : (i 1).val = (z 1).val) :
    Cert.MergeRefIdeal.Read.val_main_v0 (F := Ideal) x0 x1 z = x1 i := by
  unfold Cert.MergeRefIdeal.Read.val_main_v0
  refine concatenate_pair_apply_right (s₁ := S16384x2048) (s₂ := S1024x2048) _ _ _ _ z rfl rfl i (fun b hb => ?_) h0
  match b with
  | ⟨0, _⟩ => exact absurd rfl hb
  | ⟨1, _⟩ => exact h1

theorem rows2_left (x2 : Vec Ideal S16384x2048 .bf16) (x3 : Vec Ideal S1024x2048 .bf16) (z : Cert.MergeRefIdeal.S17408x2048.Idx) (i : S16384x2048.Idx) (h0 : (i 0).val = (z 0).val) (h1 : (i 1).val = (z 1).val) :
    Cert.MergeRefIdeal.Read.val_main_v2 (F := Ideal) x2 x3 z = x2 i := by
  unfold Cert.MergeRefIdeal.Read.val_main_v2
  refine concatenate_pair_apply_left (s₁ := S16384x2048) (s₂ := S1024x2048) _ _ _ _ z rfl i fun b => ?_
  match b with
  | ⟨0, _⟩ => exact h0
  | ⟨1, _⟩ => exact h1

theorem rows2_right (x2 : Vec Ideal S16384x2048 .bf16) (x3 : Vec Ideal S1024x2048 .bf16) (z : Cert.MergeRefIdeal.S17408x2048.Idx) (i : S1024x2048.Idx) (h0 : (i 0).val + 16384 = (z 0).val) (h1 : (i 1).val = (z 1).val) :
    Cert.MergeRefIdeal.Read.val_main_v2 (F := Ideal) x2 x3 z = x3 i := by
  unfold Cert.MergeRefIdeal.Read.val_main_v2
  refine concatenate_pair_apply_right (s₁ := S16384x2048) (s₂ := S1024x2048) _ _ _ _ z rfl rfl i (fun b hb => ?_) h0
  match b with
  | ⟨0, _⟩ => exact absurd rfl hb
  | ⟨1, _⟩ => exact h1

/-- The gate the reference computes is the logistic function. -/
theorem gate_apply (x6 : Vec Ideal S17408x8192 .bf16) (i : S17408x8192.Idx) : Cert.MergeRefIdeal.Read.val_main_v14 (F := Ideal) x6 i = Ideal.logistic (x6 i) := by
  rw [Cert.MergeRefIdeal.Read.val_main_v14_apply, Cert.MergeRefIdeal.Read.val_main_v13_apply, Cert.MergeRefIdeal.Read.val_main_cst_0_apply, Cert.MergeRefIdeal.Read.val_main_v12_apply, Cert.MergeRefIdeal.Read.val_main_v11_apply, Cert.MergeRefIdeal.Read.val_main_cst_apply,
    Cert.MergeRefIdeal.Read.val_main_v10_apply, Cert.MergeRefIdeal.Read.val_main_v9_apply, Cert.MergeRefIdeal.Read.val_main_v8_apply]
  show Ideal.div (Ideal.ofBits .f32 0x3F800000#32) (Ideal.ofBits .f32 0x3F800000#32 + _) = _
  rw [Ideal.ofBits_one_f32]
  rfl

theorem ref_apply (x0 : Vec Ideal S16384x2048 .bf16) (x1 : Vec Ideal S1024x2048 .bf16) (x2 : Vec Ideal S16384x2048 .bf16) (x3 : Vec Ideal S1024x2048 .bf16) (x4 : Vec Ideal S2048x4096 .bf16) (x5 : Vec Ideal S2048x4096 .bf16) (x6 : Vec Ideal S17408x8192 .bf16) (z : S17408x4096.Idx) :
    Cert.MergeRefIdeal.Read.val_main_v20 (F := Ideal) x0 x1 x2 x3 x4 x5 x6 z
      = Ideal.logistic (x6 (ValueIdx.ix2 (z 0) ⟨(z 1).val, by have h : (z 1).val < 4096 := (z 1).isLt; omega⟩))
          * (∑ k : Fin 2048, Cert.MergeRefIdeal.Read.val_main_v0 (F := Ideal) x0 x1 (ValueIdx.ix2 (z 0) k) * x4 (ValueIdx.ix2 k (z 1)))
        + Ideal.logistic (x6 (ValueIdx.ix2 (z 0) ⟨4096 + (z 1).val, by have h : (z 1).val < 4096 := (z 1).isLt; omega⟩))
          * (∑ k : Fin 2048, Cert.MergeRefIdeal.Read.val_main_v2 (F := Ideal) x2 x3 (ValueIdx.ix2 (z 0) k) * x5 (ValueIdx.ix2 k (z 1))) := by
  show Cert.MergeRefIdeal.Read.val_main_v19 (F := Ideal) x0 x1 x2 x3 x4 x5 x6 z = _
  rw [Cert.MergeRefIdeal.Read.val_main_v19_apply, Cert.MergeRefIdeal.Read.val_main_v16_apply, Cert.MergeRefIdeal.Read.val_main_v18_apply, Cert.MergeRefIdeal.Read.val_main_v15_apply, Cert.MergeRefIdeal.Read.val_main_v17_apply, gate_apply, gate_apply,
    Cert.MergeRefIdeal.Read.val_main_v5_apply, Cert.MergeRefIdeal.Read.val_main_v7_apply]
  have e : ∀ (i j : S17408x8192.Idx), (i 0).val = (j 0).val → (i 1).val = (j 1).val → x6 i = x6 j := fun i j h0 h1 =>
    congrArg x6 (funext fun a => Fin.ext (match a with | ⟨0, _⟩ => h0 | ⟨1, _⟩ => h1))
  refine congrArg₂ (· + ·) (congrArg₂ (fun p q : EReal => Ideal.logistic p * q) (e _ _ rfl rfl) (Finset.sum_congr rfl fun k _ => ?_))
    (congrArg₂ (fun p q : EReal => Ideal.logistic p * q) (e _ _ rfl rfl) (Finset.sum_congr rfl fun k _ => ?_))
  · refine congrArg₂ (· * ·) (congrArg (Cert.MergeRefIdeal.Read.val_main_v0 (F := Ideal) x0 x1) (funext fun a => Fin.ext ?_)) (congrArg x4 (funext fun a => Fin.ext ?_)) <;>
      (match a with
       | ⟨0, _⟩ => rfl
       | ⟨1, _⟩ => rfl)
  · refine congrArg₂ (· * ·) (congrArg (Cert.MergeRefIdeal.Read.val_main_v2 (F := Ideal) x2 x3) (funext fun a => Fin.ext ?_)) (congrArg x5 (funext fun a => Fin.ext ?_)) <;>
      (match a with
       | ⟨0, _⟩ => rfl
       | ⟨1, _⟩ => rfl)

variable (m : (ℓ : Loc nD τ sig) → Buf (Elt Ideal) ℓ)

theorem facts0 : ∀ t : Fin cfg0.N, win0_0.index t (0 : Fin 2) = min (t.val / 8) 15 ∧ win0_0.index t (1 : Fin 2) = 0 :=
  (by decide +kernel : ∀ t : Fin grid0.N, _)

/-- The row tile of the first branch, prompts. -/
theorem blk0_apply (c : Dev nD) (t : Fin cfg0.N) (y : S1024x2048.Idx) (z : S16384x2048.Idx) (h0 : (z 0).val = 1024 * (min (t.val / 8) 15) + (y 0).val) (h1 : (z 1).val = 2048 * (0) + (y 1).val) :
    (iblk m c 0 t : Vec Ideal S1024x2048 .bf16) y = m ((c : Thread nD τ).loc main_arg0) z := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = (z 0).val; rw [e0, h0]; omega
  | ⟨1, _⟩ => show win0_0.index t (1 : Fin 2) * 2048 + 1 * (y 1).val = (z 1).val; rw [e1, h1]; omega

theorem facts1 : ∀ t : Fin cfg0.N, win0_1.index t (0 : Fin 2) = 0 ∧ win0_1.index t (1 : Fin 2) = 0 :=
  (by decide +kernel : ∀ t : Fin grid0.N, _)

/-- The rows of the first branch, samples. -/
theorem blk1_apply (c : Dev nD) (t : Fin cfg0.N) (y : S1024x2048.Idx) (z : S1024x2048.Idx) (h0 : (z 0).val = 1024 * (0) + (y 0).val) (h1 : (z 1).val = 2048 * (0) + (y 1).val) :
    (iblk m c 1 t : Vec Ideal S1024x2048 .bf16) y = m ((c : Thread nD τ).loc main_arg1) z := by
  obtain ⟨e0, e1⟩ := facts1 t
  show V m c main_arg1 (((cfg0.win 1).blk t).view.emb y) = _
  rw [V_main_arg1]
  refine congrArg _ (funext fun a => Fin.ext ?_)
  match a with
  | ⟨0, _⟩ => show win0_1.index t (0 : Fin 2) * 1024 + 1 * (y 0).val = (z 0).val; rw [e0, h0]; omega
  | ⟨1, _⟩ => show win0_1.index t (1 : Fin 2) * 2048 + 1 * (y 1).val = (z 1).val; rw [e1, h1]; omega

theorem facts2 : ∀ t : Fin cfg0.N, win0_2.index t (0 : Fin 2) = min (t.val / 8) 15 ∧ win0_2.index t (1 : Fin 2) = 0 :=
  (by decide +kernel : ∀ t : Fin grid0.N, _)

/-- The row tile of the second branch, prompts. -/
theorem blk2_apply (c : Dev nD) (t : Fin cfg0.N) (y : S1024x2048.Idx) (z : S16384x2048.Idx) (h0 : (z 0).val = 1024 * (min (t.val / 8) 15) + (y 0).val) (h1 : (z 1).val = 2048 * (0) + (y 1).val) :
    (iblk m c 2 t : Vec Ideal S1024x2048 .bf16) y = m ((c : Thread nD τ).loc main_arg2) z := by
  obtain ⟨e0, e1⟩ := facts2 t
  show V m c main_arg2 (((cfg0.win 2).blk t).view.emb y) = _
  rw [V_main_arg2]
  refine congrArg _ (funext fun a => Fin.ext ?_)
  match a with
  | ⟨0, _⟩ => show win0_2.index t (0 : Fin 2) * 1024 + 1 * (y 0).val = (z 0).val; rw [e0, h0]; omega
  | ⟨1, _⟩ => show win0_2.index t (1 : Fin 2) * 2048 + 1 * (y 1).val = (z 1).val; rw [e1, h1]; omega

theorem facts3 : ∀ t : Fin cfg0.N, win0_3.index t (0 : Fin 2) = 0 ∧ win0_3.index t (1 : Fin 2) = 0 :=
  (by decide +kernel : ∀ t : Fin grid0.N, _)

/-- The rows of the second branch, samples. -/
theorem blk3_apply (c : Dev nD) (t : Fin cfg0.N) (y : S1024x2048.Idx) (z : S1024x2048.Idx) (h0 : (z 0).val = 1024 * (0) + (y 0).val) (h1 : (z 1).val = 2048 * (0) + (y 1).val) :
    (iblk m c 3 t : Vec Ideal S1024x2048 .bf16) y = m ((c : Thread nD τ).loc main_arg3) z := by
  obtain ⟨e0, e1⟩ := facts3 t
  show V m c main_arg3 (((cfg0.win 3).blk t).view.emb y) = _
  rw [V_main_arg3]
  refine congrArg _ (funext fun a => Fin.ext ?_)
  match a with
  | ⟨0, _⟩ => show win0_3.index t (0 : Fin 2) * 1024 + 1 * (y 0).val = (z 0).val; rw [e0, h0]; omega
  | ⟨1, _⟩ => show win0_3.index t (1 : Fin 2) * 2048 + 1 * (y 1).val = (z 1).val; rw [e1, h1]; omega

theorem facts4 : ∀ t : Fin cfg0.N, win0_4.index t (0 : Fin 2) = 0 ∧ win0_4.index t (1 : Fin 2) = t.val % 8 :=
  (by decide +kernel : ∀ t : Fin grid0.N, _)

/-- The column tile of the first weights. -/
theorem blk4_apply (c : Dev nD) (t : Fin cfg0.N) (y : S2048x512.Idx) (z : S2048x4096.Idx) (h0 : (z 0).val = 2048 * (0) + (y 0).val) (h1 : (z 1).val = 512 * (t.val % 8) + (y 1).val) :
    (iblk m c 4 t : Vec Ideal S2048x512 .bf16) y = m ((c : Thread nD τ).loc main_arg4) z := by
  obtain ⟨e0, e1⟩ := facts4 t
  show V m c main_arg4 (((cfg0.win 4).blk t).view.emb y) = _
  rw [V_main_arg4]
  refine congrArg _ (funext fun a => Fin.ext ?_)
  match a with
  | ⟨0, _⟩ => show win0_4.index t (0 : Fin 2) * 2048 + 1 * (y 0).val = (z 0).val; rw [e0, h0]; omega
  | ⟨1, _⟩ => show win0_4.index t (1 : Fin 2) * 512 + 1 * (y 1).val = (z 1).val; rw [e1, h1]; omega

theorem facts5 : ∀ t : Fin cfg0.N, win0_5.index t (0 : Fin 2) = 0 ∧ win0_5.index t (1 : Fin 2) = t.val % 8 :=
  (by decide +kernel : ∀ t : Fin grid0.N, _)

/-- The column tile of the second weights. -/
theorem blk5_apply (c : Dev nD) (t : Fin cfg0.N) (y : S2048x512.Idx) (z : S2048x4096.Idx) (h0 : (z 0).val = 2048 * (0) + (y 0).val) (h1 : (z 1).val = 512 * (t.val % 8) + (y 1).val) :
    (iblk m c 5 t : Vec Ideal S2048x512 .bf16) y = m ((c : Thread nD τ).loc main_arg5) z := by
  obtain ⟨e0, e1⟩ := facts5 t
  show V m c main_arg5 (((cfg0.win 5).blk t).view.emb y) = _
  rw [V_main_arg5]
  refine congrArg _ (funext fun a => Fin.ext ?_)
  match a with
  | ⟨0, _⟩ => show win0_5.index t (0 : Fin 2) * 2048 + 1 * (y 0).val = (z 0).val; rw [e0, h0]; omega
  | ⟨1, _⟩ => show win0_5.index t (1 : Fin 2) * 512 + 1 * (y 1).val = (z 1).val; rw [e1, h1]; omega

theorem facts6 : ∀ t : Fin cfg0.N, win0_6.index t (0 : Fin 2) = t.val / 8 ∧ win0_6.index t (1 : Fin 2) = t.val % 8 :=
  (by decide +kernel : ∀ t : Fin grid0.N, _)

/-- The tile of the first gates. -/
theorem blk6_apply (c : Dev nD) (t : Fin cfg0.N) (y : S1024x512.Idx) (z : S17408x8192.Idx) (h0 : (z 0).val = 1024 * (t.val / 8) + (y 0).val) (h1 : (z 1).val = 512 * (t.val % 8) + (y 1).val) :
    (iblk m c 6 t : Vec Ideal S1024x512 .bf16) y = m ((c : Thread nD τ).loc main_arg6) z := by
  obtain ⟨e0, e1⟩ := facts6 t
  show V m c main_arg6 (((cfg0.win 6).blk t).view.emb y) = _
  rw [V_main_arg6]
  refine congrArg _ (funext fun a => Fin.ext ?_)
  match a with
  | ⟨0, _⟩ => show win0_6.index t (0 : Fin 2) * 1024 + 1 * (y 0).val = (z 0).val; rw [e0, h0]; omega
  | ⟨1, _⟩ => show win0_6.index t (1 : Fin 2) * 512 + 1 * (y 1).val = (z 1).val; rw [e1, h1]; omega

theorem facts7 : ∀ t : Fin cfg0.N, win0_7.index t (0 : Fin 2) = t.val / 8 ∧ win0_7.index t (1 : Fin 2) = 8 + t.val % 8 :=
  (by decide +kernel : ∀ t : Fin grid0.N, _)

/-- The tile of the second gates. -/
theorem blk7_apply (c : Dev nD) (t : Fin cfg0.N) (y : S1024x512.Idx) (z : S17408x8192.Idx) (h0 : (z 0).val = 1024 * (t.val / 8) + (y 0).val) (h1 : (z 1).val = 512 * (8 + t.val % 8) + (y 1).val) :
    (iblk m c 7 t : Vec Ideal S1024x512 .bf16) y = m ((c : Thread nD τ).loc main_arg6) z := by
  obtain ⟨e0, e1⟩ := facts7 t
  show V m c main_arg6 (((cfg0.win 7).blk t).view.emb y) = _
  rw [V_main_arg6]
  refine congrArg _ (funext fun a => Fin.ext ?_)
  match a with
  | ⟨0, _⟩ => show win0_7.index t (0 : Fin 2) * 1024 + 1 * (y 0).val = (z 0).val; rw [e0, h0]; omega
  | ⟨1, _⟩ => show win0_7.index t (1 : Fin 2) * 512 + 1 * (y 1).val = (z 1).val; rw [e1, h1]; omega

theorem facts8 : ∀ t : Fin cfg0.N, win0_8.index t (0 : Fin 2) = t.val / 8 ∧ win0_8.index t (1 : Fin 2) = t.val % 8 :=
  (by decide +kernel : ∀ t : Fin grid0.N, _)

theorem flushes : ∀ t : Fin cfg0.N, (cfg0.win 8).flush t = true :=
  (by decide +kernel : ∀ t : Fin grid0.N, _)

theorem mem_block (t : Fin cfg0.N) (i : S17408x4096.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v0).slice (win0_8.rect t)).set ↔ _
  rw [View.set_slice_whole, Rect.mem_set_unit]
  exact Iff.rfl

/-- Every place of the result lies in the block of some point. -/
theorem covers (i : S17408x4096.Idx) : ∃ t : Fin cfg0.N, (cfg0.win 8).flush t = true ∧ i ∈ ((cfg0.win 8).blk t).view.set := by
  have h0 : (i 0).val < 17408 := (i 0).isLt
  have h1 : (i 1).val < 4096 := (i 1).isLt
  have hN : cfg0.N = 136 := N_0
  let t : Fin cfg0.N := ⟨(i 0).val / 1024 * 8 + (i 1).val / 512, by omega⟩
  have ht : t.val = (i 0).val / 1024 * 8 + (i 1).val / 512 := rfl
  obtain ⟨e0, e1⟩ := facts8 t
  refine ⟨t, flushes t, (mem_block t i).2 fun a => ?_⟩
  match a with
  | ⟨0, _⟩ => show win0_8.index t (0 : Fin 2) * 1024 ≤ (i 0).val ∧ (i 0).val < win0_8.index t (0 : Fin 2) * 1024 + 1024; rw [e0, ht]; omega
  | ⟨1, _⟩ => show win0_8.index t (1 : Fin 2) * 512 ≤ (i 1).val ∧ (i 1).val < win0_8.index t (1 : Fin 2) * 512 + 512; rw [e1, ht]; omega

/-- A prompt tile of the result. -/
theorem tile_A (c : Dev nD) (t : Fin cfg0.N) (ht : t.val < 128) (y : S1024x512.Idx) (z : S17408x4096.Idx)
    (h0 : (z 0).val = 1024 * (t.val / 8) + (y 0).val) (h1 : (z 1).val = 512 * (t.val % 8) + (y 1).val) :
    k0_pay1 (F := Ideal) (iblk m c 0 t) (iblk m c 4 t) (iblk m c 2 t) (iblk m c 5 t) (iblk m c 6 t) (iblk m c 7 t) y
      = Cert.MergeRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
  have hy0 : (y 0).val < 1024 := (y 0).isLt
  have hy1 : (y 1).val < 512 := (y 1).isLt
  have hN := lt_of_lt_of_eq t.isLt (show cfg0.N = 136 from N_0)
  rw [k0_pay1_apply, ref_apply]
  refine congrArg₂ (· + ·) (congrArg₂ (fun p q : EReal => Ideal.logistic p * q) ?_ (Finset.sum_congr rfl fun k _ => congrArg₂ (· * ·) ?_ ?_))
    (congrArg₂ (fun p q : EReal => Ideal.logistic p * q) ?_ (Finset.sum_congr rfl fun k _ => congrArg₂ (· * ·) ?_ ?_))
  · exact blk6_apply m c t y _ h0 h1
  · rw [rows0_left _ _ _ (ValueIdx.ix2 ⟨1024 * (t.val / 8) + (y 0).val, by omega⟩ k) (by show 1024 * (t.val / 8) + (y 0).val = (z 0).val; omega) rfl]
    exact blk0_apply m c t _ _ (by show 1024 * (t.val / 8) + (y 0).val = _ + (y 0).val; omega) (by show k.val = 2048 * 0 + k.val; omega)
  · exact blk4_apply m c t _ _ (by show k.val = 2048 * 0 + k.val; omega) h1
  · exact blk7_apply m c t y _ h0 (by show 4096 + (z 1).val = _; omega)
  · rw [rows2_left _ _ _ (ValueIdx.ix2 ⟨1024 * (t.val / 8) + (y 0).val, by omega⟩ k) (by show 1024 * (t.val / 8) + (y 0).val = (z 0).val; omega) rfl]
    exact blk2_apply m c t _ _ (by show 1024 * (t.val / 8) + (y 0).val = _ + (y 0).val; omega) (by show k.val = 2048 * 0 + k.val; omega)
  · exact blk5_apply m c t _ _ (by show k.val = 2048 * 0 + k.val; omega) h1

/-- A sample tile of the result. -/
theorem tile_B (c : Dev nD) (t : Fin cfg0.N) (ht : ¬t.val < 128) (y : S1024x512.Idx) (z : S17408x4096.Idx)
    (h0 : (z 0).val = 1024 * (t.val / 8) + (y 0).val) (h1 : (z 1).val = 512 * (t.val % 8) + (y 1).val) :
    k0_pay2 (F := Ideal) (iblk m c 1 t) (iblk m c 4 t) (iblk m c 3 t) (iblk m c 5 t) (iblk m c 6 t) (iblk m c 7 t) y
      = Cert.MergeRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
  have hy0 : (y 0).val < 1024 := (y 0).isLt
  have hy1 : (y 1).val < 512 := (y 1).isLt
  have hN := lt_of_lt_of_eq t.isLt (show cfg0.N = 136 from N_0)
  rw [k0_pay2_apply, ref_apply]
  refine congrArg₂ (· + ·) (congrArg₂ (fun p q : EReal => Ideal.logistic p * q) ?_ (Finset.sum_congr rfl fun k _ => congrArg₂ (· * ·) ?_ ?_))
    (congrArg₂ (fun p q : EReal => Ideal.logistic p * q) ?_ (Finset.sum_congr rfl fun k _ => congrArg₂ (· * ·) ?_ ?_))
  · exact blk6_apply m c t y _ h0 h1
  · rw [rows0_right _ _ _ (ValueIdx.ix2 ⟨(y 0).val, by omega⟩ k) (by show (y 0).val + 16384 = (z 0).val; omega) rfl]
    exact blk1_apply m c t _ _ (by show (y 0).val = _ + (y 0).val; omega) (by show k.val = 2048 * 0 + k.val; omega)
  · exact blk4_apply m c t _ _ (by show k.val = 2048 * 0 + k.val; omega) h1
  · exact blk7_apply m c t y _ h0 (by show 4096 + (z 1).val = _; omega)
  · rw [rows2_right _ _ _ (ValueIdx.ix2 ⟨(y 0).val, by omega⟩ k) (by show (y 0).val + 16384 = (z 0).val; omega) rfl]
    exact blk3_apply m c t _ _ (by show (y 0).val = _ + (y 0).val; omega) (by show k.val = 2048 * 0 + k.val; omega)
  · exact blk5_apply m c t _ _ (by show k.val = 2048 * 0 + k.val; omega) h1

/-- The array the kernel returns is the reference's. -/
theorem final_eq (c : Dev nD) : (dats m 0 c).arrAt 8 cfg0.N
    = Cert.MergeRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_cover 8 _ (fun t hf => ?_) covers
  obtain ⟨e0, e1⟩ := facts8 t
  have hN := lt_of_lt_of_eq t.isLt (show cfg0.N = 136 from N_0)
  have key : ∀ (y : S1024x512.Idx) (z : S17408x4096.Idx), (z 0).val = 1024 * (t.val / 8) + (y 0).val → (z 1).val = 512 * (t.val % 8) + (y 1).val →
      outsAt0 m c t.val t.isLt y = Cert.MergeRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
    intro y z h0 h1
    by_cases ht : t.val < 128
    · rw [outsAt0_A m c t ht (by omega), out_A]
      exact tile_A m c t ht y z h0 h1
    · rw [outsAt0_B m c t ht (by omega), out_B]
      exact tile_B m c t ht y z h0 h1
  rw [Cert.MergeIdeal.Value.flushed8]
  funext y
  show outsAt0 m c t.val t.isLt ((cfg0.win 8).xinj (grid0.coords t) y) = Cert.MergeRefIdeal.Read.val_main_v20 (F := Ideal) _ _ _ _ _ _ _ (((cfg0.win 8).blk t).view.emb y)
  refine key _ _ ?_ ?_
  · show win0_8.index t (0 : Fin 2) * 1024 + 1 * (y 0).val = 1024 * (t.val / 8) + (y 0).val; rw [e0]; omega
  · show win0_8.index t (1 : Fin 2) * 512 + 1 * (y 1).val = 512 * (t.val % 8) + (y 1).val; rw [e1]; omega

end Cert.MergeIdeal.Hand

namespace Cert.Proof
open Idealize.ShloMosaic Idealize.ShloMosaic.TcCoe Idealize.SL.Sem

theorem algebraic_MergeIdeal_MergeRefIdeal_proof : Cert.algebraic_MergeIdeal_MergeRefIdeal := by
  intro m g m' g' _ hargs
  refine ⟨fun c => Cert.MergeRefIdeal.Read.val_main_v20 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)), ?_, ?_⟩
  · refine (θ_run _ _ _).mono (fun r h c => ?_) (Cert.MergeIdeal.Value.run_blocks m g)
    exact ⟨(h c).1.trans (Cert.MergeIdeal.Hand.final_eq m c), (h c).2⟩
  · refine (θ_run _ _ _).mono (fun r h c => ?_) (Cert.MergeRefIdeal.Value.run m' g')
    refine ⟨(h c).1.trans ?_, (h c).2⟩
    have e := hargs c
    rw [e.1, e.2.1, e.2.2.1, e.2.2.2.1, e.2.2.2.2.1, e.2.2.2.2.2.1, e.2.2.2.2.2.2]
    exact Cert.MergeRefIdeal.Read.val_main_v20_eq (F := Ideal) _ _ _ _ _ _ _

theorem preserves_Merge_MergeIdeal_proof : Cert.preserves_Merge_MergeIdeal := trivial

end Cert.Proof

end
-- ==== Proof.Outproj.lean ====
module
public import proofs.«01_k».proof.Proof.Gen.OutprojIdeal.Value
public import proofs.«01_k».proof.Proof.Gen.OutprojRefIdeal.Read
public import proofs.«01_k».proof.Proof.Common
public import proofs.«01_k».proof.Defs
public import Idealize.ShloMosaic.Lib.Quiescent
@[expose] public section
set_option maxRecDepth 16384
noncomputable section
namespace Cert.OutprojIdeal.Hand
open Cert.OutprojIdeal Cert.OutprojIdeal.Gen Idealize.ShloMosaic Idealize.ShloMosaic.TcCoe Idealize.SL.Sem

/-- What a point of the prompts stores. -/
theorem out_A (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1x1x512 .f32) (harg6 : arg6.IsWhole) (arg7 : Memref sig .tc .vmem S32x1x1x512 .f32) (harg7 : arg7.IsWhole) (arg8 : Memref sig .tc .vmem S1024x512 .f32) (harg8 : arg8.IsWhole) (hc0 : cond0_0 i) (hc1 : ¬cond0_1 i)
    (x0 : Vec Ideal S1024x4096 .bf16) (x1 : Vec Ideal S4096x512 .bf16) (x2 : Vec Ideal S1024x512 .f32) (x3 : Vec Ideal S1024x512 .f32) (x4 : Vec Ideal S1x1x1x512 .f32) (x5 : Vec Ideal S32x1x1x512 .f32) :
    out0_A_6 (F := Ideal) c i arg2 harg2 arg3 harg3 arg4 harg4 arg5 harg5 arg6 harg6 arg7 harg7 arg8 harg8 hc0 hc1 x0 x1 x2 x3 x4 x5 = k0_pay2 x0 x1 x2 x4 := by
  unfold out0_A_6
  rw [View.read_writes_eq_canon _ _ _ (cover0_A_6 c i arg2 harg2 arg3 harg3 arg4 harg4 arg5 harg5 arg6 harg6 arg7 harg7 arg8 harg8 hc0 hc1 x0 x1 x2 x3 x4 x5)]
  unfold kernelRun0_A; dsimp only; sl_unfold_words
  simp only [View.readAt_eq_ld, harg2.read_unread, harg3.read_unread, harg4.read_unread, harg6.read_unread]
  refine (View.canon_unit_zero (by decide) _ _).trans ?_
  congr 1 <;> exact View.ld_unit_zero (by decide) _ _

/-- What a point of the samples stores. -/
theorem out_B (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1x1x512 .f32) (harg6 : arg6.IsWhole) (arg7 : Memref sig .tc .vmem S32x1x1x512 .f32) (harg7 : arg7.IsWhole) (arg8 : Memref sig .tc .vmem S1024x512 .f32) (harg8 : arg8.IsWhole) (hc0 : ¬cond0_0 i) (hc1 : cond0_1 i)
    (x0 : Vec Ideal S1024x4096 .bf16) (x1 : Vec Ideal S4096x512 .bf16) (x2 : Vec Ideal S1024x512 .f32) (x3 : Vec Ideal S1024x512 .f32) (x4 : Vec Ideal S1x1x1x512 .f32) (x5 : Vec Ideal S32x1x1x512 .f32) :
    out0_B_6 (F := Ideal) c i arg2 harg2 arg3 harg3 arg4 harg4 arg5 harg5 arg6 harg6 arg7 harg7 arg8 harg8 hc0 hc1 x0 x1 x2 x3 x4 x5 = k0_pay3 x0 x1 x3 x5 := by
  unfold out0_B_6
  rw [View.read_writes_eq_canon _ _ _ (cover0_B_6 c i arg2 harg2 arg3 harg3 arg4 harg4 arg5 harg5 arg6 harg6 arg7 harg7 arg8 harg8 hc0 hc1 x0 x1 x2 x3 x4 x5)]
  unfold kernelRun0_B; dsimp only; sl_unfold_words
  simp only [View.readAt_eq_ld, harg2.read_unread, harg3.read_unread, harg5.read_unread, harg7.read_unread]
  refine (View.canon_unit_zero (by decide) _ _).trans ?_
  congr 1 <;> exact View.ld_unit_zero (by decide) _ _

theorem k0_pay1_apply (v : Vec Ideal S1024x4096 .bf16) (w : Vec Ideal S4096x512 .bf16) (y : S1024x512.Idx) :
    k0_pay1 v w y = ∑ k : Fin 4096, v (ValueIdx.ix2 (y 0) k) * w (ValueIdx.ix2 k (y 1)) := by
  unfold k0_pay1
  exact Cert.Common.dotP_apply (φ₁ := .bf16) (φ₂ := .bf16) (M := 1024) (K := 4096) (N := 512) v w y

theorem k0_pay2_apply (v : Vec Ideal S1024x4096 .bf16) (w : Vec Ideal S4096x512 .bf16) (x : Vec Ideal S1024x512 .f32) (g : Vec Ideal S1x1x1x512 .f32) (y : S1024x512.Idx) :
    k0_pay2 v w x g y = x y + g (ValueIdx.ix4 0 0 0 (y 1)) * (∑ k : Fin 4096, v (ValueIdx.ix2 (y 0) k) * w (ValueIdx.ix2 k (y 1))) := by
  rw [← k0_pay1_apply]
  unfold k0_pay2
  refine congrArg (fun q : EReal => x y + q) ?_
  rw [shapeCast_apply _ shapeCasts_S1x1024x512_S1024x512 y (ValueIdx.ix3 0 (y 0) (y 1)) (by
    rw [Shape.rowMajor_val_three, Shape.rowMajor_val_two]
    show (0 * 1024 + (y 0).val) * 512 + (y 1).val = (y 0).val * 512 + (y 1).val
    omega)]
  refine congrArg₂ (fun p q : EReal => p * q) ?_ ?_
  · rw [broadcastTo_apply _ broadcasts_S1x1x512_S1x1024x512 _ (ValueIdx.ix3 0 0 (y 1)) (fun a => match a with
      | ⟨0, _⟩ => rfl
      | ⟨1, _⟩ => rfl
      | ⟨2, _⟩ => rfl)]
    rw [shapeCast_apply _ shapeCasts_S1x512_S1x1x512 _ (ValueIdx.ix2 0 (y 1)) (by
      rw [Shape.rowMajor_val_three, Shape.rowMajor_val_two]
      rfl)]
    rw [shapeCast_apply _ shapeCasts_S1x1x1x512_S1x512 _ (ValueIdx.ix4 0 0 0 (y 1)) (by
      rw [Shape.rowMajor_val_four, Shape.rowMajor_val_two]
      rfl)]
  · rw [shapeCast_apply _ shapeCasts_S1024x512_S1x1024x512 _ y (by
      rw [Shape.rowMajor_val_three, Shape.rowMajor_val_two]
      show (y 0).val * 512 + (y 1).val = (0 * 1024 + (y 0).val) * 512 + (y 1).val
      omega)]

theorem k0_pay3_apply (v : Vec Ideal S1024x4096 .bf16) (w : Vec Ideal S4096x512 .bf16) (x : Vec Ideal S1024x512 .f32) (g : Vec Ideal S32x1x1x512 .f32) (y : S1024x512.Idx) :
    k0_pay3 v w x g y = x y + g (ValueIdx.ix4 ⟨(y 0).val / 32, by have h : (y 0).val < 1024 := (y 0).isLt; omega⟩ 0 0 (y 1)) * (∑ k : Fin 4096, v (ValueIdx.ix2 (y 0) k) * w (ValueIdx.ix2 k (y 1))) := by
  have hy0 : (y 0).val < 1024 := (y 0).isLt
  have hy1 : (y 1).val < 512 := (y 1).isLt
  rw [← k0_pay1_apply]
  unfold k0_pay3
  refine congrArg (fun q : EReal => x y + q) ?_
  rw [shapeCast_apply _ shapeCasts_S32x32x512_S1024x512 y (ValueIdx.ix3 ⟨(y 0).val / 32, by omega⟩ ⟨(y 0).val % 32, by omega⟩ (y 1)) (by
    rw [Shape.rowMajor_val_three, Shape.rowMajor_val_two]
    show ((y 0).val / 32 * 32 + (y 0).val % 32) * 512 + (y 1).val = (y 0).val * 512 + (y 1).val
    omega)]
  refine congrArg₂ (fun p q : EReal => p * q) ?_ ?_
  · rw [broadcastTo_apply _ broadcasts_S32x1x512_S32x32x512 _ (ValueIdx.ix3 ⟨(y 0).val / 32, by omega⟩ 0 (y 1)) (fun a => match a with
      | ⟨0, _⟩ => rfl
      | ⟨1, _⟩ => rfl
      | ⟨2, _⟩ => rfl)]
    rw [shapeCast_apply _ shapeCasts_S32x1x1x512_S32x1x512 _ (ValueIdx.ix4 ⟨(y 0).val / 32, by omega⟩ 0 0 (y 1)) (by
      rw [Shape.rowMajor_val_four, Shape.rowMajor_val_three]
      show (((y 0).val / 32 * 1 + 0) * 1 + 0) * 512 + (y 1).val = ((y 0).val / 32 * 1 + 0) * 512 + (y 1).val
      omega)]
  · rw [shapeCast_apply _ shapeCasts_S1024x512_S32x32x512 _ y (by
      rw [Shape.rowMajor_val_three, Shape.rowMajor_val_two]
      show (y 0).val * 512 + (y 1).val = ((y 0).val / 32 * 32 + (y 0).val % 32) * 512 + (y 1).val
      omega)]

/-! ## The reference at one place -/

theorem ref_left (x0 : Vec Ideal S17408x4096 .bf16) (x1 : Vec Ideal S4096x4096 .bf16) (x2 : Vec Ideal S16384x4096 .f32) (x3 : Vec Ideal S1024x4096 .f32) (x4 : Vec Ideal S40x6x1x4096 .f32) (z : S17408x4096.Idx) (hp : (z 0).val < 16384) :
    Cert.OutprojRefIdeal.Read.val_main_v21 (F := Ideal) x0 x1 x2 x3 x4 z
      = x2 (ValueIdx.ix2 ⟨(z 0).val, by have h : (z 0).val < 17408 := (z 0).isLt; omega⟩ (z 1))
        + x4 (ValueIdx.ix4 ⟨32 + (z 0).val / 8192, by have h : (z 0).val < 17408 := (z 0).isLt; omega⟩ 2 0 (z 1))
          * (∑ k : Fin 4096, x0 (ValueIdx.ix2 (z 0) k) * x1 (ValueIdx.ix2 k (z 1))) := by
  have hz0 : (z 0).val < 17408 := (z 0).isLt
  have hz1 : (z 1).val < 4096 := (z 1).isLt
  obtain ⟨i, hi0, hi1⟩ : ∃ i : S16384x4096.Idx, (i 0).val = (z 0).val ∧ (i 1).val = (z 1).val := ⟨ValueIdx.ix2 ⟨(z 0).val, by omega⟩ (z 1), rfl, rfl⟩
  have ez : Cert.OutprojRefIdeal.Read.val_main_v21 (F := Ideal) x0 x1 x2 x3 x4 z = Cert.OutprojRefIdeal.Read.val_main_v19 (F := Ideal) x0 x1 x2 x4 i := by
    unfold Cert.OutprojRefIdeal.Read.val_main_v21
    refine concatenate_pair_apply_left (s₁ := S16384x4096) (s₂ := S1024x4096) _ _ _ _ z rfl i fun b => ?_
    match b with
    | ⟨0, _⟩ => exact hi0
    | ⟨1, _⟩ => exact hi1
  rw [ez, Cert.OutprojRefIdeal.Read.val_main_v19_apply]
  obtain ⟨j, hj⟩ : ∃ j, j = Cert.OutprojRefIdeal.Read.idx_main_v19 i := ⟨_, rfl⟩
  have hj0 : (j 0).val = (i 0).val / 8192 := by rw [hj]; show ((i 0).val * 4096 + (i 1).val) / 33554432 = _; omega
  have hj1 : (j 1).val = (i 0).val % 8192 := by rw [hj]; show ((i 0).val * 4096 + (i 1).val) / 4096 % 8192 = _; omega
  have hj2 : (j 2).val = (z 1).val := by rw [hj]; show ((i 0).val * 4096 + (i 1).val) % 4096 = _; omega
  rw [← hj, Cert.OutprojRefIdeal.Read.val_main_v12_apply, Cert.OutprojRefIdeal.Read.val_main_v7_apply, Cert.OutprojRefIdeal.Read.val_main_v11_apply, Cert.OutprojRefIdeal.Read.val_main_v10_apply, Cert.OutprojRefIdeal.Read.val_main_v4_apply, Cert.OutprojRefIdeal.Read.val_main_v3_apply, Cert.OutprojRefIdeal.Read.val_main_v9_apply, Cert.OutprojRefIdeal.Read.val_main_v8_apply, Cert.OutprojRefIdeal.Read.val_main_v2_apply]
  have hr : (((j 0).val * 8192 + (j 1).val) * 4096 + (j 2).val) / 4096 = (i 0).val := by omega
  have hc : (((j 0).val * 8192 + (j 1).val) * 4096 + (j 2).val) % 4096 = (z 1).val := by omega
  have hg : (((j 0).val * 1 + 0) * 4096 + (j 2).val) / 4096 = (j 0).val := by omega
  have hgc : (((j 0).val * 1 + 0) * 4096 + (j 2).val) % 4096 = (z 1).val := by omega
  refine congrArg₂ (fun p q : EReal => p + q) (congrArg x2 (funext fun a => Fin.ext ?_))
    (congrArg₂ (fun p q : EReal => p * q) (congrArg x4 (funext fun a => Fin.ext ?_)) (Finset.sum_congr rfl fun k _ => congrArg₂ (fun p q : EReal => p * q) ?_ ?_))
  · match a with
    | ⟨0, _⟩ => show (((j 0).val * 8192 + (j 1).val) * 4096 + (j 2).val) / 4096 = (z 0).val; omega
    | ⟨1, _⟩ => exact hc
  · match a with
    | ⟨0, _⟩ => show 32 + ((((j 0).val * 1 + 0) * 4096 + (j 2).val) / 4096) = 32 + (z 0).val / 8192; omega
    | ⟨1, _⟩ => rfl
    | ⟨2, _⟩ => rfl
    | ⟨3, _⟩ => exact hgc
  · rw [Cert.OutprojRefIdeal.Read.val_main_v0_apply]
    refine congrArg x0 (funext fun a => Fin.ext ?_)
    match a with
    | ⟨0, _⟩ => show ((((j 0).val * 8192 + (j 1).val) * 4096 + (j 2).val) / 4096) = (z 0).val; omega
    | ⟨1, _⟩ => rfl
  · rw [Cert.OutprojRefIdeal.Read.val_main_v1_apply]
    refine congrArg x1 (funext fun a => Fin.ext ?_)
    match a with
    | ⟨0, _⟩ => rfl
    | ⟨1, _⟩ => exact hc

theorem ref_right (x0 : Vec Ideal S17408x4096 .bf16) (x1 : Vec Ideal S4096x4096 .bf16) (x2 : Vec Ideal S16384x4096 .f32) (x3 : Vec Ideal S1024x4096 .f32) (x4 : Vec Ideal S40x6x1x4096 .f32) (z : S17408x4096.Idx) (hp : ¬(z 0).val < 16384) :
    Cert.OutprojRefIdeal.Read.val_main_v21 (F := Ideal) x0 x1 x2 x3 x4 z
      = x3 (ValueIdx.ix2 ⟨(z 0).val - 16384, by have h : (z 0).val < 17408 := (z 0).isLt; omega⟩ (z 1))
        + x4 (ValueIdx.ix4 ⟨((z 0).val - 16384) / 32, by have h : (z 0).val < 17408 := (z 0).isLt; omega⟩ 2 0 (z 1))
          * (∑ k : Fin 4096, x0 (ValueIdx.ix2 (z 0) k) * x1 (ValueIdx.ix2 k (z 1))) := by
  have hz0 : (z 0).val < 17408 := (z 0).isLt
  have hz1 : (z 1).val < 4096 := (z 1).isLt
  obtain ⟨i, hi0, hi1⟩ : ∃ i : S1024x4096.Idx, (i 0).val = (z 0).val - 16384 ∧ (i 1).val = (z 1).val := ⟨ValueIdx.ix2 ⟨(z 0).val - 16384, by omega⟩ (z 1), rfl, rfl⟩
  have ez : Cert.OutprojRefIdeal.Read.val_main_v21 (F := Ideal) x0 x1 x2 x3 x4 z = Cert.OutprojRefIdeal.Read.val_main_v20 (F := Ideal) x0 x1 x3 x4 i := by
    unfold Cert.OutprojRefIdeal.Read.val_main_v21
    refine concatenate_pair_apply_right (s₁ := S16384x4096) (s₂ := S1024x4096) _ _ _ _ z rfl rfl i (fun b hb => ?_) (by show (i 0).val + 16384 = (z 0).val; omega)
    match b with
    | ⟨0, _⟩ => exact absurd rfl hb
    | ⟨1, _⟩ => exact hi1
  rw [ez, Cert.OutprojRefIdeal.Read.val_main_v20_apply]
  obtain ⟨j, hj⟩ : ∃ j, j = Cert.OutprojRefIdeal.Read.idx_main_v20 i := ⟨_, rfl⟩
  have hj0 : (j 0).val = (i 0).val / 32 := by rw [hj]; show ((i 0).val * 4096 + (i 1).val) / 131072 = _; omega
  have hj1 : (j 1).val = (i 0).val % 32 := by rw [hj]; show ((i 0).val * 4096 + (i 1).val) / 4096 % 32 = _; omega
  have hj2 : (j 2).val = (z 1).val := by rw [hj]; show ((i 0).val * 4096 + (i 1).val) % 4096 = _; omega
  rw [← hj, Cert.OutprojRefIdeal.Read.val_main_v18_apply, Cert.OutprojRefIdeal.Read.val_main_v13_apply, Cert.OutprojRefIdeal.Read.val_main_v17_apply, Cert.OutprojRefIdeal.Read.val_main_v16_apply, Cert.OutprojRefIdeal.Read.val_main_v6_apply, Cert.OutprojRefIdeal.Read.val_main_v5_apply, Cert.OutprojRefIdeal.Read.val_main_v15_apply, Cert.OutprojRefIdeal.Read.val_main_v14_apply, Cert.OutprojRefIdeal.Read.val_main_v2_apply]
  have hr : (((j 0).val * 32 + (j 1).val) * 4096 + (j 2).val) / 4096 = (i 0).val := by omega
  have hc : (((j 0).val * 32 + (j 1).val) * 4096 + (j 2).val) % 4096 = (z 1).val := by omega
  have hg : (((j 0).val * 1 + 0) * 4096 + (j 2).val) / 4096 = (j 0).val := by omega
  have hgc : (((j 0).val * 1 + 0) * 4096 + (j 2).val) % 4096 = (z 1).val := by omega
  refine congrArg₂ (fun p q : EReal => p + q) (congrArg x3 (funext fun a => Fin.ext ?_))
    (congrArg₂ (fun p q : EReal => p * q) (congrArg x4 (funext fun a => Fin.ext ?_)) (Finset.sum_congr rfl fun k _ => congrArg₂ (fun p q : EReal => p * q) ?_ ?_))
  · match a with
    | ⟨0, _⟩ => show (((j 0).val * 32 + (j 1).val) * 4096 + (j 2).val) / 4096 = (z 0).val - 16384; omega
    | ⟨1, _⟩ => exact hc
  · match a with
    | ⟨0, _⟩ => show ((((j 0).val * 1 + 0) * 4096 + (j 2).val) / 4096) = ((z 0).val - 16384) / 32; omega
    | ⟨1, _⟩ => rfl
    | ⟨2, _⟩ => rfl
    | ⟨3, _⟩ => exact hgc
  · rw [Cert.OutprojRefIdeal.Read.val_main_v0_apply]
    refine congrArg x0 (funext fun a => Fin.ext ?_)
    match a with
    | ⟨0, _⟩ => show 16384 + ((((j 0).val * 32 + (j 1).val) * 4096 + (j 2).val) / 4096) = (z 0).val; omega
    | ⟨1, _⟩ => rfl
  · rw [Cert.OutprojRefIdeal.Read.val_main_v1_apply]
    refine congrArg x1 (funext fun a => Fin.ext ?_)
    match a with
    | ⟨0, _⟩ => rfl
    | ⟨1, _⟩ => exact hc

variable (m : (ℓ : Loc nD τ sig) → Buf (Elt Ideal) ℓ)

theorem facts0 : ∀ t : Fin cfg0.N, win0_0.index t (0 : Fin 2) = t.val / 8 ∧ win0_0.index t (1 : Fin 2) = 0 :=
  (by decide +kernel : ∀ t : Fin grid0.N, _)

/-- The row tile of the merged rows. -/
theorem blk0_apply (c : Dev nD) (t : Fin cfg0.N) (y : S1024x4096.Idx) (z : S17408x4096.Idx) (h0 : (z 0).val = 1024 * (t.val / 8) + (y 0).val) (h1 : (z 1).val = 4096 * (0) + (y 1).val) :
    (iblk m c 0 t : Vec Ideal S1024x4096 .bf16) y = m ((c : Thread nD τ).loc main_arg0) z := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = (z 0).val; rw [e0, h0]; omega
  | ⟨1, _⟩ => show win0_0.index t (1 : Fin 2) * 4096 + 1 * (y 1).val = (z 1).val; rw [e1, h1]; omega

theorem facts1 : ∀ t : Fin cfg0.N, win0_1.index t (0 : Fin 2) = 0 ∧ win0_1.index t (1 : Fin 2) = t.val % 8 :=
  (by decide +kernel : ∀ t : Fin grid0.N, _)

/-- The column tile of the weights. -/
theorem blk1_apply (c : Dev nD) (t : Fin cfg0.N) (y : S4096x512.Idx) (z : S4096x4096.Idx) (h0 : (z 0).val = 4096 * (0) + (y 0).val) (h1 : (z 1).val = 512 * (t.val % 8) + (y 1).val) :
    (iblk m c 1 t : Vec Ideal S4096x512 .bf16) y = m ((c : Thread nD τ).loc main_arg1) z := by
  obtain ⟨e0, e1⟩ := facts1 t
  show V m c main_arg1 (((cfg0.win 1).blk t).view.emb y) = _
  rw [V_main_arg1]
  refine congrArg _ (funext fun a => Fin.ext ?_)
  match a with
  | ⟨0, _⟩ => show win0_1.index t (0 : Fin 2) * 4096 + 1 * (y 0).val = (z 0).val; rw [e0, h0]; omega
  | ⟨1, _⟩ => show win0_1.index t (1 : Fin 2) * 512 + 1 * (y 1).val = (z 1).val; rw [e1, h1]; omega

theorem facts2 : ∀ t : Fin cfg0.N, win0_2.index t (0 : Fin 2) = min (t.val / 8) 15 ∧ win0_2.index t (1 : Fin 2) = t.val % 8 :=
  (by decide +kernel : ∀ t : Fin grid0.N, _)

/-- The tile of the prompts' residual. -/
theorem blk2_apply (c : Dev nD) (t : Fin cfg0.N) (y : S1024x512.Idx) (z : S16384x4096.Idx) (h0 : (z 0).val = 1024 * (min (t.val / 8) 15) + (y 0).val) (h1 : (z 1).val = 512 * (t.val % 8) + (y 1).val) :
    (iblk m c 2 t : Vec Ideal S1024x512 .f32) y = m ((c : Thread nD τ).loc main_arg2) z := by
  obtain ⟨e0, e1⟩ := facts2 t
  show V m c main_arg2 (((cfg0.win 2).blk t).view.emb y) = _
  rw [V_main_arg2]
  refine congrArg _ (funext fun a => Fin.ext ?_)
  match a with
  | ⟨0, _⟩ => show win0_2.index t (0 : Fin 2) * 1024 + 1 * (y 0).val = (z 0).val; rw [e0, h0]; omega
  | ⟨1, _⟩ => show win0_2.index t (1 : Fin 2) * 512 + 1 * (y 1).val = (z 1).val; rw [e1, h1]; omega

theorem facts3 : ∀ t : Fin cfg0.N, win0_3.index t (0 : Fin 2) = 0 ∧ win0_3.index t (1 : Fin 2) = t.val % 8 :=
  (by decide +kernel : ∀ t : Fin grid0.N, _)

/-- The tile of the samples' residual. -/
theorem blk3_apply (c : Dev nD) (t : Fin cfg0.N) (y : S1024x512.Idx) (z : S1024x4096.Idx) (h0 : (z 0).val = 1024 * (0) + (y 0).val) (h1 : (z 1).val = 512 * (t.val % 8) + (y 1).val) :
    (iblk m c 3 t : Vec Ideal S1024x512 .f32) y = m ((c : Thread nD τ).loc main_arg3) z := by
  obtain ⟨e0, e1⟩ := facts3 t
  show V m c main_arg3 (((cfg0.win 3).blk t).view.emb y) = _
  rw [V_main_arg3]
  refine congrArg _ (funext fun a => Fin.ext ?_)
  match a with
  | ⟨0, _⟩ => show win0_3.index t (0 : Fin 2) * 1024 + 1 * (y 0).val = (z 0).val; rw [e0, h0]; omega
  | ⟨1, _⟩ => show win0_3.index t (1 : Fin 2) * 512 + 1 * (y 1).val = (z 1).val; rw [e1, h1]; omega

theorem facts4 : ∀ t : Fin cfg0.N, win0_4.index t (0 : Fin 4) = 32 + min (t.val / 8) 15 / 8 ∧ win0_4.index t (1 : Fin 4) = 2 ∧ win0_4.index t (2 : Fin 4) = 0 ∧ win0_4.index t (3 : Fin 4) = t.val % 8 :=
  (by decide +kernel : ∀ t : Fin grid0.N, _)

/-- The gates of the prompt a point works on. -/
theorem blk4_apply (c : Dev nD) (t : Fin cfg0.N) (y : S1x1x1x512.Idx) (z : S40x6x1x4096.Idx) (h0 : (z 0).val = 1 * (32 + min (t.val / 8) 15 / 8) + (y 0).val) (h1 : (z 1).val = 1 * (2) + (y 1).val) (h2 : (z 2).val = 1 * (0) + (y 2).val) (h3 : (z 3).val = 512 * (t.val % 8) + (y 3).val) :
    (iblk m c 4 t : Vec Ideal S1x1x1x512 .f32) y = m ((c : Thread nD τ).loc main_arg4) z := by
  obtain ⟨e0, e1, e2, e3⟩ := facts4 t
  show V m c main_arg4 (((cfg0.win 4).blk t).view.emb y) = _
  rw [V_main_arg4]
  refine congrArg _ (funext fun a => Fin.ext ?_)
  match a with
  | ⟨0, _⟩ => show win0_4.index t (0 : Fin 4) * 1 + 1 * (y 0).val = (z 0).val; rw [e0, h0]; omega
  | ⟨1, _⟩ => show win0_4.index t (1 : Fin 4) * 1 + 1 * (y 1).val = (z 1).val; rw [e1, h1]; omega
  | ⟨2, _⟩ => show win0_4.index t (2 : Fin 4) * 1 + 1 * (y 2).val = (z 2).val; rw [e2, h2]; omega
  | ⟨3, _⟩ => show win0_4.index t (3 : Fin 4) * 512 + 1 * (y 3).val = (z 3).val; rw [e3, h3]; omega

theorem facts5 : ∀ t : Fin cfg0.N, win0_5.index t (0 : Fin 4) = 0 ∧ win0_5.index t (1 : Fin 4) = 2 ∧ win0_5.index t (2 : Fin 4) = 0 ∧ win0_5.index t (3 : Fin 4) = t.val % 8 :=
  (by decide +kernel : ∀ t : Fin grid0.N, _)

/-- The gates of the samples. -/
theorem blk5_apply (c : Dev nD) (t : Fin cfg0.N) (y : S32x1x1x512.Idx) (z : S40x6x1x4096.Idx) (h0 : (z 0).val = 32 * (0) + (y 0).val) (h1 : (z 1).val = 1 * (2) + (y 1).val) (h2 : (z 2).val = 1 * (0) + (y 2).val) (h3 : (z 3).val = 512 * (t.val % 8) + (y 3).val) :
    (X0_5 m c t : Vec Ideal S32x1x1x512 .f32) y = m ((c : Thread nD τ).loc main_arg4) z := by
  obtain ⟨e0, e1, e2, e3⟩ := facts5 t
  unfold X0_5 Pipeline.Window.fill
  rw [dif_pos (moved0_5 t y)]
  show V m c main_arg4 (((cfg0.win 5).blk t).view.emb _) = _
  rw [V_main_arg4]
  refine congrArg _ (funext fun a => Fin.ext ?_)
  match a with
  | ⟨0, _⟩ => show win0_5.index t (0 : Fin 4) * 32 + 1 * (y 0).val = (z 0).val; rw [e0, h0]; omega
  | ⟨1, _⟩ => show win0_5.index t (1 : Fin 4) * 1 + 1 * (y 1).val = (z 1).val; rw [e1, h1]; omega
  | ⟨2, _⟩ => show win0_5.index t (2 : Fin 4) * 1 + 1 * (y 2).val = (z 2).val; rw [e2, h2]; omega
  | ⟨3, _⟩ => show win0_5.index t (3 : Fin 4) * 512 + 1 * (y 3).val = (z 3).val; rw [e3, h3]; omega

theorem facts6 : ∀ t : Fin cfg0.N, win0_6.index t (0 : Fin 2) = t.val / 8 ∧ win0_6.index t (1 : Fin 2) = t.val % 8 :=
  (by decide +kernel : ∀ t : Fin grid0.N, _)

theorem flushes : ∀ t : Fin cfg0.N, (cfg0.win 6).flush t = true :=
  (by decide +kernel : ∀ t : Fin grid0.N, _)

theorem mem_block (t : Fin cfg0.N) (i : S17408x4096.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v0).slice (win0_6.rect t)).set ↔ _
  rw [View.set_slice_whole, Rect.mem_set_unit]
  exact Iff.rfl

/-- Every place of the result lies in the block of some point. -/
theorem covers (i : S17408x4096.Idx) : ∃ t : Fin cfg0.N, (cfg0.win 6).flush t = true ∧ i ∈ ((cfg0.win 6).blk t).view.set := by
  have h0 : (i 0).val < 17408 := (i 0).isLt
  have h1 : (i 1).val < 4096 := (i 1).isLt
  have hN : cfg0.N = 136 := N_0
  let t : Fin cfg0.N := ⟨(i 0).val / 1024 * 8 + (i 1).val / 512, by omega⟩
  have ht : t.val = (i 0).val / 1024 * 8 + (i 1).val / 512 := rfl
  obtain ⟨e0, e1⟩ := facts6 t
  refine ⟨t, flushes t, (mem_block t i).2 fun a => ?_⟩
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 512 ≤ (i 1).val ∧ (i 1).val < win0_6.index t (1 : Fin 2) * 512 + 512; rw [e1, ht]; omega

/-- A prompt tile of the result. -/
theorem tile_A (c : Dev nD) (t : Fin cfg0.N) (ht : t.val < 128) (y : S1024x512.Idx) (z : S17408x4096.Idx)
    (h0 : (z 0).val = 1024 * (t.val / 8) + (y 0).val) (h1 : (z 1).val = 512 * (t.val % 8) + (y 1).val) :
    k0_pay2 (F := Ideal) (iblk m c 0 t) (iblk m c 1 t) (iblk m c 2 t) (iblk m c 4 t) y
      = Cert.OutprojRefIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  have hy0 : (y 0).val < 1024 := (y 0).isLt
  have hy1 : (y 1).val < 512 := (y 1).isLt
  have hN := lt_of_lt_of_eq t.isLt (show cfg0.N = 136 from N_0)
  rw [k0_pay2_apply, ref_left _ _ _ _ _ z (by omega)]
  refine congrArg₂ (fun p q : EReal => p + q) ?_ (congrArg₂ (fun p q : EReal => p * q) ?_ (Finset.sum_congr rfl fun k _ => congrArg₂ (fun p q : EReal => p * q) ?_ ?_))
  · refine blk2_apply m c t y _ ?_ h1
    show (z 0).val = _ + (y 0).val
    omega
  · refine blk4_apply m c t _ _ ?_ ?_ ?_ h1
    · show 32 + (z 0).val / 8192 = _ + 0; omega
    · show 2 = 1 * 2 + 0; omega
    · show 0 = 1 * 0 + 0; omega
  · exact blk0_apply m c t _ _ h0 (by show k.val = 4096 * 0 + k.val; omega)
  · exact blk1_apply m c t _ _ (by show k.val = 4096 * 0 + k.val; omega) h1

/-- A sample tile of the result. -/
theorem tile_B (c : Dev nD) (t : Fin cfg0.N) (ht : ¬t.val < 128) (y : S1024x512.Idx) (z : S17408x4096.Idx)
    (h0 : (z 0).val = 1024 * (t.val / 8) + (y 0).val) (h1 : (z 1).val = 512 * (t.val % 8) + (y 1).val) :
    k0_pay3 (F := Ideal) (iblk m c 0 t) (iblk m c 1 t) (iblk m c 3 t) (X0_5 m c t) y
      = Cert.OutprojRefIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  have hy0 : (y 0).val < 1024 := (y 0).isLt
  have hy1 : (y 1).val < 512 := (y 1).isLt
  have hN := lt_of_lt_of_eq t.isLt (show cfg0.N = 136 from N_0)
  rw [k0_pay3_apply, ref_right _ _ _ _ _ z (by omega)]
  refine congrArg₂ (fun p q : EReal => p + q) ?_ (congrArg₂ (fun p q : EReal => p * q) ?_ (Finset.sum_congr rfl fun k _ => congrArg₂ (fun p q : EReal => p * q) ?_ ?_))
  · refine blk3_apply m c t y _ ?_ h1
    show (z 0).val - 16384 = _ + (y 0).val
    omega
  · refine blk5_apply m c t _ _ ?_ ?_ ?_ h1
    · show ((z 0).val - 16384) / 32 = _ + (y 0).val / 32; omega
    · show 2 = 1 * 2 + 0; omega
    · show 0 = 1 * 0 + 0; omega
  · exact blk0_apply m c t _ _ h0 (by show k.val = 4096 * 0 + k.val; omega)
  · exact blk1_apply m c t _ _ (by show k.val = 4096 * 0 + k.val; omega) h1

/-- The array the kernel returns is the reference's. -/
theorem final_eq (c : Dev nD) : (dats m 0 c).arrAt 6 cfg0.N
    = Cert.OutprojRefIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 6 _ (fun t hf => ?_) covers
  obtain ⟨e0, e1⟩ := facts6 t
  have hN := lt_of_lt_of_eq t.isLt (show cfg0.N = 136 from N_0)
  have key : ∀ (y : S1024x512.Idx) (z : S17408x4096.Idx), (z 0).val = 1024 * (t.val / 8) + (y 0).val → (z 1).val = 512 * (t.val % 8) + (y 1).val →
      outsAt0 m c t.val t.isLt y = Cert.OutprojRefIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
    intro y z h0 h1
    by_cases ht : t.val < 128
    · rw [outsAt0_A m c t ht (by omega), out_A]
      exact tile_A m c t ht y z h0 h1
    · rw [outsAt0_B m c t ht (by omega), out_B]
      exact tile_B m c t ht y z h0 h1
  rw [Cert.OutprojIdeal.Value.flushed6]
  funext y
  show outsAt0 m c t.val t.isLt ((cfg0.win 6).xinj (grid0.coords t) y) = Cert.OutprojRefIdeal.Read.val_main_v21 (F := Ideal) _ _ _ _ _ (((cfg0.win 6).blk t).view.emb y)
  refine key _ _ ?_ ?_
  · show win0_6.index t (0 : Fin 2) * 1024 + 1 * (y 0).val = 1024 * (t.val / 8) + (y 0).val; rw [e0]; omega
  · show win0_6.index t (1 : Fin 2) * 512 + 1 * (y 1).val = 512 * (t.val % 8) + (y 1).val; rw [e1]; omega

end Cert.OutprojIdeal.Hand

namespace Cert.Proof
open Idealize.ShloMosaic Idealize.ShloMosaic.TcCoe Idealize.SL.Sem

theorem algebraic_OutprojIdeal_OutprojRefIdeal_proof : Cert.algebraic_OutprojIdeal_OutprojRefIdeal := by
  intro m g m' g' _ hargs
  refine ⟨fun c => Cert.OutprojRefIdeal.Read.val_main_v21 (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)), ?_, ?_⟩
  · refine (θ_run _ _ _).mono (fun r h c => ?_) (Cert.OutprojIdeal.Value.run_blocks m g)
    exact ⟨(h c).1.trans (Cert.OutprojIdeal.Hand.final_eq m c), (h c).2⟩
  · refine (θ_run _ _ _).mono (fun r h c => ?_) (Cert.OutprojRefIdeal.Value.run m' g')
    refine ⟨(h c).1.trans ?_, (h c).2⟩
    have e := hargs c
    rw [e.1, e.2.1, e.2.2.1, e.2.2.2.1, e.2.2.2.2]
    exact Cert.OutprojRefIdeal.Read.val_main_v21_eq (F := Ideal) _ _ _ _ _

theorem preserves_Outproj_OutprojIdeal_proof : Cert.preserves_Outproj_OutprojIdeal := trivial

end Cert.Proof

end
-- ==== Proof.PeerQuery.lean ====
module
public import proofs.«01_k».proof.Proof.Gen.PeerQueryIdeal.Value
public import proofs.«01_k».proof.Proof.Gen.PeerQueryRefIdeal.Read
public import proofs.«01_k».proof.Proof.Common
public import proofs.«01_k».proof.Defs
public import Idealize.ShloMosaic.Lib.Quiescent
@[expose] public section
set_option maxRecDepth 16384
noncomputable section
namespace Cert.PeerQueryIdeal.Hand
open Cert.PeerQueryIdeal Cert.PeerQueryIdeal.Gen Idealize.ShloMosaic Idealize.ShloMosaic.TcCoe Idealize.SL.Sem

/-- What the body stores: the rows times the columns. -/
theorem stored (x0 : Vec Ideal S1024x4096 .bf16) (x1 : Vec Ideal S4096x1024 .bf16) : out0_2 (F := Ideal) x0 x1 = k0_pay1 x0 x1 := by
  unfold out0_2
  refine (View.canon_unit_zero (by decide) _ _).trans ?_
  exact congrArg₂ k0_pay1 (View.ld_unit_zero (by decide) _ x0) (View.ld_unit_zero (by decide) _ x1)

theorem k0_pay1_apply (v : Vec Ideal S1024x4096 .bf16) (w : Vec Ideal S4096x1024 .bf16) (y : S1024x1024.Idx) :
    k0_pay1 v w y = ∑ k : Fin 4096, v (ValueIdx.ix2 (y 0) k) * w (ValueIdx.ix2 k (y 1)) := by
  unfold k0_pay1
  exact Cert.Common.dotP_apply (φ₁ := .bf16) (φ₂ := .bf16) (M := 1024) (K := 4096) (N := 1024) v w y

variable (m : (ℓ : Loc nD τ sig) → Buf (Elt Ideal) ℓ)

theorem facts0 : ∀ t : Fin cfg0.N, win0_0.index t (0 : Fin 2) = t.val / 2 ∧ win0_0.index t (1 : Fin 2) = 0 :=
  (by decide +kernel : ∀ t : Fin grid0.N, _)

/-- Window 0 at a point: its row tile. -/
theorem blk0_apply (c : Dev nD) (t : Fin cfg0.N) (y : S1024x4096.Idx) (z : S17408x4096.Idx) (h0 : (z 0).val = 1024 * (t.val / 2) + (y 0).val) (h1 : (z 1).val = 4096 * (0) + (y 1).val) :
    (iblk m c 0 t : Vec Ideal S1024x4096 .bf16) y = m ((c : Thread nD τ).loc main_arg0) z := by
  obtain ⟨e0, e1⟩ := facts0 t
  show V m c main_arg0 (((cfg0.win 0).blk t).view.emb y) = _
  rw [V_main_arg0]
  refine congrArg _ (funext fun a => Fin.ext ?_)
  match a with
  | ⟨0, _⟩ => show win0_0.index t (0 : Fin 2) * 1024 + 1 * (y 0).val = (z 0).val; rw [e0, h0]; omega
  | ⟨1, _⟩ => show win0_0.index t (1 : Fin 2) * 4096 + 1 * (y 1).val = (z 1).val; rw [e1, h1]; omega

theorem facts1 : ∀ t : Fin cfg0.N, win0_1.index t (0 : Fin 2) = 0 ∧ win0_1.index t (1 : Fin 2) = t.val % 2 :=
  (by decide +kernel : ∀ t : Fin grid0.N, _)

/-- Window 1 at a point: its column tile. -/
theorem blk1_apply (c : Dev nD) (t : Fin cfg0.N) (y : S4096x1024.Idx) (z : S4096x2048.Idx) (h0 : (z 0).val = 4096 * (0) + (y 0).val) (h1 : (z 1).val = 1024 * (t.val % 2) + (y 1).val) :
    (iblk m c 1 t : Vec Ideal S4096x1024 .bf16) y = m ((c : Thread nD τ).loc main_arg1) z := by
  obtain ⟨e0, e1⟩ := facts1 t
  show V m c main_arg1 (((cfg0.win 1).blk t).view.emb y) = _
  rw [V_main_arg1]
  refine congrArg _ (funext fun a => Fin.ext ?_)
  match a with
  | ⟨0, _⟩ => show win0_1.index t (0 : Fin 2) * 4096 + 1 * (y 0).val = (z 0).val; rw [e0, h0]; omega
  | ⟨1, _⟩ => show win0_1.index t (1 : Fin 2) * 1024 + 1 * (y 1).val = (z 1).val; rw [e1, h1]; omega

theorem facts2 : ∀ t : Fin cfg0.N, win0_2.index t (0 : Fin 2) = t.val / 2 ∧ win0_2.index t (1 : Fin 2) = t.val % 2 :=
  (by decide +kernel : ∀ t : Fin grid0.N, _)

theorem flushes : ∀ t : Fin cfg0.N, (cfg0.win 2).flush t = true :=
  (by decide +kernel : ∀ t : Fin grid0.N, _)

theorem mem_block (t : Fin cfg0.N) (i : S17408x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every place of the result lies in the block of some point. -/
theorem covers (i : S17408x2048.Idx) : ∃ t : Fin cfg0.N, (cfg0.win 2).flush t = true ∧ i ∈ ((cfg0.win 2).blk t).view.set := by
  have h0 : (i 0).val < 17408 := (i 0).isLt
  have h1 : (i 1).val < 2048 := (i 1).isLt
  have hN : cfg0.N = 34 := N_0
  let t : Fin cfg0.N := ⟨(i 0).val / 1024 * 2 + (i 1).val / 1024, by omega⟩
  have ht : t.val = (i 0).val / 1024 * 2 + (i 1).val / 1024 := rfl
  obtain ⟨e0, e1⟩ := facts2 t
  refine ⟨t, flushes t, (mem_block t i).2 fun a => ?_⟩
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 1024 ≤ (i 1).val ∧ (i 1).val < win0_2.index t (1 : Fin 2) * 1024 + 1024; rw [e1, ht]; omega

/-- The array the kernel returns is the reference's. -/
theorem final_eq (c : Dev nD) : (dats m 0 c).arrAt 2 cfg0.N
    = Cert.PeerQueryRefIdeal.Read.val_main_v2 (F := Ideal) (m ((c : Thread nD τ).loc main_arg0)) (m ((c : Thread nD τ).loc main_arg1)) := by
  refine (dats m 0 c).arrAt_eq_of_cover 2 _ (fun t hf => ?_) covers
  obtain ⟨e0, e1⟩ := facts2 t
  rw [Cert.PeerQueryIdeal.Value.flushed2, stored]
  funext y
  show k0_pay1 (F := Ideal) _ _ ((cfg0.win 2).xinj (grid0.coords t) y) = Cert.PeerQueryRefIdeal.Read.val_main_v2 (F := Ideal) _ _ (((cfg0.win 2).blk t).view.emb y)
  rw [k0_pay1_apply]
  generalize hz : ((cfg0.win 2).blk t).view.emb y = z
  have hb0 : (z 0).val = win0_2.index t (0 : Fin 2) * 1024 + 1 * (y 0).val := by subst hz; rfl
  have hb1 : (z 1).val = win0_2.index t (1 : Fin 2) * 1024 + 1 * (y 1).val := by subst hz; rfl
  rw [Cert.PeerQueryRefIdeal.Read.val_main_v2_apply]
  refine Finset.sum_congr rfl fun k _ => congrArg₂ (· * ·) ?_ ?_
  · refine (blk0_apply m c t _ (Cert.PeerQueryRefIdeal.Read.lidx_main_v2 z k) ?_ ?_).trans rfl
    · show (z 0).val = 1024 * (t.val / 2) + (y 0).val; rw [hb0, e0]; omega
    · show k.val = 4096 * 0 + k.val; omega
  · refine (blk1_apply m c t _ (Cert.PeerQueryRefIdeal.Read.ridx_main_v2 z k) ?_ ?_).trans rfl
    · show k.val = 4096 * 0 + k.val; omega
    · show (z 1).val = 1024 * (t.val % 2) + (y 1).val; rw [hb1, e1]; omega

end Cert.PeerQueryIdeal.Hand

namespace Cert.Proof
open Idealize.ShloMosaic Idealize.ShloMosaic.TcCoe Idealize.SL.Sem

theorem algebraic_PeerQueryIdeal_PeerQueryRefIdeal_proof : Cert.algebraic_PeerQueryIdeal_PeerQueryRefIdeal := by
  intro m g m' g' _ hargs
  refine ⟨fun c => Cert.PeerQueryRefIdeal.Read.val_main_v2 (F := Ideal) (m ((c.tc : Thread Cert.PeerQueryIdeal.nD Cert.PeerQueryIdeal.τ).loc Cert.PeerQueryIdeal.main_arg0)) (m ((c.tc : Thread Cert.PeerQueryIdeal.nD Cert.PeerQueryIdeal.τ).loc Cert.PeerQueryIdeal.main_arg1)), ?_, ?_⟩
  · refine (θ_run _ _ _).mono (fun r h c => ?_) (Cert.PeerQueryIdeal.Value.run_blocks m g)
    exact ⟨(h c).1.trans (Cert.PeerQueryIdeal.Hand.final_eq m c), (h c).2⟩
  · refine (θ_run _ _ _).mono (fun r h c => ?_) (Cert.PeerQueryRefIdeal.Value.run m' g')
    refine ⟨(h c).1.trans ?_, (h c).2⟩
    have e := hargs c
    rw [e.1, e.2]
    exact Cert.PeerQueryRefIdeal.Read.val_main_v2_eq (F := Ideal) _ _

theorem preserves_PeerQuery_PeerQueryIdeal_proof : Cert.preserves_PeerQuery_PeerQueryIdeal := trivial

end Cert.Proof

end
-- ==== Proof.MlstmHead.lean ====
module
public import proofs.«01_k».proof.Proof.Gen.KernelIdeal.Value
public import Idealize.ShloMosaic.Lib.Pipeline.ReadBack
/-! What one head of the mLSTM kernel stores, as a function of the head's number. -/
@[expose] public section
set_option maxRecDepth 16384
noncomputable section
namespace Cert.KernelIdeal.Hand
open Cert.KernelIdeal Cert.KernelIdeal.Gen Idealize.ShloMosaic Idealize.ShloMosaic.TcCoe Idealize.SL.Sem

/-- A slice of a plane lies in it. -/
theorem sl2 {R C r w : ℕ} (o p : ℕ) (h0 : o + r ≤ R) (h1 : p + w ≤ C) : (⟨2, ![R, C]⟩ : Shape).Slices ![o, p] ⟨2, ![r, w]⟩ :=
  ⟨rfl, fun a => match a with
    | ⟨0, _⟩ => h0
    | ⟨1, _⟩ => h1⟩

section head
variable (v37 : FVec Ideal S32x2048 .f32) (v49 v69 : FVec Ideal S32x128 .f32) (h : Fin 8)

/-- The head's queries. -/
def hq : FVec Ideal S32x128 .f32 := extractStridedSlice S32x128 ![0, 128 * h.val] v37 (sl2 _ _ (by omega) (by omega))
/-- The head's scaled keys. -/
def hk : FVec Ideal S32x128 .f32 :=
  mulf (extractStridedSlice S32x128 ![0, 1024 + 128 * h.val] v37 (sl2 _ _ (by omega) (by omega))) (broadcast S32x128 (Named.named κ "s" (φ := .f32) 0x3DB504F3#32))
/-- The head's input gate. -/
def hi : FVec Ideal S32x1 .f32 := extractStridedSlice S32x1 ![0, h.val] v49 (sl2 _ _ (by omega) (by omega))
/-- The head's summed forget gates. -/
def hb : FVec Ideal S32x1 .f32 := extractStridedSlice S32x1 ![0, 8 + h.val] v69 (sl2 _ _ (by omega) (by omega))
/-- The head's log weights. -/
def hd : FVec Ideal S32x32 .f32 :=
  select k0_pay9 (addf (broadcastTo S32x32 (hb v69 h) broadcasts_S32x1_S32x32)
    (broadcastTo S32x32 (subf (extractStridedSlice S1x32 ![h.val, 0] (k0_pay14 v49 k0_pay12 (Scalar.ofBits .f32 0x3F800000#32)) (sl2 _ _ (by omega) (by omega)))
      (extractStridedSlice S1x32 ![8 + h.val, 0] (k0_pay15 v69 k0_pay12 (Scalar.ofBits .f32 0x3F800000#32)) (sl2 _ _ (by omega) (by omega)))) broadcasts_S1x32_S32x32))
    (broadcast S32x32 (Scalar.ofBits .f32 0xFF800000#32))

variable (V og : Vec Ideal S32x256 .bf16) (ng : Vec Ideal S1x256 .f32) (C1 : Vec Ideal S1x1x256x128 .f32) (N1 : Vec Ideal S1x1x128 .f32) (M1 : Vec Ideal S1x1x1 .f32)

/-- The head's output before its norm. -/
def hh : FVec Ideal S32x256 .f32 :=
  k0_pay29 (hq v37 h) V (truncf .bf16 (hq v37 h) bitsLt_bf16_f32) (truncf .bf16 (hk v37 h) bitsLt_bf16_f32) (hb v69 h) (hd v49 v69 h) M1 C1 N1
/-- The head's stabiliser after the rows. -/
def hm : FVec Ideal S1x1 .f32 := k0_pay30 (hb v69 h) (hd v49 v69 h) M1
/-- What the head stores of the outputs. -/
def pay12 : FVec Ideal S32x256 .bf16 := k0_pay39 (k0_pay38 (hh v37 v49 v69 h V C1 N1 M1)) ng og
/-- What the head stores of the matrix state. -/
def pay13 : FVec Ideal S1x1x256x128 .f32 :=
  k0_pay35 (k0_pay18 V) (truncf .bf16 (hk v37 h) bitsLt_bf16_f32) (hi v49 h) (hb v69 h) (k0_pay27 C1) (hm v49 v69 h M1) (k0_pay32 (hb v69 h) (hd v49 v69 h) M1) (k0_pay33 (hb v69 h))
/-- What the head stores of the normaliser. -/
def pay14 : FVec Ideal S1x1x128 .f32 :=
  k0_pay36 (hk v37 h) (hi v49 h) (hb v69 h) (k0_pay28 N1) (hm v49 v69 h M1) (k0_pay32 (hb v69 h) (hd v49 v69 h) M1) (k0_pay33 (hb v69 h))
/-- What the head stores of the stabiliser. -/
def pay15 : FVec Ideal S1x1x128 .f32 := k0_pay37 (hm v49 v69 h M1)
end head

section pieces
variable (x0 : Vec Ideal S32x2048 .f32) (x1 : Vec Ideal S32x2048 .bf16) (x2 : Vec Ideal S32x2048 .bf16) (x3 : Vec Ideal S32x128 .f32) (x4 : Vec Ideal S1x3x2048 .f32) (x5 : Vec Ideal S4x2048 .f32) (x6 : Vec Ideal S1x2048 .f32) (x7 : Vec Ideal S1x128 .f32) (x8 : Vec Ideal S8x256 .f32) (x9 : Vec Ideal S1x8x256x128 .f32) (x10 : Vec Ideal S1x8x128 .f32) (x11 : Vec Ideal S1x8x128 .f32)

/-- The rows the convolution runs over: three earlier rows and the 32 rows. -/
def rows : Vec Ideal S40x2048 .f32 := View.canon [⟨Rect.unit ![8, 0] S32x2048.size (by decide), k0_pay4 x0⟩, ⟨Rect.unit ![5, 0] S3x2048.size (by decide), k0_pay3 x4⟩]
/-- The rows of the convolution that begin `j` rows before. -/
def rowsAt (o : ℕ) (ho : o ≤ 8) : Vec Ideal S32x2048 .f32 := View.ld (rows x0 x4) (Rect.unit (s := S40x2048) ![o, 0] S32x2048.size (fun a => match a with | ⟨0, _⟩ => (by show o + 32 ≤ 40; omega) | ⟨1, _⟩ => (by show 0 + 2048 ≤ 2048; omega)))
/-- A row of the convolution's weights. -/
def cwAt (o : ℕ) (ho : o ≤ 3) : Vec Ideal S1x2048 .f32 := View.ld x5 (Rect.unit (s := S4x2048) ![o, 0] S1x2048.size (fun a => match a with | ⟨0, _⟩ => (by show o + 1 ≤ 4; omega) | ⟨1, _⟩ => (by show 0 + 2048 ≤ 2048; omega)))
/-- The convolved and gated queries and keys. -/
def qk : FVec Ideal S32x2048 .f32 :=
  k0_pay8 (k0_pay5 x0 x6 (cwAt x5 3 (by omega)) (rowsAt x0 x4 5 (by omega)) (cwAt x5 0 (by omega)) (rowsAt x0 x4 6 (by omega)) (cwAt x5 1 (by omega)) (rowsAt x0 x4 7 (by omega)) (cwAt x5 2 (by omega)))

/-- 256 columns of the values or the output gate. -/
def col256 (x : Vec Ideal S32x2048 .bf16) (h : Fin 8) : Vec Ideal S32x256 .bf16 := View.ld x (Rect.unit (s := S32x2048) ![0, 256 * h.val] S32x256.size (fun a => match a with | ⟨0, _⟩ => (by show 0 + 32 ≤ 32; omega) | ⟨1, _⟩ => (by show 256 * h.val + 256 ≤ 2048; omega)))
/-- The head's row of the norm's gain. -/
def ngAt (h : Fin 8) : Vec Ideal S1x256 .f32 := View.ld x8 (Rect.unit (s := S8x256) ![h.val, 0] S1x256.size (fun a => match a with | ⟨0, _⟩ => (by show h.val + 1 ≤ 8; omega) | ⟨1, _⟩ => (by show 0 + 256 ≤ 256; omega)))
/-- The head's place in the matrix state. -/
def rc (h : Fin 8) : Rect S1x8x256x128 := Rect.unit (s := S1x8x256x128) ![0, h.val, 0, 0] S1x1x256x128.size (fun a => match a with | ⟨0, _⟩ => (by show 0 + 1 ≤ 1; omega) | ⟨1, _⟩ => (by show h.val + 1 ≤ 8; omega) | ⟨2, _⟩ => (by show 0 + 256 ≤ 256; omega) | ⟨3, _⟩ => (by show 0 + 128 ≤ 128; omega))
/-- The head's place in the normaliser and in the stabiliser. -/
def rn (h : Fin 8) : Rect S1x8x128 := Rect.unit (s := S1x8x128) ![0, h.val, 0] S1x1x128.size (fun a => match a with | ⟨0, _⟩ => (by show 0 + 1 ≤ 1; omega) | ⟨1, _⟩ => (by show h.val + 1 ≤ 8; omega) | ⟨2, _⟩ => (by show 0 + 128 ≤ 128; omega))
/-- The first lane of the head's stabiliser. -/
def rm (h : Fin 8) : Rect S1x8x128 := Rect.unit (s := S1x8x128) ![0, h.val, 0] S1x1x1.size (fun a => match a with | ⟨0, _⟩ => (by show 0 + 1 ≤ 1; omega) | ⟨1, _⟩ => (by show h.val + 1 ≤ 8; omega) | ⟨2, _⟩ => (by show 0 + 1 ≤ 128; omega))
/-- The head's columns of the outputs. -/
def rh (h : Fin 8) : Rect S32x2048 := Rect.unit (s := S32x2048) ![0, 256 * h.val] S32x256.size (fun a => match a with | ⟨0, _⟩ => (by show 0 + 32 ≤ 32; omega) | ⟨1, _⟩ => (by show 256 * h.val + 256 ≤ 2048; omega))

def pc12 (h : Fin 8) : View.Piece (Elt Ideal) S32x2048 .bf16 := ⟨rh h, pay12 (qk x0 x4 x5 x6) (k0_pay10 x3 x7) (k0_pay11 x3 x7) h (col256 x1 h) (col256 x2 h) (ngAt x8 h) (View.ld x9 (rc h)) (View.ld x10 (rn h)) (View.ld (k0_pay2 x11) (rm h))⟩
def pc13 (h : Fin 8) : View.Piece (Elt Ideal) S1x8x256x128 .f32 := ⟨rc h, pay13 (qk x0 x4 x5 x6) (k0_pay10 x3 x7) (k0_pay11 x3 x7) h (col256 x1 h) (View.ld x9 (rc h)) (View.ld (k0_pay2 x11) (rm h))⟩
def pc14 (h : Fin 8) : View.Piece (Elt Ideal) S1x8x128 .f32 := ⟨rn h, pay14 (qk x0 x4 x5 x6) (k0_pay10 x3 x7) (k0_pay11 x3 x7) h (View.ld x10 (rn h)) (View.ld (k0_pay2 x11) (rm h))⟩
def pc15 (h : Fin 8) : View.Piece (Elt Ideal) S1x8x128 .f32 := ⟨rn h, pay15 (k0_pay10 x3 x7) (k0_pay11 x3 x7) h (View.ld (k0_pay2 x11) (rm h))⟩
/-- A piece for each head, the last head first. -/
def eight {S : Shape} {e : EltTy} (p : Fin 8 → View.Piece (Elt Ideal) S e) (L : List (View.Piece (Elt Ideal) S e)) : List (View.Piece (Elt Ideal) S e) :=
  [p 7, p 6, p 5, p 4, p 3, p 2, p 1, p 0] ++ L
end pieces
end Cert.KernelIdeal.Hand
end
-- ==== Proof.MlstmStores.lean ====
module
public import proofs.«01_k».proof.Proof.MlstmHead
/-! What the mLSTM kernel's stores leave in each output. -/
@[expose] public section
set_option maxRecDepth 16384
noncomputable section
namespace Cert.KernelIdeal.Hand
open Cert.KernelIdeal Cert.KernelIdeal.Gen Idealize.ShloMosaic Idealize.ShloMosaic.TcCoe Idealize.SL.Sem

/-! Loading a whole buffer gives the buffer. -/
theorem ldw1 {e : EltTy} (x : Vec Ideal S32x2048 e) (inb : ∀ a, (![0, 0] : Fin 2 → ℕ) a + (![32, 2048] : Fin 2 → ℕ) a ≤ S32x2048.size a) : View.ld x (Rect.unit (s := S32x2048) ![0, 0] ![32, 2048] inb) = x :=
  View.ld_unit_zero (by decide) inb x
theorem ldw2 {e : EltTy} (x : Vec Ideal S32x128 e) (inb : ∀ a, (![0, 0] : Fin 2 → ℕ) a + (![32, 128] : Fin 2 → ℕ) a ≤ S32x128.size a) : View.ld x (Rect.unit (s := S32x128) ![0, 0] ![32, 128] inb) = x :=
  View.ld_unit_zero (by decide) inb x
theorem ldw3 {e : EltTy} (x : Vec Ideal S1x2048 e) (inb : ∀ a, (![0, 0] : Fin 2 → ℕ) a + (![1, 2048] : Fin 2 → ℕ) a ≤ S1x2048.size a) : View.ld x (Rect.unit (s := S1x2048) ![0, 0] ![1, 2048] inb) = x :=
  View.ld_unit_zero (by decide) inb x
theorem ldw4 {e : EltTy} (x : Vec Ideal S1x128 e) (inb : ∀ a, (![0, 0] : Fin 2 → ℕ) a + (![1, 128] : Fin 2 → ℕ) a ≤ S1x128.size a) : View.ld x (Rect.unit (s := S1x128) ![0, 0] ![1, 128] inb) = x :=
  View.ld_unit_zero (by decide) inb x
theorem ldw5 {e : EltTy} (x : Vec Ideal S1x8x128 e) (inb : ∀ a, (![0, 0, 0] : Fin 3 → ℕ) a + (![1, 8, 128] : Fin 3 → ℕ) a ≤ S1x8x128.size a) : View.ld x (Rect.unit (s := S1x8x128) ![0, 0, 0] ![1, 8, 128] inb) = x :=
  View.ld_unit_zero (by decide) inb x
theorem ldw6 {e : EltTy} (x : Vec Ideal S1x3x2048 e) (inb : ∀ a, (![0, 0, 0] : Fin 3 → ℕ) a + (![1, 3, 2048] : Fin 3 → ℕ) a ≤ S1x3x2048.size a) : View.ld x (Rect.unit (s := S1x3x2048) ![0, 0, 0] ![1, 3, 2048] inb) = x :=
  View.ld_unit_zero (by decide) inb x
theorem ldw7 {e : EltTy} (x : Vec Ideal S1x8x256x128 e) (inb : ∀ a, (![0, 0, 0, 0] : Fin 4 → ℕ) a + (![1, 8, 256, 128] : Fin 4 → ℕ) a ≤ S1x8x256x128.size a) : View.ld x (Rect.unit (s := S1x8x256x128) ![0, 0, 0, 0] ![1, 8, 256, 128] inb) = x :=
  View.ld_unit_zero (by decide) inb x

/-- A load of the scratch after its two stores. -/
theorem scratch_ld {Val : EltTy → Type} [∀ e, Nonempty (Val e)] {κ : Kind} {sp : Space} (v : View sig κ sp S40x2048 .f32) (p q : View.Piece Val S40x2048 .f32) (r : Rect S40x2048) :
    v.readCov [p, q] r.toLoadRect = View.ld (View.canon [p, q]) r := by
  rw [View.readCov_eq_canon']

set_option maxHeartbeats 4000000 in
theorem stored12 (c : Dev nD) (i : grid0.Coords) (arg2 : Memref sig .tc .vmem S32x2048 .f32) (harg2 : arg2.IsWhole) (arg3 : Memref sig .tc .vmem S32x2048 .bf16) (harg3 : arg3.IsWhole) (arg4 : Memref sig .tc .vmem S32x2048 .bf16) (harg4 : arg4.IsWhole) (arg5 : Memref sig .tc .vmem S32x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S32x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S40x2048 .f32) (harg19 : arg19.IsWhole) (hc0 : cond0_0 i)
    (x0 : Vec Ideal S32x2048 .f32) (x1 : Vec Ideal S32x2048 .bf16) (x2 : Vec Ideal S32x2048 .bf16) (x3 : Vec Ideal S32x128 .f32) (x4 : Vec Ideal S1x3x2048 .f32) (x5 : Vec Ideal S4x2048 .f32) (x6 : Vec Ideal S1x2048 .f32) (x7 : Vec Ideal S1x128 .f32) (x8 : Vec Ideal S8x256 .f32) (x9 : Vec Ideal S1x8x256x128 .f32) (x10 : Vec Ideal S1x8x128 .f32) (x11 : Vec Ideal S1x8x128 .f32) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (eight (pc12 x0 x1 x2 x3 x4 x5 x6 x7 x8 x9 x10 x11) []) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A; dsimp only
  sl_unfold_words
  simp (config := { decide := true, maxSteps := 10000000 }) only [↓View.readCov_skip, ↓View.readCov_fill, ↓scratch_ld, View.readAt_eq_ld, ldw1, ldw2, ldw3, ldw4, ldw5, ldw6, ldw7, harg2.read_unread, harg3.read_unread, harg4.read_unread, harg5.read_unread, harg6.read_unread, harg7.read_unread, harg8.read_unread, harg9.read_unread, harg10.read_unread, harg11.read_unread, harg12.read_unread, harg13.read_unread]
  rfl

set_option maxHeartbeats 4000000 in
theorem stored13 (c : Dev nD) (i : grid0.Coords) (arg2 : Memref sig .tc .vmem S32x2048 .f32) (harg2 : arg2.IsWhole) (arg3 : Memref sig .tc .vmem S32x2048 .bf16) (harg3 : arg3.IsWhole) (arg4 : Memref sig .tc .vmem S32x2048 .bf16) (harg4 : arg4.IsWhole) (arg5 : Memref sig .tc .vmem S32x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S32x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S40x2048 .f32) (harg19 : arg19.IsWhole) (hc0 : cond0_0 i)
    (x0 : Vec Ideal S32x2048 .f32) (x1 : Vec Ideal S32x2048 .bf16) (x2 : Vec Ideal S32x2048 .bf16) (x3 : Vec Ideal S32x128 .f32) (x4 : Vec Ideal S1x3x2048 .f32) (x5 : Vec Ideal S4x2048 .f32) (x6 : Vec Ideal S1x2048 .f32) (x7 : Vec Ideal S1x128 .f32) (x8 : Vec Ideal S8x256 .f32) (x9 : Vec Ideal S1x8x256x128 .f32) (x10 : Vec Ideal S1x8x128 .f32) (x11 : Vec Ideal S1x8x128 .f32) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (eight (pc13 x0 x1 x3 x4 x5 x6 x7 x9 x11) [⟨Rect.unit ![0, 0, 0, 0] S1x8x256x128.size (by decide), x9⟩]) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A; dsimp only
  sl_unfold_words
  simp (config := { decide := true, maxSteps := 10000000 }) only [↓View.readCov_skip, ↓View.readCov_fill, ↓scratch_ld, View.readAt_eq_ld, ldw1, ldw2, ldw3, ldw4, ldw5, ldw6, ldw7, harg2.read_unread, harg3.read_unread, harg4.read_unread, harg5.read_unread, harg6.read_unread, harg7.read_unread, harg8.read_unread, harg9.read_unread, harg10.read_unread, harg11.read_unread, harg12.read_unread, harg13.read_unread]
  rfl

set_option maxHeartbeats 4000000 in
theorem stored14 (c : Dev nD) (i : grid0.Coords) (arg2 : Memref sig .tc .vmem S32x2048 .f32) (harg2 : arg2.IsWhole) (arg3 : Memref sig .tc .vmem S32x2048 .bf16) (harg3 : arg3.IsWhole) (arg4 : Memref sig .tc .vmem S32x2048 .bf16) (harg4 : arg4.IsWhole) (arg5 : Memref sig .tc .vmem S32x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S32x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S40x2048 .f32) (harg19 : arg19.IsWhole) (hc0 : cond0_0 i)
    (x0 : Vec Ideal S32x2048 .f32) (x1 : Vec Ideal S32x2048 .bf16) (x2 : Vec Ideal S32x2048 .bf16) (x3 : Vec Ideal S32x128 .f32) (x4 : Vec Ideal S1x3x2048 .f32) (x5 : Vec Ideal S4x2048 .f32) (x6 : Vec Ideal S1x2048 .f32) (x7 : Vec Ideal S1x128 .f32) (x8 : Vec Ideal S8x256 .f32) (x9 : Vec Ideal S1x8x256x128 .f32) (x10 : Vec Ideal S1x8x128 .f32) (x11 : Vec Ideal S1x8x128 .f32) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (eight (pc14 x0 x3 x4 x5 x6 x7 x10 x11) [⟨Rect.unit ![0, 0, 0] S1x8x128.size (by decide), x10⟩]) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A; dsimp only
  sl_unfold_words
  simp (config := { decide := true, maxSteps := 10000000 }) only [↓View.readCov_skip, ↓View.readCov_fill, ↓scratch_ld, View.readAt_eq_ld, ldw1, ldw2, ldw3, ldw4, ldw5, ldw6, ldw7, harg2.read_unread, harg3.read_unread, harg4.read_unread, harg5.read_unread, harg6.read_unread, harg7.read_unread, harg8.read_unread, harg9.read_unread, harg10.read_unread, harg11.read_unread, harg12.read_unread, harg13.read_unread]
  rfl

set_option maxHeartbeats 4000000 in
theorem stored15 (c : Dev nD) (i : grid0.Coords) (arg2 : Memref sig .tc .vmem S32x2048 .f32) (harg2 : arg2.IsWhole) (arg3 : Memref sig .tc .vmem S32x2048 .bf16) (harg3 : arg3.IsWhole) (arg4 : Memref sig .tc .vmem S32x2048 .bf16) (harg4 : arg4.IsWhole) (arg5 : Memref sig .tc .vmem S32x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S32x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S40x2048 .f32) (harg19 : arg19.IsWhole) (hc0 : cond0_0 i)
    (x0 : Vec Ideal S32x2048 .f32) (x1 : Vec Ideal S32x2048 .bf16) (x2 : Vec Ideal S32x2048 .bf16) (x3 : Vec Ideal S32x128 .f32) (x4 : Vec Ideal S1x3x2048 .f32) (x5 : Vec Ideal S4x2048 .f32) (x6 : Vec Ideal S1x2048 .f32) (x7 : Vec Ideal S1x128 .f32) (x8 : Vec Ideal S8x256 .f32) (x9 : Vec Ideal S1x8x256x128 .f32) (x10 : Vec Ideal S1x8x128 .f32) (x11 : Vec Ideal S1x8x128 .f32) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (eight (pc15 x3 x7 x11) [⟨Rect.unit ![0, 0, 0] S1x8x128.size (by decide), k0_pay2 x11⟩]) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A; dsimp only
  sl_unfold_words
  simp (config := { decide := true, maxSteps := 10000000 }) only [↓View.readCov_skip, ↓View.readCov_fill, ↓scratch_ld, View.readAt_eq_ld, ldw1, ldw2, ldw3, ldw4, ldw5, ldw6, ldw7, harg2.read_unread, harg3.read_unread, harg4.read_unread, harg5.read_unread, harg6.read_unread, harg7.read_unread, harg8.read_unread, harg9.read_unread, harg10.read_unread, harg11.read_unread, harg12.read_unread, harg13.read_unread]
  rfl

set_option maxHeartbeats 4000000 in
theorem stored16 (c : Dev nD) (i : grid0.Coords) (arg2 : Memref sig .tc .vmem S32x2048 .f32) (harg2 : arg2.IsWhole) (arg3 : Memref sig .tc .vmem S32x2048 .bf16) (harg3 : arg3.IsWhole) (arg4 : Memref sig .tc .vmem S32x2048 .bf16) (harg4 : arg4.IsWhole) (arg5 : Memref sig .tc .vmem S32x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S32x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S40x2048 .f32) (harg19 : arg19.IsWhole) (hc0 : cond0_0 i)
    (x0 : Vec Ideal S32x2048 .f32) (x1 : Vec Ideal S32x2048 .bf16) (x2 : Vec Ideal S32x2048 .bf16) (x3 : Vec Ideal S32x128 .f32) (x4 : Vec Ideal S1x3x2048 .f32) (x5 : Vec Ideal S4x2048 .f32) (x6 : Vec Ideal S1x2048 .f32) (x7 : Vec Ideal S1x128 .f32) (x8 : Vec Ideal S8x256 .f32) (x9 : Vec Ideal S1x8x256x128 .f32) (x10 : Vec Ideal S1x8x128 .f32) (x11 : Vec Ideal S1x8x128 .f32) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon [⟨Rect.unit ![0, 0, 0] S1x3x2048.size (by decide), k0_pay6 (View.ld (rows x0 x4) (Rect.unit (s := S40x2048) ![37, 0] S3x2048.size (by decide)))⟩] := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A; dsimp only
  sl_unfold_words
  simp (config := { decide := true, maxSteps := 10000000 }) only [↓View.readCov_skip, ↓View.readCov_fill, ↓scratch_ld, View.readAt_eq_ld, ldw1, ldw2, ldw3, ldw4, ldw5, ldw6, ldw7, harg2.read_unread, harg3.read_unread, harg4.read_unread, harg5.read_unread, harg6.read_unread, harg7.read_unread, harg8.read_unread, harg9.read_unread, harg10.read_unread, harg11.read_unread, harg12.read_unread, harg13.read_unread]
  rfl

end Cert.KernelIdeal.Hand
end
-- ==== Proof.MlstmSpec.lean ====
module
public import Idealize.ShloMosaic.PureOps
public import Idealize.ShloMosaic.Lib.Pointwise
/-! The mLSTM step of one head over 32 rows, and the step over all streams and heads. -/
@[expose] public section
noncomputable section
namespace Cert.Mlstm
open Idealize.ShloMosaic

section head
variable (q k : Fin 32 → Fin 128 → EReal) (v : Fin 32 → Fin 256 → EReal) (i b : Fin 32 → EReal) (C : Fin 256 → Fin 128 → EReal) (n : Fin 128 → EReal) (m : EReal)
/-- The log weight of row `s` in row `t`. -/
def dm (t s : Fin 32) : EReal := if s ≤ t then b t - b s + i s else ⊥
/-- The stabiliser of row `t`. -/
def mt (t : Fin 32) : EReal := max (b t + m) (Finset.univ.fold max ⊥ fun s => dm i b t s)
/-- The weighted score of row `s` in row `t`. -/
def sc (t s : Fin 32) : EReal := (∑ d, q t d * k s d) * Ideal.exp (dm i b t s - mt i b m t)
/-- The weight of the earlier state in row `t`. -/
def wp (t : Fin 32) : EReal := Ideal.exp (b t + m - mt i b m t)
/-- The numerator. -/
def num (t : Fin 32) (e : Fin 256) : EReal := ∑ s, sc q k i b m t s * v s e + wp i b m t * ∑ d, q t d * C e d
/-- The normaliser of the row. -/
def den (t : Fin 32) : EReal := ∑ s, sc q k i b m t s + wp i b m t * ∑ d, q t d * n d
/-- The head's output before its norm. -/
def ho (t : Fin 32) (e : Fin 256) : EReal :=
  Ideal.div (num q k v i b C m t e) (max (max (den q k i b n m t) (-den q k i b n m t)) (Ideal.exp (-mt i b m t)))
/-- The stabiliser after the rows. -/
def mn : EReal := mt i b m 31
/-- The decay of the earlier state. -/
def dec : EReal := Ideal.exp (b 31 + m - mn i b m)
/-- The weight of row `s` in the new state. -/
def ws (s : Fin 32) : EReal := Ideal.exp (b 31 - b s + i s - mn i b m)
/-- The new matrix state. -/
def Cn (e : Fin 256) (d : Fin 128) : EReal := dec i b m * C e d + ∑ s, v s e * (ws i b m s * k s d)
/-- The new normaliser state. -/
def nn (d : Fin 128) : EReal := dec i b m * n d + ∑ s, ws i b m s * k s d
end head
/-- The normed and gated output. -/
def hn (x g o : Fin 256 → EReal) (e : Fin 256) : EReal :=
  x e * Ideal.rsqrt (Ideal.div (∑ e', x e' * x e') (Ideal.ofBits .f32 0x43800000#32) + Ideal.ofBits .f32 0x358637BD#32) * g e * Ideal.logistic (o e)
/-- The log of the logistic function. -/
def ls (x : EReal) : EReal := min x 0 - Ideal.log1p (Ideal.exp (-max x (-x)))

/-- `log (1 + exp y)` is never `⊥`. -/
theorem log1p_exp_ne_bot (y : EReal) : Ideal.log1p (Ideal.exp y) ≠ ⊥ := by
  induction y with
  | bot => simp [Ideal.log1p]; rw [← EReal.coe_one, Ideal.log_coe, if_neg (by norm_num)]; exact EReal.coe_ne_bot _
  | top => simp [Ideal.log1p, EReal.add_top_of_ne_bot (show (1 : EReal) ≠ ⊥ from EReal.coe_ne_bot 1)]
  | coe r =>
    rw [Ideal.log1p, Ideal.exp_coe, ← EReal.coe_one, ← EReal.coe_add, Ideal.log_coe, if_neg (by have := Real.exp_pos r; linarith)]
    exact EReal.coe_ne_bot _

/-- The log of the logistic function is never `⊤`. -/
theorem ls_ne_top (x : EReal) : ls x ≠ ⊤ := by
  have hm : min x 0 ≠ ⊤ := ne_of_lt (lt_of_le_of_lt (min_le_right x 0) (by exact EReal.zero_lt_top))
  unfold ls
  rw [sub_eq_add_neg]
  exact EReal.add_ne_top hm (fun h => log1p_exp_ne_bot _ (by rw [EReal.neg_eq_top_iff] at h; exact h))

/-- The log of the logistic function as the negated softplus of the negated number. -/
theorem ls_eq (x : EReal) : -(max (-x) 0 + Ideal.log1p (Ideal.exp (-max (-x) (- -x)))) = ls x := by
  have h0 : (0 : EReal) ≤ max (-x) 0 := le_max_right _ _
  have hb : max (-x) 0 ≠ ⊥ := fun h => by rw [h] at h0; exact absurd h0 (by simp)
  have e : -max (-x) 0 = min x 0 := by
    rcases le_total x 0 with h | h
    · rw [min_eq_left h, max_eq_left (by rw [EReal.le_neg, neg_zero]; exact h), neg_neg]
    · rw [min_eq_right h, max_eq_right (by rw [EReal.neg_le, neg_zero]; exact h), neg_zero]
  rw [EReal.neg_add (Or.inl hb) (Or.inr (log1p_exp_ne_bot _)), e, neg_neg, max_comm (-x) x]
  rfl

/-- A number below `⊤` is its own sum of three parts. -/
theorem split3 (x : EReal) (h : x ≠ ⊤) : x + (x - x) + (x - x - (x - x)) = x := by
  induction x with
  | bot => simp
  | top => exact absurd rfl h
  | coe r =>
    have e : ((r : EReal) - (r : EReal)) = 0 := by rw [← EReal.coe_sub, sub_self, EReal.coe_zero]
    rw [e]; simp

/-- The sum of the three parts of the picked numbers is the sum of the picked numbers. -/
theorem sum_split3 {ι : Type} [Fintype ι] (p : ι → Prop) [DecidablePred p] (f : ι → EReal) (h : ∀ x, p x → f x ≠ ⊤) :
    (∑ x, if p x then f x else 0) + (∑ x, if p x then f x - f x else 0) + (∑ x, if p x then f x - f x - (f x - f x) else 0) = ∑ x, if p x then f x else 0 := by
  rw [← Finset.sum_add_distrib, ← Finset.sum_add_distrib]
  refine Finset.sum_congr rfl fun x _ => ?_
  by_cases hx : p x
  · simp only [if_pos hx]; exact split3 _ (h x hx)
  · simp [if_neg hx]

theorem select_if {α : Type} (p : Prop) [Decidable p] (a b : α) : Scalar.select (if p then 1#1 else 0#1) a b = if p then a else b := by
  by_cases h : p <;> simp [h, Scalar.select]

/-- The sum of the picked numbers that are not `⊤` is not `⊤`. -/
theorem sum_ne_top {ι : Type} (S : Finset ι) (f : ι → EReal) (h : ∀ x ∈ S, f x ≠ ⊤) : ∑ x ∈ S, f x ≠ ⊤ := by
  classical
  induction S using Finset.induction_on with
  | empty => simp
  | insert a S ha ih =>
    rw [Finset.sum_insert ha]
    exact EReal.add_ne_top (h _ (Finset.mem_insert_self _ _)) (ih fun x hx => h x (Finset.mem_insert_of_mem hx))

/-! The step over all 32 streams and 8 heads, as a function of the arrays. -/
section all
variable (x0 : FVec Ideal ⟨2, ![17408, 2048]⟩ .f32) (x1 : FVec Ideal ⟨2, ![17408, 4096]⟩ .bf16) (x2 : FVec Ideal ⟨2, ![17408, 128]⟩ .f32) (x3 : FVec Ideal ⟨3, ![32, 3, 2048]⟩ .f32) (x4 : FVec Ideal ⟨2, ![4, 2048]⟩ .f32) (x5 : FVec Ideal ⟨1, ![2048]⟩ .f32) (x6 : FVec Ideal ⟨2, ![2, 8]⟩ .f32) (x7 : FVec Ideal ⟨2, ![8, 256]⟩ .f32) (x8 : FVec Ideal ⟨4, ![32, 8, 256, 128]⟩ .f32) (x9 : FVec Ideal ⟨3, ![32, 8, 128]⟩ .f32) (x10 : FVec Ideal ⟨2, ![32, 8]⟩ .f32)
/-- The row of the packed arrays that is row `t` of stream `g`. -/
def row (g t : Fin 32) : Fin 17408 := ⟨16384 + (g.val * 32 + t.val), by omega⟩
/-- The convolution's input: the three rows kept from before and then the stream's rows. -/
def gu (g : Fin 32) (r : Fin 35) (c : Fin 2048) : EReal :=
  if h : r.val < 3 then x3 (ix3 g ⟨r.val, h⟩ c) else x0 (ix2 ⟨16384 + (g.val * 32 + (r.val - 3)), by omega⟩ c)
/-- The convolution. -/
def gc (g t : Fin 32) (c : Fin 2048) : EReal :=
  x5 (ix1 c) + gu x0 x3 g ⟨t.val, by omega⟩ c * x4 (ix2 0 c) + gu x0 x3 g ⟨1 + t.val, by omega⟩ c * x4 (ix2 1 c)
    + gu x0 x3 g ⟨2 + t.val, by omega⟩ c * x4 (ix2 2 c) + gu x0 x3 g ⟨3 + t.val, by omega⟩ c * x4 (ix2 3 c)
/-- The convolution times its logistic. -/
def gx (g t : Fin 32) (c : Fin 2048) : EReal := gc x0 x3 x4 x5 g t c * Ideal.logistic (gc x0 x3 x4 x5 g t c)
/-- The queries. -/
def gq (g : Fin 32) (h : Fin 8) (t : Fin 32) (d : Fin 128) : EReal := gx x0 x3 x4 x5 g t ⟨h.val * 128 + d.val, by omega⟩
/-- The scaled keys. -/
def gk (g : Fin 32) (h : Fin 8) (t : Fin 32) (d : Fin 128) : EReal := gx x0 x3 x4 x5 g t ⟨1024 + (h.val * 128 + d.val), by omega⟩ * (((Real.sqrt 128)⁻¹ : ℝ) : EReal)
/-- The values. -/
def gv (g : Fin 32) (h : Fin 8) (t : Fin 32) (e : Fin 256) : EReal := x1 (ix2 (row g t) ⟨h.val * 256 + e.val, by omega⟩)
/-- The output gates. -/
def go (g : Fin 32) (h : Fin 8) (t : Fin 32) (e : Fin 256) : EReal := x1 (ix2 (row g t) ⟨2048 + (256 * h.val + e.val), by omega⟩)
/-- The input gates. -/
def gi (g : Fin 32) (h : Fin 8) (t : Fin 32) : EReal := x2 (ix2 (row g t) ⟨h.val, by omega⟩) + x6 (ix2 0 h)
/-- The summed log forget gates. -/
def gb (g : Fin 32) (h : Fin 8) (t : Fin 32) : EReal := ∑ s : Fin 32, if s ≤ t then ls (x2 (ix2 (row g s) ⟨8 + h.val, by omega⟩) + x6 (ix2 1 h)) else 0
/-- The output. -/
def F12 (g : Fin 32) (h : Fin 8) (t : Fin 32) (e : Fin 256) : EReal :=
  hn (ho (gq x0 x3 x4 x5 g h) (gk x0 x3 x4 x5 g h) (gv x1 g h) (gi x2 x6 g h) (gb x2 x6 g h) (fun e d => x8 (ix4 g h e d)) (fun d => x9 (ix3 g h d)) (x10 (ix2 g h)) t)
    (fun e => x7 (ix2 h e)) (go x1 g h t) e
/-- The new matrix state. -/
def F13 (g : Fin 32) (h : Fin 8) (e : Fin 256) (d : Fin 128) : EReal :=
  Cn (gk x0 x3 x4 x5 g h) (gv x1 g h) (gi x2 x6 g h) (gb x2 x6 g h) (fun e d => x8 (ix4 g h e d)) (x10 (ix2 g h)) e d
/-- The new normaliser. -/
def F14 (g : Fin 32) (h : Fin 8) (d : Fin 128) : EReal :=
  nn (gk x0 x3 x4 x5 g h) (gi x2 x6 g h) (gb x2 x6 g h) (fun d => x9 (ix3 g h d)) (x10 (ix2 g h)) d
/-- The new stabiliser. -/
def F15 (g : Fin 32) (h : Fin 8) : EReal := mn (gi x2 x6 g h) (gb x2 x6 g h) (x10 (ix2 g h))
end all
theorem bits_neg_inf : Ideal.ofBits FTy.f32 4286578688#32 = ⊥ := by
  simp [Ideal.ofBits, Ideal.ieee]
end Cert.Mlstm
end
-- ==== Proof.MlstmMath.lean ====
module
public import proofs.«01_k».proof.Proof.MlstmHead
public import proofs.«01_k».proof.Proof.MlstmSpec
/-! The kernel's head read at an index. -/
@[expose] public section
set_option maxRecDepth 16384
noncomputable section

namespace Cert.KernelIdeal.Hand
open Cert.KernelIdeal Cert.KernelIdeal.Gen Idealize.ShloMosaic Idealize.ShloMosaic.TcCoe Idealize.SL.Sem Cert.Mlstm

theorem named_s : Named.named (F := Ideal) κ "s" (φ := .f32) 1035273459#32 = (((Real.sqrt 128)⁻¹ : ℝ) : EReal) :=
  IdealRules.named_const.ideal_named_scalar _ _ _ _ rfl
theorem absf_eq (x : EReal) : FloatOps.absf (F := Ideal) (φ := .f32) x = max x (-x) := rfl

theorem pay25_apply (B : FVec Ideal S32x1 .f32) (M1 : Vec Ideal S1x1x1 .f32) (t : Fin 32) :
    k0_pay25 B M1 (ix2 t 0) = B (ix2 t 0) + M1 (ix3 0 0 0) := by
  pointwise [k0_pay25, k0_pay24]
theorem pay26_apply (B : FVec Ideal S32x1 .f32) (D : FVec Ideal S32x32 .f32) (M1 : Vec Ideal S1x1x1 .f32) (t : Fin 32) :
    k0_pay26 B D M1 (ix2 t 0) = max (B (ix2 t 0) + M1 (ix3 0 0 0)) (Finset.univ.fold max ⊥ fun s : Fin 32 => D (ix2 t s)) := by
  pointwise [k0_pay26, pay25_apply, bits_neg_inf]
theorem pay9_apply (t s : Fin 32) : k0_pay9 (ix2 t s) = if s ≤ t then 1#1 else 0#1 := by
  revert t s; decide +kernel
theorem pay12_eq (t s : Fin 128) : k0_pay12 (ix2 t s) = if t = s then 1#1 else 0#1 := by
  revert t s; decide +kernel
theorem pay10_apply (x3 : Vec Ideal S32x128 .f32) (x7 : Vec Ideal S1x128 .f32) (t : Fin 32) (l : Fin 128) :
    k0_pay10 x3 x7 (ix2 t l) = x3 (ix2 t l) + x7 (ix2 0 l) := by
  pointwise [k0_pay10]
/-- The running sums of the forget gates. -/
theorem pay11_apply (x3 : Vec Ideal S32x128 .f32) (x7 : Vec Ideal S1x128 .f32) (t : Fin 32) (l : Fin 128) :
    k0_pay11 x3 x7 (ix2 t l) = ∑ s : Fin 32, if s ≤ t then ls (x3 (ix2 s l) + x7 (ix2 0 l)) else 0 := by
  pointwise [k0_pay11, pay9_apply, pay10_apply]
  simp only [select_if, absf_eq, zero_sub]
  exact sum_split3 (fun s : Fin 32 => s ≤ t) (fun s => ls (x3 (ix2 s l) + x7 (ix2 0 l))) (fun _ _ => ls_ne_top _)
theorem pay11_ne_top (x3 : Vec Ideal S32x128 .f32) (x7 : Vec Ideal S1x128 .f32) (t : Fin 32) (l : Fin 128) : k0_pay11 x3 x7 (ix2 t l) ≠ ⊤ := by
  rw [pay11_apply]
  refine sum_ne_top _ _ fun s _ => ?_
  by_cases h : s ≤ t
  · rw [if_pos h]; exact ls_ne_top _
  · rw [if_neg h]; exact EReal.zero_ne_top
/-- The product with the one-hot matrix is the transpose, where the numbers are below `⊤`. -/
theorem pay14_apply (v49 : FVec Ideal S32x128 .f32) (t : Fin 32) (l : Fin 128) (hx : v49 (ix2 t l) ≠ ⊤) :
    k0_pay14 v49 k0_pay12 1 (ix2 l t) = v49 (ix2 t l) := by
  pointwise [k0_pay14, pay12_eq, k0_pay13]
  simp only [select_if]
  rw [sum_split3 (fun x => l = x) (fun x => v49 (ix2 t x)) (fun x e => e ▸ hx)]
  simp
theorem pay15_apply (v69 : FVec Ideal S32x128 .f32) (t : Fin 32) (l : Fin 128) (hx : v69 (ix2 t l) ≠ ⊤) :
    k0_pay15 v69 k0_pay12 1 (ix2 l t) = v69 (ix2 t l) := pay14_apply v69 t l hx
theorem hq_apply (v37 : FVec Ideal S32x2048 .f32) (h : Fin 8) (t : Fin 32) (d : Fin 128) :
    hq v37 h (ix2 t d) = v37 (ix2 t ⟨128 * h.val + d.val, by omega⟩) := by
  pointwise [hq]
theorem hk_apply (v37 : FVec Ideal S32x2048 .f32) (h : Fin 8) (t : Fin 32) (d : Fin 128) :
    hk v37 h (ix2 t d) = v37 (ix2 t ⟨1024 + 128 * h.val + d.val, by omega⟩) * (((Real.sqrt 128)⁻¹ : ℝ) : EReal) := by
  pointwise [hk, named_s]
theorem hi_apply (v49 : FVec Ideal S32x128 .f32) (h : Fin 8) (t : Fin 32) : hi v49 h (ix2 t 0) = v49 (ix2 t ⟨h.val, by omega⟩) := by
  pointwise [hi]
theorem hb_apply (v69 : FVec Ideal S32x128 .f32) (h : Fin 8) (t : Fin 32) : hb v69 h (ix2 t 0) = v69 (ix2 t ⟨8 + h.val, by omega⟩) := by
  pointwise [hb]
section
variable (v37 : FVec Ideal S32x2048 .f32) (v49 v69 : FVec Ideal S32x128 .f32) (h : Fin 8)
/-- A head's gates are below `⊤`. -/
def GateFin : Prop := ∀ t : Fin 32, v49 (ix2 t ⟨h.val, by omega⟩) ≠ ⊤ ∧ v69 (ix2 t ⟨8 + h.val, by omega⟩) ≠ ⊤
/-- The head's input gates, its summed forget gates, queries and keys as functions. -/
def fi (t : Fin 32) : EReal := v49 (ix2 t ⟨h.val, by omega⟩)
def fb (t : Fin 32) : EReal := v69 (ix2 t ⟨8 + h.val, by omega⟩)
def fq (t : Fin 32) (d : Fin 128) : EReal := v37 (ix2 t ⟨128 * h.val + d.val, by omega⟩)
def fk (t : Fin 32) (d : Fin 128) : EReal := v37 (ix2 t ⟨1024 + 128 * h.val + d.val, by omega⟩) * (((Real.sqrt 128)⁻¹ : ℝ) : EReal)
variable {v49 v69 h}
theorem hd_apply (hg : GateFin v49 v69 h) (t s : Fin 32) : hd v49 v69 h (ix2 t s) = dm (fi v49 h) (fb v69 h) t s := by
  pointwise [hd, pay9_apply, bits_neg_inf, hb_apply]
  rw [pay14_apply _ _ _ (hg s).1, pay15_apply _ _ _ (hg s).2, select_if]
  unfold dm
  by_cases hs : s ≤ t
  · rw [if_pos hs, if_pos hs, sub_eq_add_neg, sub_eq_add_neg, add_assoc, add_comm (v49 _)]; rfl
  · rw [if_neg hs, if_neg hs]
variable (V og : Vec Ideal S32x256 .bf16) (ng : Vec Ideal S1x256 .f32) (C1 : Vec Ideal S1x1x256x128 .f32) (N1 : Vec Ideal S1x1x128 .f32) (M1 : Vec Ideal S1x1x1 .f32)
theorem mt_apply (hg : GateFin v49 v69 h) (t : Fin 32) : k0_pay26 (hb v69 h) (hd v49 v69 h) M1 (ix2 t 0) = mt (fi v49 h) (fb v69 h) (M1 (ix3 0 0 0)) t := by
  simp only [pay26_apply, hd_apply hg, hb_apply]; rfl
theorem hh_apply (hg : GateFin v49 v69 h) (t : Fin 32) (e : Fin 256) : hh v37 v49 v69 h V C1 N1 M1 (ix2 t e)
    = ho (fq v37 h) (fk v37 h) (fun s e => V (ix2 s e)) (fi v49 h) (fb v69 h) (fun e d => C1 (ix4 0 0 e d)) (fun d => N1 (ix3 0 0 d)) (M1 (ix3 0 0 0)) t e := by
  pointwise [hh, k0_pay29, k0_pay27, k0_pay28, hq_apply, hk_apply, pay25_apply, hb_apply]
  simp only [mt_apply M1 hg, hd_apply hg, absf_eq, zero_sub]
  rfl
theorem hm_apply (hg : GateFin v49 v69 h) : hm v49 v69 h M1 (ix2 0 0) = mn (fi v49 h) (fb v69 h) (M1 (ix3 0 0 0)) := by
  pointwise [hm, k0_pay30]
  exact mt_apply M1 hg 31
theorem pay32_apply (hg : GateFin v49 v69 h) : k0_pay32 (hb v69 h) (hd v49 v69 h) M1 (ix2 0 0) = dec (fi v49 h) (fb v69 h) (M1 (ix3 0 0 0)) := by
  pointwise [k0_pay32, k0_pay31, k0_pay24, hb_apply]
  rw [show k0_pay30 (hb v69 h) (hd v49 v69 h) M1 (ix2 0 0) = _ from hm_apply M1 hg]
  rfl
theorem pay34_apply (hg : GateFin v49 v69 h) (s : Fin 32) :
    k0_pay34 (hi v49 h) (hb v69 h) (hm v49 v69 h M1) (k0_pay33 (hb v69 h)) (ix2 s 0) = ws (fi v49 h) (fb v69 h) (M1 (ix3 0 0 0)) s := by
  pointwise [k0_pay34, k0_pay33, k0_pay31, hb_apply, hi_apply]
  rw [hm_apply M1 hg]
  rfl
/-- What the head stores of the outputs. -/
theorem pay12_apply (hg : GateFin v49 v69 h) (t : Fin 32) (e : Fin 256) : pay12 v37 v49 v69 h V og ng C1 N1 M1 (ix2 t e)
    = hn (ho (fq v37 h) (fk v37 h) (fun s e => V (ix2 s e)) (fi v49 h) (fb v69 h) (fun e d => C1 (ix4 0 0 e d)) (fun d => N1 (ix3 0 0 d)) (M1 (ix3 0 0 0)) t)
        (fun e => ng (ix2 0 e)) (fun e => og (ix2 t e)) e := by
  pointwise [pay12, k0_pay39, k0_pay38]
  simp only [hh_apply v37 V C1 N1 M1 hg]
  rfl
/-- What the head stores of the matrix state. -/
theorem pay13_apply (hg : GateFin v49 v69 h) (e : Fin 256) (d : Fin 128) : pay13 v37 v49 v69 h V C1 M1 (ix4 0 0 e d)
    = Cn (fk v37 h) (fun s e => V (ix2 s e)) (fi v49 h) (fb v69 h) (fun e d => C1 (ix4 0 0 e d)) (M1 (ix3 0 0 0)) e d := by
  pointwise [pay13, k0_pay35, k0_pay18, k0_pay27, hk_apply]
  simp only [pay32_apply M1 hg, pay34_apply M1 hg]
  unfold Cn
  refine congrArg (_ + ·) (Finset.sum_congr rfl fun s _ => ?_)
  rw [mul_comm (ws _ _ _ s), mul_assoc]; rfl
/-- What the head stores of the normaliser. -/
theorem pay14_store (hg : GateFin v49 v69 h) (d : Fin 128) : pay14 v37 v49 v69 h N1 M1 (ix3 0 0 d)
    = nn (fk v37 h) (fi v49 h) (fb v69 h) (fun d => N1 (ix3 0 0 d)) (M1 (ix3 0 0 0)) d := by
  pointwise [pay14, k0_pay36, k0_pay28, hk_apply]
  simp only [pay32_apply M1 hg, pay34_apply M1 hg]
  rfl
/-- What the head stores of the stabiliser. -/
theorem pay15_store (hg : GateFin v49 v69 h) (l : Fin 128) : pay15 v49 v69 h M1 (ix3 0 0 l) = mn (fi v49 h) (fb v69 h) (M1 (ix3 0 0 0)) := by
  pointwise [pay15, k0_pay37]
  exact hm_apply M1 hg
end
end Cert.KernelIdeal.Hand
end
-- ==== Proof.MlstmBlocks.lean ====
module
public import proofs.«01_k».proof.Proof.MlstmMath
public import Idealize.ShloMosaic.Lib.Pipeline.ValueKit.Tiles
/-! What the mLSTM kernel stores of one stream, from what its blocks hold. -/
@[expose] public section
set_option maxRecDepth 16384
noncomputable section
namespace Cert.KernelIdeal.Hand
open Cert.KernelIdeal Cert.KernelIdeal.Gen Idealize.ShloMosaic Idealize.ShloMosaic.TcCoe Idealize.SL.Sem Cert.Mlstm

/-- The stabilisers as the kernel loads them. -/
abbrev mAt (x11 : Vec Ideal S1x8x128 .f32) (h : Fin 8) : Vec Ideal S1x1x1 .f32 := View.ld (k0_pay2 x11) (rm h)

/-- Where a piece of unit stride puts an index. -/
theorem unit_coord {S : Shape} (r : Rect S) (x : r.shape.Idx) (a : Fin S.rank) (o : ℕ) (ho : r.off a = o) (hs : r.stride a = 1) :
    (r.emb x a).val = o + (x a).val := by
  rw [Rect.emb_apply, ← ho]; show r.off a + r.stride a * (x a : ℕ) = _; rw [hs, Nat.one_mul]

/-- Eight pieces that agree with `G` leave `G` wherever one of them lies. -/
theorem eight_read {S : Shape} {e : EltTy} (p : Fin 8 → View.Piece (Elt Ideal) S e) (L : List (View.Piece (Elt Ideal) S e)) (G : S.Idx → Elt Ideal e)
    (hG : ∀ (h : Fin 8) (x : (p h).1.shape.Idx), (p h).2 x = G ((p h).1.emb x)) (y : S.Idx) (h : Fin 8) (hy : y ∈ (p h).1.set) :
    View.canon (eight p L) y = G y := by
  refine View.canon_append_of_pieces G L _ ?_ y ⟨p h, ?_, hy⟩
  · intro q hq
    simp only [List.mem_cons, List.not_mem_nil, or_false] at hq
    rcases hq with rfl | rfl | rfl | rfl | rfl | rfl | rfl | rfl <;> exact hG _
  · fin_cases h <;> simp

/-- What is placed by head in an 8 by 128 array. -/
theorem rn_coord (k : Fin 8) (x : (rn k).shape.Idx) : x = ix3 0 0 (x 2) ∧ ((rn k).emb x) 1 = k ∧ ((rn k).emb x) 2 = x 2 := by
  have l0 : (x 0).val < 1 := (x 0).isLt
  have l1 : (x 1).val < 1 := (x 1).isLt
  refine ⟨funext fun a => Fin.ext (match a with
      | ⟨0, _⟩ => (by show (x 0).val = 0; omega)
      | ⟨1, _⟩ => (by show (x 1).val = 0; omega)
      | ⟨2, _⟩ => rfl), Fin.ext ((unit_coord _ x 1 _ rfl rfl).trans ?_), Fin.ext ((unit_coord _ x 2 _ rfl rfl).trans ?_)⟩
  · show k.val + (x 1).val = k.val; omega
  · show 0 + (x 2).val = (x 2).val; omega
theorem rn_mem (y : S1x8x128.Idx) : y ∈ (rn (y 1)).set := by
  refine Rect.mem_set_unit.2 fun a => ?_
  have l0 : (y 0).val < 1 := (y 0).isLt
  have l2 : (y 2).val < 128 := (y 2).isLt
  match a with
  | ⟨0, _⟩ => show 0 ≤ (y 0).val ∧ (y 0).val < 0 + 1; omega
  | ⟨1, _⟩ => show (y 1).val ≤ (y 1).val ∧ (y 1).val < (y 1).val + 1; omega
  | ⟨2, _⟩ => show 0 ≤ (y 2).val ∧ (y 2).val < 0 + 128; omega

theorem rc_mem (y : S1x8x256x128.Idx) : y ∈ (rc (y 1)).set := by
  refine Rect.mem_set_unit.2 fun a => ?_
  have l0 : (y 0).val < 1 := (y 0).isLt
  have l2 : (y 2).val < 256 := (y 2).isLt
  have l3 : (y 3).val < 128 := (y 3).isLt
  match a with
  | ⟨0, _⟩ => show 0 ≤ (y 0).val ∧ (y 0).val < 0 + 1; omega
  | ⟨1, _⟩ => show (y 1).val ≤ (y 1).val ∧ (y 1).val < (y 1).val + 1; omega
  | ⟨2, _⟩ => show 0 ≤ (y 2).val ∧ (y 2).val < 0 + 256; omega
  | ⟨3, _⟩ => show 0 ≤ (y 3).val ∧ (y 3).val < 0 + 128; omega
theorem rh_mem (y : S32x2048.Idx) (h : Fin 8) (e : Fin 256) (h1 : (y 1).val = 256 * h.val + e.val) : y ∈ (rh h).set := by
  refine Rect.mem_set_unit.2 fun a => ?_
  have l0 : (y 0).val < 32 := (y 0).isLt
  match a with
  | ⟨0, _⟩ => show 0 ≤ (y 0).val ∧ (y 0).val < 0 + 32; omega
  | ⟨1, _⟩ => show 256 * h.val ≤ (y 1).val ∧ (y 1).val < 256 * h.val + 256; omega

section
variable (g : Fin 32) (x0 : Vec Ideal S32x2048 .f32) (x1 : Vec Ideal S32x2048 .bf16) (x2 : Vec Ideal S32x2048 .bf16) (x3 : Vec Ideal S32x128 .f32) (x4 : Vec Ideal S1x3x2048 .f32) (x5 : Vec Ideal S4x2048 .f32) (x6 : Vec Ideal S1x2048 .f32) (x7 : Vec Ideal S1x128 .f32) (x8 : Vec Ideal S8x256 .f32) (x9 : Vec Ideal S1x8x256x128 .f32) (x10 : Vec Ideal S1x8x128 .f32) (x11 : Vec Ideal S1x8x128 .f32)
variable (a0 : FVec Ideal S17408x2048 .f32) (a1 : FVec Ideal S17408x4096 .bf16) (a2 : FVec Ideal S17408x128 .f32) (a3 : FVec Ideal S32x3x2048 .f32) (a4 : FVec Ideal S4x2048 .f32) (a5 : FVec Ideal S2048 .f32) (a6 : FVec Ideal S2x8 .f32) (a7 : FVec Ideal S8x256 .f32) (a8 : FVec Ideal S32x8x256x128 .f32) (a9 : FVec Ideal S32x8x128 .f32) (a10 : FVec Ideal S32x8 .f32)

/-- The blocks hold what the arrays hold of stream `g`. -/
structure Holds : Prop where
  h0 : ∀ (t : Fin 32) (c : Fin 2048), x0 (ix2 t c) = a0 (ix2 (row g t) c)
  h1 : ∀ (t : Fin 32) (c : Fin 2048), x1 (ix2 t c) = a1 (ix2 (row g t) ⟨c.val, by omega⟩)
  h2 : ∀ (t : Fin 32) (c : Fin 2048), x2 (ix2 t c) = a1 (ix2 (row g t) ⟨2048 + c.val, by omega⟩)
  h3 : ∀ (t : Fin 32) (l : Fin 128), x3 (ix2 t l) = a2 (ix2 (row g t) l)
  h4 : ∀ (r : Fin 3) (c : Fin 2048), x4 (ix3 0 r c) = a3 (ix3 g r c)
  h5 : ∀ (r : Fin 4) (c : Fin 2048), x5 (ix2 r c) = a4 (ix2 r c)
  h6 : ∀ c : Fin 2048, x6 (ix2 0 c) = a5 (ix1 c)
  h7i : ∀ h : Fin 8, x7 (ix2 0 ⟨h.val, by omega⟩) = a6 (ix2 0 h)
  h7f : ∀ h : Fin 8, x7 (ix2 0 ⟨8 + h.val, by omega⟩) = a6 (ix2 1 h)
  h8 : ∀ (h : Fin 8) (e : Fin 256), x8 (ix2 h e) = a7 (ix2 h e)
  h9 : ∀ (h : Fin 8) (e : Fin 256) (d : Fin 128), x9 (ix4 0 h e d) = a8 (ix4 g h e d)
  h10 : ∀ (h : Fin 8) (d : Fin 128), x10 (ix3 0 h d) = a9 (ix3 g h d)
  h11 : ∀ (h : Fin 8) (l : Fin 128), x11 (ix3 0 h l) = a10 (ix2 g h)
  low : ∀ (h : Fin 8) (t : Fin 32), gi a2 a6 g h t ≠ ⊤

variable {g x0 x1 x2 x3 x4 x5 x6 x7 x8 x9 x10 x11 a0 a1 a2 a3 a4 a5 a6 a7 a8 a9 a10}
variable (H : Holds g x0 x1 x2 x3 x4 x5 x6 x7 x8 x9 x10 x11 a0 a1 a2 a3 a4 a5 a6 a7 a8 a9 a10)
include H

theorem rows_apply (r : Fin 35) (c : Fin 2048) : rows x0 x4 (ix2 ⟨5 + r.val, by omega⟩ c) = gu a0 a3 g r c := by
  unfold rows
  refine View.canon_eq_of_allAt _ _ _ ?_ (View.allAt_cons_unit _ _ _ _ _ ?_ (View.allAt_cons_unit _ _ _ _ _ ?_ (View.allAt_nil _ _)))
  · by_cases h : r.val < 3
    · refine ⟨(⟨Rect.unit ![5, 0] S3x2048.size (by decide), k0_pay3 x4⟩ : View.Piece (Elt Ideal) S40x2048 .f32), List.mem_cons_of_mem _ List.mem_cons_self, ?_⟩
      refine (Rect.mem_set_unit (inb := by decide)).2 fun a => ?_
      match a with
      | ⟨0, _⟩ => show 5 ≤ 5 + r.val ∧ 5 + r.val < 5 + 3; omega
      | ⟨1, _⟩ => show 0 ≤ c.val ∧ c.val < 0 + 2048; omega
    · refine ⟨(⟨Rect.unit ![8, 0] S32x2048.size (by decide), k0_pay4 x0⟩ : View.Piece (Elt Ideal) S40x2048 .f32), List.mem_cons_self, ?_⟩
      refine (Rect.mem_set_unit (inb := by decide)).2 fun a => ?_
      match a with
      | ⟨0, _⟩ => show 8 ≤ 5 + r.val ∧ 5 + r.val < 8 + 32; omega
      | ⟨1, _⟩ => show 0 ≤ c.val ∧ c.val < 0 + 2048; omega
  · intro x hx
    have e0 : 5 + r.val = 8 + (x 0).val := hx 0
    have e1 : c.val = 0 + (x 1).val := hx 1
    have hn : ¬ r.val < 3 := by omega
    have ex : x = ix2 ⟨r.val - 3, by omega⟩ c := funext fun a => Fin.ext (match a with
      | ⟨0, _⟩ => (by show (x 0).val = r.val - 3; omega)
      | ⟨1, _⟩ => (by show (x 1).val = c.val; omega))
    rw [ex]
    pointwise [k0_pay4]
    rw [gu, dif_neg hn]
    exact H.h0 _ _
  · intro x hx
    have e0 : 5 + r.val = 5 + (x 0).val := hx 0
    have e1 : c.val = 0 + (x 1).val := hx 1
    have x0lt : (x 0).val < 3 := (x 0).isLt
    have hn : r.val < 3 := by omega
    have ex : x = ix2 ⟨r.val, hn⟩ c := funext fun a => Fin.ext (match a with
      | ⟨0, _⟩ => (by show (x 0).val = r.val; omega)
      | ⟨1, _⟩ => (by show (x 1).val = c.val; omega))
    rw [ex]
    pointwise [k0_pay3]
    rw [gu, dif_pos hn]
    exact H.h4 _ _

theorem rowsAt_apply (o : ℕ) (ho : o ≤ 8) (t : Fin 32) (c : Fin 2048) (h5 : 5 ≤ o) : rowsAt x0 x4 o ho (ix2 t c) = gu a0 a3 g ⟨(o - 5) + t.val, by omega⟩ c := by
  rw [← rows_apply H]
  refine View.ld_unit_apply_of _ _ _ _ _ _ fun a => ?_
  match a with
  | ⟨0, _⟩ => show 5 + (o - 5 + t.val) = o + t.val; omega
  | ⟨1, _⟩ => show c.val = 0 + c.val; omega

theorem cwAt_apply (o : ℕ) (ho : o ≤ 3) (c : Fin 2048) : cwAt x5 o ho (ix2 0 c) = a4 (ix2 ⟨o, by omega⟩ c) := by
  rw [← H.h5]
  refine View.ld_unit_apply_of _ _ _ _ _ _ fun a => ?_
  match a with
  | ⟨0, _⟩ => rfl
  | ⟨1, _⟩ => show c.val = 0 + c.val; omega

/-- The convolution of the blocks is the stream's. -/
theorem qk_apply (t : Fin 32) (c : Fin 2048) : qk x0 x4 x5 x6 (ix2 t c) = gx a0 a3 a4 a5 g t c := by
  have e : k0_pay5 x0 x6 (cwAt x5 3 (by omega)) (rowsAt x0 x4 5 (by omega)) (cwAt x5 0 (by omega)) (rowsAt x0 x4 6 (by omega)) (cwAt x5 1 (by omega)) (rowsAt x0 x4 7 (by omega)) (cwAt x5 2 (by omega)) (ix2 t c) = gc a0 a3 a4 a5 g t c := by
    pointwise [k0_pay5]
    rw [H.h6, cwAt_apply H, cwAt_apply H, cwAt_apply H, cwAt_apply H, rowsAt_apply H 5 _ _ _ (by omega), rowsAt_apply H 6 _ _ _ (by omega), rowsAt_apply H 7 _ _ _ (by omega), H.h0]
    have e3 : a0 (ix2 (row g t) c) = gu a0 a3 g ⟨3 + t.val, by omega⟩ c := by
      rw [gu, dif_neg (by show ¬ 3 + t.val < 3; omega)]
      refine congrArg a0 (congrArg (fun r => ix2 r c) (Fin.ext ?_))
      show 16384 + (g.val * 32 + t.val) = 16384 + (g.val * 32 + (3 + t.val - 3)); omega
    have e0 : (⟨5 - 5 + t.val, by omega⟩ : Fin 35) = ⟨t.val, by omega⟩ := Fin.ext (by show 5 - 5 + t.val = t.val; omega)
    rw [e3, e0]
    show _ + _ * a4 (ix2 3 c) + _ * a4 (ix2 0 c) + gu a0 a3 g ⟨1 + t.val, _⟩ c * a4 (ix2 1 c) + gu a0 a3 g ⟨2 + t.val, _⟩ c * a4 (ix2 2 c) = _
    rw [gc]
    simp only [add_assoc, add_comm, add_left_comm]
  unfold qk
  pointwise [k0_pay8]
  rw [e]; rfl

theorem fi_eq (h : Fin 8) : fi (k0_pay10 x3 x7) h = gi a2 a6 g h := funext fun t => by
  rw [fi, pay10_apply, H.h3, H.h7i]; rfl
theorem fb_eq (h : Fin 8) : fb (k0_pay11 x3 x7) h = gb a2 a6 g h := funext fun t => by
  rw [fb, pay11_apply]
  simp only [H.h3, H.h7f]; rfl
theorem gateFin (h : Fin 8) : GateFin (k0_pay10 x3 x7) (k0_pay11 x3 x7) h := fun t =>
  ⟨by have := H.low h t; rw [← fi_eq H h] at this; exact this, pay11_ne_top _ _ _ _⟩
theorem fq_eq (h : Fin 8) : fq (qk x0 x4 x5 x6) h = gq a0 a3 a4 a5 g h := funext fun t => funext fun d => by
  rw [fq, qk_apply H, gq]
  exact congrArg _ (Fin.ext (by show 128 * h.val + d.val = h.val * 128 + d.val; omega))
theorem fk_eq (h : Fin 8) : fk (qk x0 x4 x5 x6) h = gk a0 a3 a4 a5 g h := funext fun t => funext fun d => by
  rw [fk, qk_apply H, gk]
  exact congrArg (fun z => gx a0 a3 a4 a5 g t z * _) (Fin.ext (by show 1024 + 128 * h.val + d.val = 1024 + (h.val * 128 + d.val); omega))
theorem fv_eq (h : Fin 8) : (fun s e => col256 x1 h (ix2 s e)) = gv a1 g h := funext fun s => funext fun e => by
  have e1 : col256 x1 h (ix2 s e) = x1 (ix2 s ⟨256 * h.val + e.val, by omega⟩) := View.ld_unit_apply_of _ _ _ _ _ _ fun a => match a with
    | ⟨0, _⟩ => (by show s.val = 0 + s.val; omega)
    | ⟨1, _⟩ => rfl
  rw [e1, H.h1, gv]
  exact congrArg (fun z => a1 (ix2 (row g s) z)) (Fin.ext (by show 256 * h.val + e.val = h.val * 256 + e.val; omega))
theorem fo_eq (h : Fin 8) (t : Fin 32) : (fun e => col256 x2 h (ix2 t e)) = go a1 g h t := funext fun e => by
  have e1 : col256 x2 h (ix2 t e) = x2 (ix2 t ⟨256 * h.val + e.val, by omega⟩) := View.ld_unit_apply_of _ _ _ _ _ _ fun a => match a with
    | ⟨0, _⟩ => (by show t.val = 0 + t.val; omega)
    | ⟨1, _⟩ => rfl
  rw [e1, H.h2, go]
theorem fng_eq (h : Fin 8) : (fun e => ngAt x8 h (ix2 0 e)) = fun e => a7 (ix2 h e) := funext fun e => by
  have e1 : ngAt x8 h (ix2 0 e) = x8 (ix2 h e) := View.ld_unit_apply_of _ _ _ _ _ _ fun a => match a with
    | ⟨0, _⟩ => (by show h.val = h.val + 0; omega)
    | ⟨1, _⟩ => (by show e.val = 0 + e.val; omega)
  rw [e1, H.h8]
theorem fC_eq (h : Fin 8) : (fun e d => View.ld x9 (rc h) (ix4 0 0 e d)) = fun e d => a8 (ix4 g h e d) := funext fun e => funext fun d => by
  have e1 : View.ld x9 (rc h) (ix4 0 0 e d) = x9 (ix4 0 h e d) := View.ld_unit_apply_of _ _ _ _ _ _ fun a => match a with
    | ⟨0, _⟩ => rfl
    | ⟨1, _⟩ => (by show h.val = h.val + 0; omega)
    | ⟨2, _⟩ => (by show e.val = 0 + e.val; omega)
    | ⟨3, _⟩ => (by show d.val = 0 + d.val; omega)
  rw [e1, H.h9]
theorem fn_eq (h : Fin 8) : (fun d => View.ld x10 (rn h) (ix3 0 0 d)) = fun d => a9 (ix3 g h d) := funext fun d => by
  have e1 : View.ld x10 (rn h) (ix3 0 0 d) = x10 (ix3 0 h d) := View.ld_unit_apply_of _ _ _ _ _ _ fun a => match a with
    | ⟨0, _⟩ => rfl
    | ⟨1, _⟩ => (by show h.val = h.val + 0; omega)
    | ⟨2, _⟩ => (by show d.val = 0 + d.val; omega)
  rw [e1, H.h10]
theorem fm_eq (h : Fin 8) : mAt x11 h (ix3 0 0 0) = a10 (ix2 g h) := by
  have e1 : mAt x11 h (ix3 0 0 0) = k0_pay2 (F := Ideal) x11 (ix3 0 h 0) := View.ld_unit_apply_of _ _ _ _ _ _ fun a => match a with
    | ⟨0, _⟩ => rfl
    | ⟨1, _⟩ => (by show h.val = h.val + 0; omega)
    | ⟨2, _⟩ => rfl
  rw [e1]
  pointwise [k0_pay2]
  exact H.h11 _ _

/-- The stream's outputs. -/
theorem read12 (y : S32x2048.Idx) (h : Fin 8) (t : Fin 32) (e : Fin 256) (h0 : (y 0).val = t.val) (h1 : (y 1).val = 256 * h.val + e.val) :
    View.canon (eight (pc12 x0 x1 x2 x3 x4 x5 x6 x7 x8 x9 x10 x11) []) y = F12 a0 a1 a2 a3 a4 a5 a6 a7 a8 a9 a10 g h t e := by
  have hlt : ∀ y : S32x2048.Idx, (y 0).val < 32 ∧ (y 1).val < 2048 := fun y => ⟨(y 0).isLt, (y 1).isLt⟩
  have hm : y ∈ (pc12 x0 x1 x2 x3 x4 x5 x6 x7 x8 x9 x10 x11 h).1.set := rh_mem y h e h1
  let G : S32x2048.Idx → EReal := fun y => F12 a0 a1 a2 a3 a4 a5 a6 a7 a8 a9 a10 g ⟨(y 1).val / 256, by have := hlt y; omega⟩ ⟨(y 0).val, (hlt y).1⟩ ⟨(y 1).val % 256, by omega⟩
  refine (eight_read (pc12 x0 x1 x2 x3 x4 x5 x6 x7 x8 x9 x10 x11) [] G ?_ y h hm).trans ?_
  · intro k x
    have c0 : (((pc12 x0 x1 x2 x3 x4 x5 x6 x7 x8 x9 x10 x11 k).1.emb x) 0).val = 0 + (x 0).val := unit_coord _ x 0 _ rfl rfl
    have c1 : (((pc12 x0 x1 x2 x3 x4 x5 x6 x7 x8 x9 x10 x11 k).1.emb x) 1).val = 256 * k.val + (x 1).val := unit_coord _ x 1 _ rfl rfl
    have l0 : (x 0).val < 32 := (x 0).isLt
    have l1 : (x 1).val < 256 := (x 1).isLt
    have ex : x = ix2 ⟨(x 0).val, l0⟩ ⟨(x 1).val, l1⟩ := funext fun a => match a with
      | ⟨0, _⟩ => rfl
      | ⟨1, _⟩ => rfl
    have p := pay12_apply (qk x0 x4 x5 x6) (col256 x1 k) (col256 x2 k) (ngAt x8 k) (View.ld x9 (rc k) : Vec Ideal S1x1x256x128 .f32) (View.ld x10 (rn k) : Vec Ideal S1x1x128 .f32) (mAt x11 k) (gateFin H k) ⟨(x 0).val, l0⟩ ⟨(x 1).val, l1⟩
    rw [fq_eq H, fk_eq H, fi_eq H, fb_eq H, fv_eq H, fo_eq H, fng_eq H, fC_eq H, fn_eq H, fm_eq H] at p
    have q : (pc12 x0 x1 x2 x3 x4 x5 x6 x7 x8 x9 x10 x11 k).2 x = F12 a0 a1 a2 a3 a4 a5 a6 a7 a8 a9 a10 g k ⟨(x 0).val, l0⟩ ⟨(x 1).val, l1⟩ :=
      (congrArg (pc12 x0 x1 x2 x3 x4 x5 x6 x7 x8 x9 x10 x11 k).2 ex).trans p
    rw [q]
    show _ = F12 _ _ _ _ _ _ _ _ _ _ _ _ _ _ _
    congr 1
    · exact Fin.ext (by show k.val = (((pc12 x0 x1 x2 x3 x4 x5 x6 x7 x8 x9 x10 x11 k).1.emb x) 1).val / 256; rw [c1]; omega)
    · exact (Fin.ext (c0.trans (Nat.zero_add _))).symm
    · exact Fin.ext (by show (x 1).val = (((pc12 x0 x1 x2 x3 x4 x5 x6 x7 x8 x9 x10 x11 k).1.emb x) 1).val % 256; rw [c1]; omega)
  · show F12 _ _ _ _ _ _ _ _ _ _ _ _ _ _ _ = _
    congr 1
    · exact Fin.ext (by show (y 1).val / 256 = h.val; omega)
    · exact Fin.ext h0
    · exact Fin.ext (by show (y 1).val % 256 = e.val; omega)

/-- The stream's new matrix state. -/
theorem read13 (L : List (View.Piece (Elt Ideal) S1x8x256x128 .f32)) (y : S1x8x256x128.Idx) :
    View.canon (eight (pc13 x0 x1 x3 x4 x5 x6 x7 x9 x11) L) y = F13 a0 a1 a2 a3 a4 a5 a6 a8 a10 g (y 1) (y 2) (y 3) := by
  have hm : y ∈ (pc13 x0 x1 x3 x4 x5 x6 x7 x9 x11 (y 1)).1.set := rc_mem y
  refine eight_read (pc13 x0 x1 x3 x4 x5 x6 x7 x9 x11) L (fun y => F13 a0 a1 a2 a3 a4 a5 a6 a8 a10 g (y 1) (y 2) (y 3)) ?_ y (y 1) hm
  · intro k x
    have c1 : (((pc13 x0 x1 x3 x4 x5 x6 x7 x9 x11 k).1.emb x) 1).val = k.val + (x 1).val := unit_coord _ x 1 _ rfl rfl
    have c2 : (((pc13 x0 x1 x3 x4 x5 x6 x7 x9 x11 k).1.emb x) 2).val = 0 + (x 2).val := unit_coord _ x 2 _ rfl rfl
    have c3 : (((pc13 x0 x1 x3 x4 x5 x6 x7 x9 x11 k).1.emb x) 3).val = 0 + (x 3).val := unit_coord _ x 3 _ rfl rfl
    have l0 : (x 0).val < 1 := (x 0).isLt
    have l1 : (x 1).val < 1 := (x 1).isLt
    have l2 : (x 2).val < 256 := (x 2).isLt
    have l3 : (x 3).val < 128 := (x 3).isLt
    have ex : x = ix4 0 0 ⟨(x 2).val, l2⟩ ⟨(x 3).val, l3⟩ := funext fun a => Fin.ext (match a with
      | ⟨0, _⟩ => (by show (x 0).val = 0; omega)
      | ⟨1, _⟩ => (by show (x 1).val = 0; omega)
      | ⟨2, _⟩ => rfl
      | ⟨3, _⟩ => rfl)
    have p := pay13_apply (qk x0 x4 x5 x6) (col256 x1 k) (View.ld x9 (rc k) : Vec Ideal S1x1x256x128 .f32) (mAt x11 k) (gateFin H k) ⟨(x 2).val, l2⟩ ⟨(x 3).val, l3⟩
    rw [fk_eq H, fi_eq H, fb_eq H, fv_eq H, fC_eq H, fm_eq H] at p
    have q : (pc13 x0 x1 x3 x4 x5 x6 x7 x9 x11 k).2 x = F13 a0 a1 a2 a3 a4 a5 a6 a8 a10 g k ⟨(x 2).val, l2⟩ ⟨(x 3).val, l3⟩ :=
      (congrArg (pc13 x0 x1 x3 x4 x5 x6 x7 x9 x11 k).2 ex).trans p
    rw [q]
    congr 1
    · exact (Fin.ext (c1.trans (by omega))).symm
    · exact (Fin.ext (c2.trans (Nat.zero_add _))).symm
    · exact (Fin.ext (c3.trans (Nat.zero_add _))).symm

/-- The stream's new normaliser. -/
theorem read14 (L : List (View.Piece (Elt Ideal) S1x8x128 .f32)) (y : S1x8x128.Idx) : View.canon (eight (pc14 x0 x3 x4 x5 x6 x7 x10 x11) L) y = F14 a0 a2 a3 a4 a5 a6 a9 a10 g (y 1) (y 2) := by
  have hm : y ∈ (pc14 x0 x3 x4 x5 x6 x7 x10 x11 (y 1)).1.set := rn_mem y
  refine eight_read (pc14 x0 x3 x4 x5 x6 x7 x10 x11) L (fun y => F14 a0 a2 a3 a4 a5 a6 a9 a10 g (y 1) (y 2)) ?_ y (y 1) hm
  intro k x
  obtain ⟨ex, c1, c2⟩ := rn_coord k x
  have p := pay14_store (qk x0 x4 x5 x6) (View.ld x10 (rn k) : Vec Ideal S1x1x128 .f32) (mAt x11 k) (gateFin H k) (x 2)
  rw [fk_eq H, fi_eq H, fb_eq H, fn_eq H, fm_eq H] at p
  have q : (pc14 x0 x3 x4 x5 x6 x7 x10 x11 k).2 x = F14 a0 a2 a3 a4 a5 a6 a9 a10 g k (x 2) :=
    (congrArg (pc14 x0 x3 x4 x5 x6 x7 x10 x11 k).2 ex).trans p
  rw [q]
  exact (congrArg₂ (F14 a0 a2 a3 a4 a5 a6 a9 a10 g) c1 c2).symm

/-- The stream's new stabiliser. -/
theorem read15 (L : List (View.Piece (Elt Ideal) S1x8x128 .f32)) (y : S1x8x128.Idx) : View.canon (eight (pc15 x3 x7 x11) L) y = F15 a2 a6 a10 g (y 1) := by
  have hm : y ∈ (pc15 x3 x7 x11 (y 1)).1.set := rn_mem y
  refine eight_read (pc15 x3 x7 x11) L (fun y => F15 a2 a6 a10 g (y 1)) ?_ y (y 1) hm
  intro k x
  obtain ⟨ex, c1, c2⟩ := rn_coord k x
  have p := pay15_store (mAt x11 k) (gateFin H k) (x 2)
  rw [fi_eq H, fb_eq H, fm_eq H] at p
  have q : (pc15 x3 x7 x11 k).2 x = F15 a2 a6 a10 g k :=
    (congrArg (pc15 x3 x7 x11 k).2 ex).trans p
  rw [q]
  exact (congrArg (F15 a2 a6 a10 g) c1).symm

/-- The three rows the stream keeps for the next step. -/
theorem read16 (inb) (y : S1x3x2048.Idx) :
    k0_pay6 (View.ld (rows x0 x4) (Rect.unit (s := S40x2048) ![37, 0] S3x2048.size inb)) y = gu a0 a3 g ⟨32 + (y 1).val, by have : (y 1).val < 3 := (y 1).isLt; omega⟩ (y 2) := by
  have l0 : (y 0).val < 1 := (y 0).isLt
  have l1 : (y 1).val < 3 := (y 1).isLt
  have ey : y = ix3 0 (y 1) (y 2) := funext fun a => Fin.ext (match a with
    | ⟨0, _⟩ => (by show (y 0).val = 0; omega)
    | ⟨1, _⟩ => rfl
    | ⟨2, _⟩ => rfl)
  rw [ey]
  pointwise [k0_pay6]
  refine Eq.trans ?_ (rows_apply H ⟨32 + (y 1).val, by omega⟩ (y 2))
  exact congrArg (fun r => rows x0 x4 (ix2 r (y 2))) (Fin.ext (by show 37 + (y 1).val = 5 + (32 + (y 1).val); omega))
end
end Cert.KernelIdeal.Hand
end
-- ==== Proof.MlstmRef.lean ====
module
public import proofs.«01_k».proof.Proof.MlstmSpec
public import proofs.«01_k».proof.Proof.Consts
public import proofs.«01_k».proof.Proof.Gen.ReferenceIdeal.Read
/-! The reference's mLSTM step, read at an index. -/
@[expose] public section
set_option maxRecDepth 16384
noncomputable section
namespace Cert.ReferenceIdeal.Hand
open Cert.Consts Cert.ReferenceIdeal Cert.ReferenceIdeal.Gen Cert.ReferenceIdeal.Read Idealize.ShloMosaic Idealize.ShloMosaic.TcCoe Idealize.SL.Sem Cert.Mlstm

theorem absf_eq (x : EReal) : FloatOps.absf (F := Ideal) (φ := .f32) x = max x (-x) := rfl
/-- A fold that adds is the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

theorem win_val : ∀ n : Fin (⟨3, ![1, 1, 32]⟩ : Shape).numel, ((⟨3, ![1, 1, 32]⟩ : Shape).rowMajor.symm n 0).val = 0
    ∧ ((⟨3, ![1, 1, 32]⟩ : Shape).rowMajor.symm n 1).val = 0 ∧ ((⟨3, ![1, 1, 32]⟩ : Shape).rowMajor.symm n 2).val = n.val := by
  decide +kernel

/-- The running sum along the last axis. -/
theorem cumsum_apply (x : FVec Ideal S32x8x32 .f32) (z : FVec Ideal S_ .f32) (hz : ∀ i, z i = 0) (hw) (hu) (g : Fin 32) (h : Fin 8) (t : Fin 32) :
    Host.reduceWindowAdd (F := Ideal) (t := S32x8x32) ![1, 1, 32] ![1, 1, 1] ![0, 0, 31] ![0, 0, 0] x z hw hu (ix3 g h t) = ∑ s : Fin 32, if s ≤ t then x (ix3 g h s) else 0 := by
  show Host.reduceWindow (s := S32x8x32) (t := S32x8x32) (fun a b : EReal => a + b) ![1, 1, 32] ![1, 1, 1] ![0, 0, 31] ![0, 0, 0] x (fun _ : (⟨0, ![]⟩ : Shape).Idx => z _) hw (by decide) (ix3 g h t) = _
  unfold Host.reduceWindow
  dsimp only
  rw [foldl_add, ← Fin.sum_univ_def, hz, zero_add, ← Equiv.sum_comp (Equiv.addRight (t + 1))]
  show ∑ n : Fin 32, _ = _
  refine Finset.sum_congr rfl fun n _ => ?_
  obtain ⟨e0, e1, e2⟩ := win_val n
  have hs : (n + (t + 1)).val = (n.val + t.val + 1) % 32 := by simp [Fin.val_add]; omega
  have hn := n.isLt
  have ht := t.isLt
  show _ = if n + (t + 1) ≤ t then x (ix3 g h (n + (t + 1))) else 0
  by_cases hc : 31 ≤ n.val + t.val
  · rw [if_pos (show n + (t + 1) ≤ t from by rw [Fin.le_def, hs]; omega), dif_pos]
    · refine congrArg x (funext fun a => Fin.ext ?_)
      match a with
      | ⟨0, _⟩ => show g.val * 1 + ((⟨3, ![1, 1, 32]⟩ : Shape).rowMajor.symm n 0).val - 0 = g.val; omega
      | ⟨1, _⟩ => show h.val * 1 + ((⟨3, ![1, 1, 32]⟩ : Shape).rowMajor.symm n 1).val - 0 = h.val; omega
      | ⟨2, _⟩ => show t.val * 1 + ((⟨3, ![1, 1, 32]⟩ : Shape).rowMajor.symm n 2).val - 31 = (n + (t + 1)).val; rw [hs]; omega
    · intro a
      have hg := g.isLt
      have hh := h.isLt
      match a with
      | ⟨0, _⟩ => show 0 ≤ g.val * 1 + ((⟨3, ![1, 1, 32]⟩ : Shape).rowMajor.symm n 0).val ∧ g.val * 1 + ((⟨3, ![1, 1, 32]⟩ : Shape).rowMajor.symm n 0).val - 0 < 32; omega
      | ⟨1, _⟩ => show 0 ≤ h.val * 1 + ((⟨3, ![1, 1, 32]⟩ : Shape).rowMajor.symm n 1).val ∧ h.val * 1 + ((⟨3, ![1, 1, 32]⟩ : Shape).rowMajor.symm n 1).val - 0 < 8; omega
      | ⟨2, _⟩ => show 31 ≤ t.val * 1 + ((⟨3, ![1, 1, 32]⟩ : Shape).rowMajor.symm n 2).val ∧ t.val * 1 + ((⟨3, ![1, 1, 32]⟩ : Shape).rowMajor.symm n 2).val - 31 < 32; omega
  · rw [if_neg (show ¬n + (t + 1) ≤ t from by rw [Fin.le_def, hs]; omega), dif_neg]
    intro hin
    have h2 : 31 ≤ t.val * 1 + ((⟨3, ![1, 1, 32]⟩ : Shape).rowMajor.symm n 2).val := (hin 2).1
    omega

variable (x0 : FVec Ideal S17408x2048 .f32) (x1 : FVec Ideal S17408x4096 .bf16) (x2 : FVec Ideal S17408x128 .f32) (x3 : FVec Ideal S32x3x2048 .f32) (x4 : FVec Ideal S4x2048 .f32) (x5 : FVec Ideal S2048 .f32) (x6 : FVec Ideal S2x8 .f32) (x7 : FVec Ideal S8x256 .f32) (x8 : FVec Ideal S32x8x256x128 .f32) (x9 : FVec Ideal S32x8x128 .f32) (x10 : FVec Ideal S32x8 .f32)

theorem v12_apply (g : Fin 32) (r : Fin 35) (c : Fin 2048) : val_main_v12 (F := Ideal) x0 x3 (ix3 g r c) = gu x0 x3 g r c := by
  pointwise [val_main_v12, val_main_v1, val_main_v0]
  rfl
theorem v42_apply (g t : Fin 32) (c : Fin 2048) : val_main_v42 (F := Ideal) x0 x3 x4 x5 (ix3 g t c) = gc x0 x3 x4 x5 g t c := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, v12_apply]
  rfl
theorem v44_apply (g t : Fin 32) (c : Fin 2048) : val_main_v44 (F := Ideal) x0 x3 x4 x5 (ix3 g t c) = gx x0 x3 x4 x5 g t c := by
  pointwise [val_main_v44, val_main_call0_v5, val_main_call0_v4, val_main_call0_v3, val_main_call0_v2, val_main_call0_v1, val_main_call0_v0, val_main_call0_cst, val_main_call0_cst_0, v42_apply]
  rfl
theorem v62_apply (g : Fin 32) (h : Fin 8) (t : Fin 32) (d : Fin 128) : val_main_v62 (F := Ideal) x0 x3 x4 x5 (ix4 g h t d) = gq x0 x3 x4 x5 g h t d := by
  pointwise [val_main_v62, val_main_v46, val_main_v45, v44_apply]
  rfl
theorem v63_apply (g : Fin 32) (h : Fin 8) (t : Fin 32) (d : Fin 128) : val_main_v63 (F := Ideal) x0 x3 x4 x5 (ix4 g h t d) = gk x0 x3 x4 x5 g h t d := by
  pointwise [val_main_v63, val_main_v51, val_main_v50, val_main_v49, val_main_cst, val_main_v48, val_main_v47, v44_apply]
  exact div_sqrt_128 _
theorem v64_apply (g : Fin 32) (h : Fin 8) (t : Fin 32) (e : Fin 256) : val_main_v64 (F := Ideal) x1 (ix4 g h t e) = gv x1 g h t e := by
  pointwise [val_main_v64, val_main_v4, val_main_v3, val_main_v2]
  rfl
theorem v65_apply (g : Fin 32) (h : Fin 8) (t : Fin 32) : val_main_v65 (F := Ideal) x2 x6 (ix3 g h t) = gi x2 x6 g h t := by
  pointwise [val_main_v65, val_main_v56, val_main_v55, val_main_v54, val_main_v53, val_main_v52, val_main_v9, val_main_v8]
  rfl
theorem v66_apply (g t : Fin 32) (h : Fin 8) : val_main_v66 (F := Ideal) x2 x6 (ix3 g t h) = ls (x2 (ix2 (row g t) ⟨8 + h.val, by omega⟩) + x6 (ix2 1 h)) := by
  pointwise [val_main_v66, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v61, val_main_v60, val_main_v59, val_main_v58, val_main_v57, val_main_v11, val_main_v10]
  simp only [ne_eq, not_true_eq_false, if_false, absf_eq]
  exact ls_eq _
theorem v70_apply (g : Fin 32) (h : Fin 8) (t : Fin 32) : val_main_v70 (F := Ideal) x2 x6 (ix3 g h t) = gb x2 x6 g h t := by
  unfold val_main_v70
  rw [cumsum_apply _ _ (fun i => by pointwise [val_main_call3_call0_v0, val_main_call3_call0_cst])]
  pointwise [val_main_v67, v66_apply]
  rfl
theorem v69_apply (t s : Fin 32) : val_main_v69 (F := Ideal) (ix2 t s) = if s ≤ t then 1#1 else 0#1 := by
  revert t s; decide +kernel
theorem v79_apply (g : Fin 32) (h : Fin 8) (t s : Fin 32) : val_main_v79 (F := Ideal) x2 x6 (ix4 g h t s) = dm (gi x2 x6 g h) (gb x2 x6 g h) t s := by
  pointwise [val_main_v79, val_main_v78, val_main_v77, val_main_v76, val_main_v75, val_main_v74, val_main_v73, val_main_v72, val_main_v71, val_main_call4_v0, val_main_call4_v1, val_main_call4_v2, val_main_cst_0, v69_apply, v70_apply, v65_apply]
  rw [select_if]
  show (if s ≤ t then _ else Ideal.ofBits FTy.f32 4286578688#32) = _
  rw [bits_neg_inf]
  rfl
theorem v84_apply (g : Fin 32) (h : Fin 8) (t : Fin 32) : val_main_v84 (F := Ideal) x2 x6 x10 (ix3 g h t) = mt (gi x2 x6 g h) (gb x2 x6 g h) (x10 (ix2 g h)) t := by
  pointwise [val_main_v84, val_main_v83, val_main_v82, val_main_v81, val_main_v80, val_main_cst_1, v70_apply, v79_apply]
  rfl
theorem v92_apply (g : Fin 32) (h : Fin 8) (t : Fin 32) : val_main_v92 (F := Ideal) x2 x6 x10 (ix3 g h t) = wp (gi x2 x6 g h) (gb x2 x6 g h) (x10 (ix2 g h)) t := by
  pointwise [val_main_v92, val_main_v91, val_main_v82, val_main_v81, val_main_v80, v70_apply, v84_apply]
  rfl
theorem v90_apply (g : Fin 32) (h : Fin 8) (t s : Fin 32) : val_main_v90 (F := Ideal) x0 x2 x3 x4 x5 x6 x10 (ix4 g h t s)
    = sc (gq x0 x3 x4 x5 g h) (gk x0 x3 x4 x5 g h) (gi x2 x6 g h) (gb x2 x6 g h) (x10 (ix2 g h)) t s := by
  pointwise [val_main_v90, val_main_v89, val_main_v88, val_main_v87, val_main_v86, val_main_v85, v79_apply, v84_apply, v62_apply, v63_apply]
  rfl
theorem v109_apply (g : Fin 32) (h : Fin 8) (t : Fin 32) (e : Fin 256) : val_main_v109 (F := Ideal) x0 x1 x2 x3 x4 x5 x6 x8 x9 x10 (ix4 g h t e)
    = ho (gq x0 x3 x4 x5 g h) (gk x0 x3 x4 x5 g h) (gv x1 g h) (gi x2 x6 g h) (gb x2 x6 g h) (fun e d => x8 (ix4 g h e d)) (fun d => x9 (ix3 g h d)) (x10 (ix2 g h)) t e := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_cst_2, v62_apply, v64_apply, v84_apply, v90_apply, v92_apply]
  simp only [absf_eq, mul_comm (x9 _)]
  rfl
theorem v111_apply (g : Fin 32) (h : Fin 8) : val_main_v111 (F := Ideal) x2 x6 x10 (ix2 g h) = F15 x2 x6 x10 g h := by
  pointwise [val_main_v111, val_main_v110, v84_apply]
  rfl
theorem v116_apply (g : Fin 32) (h : Fin 8) : val_main_v116 (F := Ideal) x2 x6 x10 (ix2 g h) = dec (gi x2 x6 g h) (gb x2 x6 g h) (x10 (ix2 g h)) := by
  pointwise [val_main_v116, val_main_v115, val_main_v114, val_main_v113, val_main_v112, v111_apply, v70_apply]
  rfl
theorem v124_apply (g : Fin 32) (h : Fin 8) (s : Fin 32) : val_main_v124 (F := Ideal) x2 x6 x10 (ix3 g h s) = ws (gi x2 x6 g h) (gb x2 x6 g h) (x10 (ix2 g h)) s := by
  pointwise [val_main_v124, val_main_v123, val_main_v122, val_main_v121, val_main_v120, val_main_v119, val_main_v118, val_main_v117, v111_apply, v70_apply, v65_apply]
  rfl
theorem v132_apply (g : Fin 32) (h : Fin 8) (e : Fin 256) (d : Fin 128) : val_main_v132 (F := Ideal) x0 x1 x2 x3 x4 x5 x6 x8 x10 (ix4 g h e d) = F13 x0 x1 x2 x3 x4 x5 x6 x8 x10 g h e d := by
  pointwise [val_main_v132, val_main_v131, val_main_v130, val_main_v129, val_main_v128, val_main_v127, val_main_v126, val_main_v125, v116_apply, v124_apply, v63_apply, v64_apply]
  rfl
theorem v137_apply (g : Fin 32) (h : Fin 8) (d : Fin 128) : val_main_v137 (F := Ideal) x0 x2 x3 x4 x5 x6 x9 x10 (ix3 g h d) = F14 x0 x2 x3 x4 x5 x6 x9 x10 g h d := by
  pointwise [val_main_v137, val_main_v136, val_main_v135, val_main_v134, val_main_v133, v116_apply, v124_apply, v63_apply]
  rfl
theorem v163_apply (g : Fin 32) (h : Fin 8) (l : Fin 128) : val_main_v163 (F := Ideal) x2 x6 x10 (ix3 g h l) = F15 x2 x6 x10 g h := by
  pointwise [val_main_v163, val_main_v162, v111_apply]
theorem v43_apply (g : Fin 32) (r : Fin 3) (c : Fin 2048) : val_main_v43 (F := Ideal) x0 x3 (ix3 g r c) = gu x0 x3 g ⟨32 + r.val, by omega⟩ c := by
  pointwise [val_main_v43, v12_apply]
theorem v161_apply (g : Fin 32) (h : Fin 8) (t : Fin 32) (e : Fin 256) :
    val_main_v161 (F := Ideal) x0 x1 x2 x3 x4 x5 x6 x7 x8 x9 x10 (ix2 ⟨32 * g.val + t.val, by omega⟩ ⟨256 * h.val + e.val, by omega⟩) = F12 x0 x1 x2 x3 x4 x5 x6 x7 x8 x9 x10 g h t e := by
  pointwise [val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_cst_3, val_main_cst_4, val_main_cst_5, val_main_cst_6, val_main_cst_7, val_main_v7, val_main_v6, val_main_v5, v109_apply]
  rfl
end Cert.ReferenceIdeal.Hand
end
-- ==== Proof.MlstmHost.lean ====
module
public import proofs.«01_k».proof.Proof.MlstmStores
public import proofs.«01_k».proof.Proof.MlstmBlocks
public import proofs.«01_k».proof.Proof.MlstmRef
public import proofs.«01_k».proof.Defs
public import Idealize.ShloMosaic.Lib.StableHlo.ReadAt
public import Idealize.ShloMosaic.Lib.Quiescent
/-! The mLSTM kernel's five results are the reference's. -/
@[expose] public section
set_option maxRecDepth 16384
noncomputable section
namespace Cert.KernelIdeal.Hand
open Cert.KernelIdeal Cert.KernelIdeal.Gen Idealize.ShloMosaic Idealize.ShloMosaic.TcCoe Idealize.SL.Sem Cert.Mlstm
variable (m : (ℓ : Loc nD τ sig) → Buf (Elt Ideal) ℓ) (c : Dev nD)

/-! ## What the host hands the kernel -/
theorem V_v1_apply (g : Fin 32) (h : Fin 8) (l : Fin 128) : V m c main_v1 (ix3 g h l) = m ((c : Thread nD τ).loc main_arg10) (ix2 g h) := by
  unfold V
  after_reads_at
theorem V_v4_apply (l : Fin 2048) : V m c main_v4 (ix2 0 l) = m ((c : Thread nD τ).loc main_arg5) (ix1 l) := by
  unfold V
  after_reads_at
theorem V_v3_apply0 (h : Fin 8) : V m c main_v3 (ix2 0 ⟨h.val, by omega⟩) = m ((c : Thread nD τ).loc main_arg6) (ix2 0 h) := by
  unfold V
  after_reads_at
  rw [dif_pos (by omega)]
  refine congrArg _ (congrArg₂ ix2 (Fin.ext ?_) (Fin.ext ?_))
  · show h.val / 8 = 0; omega
  · show h.val % 8 = h.val; omega
theorem V_v3_apply1 (h : Fin 8) : V m c main_v3 (ix2 0 ⟨8 + h.val, by omega⟩) = m ((c : Thread nD τ).loc main_arg6) (ix2 1 h) := by
  unfold V
  after_reads_at
  rw [dif_pos (by omega)]
  refine congrArg _ (congrArg₂ ix2 (Fin.ext ?_) (Fin.ext ?_))
  · show (8 + h.val) / 8 = 1; omega
  · show (8 + h.val) % 8 = h.val; omega

/-! ## Which block each point reads and writes -/
theorem at0 : ∀ t : Fin cfg0.N, win0_0.index t (0 : Fin 2) = 512 + t.val ∧ win0_0.index t (1 : Fin 2) = 0 :=
  (by decide +kernel : ∀ t : Fin grid0.N, _)
theorem at1 : ∀ t : Fin cfg0.N, win0_1.index t (0 : Fin 2) = 512 + t.val ∧ win0_1.index t (1 : Fin 2) = 0 :=
  (by decide +kernel : ∀ t : Fin grid0.N, _)
theorem at2 : ∀ t : Fin cfg0.N, win0_2.index t (0 : Fin 2) = 512 + t.val ∧ win0_2.index t (1 : Fin 2) = 1 :=
  (by decide +kernel : ∀ t : Fin grid0.N, _)
theorem at3 : ∀ t : Fin cfg0.N, win0_3.index t (0 : Fin 2) = 512 + t.val ∧ win0_3.index t (1 : Fin 2) = 0 :=
  (by decide +kernel : ∀ t : Fin grid0.N, _)
theorem at4 : ∀ t : Fin cfg0.N, win0_4.index t (0 : Fin 3) = t.val ∧ win0_4.index t (1 : Fin 3) = 0 ∧ win0_4.index t (2 : Fin 3) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)
theorem at9 : ∀ t : Fin cfg0.N, win0_9.index t (0 : Fin 4) = t.val ∧ win0_9.index t (1 : Fin 4) = 0 ∧ win0_9.index t (2 : Fin 4) = 0 ∧ win0_9.index t (3 : Fin 4) = 0 :=
  (by decide +kernel : ∀ t : Fin grid0.N, _)
theorem at10 : ∀ t : Fin cfg0.N, win0_10.index t (0 : Fin 3) = t.val ∧ win0_10.index t (1 : Fin 3) = 0 ∧ win0_10.index t (2 : Fin 3) = 0 :=
  (by decide +kernel : ∀ t : Fin grid0.N, _)
theorem at11 : ∀ t : Fin cfg0.N, win0_11.index t (0 : Fin 3) = t.val ∧ win0_11.index t (1 : Fin 3) = 0 ∧ win0_11.index t (2 : Fin 3) = 0 :=
  (by decide +kernel : ∀ t : Fin grid0.N, _)
theorem at12 : ∀ t : Fin cfg0.N, win0_12.index t (0 : Fin 2) = t.val ∧ win0_12.index t (1 : Fin 2) = 0 :=
  (by decide +kernel : ∀ t : Fin grid0.N, _)
theorem at13 : ∀ t : Fin cfg0.N, win0_13.index t (0 : Fin 4) = t.val ∧ win0_13.index t (1 : Fin 4) = 0 ∧ win0_13.index t (2 : Fin 4) = 0 ∧ win0_13.index t (3 : Fin 4) = 0 :=
  (by decide +kernel : ∀ t : Fin grid0.N, _)
theorem at14 : ∀ t : Fin cfg0.N, win0_14.index t (0 : Fin 3) = t.val ∧ win0_14.index t (1 : Fin 3) = 0 ∧ win0_14.index t (2 : Fin 3) = 0 :=
  (by decide +kernel : ∀ t : Fin grid0.N, _)
theorem at15 : ∀ t : Fin cfg0.N, win0_15.index t (0 : Fin 3) = t.val ∧ win0_15.index t (1 : Fin 3) = 0 ∧ win0_15.index t (2 : Fin 3) = 0 :=
  (by decide +kernel : ∀ t : Fin grid0.N, _)
theorem at16 : ∀ t : Fin cfg0.N, win0_16.index t (0 : Fin 3) = t.val ∧ win0_16.index t (1 : Fin 3) = 0 ∧ win0_16.index t (2 : Fin 3) = 0 :=
  (by decide +kernel : ∀ t : Fin grid0.N, _)

/-- The stream a point works on. -/
def gp (t : Fin cfg0.N) : Fin 32 := ⟨t.val, lt_of_lt_of_eq t.isLt N_0⟩

theorem holds (t : Fin cfg0.N) (hlow : ∀ (g : Fin 32) (h : Fin 8) (s : Fin 32), gi (m ((c : Thread nD τ).loc main_arg2)) (m ((c : Thread nD τ).loc main_arg6)) g h s ≠ ⊤) :
    Holds (gp t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) where
  h0 s l := by
    obtain ⟨e0, e1⟩ := at0 t
    show V m c main_arg0 (((cfg0.win 0).blk t).view.emb (ix2 s l)) = _
    rw [V_main_arg0]
    refine congrArg _ (funext fun a => Fin.ext ?_)
    match a with
    | ⟨0, _⟩ => show win0_0.index t (0 : Fin 2) * 32 + 1 * s.val = 16384 + (t.val * 32 + s.val); rw [e0]; omega
    | ⟨1, _⟩ => show win0_0.index t (1 : Fin 2) * 2048 + 1 * l.val = l.val; rw [e1]; omega
  h1 s l := by
    obtain ⟨e0, e1⟩ := at1 t
    show V m c main_arg1 (((cfg0.win 1).blk t).view.emb (ix2 s l)) = _
    rw [V_main_arg1]
    refine congrArg _ (funext fun a => Fin.ext ?_)
    match a with
    | ⟨0, _⟩ => show win0_1.index t (0 : Fin 2) * 32 + 1 * s.val = 16384 + (t.val * 32 + s.val); rw [e0]; omega
    | ⟨1, _⟩ => show win0_1.index t (1 : Fin 2) * 2048 + 1 * l.val = l.val; rw [e1]; omega
  h2 s l := by
    obtain ⟨e0, e1⟩ := at2 t
    show V m c main_arg1 (((cfg0.win 2).blk t).view.emb (ix2 s l)) = _
    rw [V_main_arg1]
    refine congrArg _ (funext fun a => Fin.ext ?_)
    match a with
    | ⟨0, _⟩ => show win0_2.index t (0 : Fin 2) * 32 + 1 * s.val = 16384 + (t.val * 32 + s.val); rw [e0]; omega
    | ⟨1, _⟩ => show win0_2.index t (1 : Fin 2) * 2048 + 1 * l.val = 2048 + l.val; rw [e1]; omega
  h3 s l := by
    obtain ⟨e0, e1⟩ := at3 t
    show V m c main_arg2 (((cfg0.win 3).blk t).view.emb (ix2 s l)) = _
    rw [V_main_arg2]
    refine congrArg _ (funext fun a => Fin.ext ?_)
    match a with
    | ⟨0, _⟩ => show win0_3.index t (0 : Fin 2) * 32 + 1 * s.val = 16384 + (t.val * 32 + s.val); rw [e0]; omega
    | ⟨1, _⟩ => show win0_3.index t (1 : Fin 2) * 128 + 1 * l.val = l.val; rw [e1]; omega
  h4 r l := by
    obtain ⟨e0, e1, e2⟩ := at4 t
    show V m c main_arg3 (((cfg0.win 4).blk t).view.emb (ix3 0 r l)) = _
    rw [V_main_arg3]
    refine congrArg _ (funext fun a => Fin.ext ?_)
    match a with
    | ⟨0, _⟩ => show win0_4.index t (0 : Fin 3) * 1 + 1 * 0 = t.val; rw [e0]; omega
    | ⟨1, _⟩ => show win0_4.index t (1 : Fin 3) * 3 + 1 * r.val = r.val; rw [e1]; omega
    | ⟨2, _⟩ => show win0_4.index t (2 : Fin 3) * 2048 + 1 * l.val = l.val; rw [e2]; omega
  h5 r l := by
    obtain ⟨e0, e1⟩ := at5 t
    show V m c main_arg4 (((cfg0.win 5).blk t).view.emb (ix2 r l)) = _
    rw [V_main_arg4]
    refine congrArg _ (funext fun a => Fin.ext ?_)
    match a with
    | ⟨0, _⟩ => show win0_5.index t (0 : Fin 2) * 4 + 1 * r.val = r.val; rw [e0]; omega
    | ⟨1, _⟩ => show win0_5.index t (1 : Fin 2) * 2048 + 1 * l.val = l.val; rw [e1]; omega
  h6 l := by
    obtain ⟨e0, e1⟩ := at6 t
    refine Eq.trans ?_ (V_v4_apply m c l)
    show V m c main_v4 (((cfg0.win 6).blk t).view.emb (ix2 0 l)) = _
    refine congrArg _ (funext fun a => Fin.ext ?_)
    match a with
    | ⟨0, _⟩ => show win0_6.index t (0 : Fin 2) * 1 + 1 * 0 = 0; rw [e0]
    | ⟨1, _⟩ => show win0_6.index t (1 : Fin 2) * 2048 + 1 * l.val = l.val; rw [e1]; omega
  h7i h := by
    obtain ⟨e0, e1⟩ := at7 t
    refine Eq.trans ?_ (V_v3_apply0 m c h)
    show V m c main_v3 (((cfg0.win 7).blk t).view.emb (ix2 0 ⟨h.val, by omega⟩)) = _
    refine congrArg _ (funext fun a => Fin.ext ?_)
    match a with
    | ⟨0, _⟩ => show win0_7.index t (0 : Fin 2) * 1 + 1 * 0 = 0; rw [e0]
    | ⟨1, _⟩ => show win0_7.index t (1 : Fin 2) * 128 + 1 * h.val = h.val; rw [e1]; omega
  h7f h := by
    obtain ⟨e0, e1⟩ := at7 t
    refine Eq.trans ?_ (V_v3_apply1 m c h)
    show V m c main_v3 (((cfg0.win 7).blk t).view.emb (ix2 0 ⟨8 + h.val, by omega⟩)) = _
    refine congrArg _ (funext fun a => Fin.ext ?_)
    match a with
    | ⟨0, _⟩ => show win0_7.index t (0 : Fin 2) * 1 + 1 * 0 = 0; rw [e0]
    | ⟨1, _⟩ => show win0_7.index t (1 : Fin 2) * 128 + 1 * (8 + h.val) = 8 + h.val; rw [e1]; omega
  h8 h e := by
    obtain ⟨e0, e1⟩ := at8 t
    show V m c main_arg7 (((cfg0.win 8).blk t).view.emb (ix2 h e)) = _
    rw [V_main_arg7]
    refine congrArg _ (funext fun a => Fin.ext ?_)
    match a with
    | ⟨0, _⟩ => show win0_8.index t (0 : Fin 2) * 8 + 1 * h.val = h.val; rw [e0]; omega
    | ⟨1, _⟩ => show win0_8.index t (1 : Fin 2) * 256 + 1 * e.val = e.val; rw [e1]; omega
  h9 h e d := by
    obtain ⟨e0, e1, e2, e3⟩ := at9 t
    show V m c main_arg8 (((cfg0.win 9).blk t).view.emb (ix4 0 h e d)) = _
    rw [V_main_arg8]
    refine congrArg _ (funext fun a => Fin.ext ?_)
    match a with
    | ⟨0, _⟩ => show win0_9.index t (0 : Fin 4) * 1 + 1 * 0 = t.val; rw [e0]; omega
    | ⟨1, _⟩ => show win0_9.index t (1 : Fin 4) * 8 + 1 * h.val = h.val; rw [e1]; omega
    | ⟨2, _⟩ => show win0_9.index t (2 : Fin 4) * 256 + 1 * e.val = e.val; rw [e2]; omega
    | ⟨3, _⟩ => show win0_9.index t (3 : Fin 4) * 128 + 1 * d.val = d.val; rw [e3]; omega
  h10 h d := by
    obtain ⟨e0, e1, e2⟩ := at10 t
    show V m c main_arg9 (((cfg0.win 10).blk t).view.emb (ix3 0 h d)) = _
    rw [V_main_arg9]
    refine congrArg _ (funext fun a => Fin.ext ?_)
    match a with
    | ⟨0, _⟩ => show win0_10.index t (0 : Fin 3) * 1 + 1 * 0 = t.val; rw [e0]; omega
    | ⟨1, _⟩ => show win0_10.index t (1 : Fin 3) * 8 + 1 * h.val = h.val; rw [e1]; omega
    | ⟨2, _⟩ => show win0_10.index t (2 : Fin 3) * 128 + 1 * d.val = d.val; rw [e2]; omega
  h11 h l := by
    obtain ⟨e0, e1, e2⟩ := at11 t
    refine Eq.trans ?_ (V_v1_apply m c (gp t) h l)
    show V m c main_v1 (((cfg0.win 11).blk t).view.emb (ix3 0 h l)) = _
    refine congrArg _ (funext fun a => Fin.ext ?_)
    match a with
    | ⟨0, _⟩ => show win0_11.index t (0 : Fin 3) * 1 + 1 * 0 = t.val; rw [e0]; omega
    | ⟨1, _⟩ => show win0_11.index t (1 : Fin 3) * 8 + 1 * h.val = h.val; rw [e1]; omega
    | ⟨2, _⟩ => show win0_11.index t (2 : Fin 3) * 128 + 1 * l.val = l.val; rw [e2]; omega
  low := hlow (gp t)
end Cert.KernelIdeal.Hand
end
-- ==== Proof.Mlstm.lean ====
module
public import proofs.«01_k».proof.Proof.MlstmHost
public import proofs.«01_k».proof.Proof.Gen.Pre_input_gate_below_inf
/-! The mLSTM kernel's five results are the reference's. -/
@[expose] public section
set_option maxRecDepth 16384
noncomputable section
namespace Cert.KernelIdeal.Hand
open Cert.KernelIdeal Cert.KernelIdeal.Gen Idealize.ShloMosaic Idealize.ShloMosaic.TcCoe Idealize.SL.Sem Cert.Mlstm
variable (m : (ℓ : Loc nD τ sig) → Buf (Elt Ideal) ℓ) (c : Dev nD)

theorem zero3 : (![0, 0, 0] : Fin 3 → ℕ) = fun _ => 0 := by decide

theorem not_below {x : EReal} (h : x = ⊤) : BitVec.ofBool (decide (x < Ideal.ofBits FTy.f32 2139095040#32)) = 1#1 → False := by
  rw [h, decide_eq_false not_top_lt]
  decide

/-- The precondition keeps the input gates below `⊤`. -/
theorem low_of_pre (hp : Cert.Pre_KernelIdeal_input_gate_below_inf m) (g : Fin 32) (h : Fin 8) (s : Fin 32) :
    gi (m ((c : Thread nD τ).loc main_arg2)) (m ((c : Thread nD τ).loc main_arg6)) g h s ≠ ⊤ := by
  have e := congrFun (hp c) (ix2 (⟨g.val * 32 + s.val, by omega⟩ : Fin 1024) h)
  intro ht
  revert e
  unfold Cert.Pre_input_gate_below_inf.fn
  pointwise
  exact not_below ht

theorem mem12 (t : Fin cfg0.N) (i : S1024x2048.Idx) :
    i ∈ ((cfg0.win 12).blk t).view.set ↔ ∀ a : Fin 2, win0_12.index t a * S32x2048.size a ≤ (i a).val ∧ (i a).val < win0_12.index t a * S32x2048.size a + S32x2048.size a := by
  show i ∈ ((View.whole main_v5_0).slice (win0_12.rect t)).set ↔ _
  rw [View.set_slice_whole, Rect.mem_set_unit]
  exact Iff.rfl
theorem covers12 (i : S1024x2048.Idx) : ∃ t : Fin cfg0.N, (cfg0.win 12).flush t = true ∧ i ∈ ((cfg0.win 12).blk t).view.set := by
  have l0 : (i 0).val < 1024 := (i 0).isLt
  have l1 : (i 1).val < 2048 := (i 1).isLt
  have hN : cfg0.N = 32 := N_0
  let t : Fin cfg0.N := ⟨(i 0).val / 32, by omega⟩
  have ht : t.val = (i 0).val / 32 := rfl
  obtain ⟨e0, e1⟩ := at12 t
  refine ⟨t, (by decide +kernel : ∀ t : Fin grid0.N, (cfg0.win 12).flush t = true) t, (mem12 t i).2 fun a => ?_⟩
  match a with
  | ⟨0, _⟩ => show win0_12.index t (0 : Fin 2) * 32 ≤ (i 0).val ∧ (i 0).val < win0_12.index t (0 : Fin 2) * 32 + 32; rw [e0, ht]; omega
  | ⟨1, _⟩ => show win0_12.index t (1 : Fin 2) * 2048 ≤ (i 1).val ∧ (i 1).val < win0_12.index t (1 : Fin 2) * 2048 + 2048; rw [e1]; omega
/-- Result 0 of the kernel is the reference's. -/
theorem final12 (hp : Cert.Pre_KernelIdeal_input_gate_below_inf m) : (dats m 0 c).arrAt 12 cfg0.N
    = Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_cover 12 _ (fun t hf => ?_) covers12
  obtain ⟨e0, e1⟩ := at12 t
  have H := holds m c t (low_of_pre m c hp)
  rw [Cert.KernelIdeal.Value.flushed12_A, stored12]
  funext y
  have b0 : (y 0).val < 32 := (y 0).isLt
  have b1 : (y 1).val < 2048 := (y 1).isLt
  refine (read12 H _ ⟨(y 1).val / 256, by omega⟩ ⟨(y 0).val, b0⟩ ⟨(y 1).val % 256, by omega⟩ rfl (by show (y 1).val = 256 * ((y 1).val / 256) + (y 1).val % 256; omega)).trans ?_
  refine (Cert.ReferenceIdeal.Hand.v161_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (gp t) ⟨(y 1).val / 256, by omega⟩ ⟨(y 0).val, b0⟩ ⟨(y 1).val % 256, by omega⟩).symm.trans ?_
  refine congrArg _ (funext fun a => Fin.ext ?_)
  match a with
  | ⟨0, _⟩ => show 32 * t.val + (y 0).val = win0_12.index t (0 : Fin 2) * 32 + 1 * (y 0).val; rw [e0]; omega
  | ⟨1, _⟩ => show 256 * ((y 1).val / 256) + (y 1).val % 256 = win0_12.index t (1 : Fin 2) * 2048 + 1 * (y 1).val; rw [e1]; omega

theorem mem13 (t : Fin cfg0.N) (i : S32x8x256x128.Idx) :
    i ∈ ((cfg0.win 13).blk t).view.set ↔ ∀ a : Fin 4, win0_13.index t a * S1x8x256x128.size a ≤ (i a).val ∧ (i a).val < win0_13.index t a * S1x8x256x128.size a + S1x8x256x128.size a := by
  show i ∈ ((View.whole main_v5_1).slice (win0_13.rect t)).set ↔ _
  rw [View.set_slice_whole, Rect.mem_set_unit]
  exact Iff.rfl
theorem covers13 (i : S32x8x256x128.Idx) : ∃ t : Fin cfg0.N, (cfg0.win 13).flush t = true ∧ i ∈ ((cfg0.win 13).blk t).view.set := by
  have l0 : (i 0).val < 32 := (i 0).isLt
  have l1 : (i 1).val < 8 := (i 1).isLt
  have l2 : (i 2).val < 256 := (i 2).isLt
  have l3 : (i 3).val < 128 := (i 3).isLt
  have hN : cfg0.N = 32 := N_0
  let t : Fin cfg0.N := ⟨(i 0).val, by omega⟩
  have ht : t.val = (i 0).val := rfl
  obtain ⟨e0, e1, e2, e3⟩ := at13 t
  refine ⟨t, (by decide +kernel : ∀ t : Fin grid0.N, (cfg0.win 13).flush t = true) t, (mem13 t i).2 fun a => ?_⟩
  match a with
  | ⟨0, _⟩ => show win0_13.index t (0 : Fin 4) * 1 ≤ (i 0).val ∧ (i 0).val < win0_13.index t (0 : Fin 4) * 1 + 1; rw [e0, ht]; omega
  | ⟨1, _⟩ => show win0_13.index t (1 : Fin 4) * 8 ≤ (i 1).val ∧ (i 1).val < win0_13.index t (1 : Fin 4) * 8 + 8; rw [e1]; omega
  | ⟨2, _⟩ => show win0_13.index t (2 : Fin 4) * 256 ≤ (i 2).val ∧ (i 2).val < win0_13.index t (2 : Fin 4) * 256 + 256; rw [e2]; omega
  | ⟨3, _⟩ => show win0_13.index t (3 : Fin 4) * 128 ≤ (i 3).val ∧ (i 3).val < win0_13.index t (3 : Fin 4) * 128 + 128; rw [e3]; omega
/-- Result 1 of the kernel is the reference's. -/
theorem final13 (hp : Cert.Pre_KernelIdeal_input_gate_below_inf m) : (dats m 0 c).arrAt 13 cfg0.N
    = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg10)) := by
  refine (dats m 0 c).arrAt_eq_of_cover 13 _ (fun t hf => ?_) covers13
  obtain ⟨e0, e1, e2, e3⟩ := at13 t
  have H := holds m c t (low_of_pre m c hp)
  rw [Cert.KernelIdeal.Value.flushed13_A, stored13]
  funext y
  have b0 : (y 0).val < 1 := (y 0).isLt
  have b1 : (y 1).val < 8 := (y 1).isLt
  have b2 : (y 2).val < 256 := (y 2).isLt
  have b3 : (y 3).val < 128 := (y 3).isLt
  refine (read13 H _ _).trans ?_
  refine (Cert.ReferenceIdeal.Hand.v132_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg10)) (gp t) ⟨(y 1).val, b1⟩ ⟨(y 2).val, b2⟩ ⟨(y 3).val, b3⟩).symm.trans ?_
  refine congrArg _ (funext fun a => Fin.ext ?_)
  match a with
  | ⟨0, _⟩ => show t.val = win0_13.index t (0 : Fin 4) * 1 + 1 * (y 0).val; rw [e0]; omega
  | ⟨1, _⟩ => show (y 1).val = win0_13.index t (1 : Fin 4) * 8 + 1 * (y 1).val; rw [e1]; omega
  | ⟨2, _⟩ => show (y 2).val = win0_13.index t (2 : Fin 4) * 256 + 1 * (y 2).val; rw [e2]; omega
  | ⟨3, _⟩ => show (y 3).val = win0_13.index t (3 : Fin 4) * 128 + 1 * (y 3).val; rw [e3]; omega

theorem mem14 (t : Fin cfg0.N) (i : S32x8x128.Idx) :
    i ∈ ((cfg0.win 14).blk t).view.set ↔ ∀ a : Fin 3, win0_14.index t a * S1x8x128.size a ≤ (i a).val ∧ (i a).val < win0_14.index t a * S1x8x128.size a + S1x8x128.size a := by
  show i ∈ ((View.whole main_v5_2).slice (win0_14.rect t)).set ↔ _
  rw [View.set_slice_whole, Rect.mem_set_unit]
  exact Iff.rfl
theorem covers14 (i : S32x8x128.Idx) : ∃ t : Fin cfg0.N, (cfg0.win 14).flush t = true ∧ i ∈ ((cfg0.win 14).blk t).view.set := by
  have l0 : (i 0).val < 32 := (i 0).isLt
  have l1 : (i 1).val < 8 := (i 1).isLt
  have l2 : (i 2).val < 128 := (i 2).isLt
  have hN : cfg0.N = 32 := N_0
  let t : Fin cfg0.N := ⟨(i 0).val, by omega⟩
  have ht : t.val = (i 0).val := rfl
  obtain ⟨e0, e1, e2⟩ := at14 t
  refine ⟨t, (by decide +kernel : ∀ t : Fin grid0.N, (cfg0.win 14).flush t = true) t, (mem14 t i).2 fun a => ?_⟩
  match a with
  | ⟨0, _⟩ => show win0_14.index t (0 : Fin 3) * 1 ≤ (i 0).val ∧ (i 0).val < win0_14.index t (0 : Fin 3) * 1 + 1; rw [e0, ht]; omega
  | ⟨1, _⟩ => show win0_14.index t (1 : Fin 3) * 8 ≤ (i 1).val ∧ (i 1).val < win0_14.index t (1 : Fin 3) * 8 + 8; rw [e1]; omega
  | ⟨2, _⟩ => show win0_14.index t (2 : Fin 3) * 128 ≤ (i 2).val ∧ (i 2).val < win0_14.index t (2 : Fin 3) * 128 + 128; rw [e2]; omega
/-- Result 2 of the kernel is the reference's. -/
theorem final14 (hp : Cert.Pre_KernelIdeal_input_gate_below_inf m) : (dats m 0 c).arrAt 14 cfg0.N
    = Cert.ReferenceIdeal.Read.val_main_v137 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine (dats m 0 c).arrAt_eq_of_cover 14 _ (fun t hf => ?_) covers14
  obtain ⟨e0, e1, e2⟩ := at14 t
  have H := holds m c t (low_of_pre m c hp)
  rw [Cert.KernelIdeal.Value.flushed14_A, stored14]
  funext y
  have b0 : (y 0).val < 1 := (y 0).isLt
  have b1 : (y 1).val < 8 := (y 1).isLt
  have b2 : (y 2).val < 128 := (y 2).isLt
  refine (read14 H _ _).trans ?_
  refine (Cert.ReferenceIdeal.Hand.v137_apply (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (gp t) ⟨(y 1).val, b1⟩ ⟨(y 2).val, b2⟩).symm.trans ?_
  refine congrArg _ (funext fun a => Fin.ext ?_)
  match a with
  | ⟨0, _⟩ => show t.val = win0_14.index t (0 : Fin 3) * 1 + 1 * (y 0).val; rw [e0]; omega
  | ⟨1, _⟩ => show (y 1).val = win0_14.index t (1 : Fin 3) * 8 + 1 * (y 1).val; rw [e1]; omega
  | ⟨2, _⟩ => show (y 2).val = win0_14.index t (2 : Fin 3) * 128 + 1 * (y 2).val; rw [e2]; omega

theorem mem15 (t : Fin cfg0.N) (i : S32x8x128.Idx) :
    i ∈ ((cfg0.win 15).blk t).view.set ↔ ∀ a : Fin 3, win0_15.index t a * S1x8x128.size a ≤ (i a).val ∧ (i a).val < win0_15.index t a * S1x8x128.size a + S1x8x128.size a := by
  show i ∈ ((View.whole main_v5_3).slice (win0_15.rect t)).set ↔ _
  rw [View.set_slice_whole, Rect.mem_set_unit]
  exact Iff.rfl
theorem covers15 (i : S32x8x128.Idx) : ∃ t : Fin cfg0.N, (cfg0.win 15).flush t = true ∧ i ∈ ((cfg0.win 15).blk t).view.set := by
  have l0 : (i 0).val < 32 := (i 0).isLt
  have l1 : (i 1).val < 8 := (i 1).isLt
  have l2 : (i 2).val < 128 := (i 2).isLt
  have hN : cfg0.N = 32 := N_0
  let t : Fin cfg0.N := ⟨(i 0).val, by omega⟩
  have ht : t.val = (i 0).val := rfl
  obtain ⟨e0, e1, e2⟩ := at15 t
  refine ⟨t, (by decide +kernel : ∀ t : Fin grid0.N, (cfg0.win 15).flush t = true) t, (mem15 t i).2 fun a => ?_⟩
  match a with
  | ⟨0, _⟩ => show win0_15.index t (0 : Fin 3) * 1 ≤ (i 0).val ∧ (i 0).val < win0_15.index t (0 : Fin 3) * 1 + 1; rw [e0, ht]; omega
  | ⟨1, _⟩ => show win0_15.index t (1 : Fin 3) * 8 ≤ (i 1).val ∧ (i 1).val < win0_15.index t (1 : Fin 3) * 8 + 8; rw [e1]; omega
  | ⟨2, _⟩ => show win0_15.index t (2 : Fin 3) * 128 ≤ (i 2).val ∧ (i 2).val < win0_15.index t (2 : Fin 3) * 128 + 128; rw [e2]; omega
/-- Result 3 of the kernel is the reference's. -/
theorem final15 (hp : Cert.Pre_KernelIdeal_input_gate_below_inf m) : (dats m 0 c).arrAt 15 cfg0.N
    = Cert.ReferenceIdeal.Read.val_main_v163 (F := Ideal) (m ((c : Thread nD τ).loc main_arg2)) (m ((c : Thread nD τ).loc main_arg6)) (m ((c : Thread nD τ).loc main_arg10)) := by
  refine (dats m 0 c).arrAt_eq_of_cover 15 _ (fun t hf => ?_) covers15
  obtain ⟨e0, e1, e2⟩ := at15 t
  have H := holds m c t (low_of_pre m c hp)
  rw [Cert.KernelIdeal.Value.flushed15_A, stored15]
  funext y
  have b0 : (y 0).val < 1 := (y 0).isLt
  have b1 : (y 1).val < 8 := (y 1).isLt
  have b2 : (y 2).val < 128 := (y 2).isLt
  refine (read15 H _ _).trans ?_
  refine (Cert.ReferenceIdeal.Hand.v163_apply (m ((c : Thread nD τ).loc main_arg2)) (m ((c : Thread nD τ).loc main_arg6)) (m ((c : Thread nD τ).loc main_arg10)) (gp t) ⟨(y 1).val, b1⟩ ⟨(y 2).val, b2⟩).symm.trans ?_
  refine congrArg _ (funext fun a => Fin.ext ?_)
  match a with
  | ⟨0, _⟩ => show t.val = win0_15.index t (0 : Fin 3) * 1 + 1 * (y 0).val; rw [e0]; omega
  | ⟨1, _⟩ => show (y 1).val = win0_15.index t (1 : Fin 3) * 8 + 1 * (y 1).val; rw [e1]; omega
  | ⟨2, _⟩ => show (y 2).val = win0_15.index t (2 : Fin 3) * 128 + 1 * (y 2).val; rw [e2]; omega

theorem mem16 (t : Fin cfg0.N) (i : S32x3x2048.Idx) :
    i ∈ ((cfg0.win 16).blk t).view.set ↔ ∀ a : Fin 3, win0_16.index t a * S1x3x2048.size a ≤ (i a).val ∧ (i a).val < win0_16.index t a * S1x3x2048.size a + S1x3x2048.size a := by
  show i ∈ ((View.whole main_v5_4).slice (win0_16.rect t)).set ↔ _
  rw [View.set_slice_whole, Rect.mem_set_unit]
  exact Iff.rfl
theorem covers16 (i : S32x3x2048.Idx) : ∃ t : Fin cfg0.N, (cfg0.win 16).flush t = true ∧ i ∈ ((cfg0.win 16).blk t).view.set := by
  have l0 : (i 0).val < 32 := (i 0).isLt
  have l1 : (i 1).val < 3 := (i 1).isLt
  have l2 : (i 2).val < 2048 := (i 2).isLt
  have hN : cfg0.N = 32 := N_0
  let t : Fin cfg0.N := ⟨(i 0).val, by omega⟩
  have ht : t.val = (i 0).val := rfl
  obtain ⟨e0, e1, e2⟩ := at16 t
  refine ⟨t, (by decide +kernel : ∀ t : Fin grid0.N, (cfg0.win 16).flush t = true) t, (mem16 t i).2 fun a => ?_⟩
  match a with
  | ⟨0, _⟩ => show win0_16.index t (0 : Fin 3) * 1 ≤ (i 0).val ∧ (i 0).val < win0_16.index t (0 : Fin 3) * 1 + 1; rw [e0, ht]; omega
  | ⟨1, _⟩ => show win0_16.index t (1 : Fin 3) * 3 ≤ (i 1).val ∧ (i 1).val < win0_16.index t (1 : Fin 3) * 3 + 3; rw [e1]; omega
  | ⟨2, _⟩ => show win0_16.index t (2 : Fin 3) * 2048 ≤ (i 2).val ∧ (i 2).val < win0_16.index t (2 : Fin 3) * 2048 + 2048; rw [e2]; omega
/-- Result 4 of the kernel is the reference's. -/
theorem final16 (hp : Cert.Pre_KernelIdeal_input_gate_below_inf m) : (dats m 0 c).arrAt 16 cfg0.N
    = Cert.ReferenceIdeal.Read.val_main_v43 (F := Ideal) (m ((c : Thread nD τ).loc main_arg0)) (m ((c : Thread nD τ).loc main_arg3)) := by
  refine (dats m 0 c).arrAt_eq_of_cover 16 _ (fun t hf => ?_) covers16
  obtain ⟨e0, e1, e2⟩ := at16 t
  have H := holds m c t (low_of_pre m c hp)
  rw [Cert.KernelIdeal.Value.flushed16_A, stored16]
  funext y
  have b0 : (y 0).val < 1 := (y 0).isLt
  have b1 : (y 1).val < 3 := (y 1).isLt
  have b2 : (y 2).val < 2048 := (y 2).isLt
  refine (congrFun (View.canon_unit_zero zero3 _ _) y).trans ?_
  refine (read16 H _ _).trans ?_
  refine (Cert.ReferenceIdeal.Hand.v43_apply (m ((c : Thread nD τ).loc main_arg0)) (m ((c : Thread nD τ).loc main_arg3)) (gp t) ⟨(y 1).val, b1⟩ ⟨(y 2).val, b2⟩).symm.trans ?_
  refine congrArg _ (funext fun a => Fin.ext ?_)
  match a with
  | ⟨0, _⟩ => show t.val = win0_16.index t (0 : Fin 3) * 1 + 1 * (y 0).val; rw [e0]; omega
  | ⟨1, _⟩ => show (y 1).val = win0_16.index t (1 : Fin 3) * 3 + 1 * (y 1).val; rw [e1]; omega
  | ⟨2, _⟩ => show (y 2).val = win0_16.index t (2 : Fin 3) * 2048 + 1 * (y 2).val; rw [e2]; omega

end Cert.KernelIdeal.Hand

namespace Cert.Proof
open Idealize.ShloMosaic Idealize.ShloMosaic.TcCoe Idealize.SL.Sem

theorem algebraic_KernelIdeal_ReferenceIdeal_pre_input_gate_below_inf_proof : Cert.algebraic_KernelIdeal_ReferenceIdeal_pre_input_gate_below_inf := by
  intro m g m' g' hp hargs
  refine ⟨fun c => Cert.ReferenceIdeal.Read.val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)),
    fun c => Cert.ReferenceIdeal.Read.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v163 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)),
    fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)), ?_, ?_⟩
  · refine (θ_run _ _ _).mono (fun r h c => ?_) (Cert.KernelIdeal.Value.run_blocks m g)
    obtain ⟨h0, h1, h2, h3, h4, hk⟩ := h c
    exact ⟨h0.trans (Cert.KernelIdeal.Hand.final12 m c hp), h1.trans (Cert.KernelIdeal.Hand.final13 m c hp), h2.trans (Cert.KernelIdeal.Hand.final14 m c hp), h3.trans (Cert.KernelIdeal.Hand.final15 m c hp), h4.trans (Cert.KernelIdeal.Hand.final16 m c hp), hk⟩
  · refine (θ_run _ _ _).mono (fun r h c => ?_) (Cert.ReferenceIdeal.Value.run m' g')
    obtain ⟨h0, h1, h2, h3, h4, hk⟩ := h c
    obtain ⟨q0, q1, q2, q3, q4, q5, q6, q7, q8, q9, q10⟩ := hargs c
    refine ⟨h0.trans ?_, h1.trans ?_, h2.trans ?_, h3.trans ?_, h4.trans ?_, hk⟩
    · dsimp only; rw [← q0, ← q1, ← q2, ← q3, ← q4, ← q5, ← q6, ← q7, ← q8, ← q9, ← q10]; exact Cert.ReferenceIdeal.Read.val_main_v161_eq (F := Ideal) (StableHlo.launchContents m' c)
    · dsimp only; rw [← q0, ← q1, ← q2, ← q3, ← q4, ← q5, ← q6, ← q8, ← q10]; exact Cert.ReferenceIdeal.Read.val_main_v132_eq (F := Ideal) (StableHlo.launchContents m' c)
    · dsimp only; rw [← q0, ← q2, ← q3, ← q4, ← q5, ← q6, ← q9, ← q10]; exact Cert.ReferenceIdeal.Read.val_main_v137_eq (F := Ideal) (StableHlo.launchContents m' c)
    · dsimp only; rw [← q2, ← q6, ← q10]; exact Cert.ReferenceIdeal.Read.val_main_v163_eq (F := Ideal) (StableHlo.launchContents m' c)
    · dsimp only; rw [← q0, ← q3]; exact Cert.ReferenceIdeal.Read.val_main_v43_eq (F := Ideal) (StableHlo.launchContents m' c)

theorem preserves_Kernel_KernelIdeal_proof : Cert.preserves_Kernel_KernelIdeal :=
  IdealRules.named_const.statement Cert.KernelIdeal.κ "s" .f32 0x3DB504F3#32 (((Real.sqrt 128)⁻¹ : ℝ) : EReal) rfl

end Cert.Proof

end
-- ==== Proof.FinalRun.lean ====
module
public import proofs.«01_k».proof.Proof.Gen.FinalIdeal.Frame
public import proofs.«01_k».proof.Proof.Gen.FinalIdeal.Skeleton
public import Idealize.ShloMosaic.Lib.Pipeline.FrameBody
public import Idealize.ShloMosaic.Lib.Tactic
public import Idealize.ShloMosaic.Lib.Claim
public import Idealize.ShloMosaic.Lib.Pipeline.Value
public import Idealize.ShloMosaic.Lib.Pipeline.ValueKit
/-! The last normalisation's program: its body at every point of the grid, what its windows hold between points, and its
run with the arrays it leaves. -/
@[expose] public section
set_option maxRecDepth 16384
noncomputable section
namespace Cert.FinalIdeal.Run
open Cert.FinalIdeal Cert.FinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The conditions of the body, over the points -/

theorem hcond1 : ∀ t : Fin cfg0.N, k0_cond1 (grid0.coords t) = 1#1 ↔ t.val < 64 :=
  (by decide +kernel : ∀ t : Fin grid0.N, k0_cond1 (grid0.coords t) = 1#1 ↔ t.val < 64)
theorem hcond2 : ∀ t : Fin cfg0.N, k0_cond2 (grid0.coords t) = 1#1 ↔ ¬t.val < 64 :=
  (by decide +kernel : ∀ t : Fin grid0.N, k0_cond2 (grid0.coords t) = 1#1 ↔ ¬t.val < 64)
theorem live5 : ∀ t : Fin cfg0.N, t.val < 64 → cfg0.idle 5 (grid0.coords t) = false :=
  (by decide +kernel : ∀ t : Fin grid0.N, t.val < 64 → idle0 5 (grid0.coords t) = false)
theorem idle5 : ∀ t : Fin cfg0.N, ¬t.val < 64 → cfg0.idle 5 (grid0.coords t) = true :=
  (by decide +kernel : ∀ t : Fin grid0.N, ¬t.val < 64 → idle0 5 (grid0.coords t) = true)
theorem live6 : ∀ t : Fin cfg0.N, ¬t.val < 64 → cfg0.idle 6 (grid0.coords t) = false :=
  (by decide +kernel : ∀ t : Fin grid0.N, ¬t.val < 64 → idle0 6 (grid0.coords t) = false)
theorem idle6 : ∀ t : Fin cfg0.N, t.val < 64 → cfg0.idle 6 (grid0.coords t) = true :=
  (by decide +kernel : ∀ t : Fin grid0.N, t.val < 64 → idle0 6 (grid0.coords t) = true)
theorem keep6 : ∀ t : Fin cfg0.N, t.val < 64 → (cfg0.win 6).flush t = false :=
  (by decide +kernel : ∀ t : Fin grid0.N, t.val < 64 → win0_6.flush t = false)
/-- The prompts' window stays on its last block over the samples' row tiles: written back at the last of them. -/
theorem keep5 : ∀ t : Fin cfg0.N, 63 ≤ t.val → t.val < 67 → (cfg0.win 5).flush t = false :=
  (by decide +kernel : ∀ t : Fin grid0.N, 63 ≤ t.val → t.val < 67 → win0_5.flush t = false)
theorem fetch5 : ∀ t : Fin cfg0.N, (cfg0.win 5).fetch t = false :=
  (by decide +kernel : ∀ t : Fin grid0.N, win0_5.fetch t = false)

/-! ## The staging buffers -/

abbrev ms0_0 (t : Fin cfg0.N) : Memref sig .tc .vmem S256x4096 .f32 := win0_0.stage (cfg0.slots t 0)
abbrev ms0_1 (t : Fin cfg0.N) : Memref sig .tc .vmem S256x4096 .f32 := win0_1.stage (cfg0.slots t 1)
abbrev ms0_2 (t : Fin cfg0.N) : Memref sig .tc .vmem S1x1x1x4096 .f32 := win0_2.stage (cfg0.slots t 2)
abbrev ms0_3 (t : Fin cfg0.N) : Memref sig .tc .vmem S8x1x1x4096 .f32 := win0_3.stage (cfg0.slots t 3)
abbrev ms0_4 (t : Fin cfg0.N) : Memref sig .tc .vmem S1x4096 .f32 := win0_4.stage (cfg0.slots t 4)
abbrev ms0_5 (t : Fin cfg0.N) : Memref sig .tc .vmem S256x4096 .f32 := win0_5.stage (cfg0.slots t 5)
abbrev ms0_6 (t : Fin cfg0.N) : Memref sig .tc .vmem S256x4096 .f32 := win0_6.stage (cfg0.slots t 6)

/-! ## The body's runs -/

set_option maxHeartbeats 1000000 in
/-- At a row tile of the prompts: the store the body makes, and that it runs to its end having made it. -/
noncomputable def kernelRun0_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1x1x4096 .f32) (harg3 : arg3.IsWhole) (arg4 : Memref sig .tc .vmem S8x1x1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (hc1 : k0_cond1 i = 1#1) (hc2 : ¬k0_cond2 i = 1#1)
    (x0 : Vec F S256x4096 .f32) (x1 : Vec F S256x4096 .f32) (x2 : Vec F S1x1x1x4096 .f32) (x4 : Vec F S1x4096 .f32) :
    { L : List (View.Piece (Elt F) S256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg5 fullShare x4 ∗ (∃ f, arg6.view.loc (c : Thread nD τ) ↦[arg6.view.set]{fullShare} arg6.view.writes (Elt F) f L)) -∗ K ⟨⟩))
          ⊢ wp frame (wpE (defs₀ (F := F)) Variants.none c none) E (cc0_final_norm i arg1 harg1 arg2 harg2 arg3 harg3 arg4 harg4 arg5 harg5 arg6 harg6 arg7 harg7) K } := by
  refine ⟨?_, fun E K => ?run⟩
  case run =>
    simp only [cc0_final_norm_eq_skeleton]; unfold cc0_final_norm_skel
    unfold owns
    iintro ⟨⟨%f0, %hf0, H0⟩, ⟨%f1, %hf1, H1⟩, ⟨%f2, %hf2, H2⟩, ⟨%f4, %hf4, H4⟩, ⟨%dL, %fL, -, HL⟩, Hk⟩
    obtain rfl := harg1.eq_unread hf0; obtain rfl := harg2.eq_unread hf1; obtain rfl := harg3.eq_unread hf2; obtain rfl := harg5.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg5.read_unread _
      iexact H4
    iexists _; iexact HL

theorem coverA (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1x1x4096 .f32) (harg3 : arg3.IsWhole) (arg4 : Memref sig .tc .vmem S8x1x1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (hc1 : k0_cond1 i = 1#1) (hc2 : ¬k0_cond2 i = 1#1) (x0 : Vec F S256x4096 .f32) (x1 : Vec F S256x4096 .f32) (x2 : Vec F S1x1x1x4096 .f32) (x4 : Vec F S1x4096 .f32) (y : S256x4096.Idx) :
    ∃ pc ∈ (kernelRun0_A c i arg1 harg1 arg2 harg2 arg3 harg3 arg4 harg4 arg5 harg5 arg6 harg6 arg7 harg7 hc1 hc2 x0 x1 x2 x4).1, y ∈ pc.1.set :=
  View.cover_of_tiledL (kernelRun0_A c i arg1 harg1 arg2 harg2 arg3 harg3 arg4 harg4 arg5 harg5 arg6 harg6 arg7 harg7 hc1 hc2 x0 x1 x2 x4).1 S256x4096.size (by sl_kernel_rfl) y

/-- What this leaves in the window's buffer. -/
theorem leftA (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1x1x4096 .f32) (harg3 : arg3.IsWhole) (arg4 : Memref sig .tc .vmem S8x1x1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (hc1 : k0_cond1 i = 1#1) (hc2 : ¬k0_cond2 i = 1#1) (x0 : Vec F S256x4096 .f32) (x1 : Vec F S256x4096 .f32) (x2 : Vec F S1x1x1x4096 .f32) (x4 : Vec F S1x4096 .f32) (f) :
    arg6.view.read (Elt F) (arg6.view.writes (Elt F) f (kernelRun0_A c i arg1 harg1 arg2 harg2 arg3 harg3 arg4 harg4 arg5 harg5 arg6 harg6 arg7 harg7 hc1 hc2 x0 x1 x2 x4).1) = k0_pay1 x0 x1 x2 x4 := by
  rw [View.read_writes_eq_canon _ _ _ (coverA c i arg1 harg1 arg2 harg2 arg3 harg3 arg4 harg4 arg5 harg5 arg6 harg6 arg7 harg7 hc1 hc2 x0 x1 x2 x4)]
  unfold kernelRun0_A; dsimp only; sl_unfold_words
  simp only [View.readAt_eq_ld, harg1.read_unread, harg2.read_unread, harg3.read_unread, harg5.read_unread]
  refine (View.canon_unit_zero (by decide) _ _).trans ?_
  rw [View.ld_unit_zero (by decide) _ x0, View.ld_unit_zero (by decide) _ x1, View.ld_unit_zero (by decide) _ x2, View.ld_unit_zero (by decide) _ x4]

set_option maxHeartbeats 1000000 in
/-- At a row tile of the samples: the store the body makes, and that it runs to its end having made it. -/
noncomputable def kernelRun0_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1x1x4096 .f32) (harg3 : arg3.IsWhole) (arg4 : Memref sig .tc .vmem S8x1x1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (hc1 : ¬k0_cond1 i = 1#1) (hc2 : k0_cond2 i = 1#1)
    (x0 : Vec F S256x4096 .f32) (x1 : Vec F S256x4096 .f32) (x2 : Vec F S8x1x1x4096 .f32) (x4 : Vec F S1x4096 .f32) :
    { L : List (View.Piece (Elt F) S256x4096 .f32) //
      ∀ (E : Set ℕ) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x4 ∗ (∃ d, owns (c : Thread nD τ) arg7 fullShare d)
            ∗ (iprop(owns (c : Thread nD τ) arg1 fullShare x0 ∗ owns (c : Thread nD τ) arg2 fullShare x1 ∗ owns (c : Thread nD τ) arg4 fullShare x2 ∗ owns (c : Thread nD τ) arg5 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0_final_norm i arg1 harg1 arg2 harg2 arg3 harg3 arg4 harg4 arg5 harg5 arg6 harg6 arg7 harg7) K } := by
  refine ⟨?_, fun E K => ?run⟩
  case run =>
    simp only [cc0_final_norm_eq_skeleton]; unfold cc0_final_norm_skel
    unfold owns
    iintro ⟨⟨%f0, %hf0, H0⟩, ⟨%f1, %hf1, H1⟩, ⟨%f2, %hf2, H2⟩, ⟨%f4, %hf4, H4⟩, ⟨%dL, %fL, -, HL⟩, Hk⟩
    obtain rfl := harg1.eq_unread hf0; obtain rfl := harg2.eq_unread hf1; obtain rfl := harg4.eq_unread hf2; obtain rfl := harg5.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H4]
    · iexists _; isplitr; · ipureintro; exact harg5.read_unread _
      iexact H4
    iexists _; iexact HL

theorem coverB (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1x1x4096 .f32) (harg3 : arg3.IsWhole) (arg4 : Memref sig .tc .vmem S8x1x1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (hc1 : ¬k0_cond1 i = 1#1) (hc2 : k0_cond2 i = 1#1) (x0 : Vec F S256x4096 .f32) (x1 : Vec F S256x4096 .f32) (x2 : Vec F S8x1x1x4096 .f32) (x4 : Vec F S1x4096 .f32) (y : S256x4096.Idx) :
    ∃ pc ∈ (kernelRun0_B c i arg1 harg1 arg2 harg2 arg3 harg3 arg4 harg4 arg5 harg5 arg6 harg6 arg7 harg7 hc1 hc2 x0 x1 x2 x4).1, y ∈ pc.1.set :=
  View.cover_of_tiledL (kernelRun0_B c i arg1 harg1 arg2 harg2 arg3 harg3 arg4 harg4 arg5 harg5 arg6 harg6 arg7 harg7 hc1 hc2 x0 x1 x2 x4).1 S256x4096.size (by sl_kernel_rfl) y

/-- What this leaves in the window's buffer. -/
theorem leftB (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1x1x4096 .f32) (harg3 : arg3.IsWhole) (arg4 : Memref sig .tc .vmem S8x1x1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (hc1 : ¬k0_cond1 i = 1#1) (hc2 : k0_cond2 i = 1#1) (x0 : Vec F S256x4096 .f32) (x1 : Vec F S256x4096 .f32) (x2 : Vec F S8x1x1x4096 .f32) (x4 : Vec F S1x4096 .f32) (f) :
    arg7.view.read (Elt F) (arg7.view.writes (Elt F) f (kernelRun0_B c i arg1 harg1 arg2 harg2 arg3 harg3 arg4 harg4 arg5 harg5 arg6 harg6 arg7 harg7 hc1 hc2 x0 x1 x2 x4).1) = k0_pay2 x0 x1 x2 x4 := by
  rw [View.read_writes_eq_canon _ _ _ (coverB c i arg1 harg1 arg2 harg2 arg3 harg3 arg4 harg4 arg5 harg5 arg6 harg6 arg7 harg7 hc1 hc2 x0 x1 x2 x4)]
  unfold kernelRun0_B; dsimp only; sl_unfold_words
  simp only [View.readAt_eq_ld, harg1.read_unread, harg2.read_unread, harg4.read_unread, harg5.read_unread]
  refine (View.canon_unit_zero (by decide) _ _).trans ?_
  rw [View.ld_unit_zero (by decide) _ x0, View.ld_unit_zero (by decide) _ x1, View.ld_unit_zero (by decide) _ x2, View.ld_unit_zero (by decide) _ x4]

/-! ## What the windows hold after each point -/

/-- The rows of the prompts made at a point. -/
def promptAt (c : Dev nD) (n : ℕ) (hn : n < cfg0.N) : Vec F S256x4096 .f32 :=
  k0_pay1 (iblk m c 0 ⟨n, hn⟩) (iblk m c 1 ⟨n, hn⟩) (iblk m c 2 ⟨n, hn⟩) (iblk m c 4 ⟨n, hn⟩)

/-- The rows of the samples made at a point. -/
def sampleAt (c : Dev nD) (t : Fin cfg0.N) : Vec F S256x4096 .f32 :=
  k0_pay2 (iblk m c 0 t) (iblk m c 1 t) (iblk m c 3 t) (iblk m c 4 t)

/-- What the prompts' window holds after the point `n`: the last row tile of the prompts so far. -/
def w5At (c : Dev nD) : (n : ℕ) → n < cfg0.N → Vec F S256x4096 .f32
  | 0, hn => promptAt m c 0 hn
  | n + 1, hn => if n + 1 < 64 then promptAt m c (n + 1) hn else w5At c n (Nat.lt_of_succ_lt hn)

theorem w5At_live (c : Dev nD) (t : Fin cfg0.N) (h : t.val < 64) : w5At m c t.val t.isLt = promptAt m c t.val t.isLt := by
  obtain ⟨n, hn⟩ := t
  cases n with
  | zero => rfl
  | succ n => exact if_pos h

theorem w5At_idle (c : Dev nD) (t : Fin cfg0.N) (h : ¬t.val < 64) :
    w5At m c t.val t.isLt = w5At m c (t.val - 1) (Nat.lt_of_le_of_lt (Nat.sub_le _ _) t.isLt) := by
  obtain ⟨n, hn⟩ := t
  cases n with
  | zero => exact absurd (by show 0 < 64; decide) h
  | succ n => exact if_neg h

/-- The data of the pipeline: after each point the inputs' windows at their blocks and the outputs' at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => w5At m c t.val t.isLt
    | ⟨6, _⟩ => sampleAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = w5At m c t.val t.isLt := by dsimp only [dats]
theorem after0_6 (c : Dev nD) (t : Fin cfg0.N) : (dats m 0 c).after 6 t = sampleAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a row tile of the samples the body finds the prompts' window as the last row tile of the prompts left it. -/
theorem before0_5 (c : Dev nD) : ∀ (n : ℕ) (hn : n < cfg0.N) (d), ¬n < 64 →
    (dats m 0 c).before 5 ⟨n, hn⟩ d = w5At m c n hn
  | 0, _, _, h => absurd (by show 0 < 64; decide) h
  | n + 1, hn, d, h => by
    have hN : n + 1 < 68 := lt_of_lt_of_eq hn (show cfg0.N = 68 from N_0)
    have e := w5At_idle m c ⟨n + 1, hn⟩ h
    rw [show (dats m 0 c).before 5 ⟨n + 1, hn⟩ d = (dats m 0 c).left 5 ⟨n, Nat.lt_of_succ_lt hn⟩ d from by
      rw [Dat.before_of_pos _ _ _ (Nat.succ_ne_zero n) (fetch5 _)]
      rw [if_neg (by rw [show (cfg0.win 5).flush ⟨(⟨n + 1, hn⟩ : Fin cfg0.N).val - 1, _⟩ = false from keep5 ⟨n, Nat.lt_of_succ_lt hn⟩ (by show 63 ≤ n; omega) (by show n < 67; omega)]; decide)]
      rfl]
    refine Eq.trans ?_ e.symm
    unfold Dat.left
    by_cases h' : n < 64
    · rw [live5 ⟨n, Nat.lt_of_succ_lt hn⟩ h']
      show (dats m 0 c).kept 5 _ d = _
      unfold Dat.kept
      rw [Pipeline.fill_of_clip_none 5 _ (fun _ => rfl) d ((dats m 0 c).after 5 _), Pipeline.Window.fill_cut]
      exact after0_5 m c _
    · rw [idle5 ⟨n, Nat.lt_of_succ_lt hn⟩ h']
      exact before0_5 c n (Nat.lt_of_succ_lt hn) d h'

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0_0 t) fullShare (iblk m c 0 t) := by
  rw [← after0_0]
theorem leaves1 (c : Dev nD) (t : Fin cfg0.N) : (dats m 0 c).leavesExact 1 t = owns (c : Thread nD τ) (ms0_1 t) fullShare (iblk m c 1 t) := by
  rw [← after0_1]
theorem leaves2 (c : Dev nD) (t : Fin cfg0.N) : (dats m 0 c).leavesExact 2 t = owns (c : Thread nD τ) (ms0_2 t) fullShare (iblk m c 2 t) := by
  rw [← after0_2]
theorem leaves3 (c : Dev nD) (t : Fin cfg0.N) : (dats m 0 c).leavesExact 3 t = owns (c : Thread nD τ) (ms0_3 t) fullShare (iblk m c 3 t) := by
  rw [← after0_3]
theorem leaves4 (c : Dev nD) (t : Fin cfg0.N) : (dats m 0 c).leavesExact 4 t = owns (c : Thread nD τ) (ms0_4 t) fullShare (iblk m c 4 t) := by
  rw [← after0_4]
theorem leaves5 (c : Dev nD) (t : Fin cfg0.N) (h : t.val < 64) :
    (dats m 0 c).leavesExact 5 t = owns (c : Thread nD τ) (ms0_5 t) fullShare (promptAt m c t.val t.isLt) := by
  rw [← w5At_live m c t h, ← after0_5]
  unfold Dat.leavesExact; rw [live5 t h]
theorem leaves6 (c : Dev nD) (t : Fin cfg0.N) (h : ¬t.val < 64) :
    (dats m 0 c).leavesExact 6 t = owns (c : Thread nD τ) (ms0_6 t) fullShare (sampleAt m c t) := by
  rw [← after0_6]
  unfold Dat.leavesExact; rw [live6 t h]
/-- The samples' window at a row tile of the prompts: handed back as it was. -/
theorem leaves6_idle (c : Dev nD) (t : Fin cfg0.N) (h : t.val < 64) :
    iprop(∃ d, owns (c : Thread nD τ) (ms0_6 t) fullShare ((dats m 0 c).before 6 t d)) ⊢ ((dats m 0 c).leavesExact 6 t : sProp 𝕄) := by
  rw [Dat.leavesExact_idle _ _ _ (idle6 t h) (keep6 t h)]
/-- The prompts' window at a row tile of the samples: handed back as it was, with the last block of the prompts. -/
theorem leaves5_idle (c : Dev nD) (t : Fin cfg0.N) (h : ¬t.val < 64) :
    iprop(∃ d, owns (c : Thread nD τ) (ms0_5 t) fullShare ((dats m 0 c).before 5 t d)) ⊢ ((dats m 0 c).leavesExact 5 t : sProp 𝕄) := by
  by_cases hf : (cfg0.win 5).flush t = true
  · rw [show (dats m 0 c).leavesExact 5 t = owns (c : Thread nD τ) (ms0_5 t) fullShare (w5At m c t.val t.isLt) from by
      rw [← after0_5]; unfold Dat.leavesExact; rw [idle5 t h, hf]]
    iintro ⟨%d, H⟩
    rw [show (dats m 0 c).before 5 t d = w5At m c t.val t.isLt from before0_5 m c t.val t.isLt d h]
    iexact H
  · rw [Dat.leavesExact_idle _ _ _ (idle5 t h) (Bool.eq_false_iff.mpr hf)]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = (dats m 0 c).Φ t.castSucc from rfl]
  rw [leaves0, leaves1, leaves2, leaves3, leaves4]
  by_cases h1 : t.val < 64
  · rw [leaves5 m c t h1]
    iintro ⟨Hp, Ho, ⟨%d0, H0⟩, ⟨%d1, H1⟩, ⟨%d2, H2⟩, ⟨%d3, H3⟩, ⟨%d4, H4⟩, ⟨%d5, H5⟩, H6⟩
    iapply ((kernelRun0_A c (grid0.coords t) _ _ _ _ _ _ _ _ _ _ _ _ _ _ ((hcond1 t).mpr h1) (fun h => (hcond2 t).mp h h1) (iblk m c 0 t) (iblk m c 1 t) (iblk m c 2 t) (iblk m c 4 t)).2 Set.univ _)
    isplitl [H0]; · iexact H0
    isplitl [H1]; · iexact H1
    isplitl [H2]; · iexact H2
    isplitl [H4]; · iexact H4
    isplitl [H5]; · iexists _; iexact H5
    iintro ⟨H0, H1, H2, H4, ⟨%e5, H5⟩⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact leftA c _ _ _ _ _ _ _ _ _ _ _ _ _ _ _ _ _ _ _ _ _ _
    iapply (leaves6_idle m c t h1); iexact H6
  · rw [leaves6 m c t h1]
    iintro ⟨Hp, Ho, ⟨%d0, H0⟩, ⟨%d1, H1⟩, ⟨%d2, H2⟩, ⟨%d3, H3⟩, ⟨%d4, H4⟩, H5, ⟨%d6, H6⟩⟩
    iapply ((kernelRun0_B c (grid0.coords t) _ _ _ _ _ _ _ _ _ _ _ _ _ _ (fun h => h1 ((hcond1 t).mp h)) ((hcond2 t).mpr h1) (iblk m c 0 t) (iblk m c 1 t) (iblk m c 3 t) (iblk m c 4 t)).2 Set.univ _)
    isplitl [H0]; · iexact H0
    isplitl [H1]; · iexact H1
    isplitl [H3]; · iexact H3
    isplitl [H4]; · iexact H4
    isplitl [H6]; · iexists _; iexact H6
    iintro ⟨H0, H1, H3, H4, ⟨%e6, H6⟩⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5_idle m c t h1); iexact H5
    unfold owns; iexists _; isplitr
    swap; · iexact H6
    ipureintro; exact leftB c _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => Idealize.SL.BI.Entails.refl _) (hout := fun _ => Idealize.SL.BI.Entails.refl _)

/-- The program runs to an end with the arguments unchanged and no semaphore left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The run with the arrays it leaves. -/
theorem run_arrays : θ_run defs (onTc (τ := τ) (main (F := F))) ⟨m, fun _ => 0, ρ⟩ (fun r => ∀ c : Dev nD,
      r.2.mem ((c.tc : Thread nD τ).loc main_v1_0) = (dats m 0 c).arrAt 5 cfg0.N
      ∧ r.2.mem ((c.tc : Thread nD τ).loc main_v1_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (frame m ρ) ((θ_run defs _ _).mono (fun _ h => h.1) (run_main_quiescent m ρ)))
  exact ⟨(h.2 c).1 5, (h.2 c).1 6, h.1.1 c⟩

end Cert.FinalIdeal.Run
end
-- ==== Proof.Final.lean ====
module
public import proofs.«01_k».proof.Proof.FinalRun
public import proofs.«01_k».proof.Proof.Gen.FinalRefIdeal.Read
public import proofs.«01_k».proof.Proof.Common
public import proofs.«01_k».proof.Defs
public import Idealize.ShloMosaic.Lib.Pointwise
/-! The arrays the last normalisation's program leaves are the reference's. -/
@[expose] public section
set_option maxRecDepth 16384
noncomputable section
namespace Cert.FinalIdeal.Hand
open Cert.FinalIdeal Cert.FinalIdeal.Gen Cert.FinalIdeal.Run Idealize.ShloMosaic Idealize.ShloMosaic.TcCoe Idealize.SL.Sem

/-- A row divided by the root of its mean square, and scaled: at one column. -/
def nrm (z : Fin 4096 → EReal) (g : EReal) (j : Fin 4096) : EReal :=
  z j * Ideal.rsqrt (Ideal.div (∑ k, z k * z k) (Ideal.ofBits .f32 0x45800000#32) + Ideal.ofBits .f32 0x358637BD#32) * g

theorem k0_pay1_apply (x p : Vec Ideal S256x4096 .f32) (b : Vec Ideal S1x1x1x4096 .f32) (g : Vec Ideal S1x4096 .f32) (i : Fin 256) (j : Fin 4096) :
    k0_pay1 x p b g (ValueIdx.ix2 i j) = nrm (fun k => x (ValueIdx.ix2 i k) + b (ValueIdx.ix4 0 0 0 k) * p (ValueIdx.ix2 i k)) (g (ValueIdx.ix2 0 j)) j := by
  pointwise [k0_pay1]
  unfold nrm
  rfl

theorem k0_pay2_apply (x p : Vec Ideal S256x4096 .f32) (b : Vec Ideal S8x1x1x4096 .f32) (g : Vec Ideal S1x4096 .f32) (i : Fin 256) (j : Fin 4096) :
    k0_pay2 x p b g (ValueIdx.ix2 i j) = nrm (fun k => x (ValueIdx.ix2 i k) + b (ValueIdx.ix4 ⟨i.val / 32, by have := i.isLt; omega⟩ 0 0 k) * p (ValueIdx.ix2 i k)) (g (ValueIdx.ix2 0 j)) j := by
  pointwise [k0_pay2]
  unfold nrm
  rfl
open Cert.FinalRefIdeal.Read in
/-- The prompts' rows of the reference at one place. -/
theorem ref31 (x0 x1 : Vec Ideal S17408x4096 .f32) (x2 : Vec Ideal S40x6x1x4096 .f32) (x3 : Vec Ideal S4096 .f32) (i : Fin 16384) (j : Fin 4096) :
    val_main_v31 (F := Ideal) x0 x1 x2 x3 (ValueIdx.ix2 i j)
      = nrm (fun k => x0 (ValueIdx.ix2 ⟨i.val, by have := i.isLt; omega⟩ k) + x2 (ValueIdx.ix4 ⟨32 + i.val / 8192, by have := i.isLt; omega⟩ 5 0 k) * x1 (ValueIdx.ix2 ⟨i.val, by have := i.isLt; omega⟩ k)) (x3 (ValueIdx.ix1 j)) j := by
  pointwise [val_main_v31, val_main_v30, val_main_v29, val_main_v28, val_main_v27, val_main_v26, val_main_v25, val_main_v24, val_main_v23, val_main_v22, val_main_v21, val_main_v20, val_main_v19, val_main_v18, val_main_v10, val_main_v9, val_main_v8, val_main_v7, val_main_v6, val_main_v5, val_main_v4, val_main_v1, val_main_v0, val_main_cst, val_main_cst_0, val_main_cst_1]
  unfold nrm
  rfl

open Cert.FinalRefIdeal.Read in
/-- The samples' rows of the reference at one place. -/
theorem ref45 (x0 x1 : Vec Ideal S17408x4096 .f32) (x2 : Vec Ideal S40x6x1x4096 .f32) (x3 : Vec Ideal S4096 .f32) (i : Fin 1024) (j : Fin 4096) :
    val_main_v45 (F := Ideal) x0 x1 x2 x3 (ValueIdx.ix2 i j)
      = nrm (fun k => x0 (ValueIdx.ix2 ⟨16384 + i.val, by have := i.isLt; omega⟩ k) + x2 (ValueIdx.ix4 ⟨i.val / 32, by have := i.isLt; omega⟩ 5 0 k) * x1 (ValueIdx.ix2 ⟨16384 + i.val, by have := i.isLt; omega⟩ k)) (x3 (ValueIdx.ix1 j)) j := by
  pointwise [val_main_v45, val_main_v44, val_main_v43, val_main_v42, val_main_v41, val_main_v40, val_main_v39, val_main_v38, val_main_v37, val_main_v36, val_main_v35, val_main_v34, val_main_v33, val_main_v32, val_main_v17, val_main_v16, val_main_v15, val_main_v14, val_main_v13, val_main_v12, val_main_v11, val_main_v3, val_main_v2, val_main_cst_2, val_main_cst_3, val_main_cst_4]
  unfold nrm
  rfl

/-! ## What the windows hold -/

variable (m : (ℓ : Loc nD τ sig) → Buf (Elt Ideal) ℓ)

theorem pt_lt (t : Fin cfg0.N) : t.val < 68 := lt_of_lt_of_eq t.isLt (show cfg0.N = 68 from N_0)

theorem row_apply (x : Vec Ideal S4096 .f32) (j : S1x4096.Idx) :
    shapeCast S1x4096 x shapeCasts_S4096_S1x4096 j = x (ValueIdx.ix1 (j 1)) := by
  refine shapeCast_apply _ _ _ _ ?_
  have h0 : (j 0).val < 1 := (j 0).isLt
  refine (Shape.rowMajor_val_one _).trans (Eq.trans ?_ (Shape.rowMajor_val_two _).symm)
  show (j 1).val = (j 0).val * 4096 + (j 1).val
  omega

theorem V_v0_apply (c : Dev nD) (j : S1x4096.Idx) : V m c main_v0 j = m ((c : Thread nD τ).loc main_arg3) (ValueIdx.ix1 (j 1)) := by
  have e : V m c main_v0 = shapeCast S1x4096 (m ((c : Thread nD τ).loc main_arg3)) shapeCasts_S4096_S1x4096 := by
    show StableHlo.after hostOps0 _ (Proc.devRef .tc main_v0) = _
    after_results <;> rfl
  rw [e]
  exact row_apply _ _

theorem facts0 : ∀ t : Fin cfg0.N, win0_0.index t (0 : Fin 2) = t.val ∧ win0_0.index t (1 : Fin 2) = 0 :=
  (by decide +kernel : ∀ t : Fin grid0.N, _)
theorem facts1 : ∀ t : Fin cfg0.N, win0_1.index t (0 : Fin 2) = t.val ∧ win0_1.index t (1 : Fin 2) = 0 :=
  (by decide +kernel : ∀ t : Fin grid0.N, _)
theorem facts2 : ∀ t : Fin cfg0.N, t.val < 64 → win0_2.index t (0 : Fin 4) = 32 + t.val / 32 ∧ win0_2.index t (1 : Fin 4) = 5 ∧ win0_2.index t (2 : Fin 4) = 0 ∧ win0_2.index t (3 : Fin 4) = 0 :=
  (by decide +kernel : ∀ t : Fin grid0.N, _)
theorem facts3 : ∀ t : Fin cfg0.N, win0_3.index t (0 : Fin 4) = t.val - 64 ∧ win0_3.index t (1 : Fin 4) = 5 ∧ win0_3.index t (2 : Fin 4) = 0 ∧ win0_3.index t (3 : Fin 4) = 0 :=
  (by decide +kernel : ∀ t : Fin grid0.N, _)
theorem facts4 : ∀ t : Fin cfg0.N, win0_4.index t (0 : Fin 2) = 0 ∧ win0_4.index t (1 : Fin 2) = 0 :=
  (by decide +kernel : ∀ t : Fin grid0.N, _)
theorem facts5 : ∀ t : Fin cfg0.N, win0_5.index t (0 : Fin 2) = min t.val 63 ∧ win0_5.index t (1 : Fin 2) = 0 :=
  (by decide +kernel : ∀ t : Fin grid0.N, _)
theorem facts6 : ∀ t : Fin cfg0.N, win0_6.index t (0 : Fin 2) = t.val - 64 ∧ win0_6.index t (1 : Fin 2) = 0 :=
  (by decide +kernel : ∀ t : Fin grid0.N, _)
theorem flush5 : ∀ t : Fin cfg0.N, (t.val < 63 ∨ t.val = 67) → (cfg0.win 5).flush t = true :=
  (by decide +kernel : ∀ t : Fin grid0.N, (t.val < 63 ∨ t.val = 67) → win0_5.flush t = true)
theorem flush6 : ∀ t : Fin cfg0.N, 64 ≤ t.val → (cfg0.win 6).flush t = true :=
  (by decide +kernel : ∀ t : Fin grid0.N, 64 ≤ t.val → win0_6.flush t = true)
theorem flushed6 : ∀ t : Fin cfg0.N, (cfg0.win 6).flush t = true → 64 ≤ t.val :=
  (by decide +kernel : ∀ t : Fin grid0.N, win0_6.flush t = true → 64 ≤ t.val)

/-- Window 0 at a point: its row tile. -/
theorem rows_apply (c : Dev nD) (t : Fin cfg0.N) (i : Fin 256) (k : Fin 4096) (r : Fin 17408) (hr : r.val = 256 * t.val + i.val) :
    (iblk m c 0 t : Vec Ideal S256x4096 .f32) (ValueIdx.ix2 i k) = m ((c : Thread nD τ).loc main_arg0) (ValueIdx.ix2 r k) := by
  obtain ⟨e0, e1⟩ := facts0 t
  show V m c main_arg0 (((cfg0.win 0).blk t).view.emb (ValueIdx.ix2 i k)) = _
  rw [V_main_arg0]
  refine congrArg _ (funext fun a => Fin.ext ?_)
  match a with
  | ⟨0, _⟩ => show win0_0.index t (0 : Fin 2) * 256 + 1 * i.val = r.val; rw [e0]; omega
  | ⟨1, _⟩ => show win0_0.index t (1 : Fin 2) * 4096 + 1 * k.val = k.val; rw [e1]; omega

/-- Window 1 at a point: its row tile. -/
theorem peer_apply (c : Dev nD) (t : Fin cfg0.N) (i : Fin 256) (k : Fin 4096) (r : Fin 17408) (hr : r.val = 256 * t.val + i.val) :
    (iblk m c 1 t : Vec Ideal S256x4096 .f32) (ValueIdx.ix2 i k) = m ((c : Thread nD τ).loc main_arg1) (ValueIdx.ix2 r k) := by
  obtain ⟨e0, e1⟩ := facts1 t
  show V m c main_arg1 (((cfg0.win 1).blk t).view.emb (ValueIdx.ix2 i k)) = _
  rw [V_main_arg1]
  refine congrArg _ (funext fun a => Fin.ext ?_)
  match a with
  | ⟨0, _⟩ => show win0_1.index t (0 : Fin 2) * 256 + 1 * i.val = r.val; rw [e0]; omega
  | ⟨1, _⟩ => show win0_1.index t (1 : Fin 2) * 4096 + 1 * k.val = k.val; rw [e1]; omega

/-- Window 2 at a row tile of the prompts: the gate of its stream. -/
theorem gateP_apply (c : Dev nD) (t : Fin cfg0.N) (h : t.val < 64) (k : Fin 4096) (b : Fin 40) (hb : b.val = 32 + t.val / 32) :
    (iblk m c 2 t : Vec Ideal S1x1x1x4096 .f32) (ValueIdx.ix4 0 0 0 k) = m ((c : Thread nD τ).loc main_arg2) (ValueIdx.ix4 b 5 0 k) := by
  obtain ⟨e0, e1, e2, e3⟩ := facts2 t h
  show V m c main_arg2 (((cfg0.win 2).blk t).view.emb (ValueIdx.ix4 0 0 0 k)) = _
  rw [V_main_arg2]
  refine congrArg _ (funext fun a => Fin.ext ?_)
  match a with
  | ⟨0, _⟩ => show win0_2.index t (0 : Fin 4) * 1 + 1 * 0 = b.val; rw [e0]; omega
  | ⟨1, _⟩ => show win0_2.index t (1 : Fin 4) * 1 + 1 * 0 = 5; rw [e1]
  | ⟨2, _⟩ => show win0_2.index t (2 : Fin 4) * 1 + 1 * 0 = 0; rw [e2]
  | ⟨3, _⟩ => show win0_2.index t (3 : Fin 4) * 4096 + 1 * k.val = k.val; rw [e3]; omega

/-- Window 3 at a row tile of the samples: the gates of its eight samples. -/
theorem gateS_apply (c : Dev nD) (t : Fin cfg0.N) (q : Fin 8) (k : Fin 4096) (b : Fin 40) (hb : b.val = 8 * (t.val - 64) + q.val) :
    (iblk m c 3 t : Vec Ideal S8x1x1x4096 .f32) (ValueIdx.ix4 q 0 0 k) = m ((c : Thread nD τ).loc main_arg2) (ValueIdx.ix4 b 5 0 k) := by
  obtain ⟨e0, e1, e2, e3⟩ := facts3 t
  show V m c main_arg2 (((cfg0.win 3).blk t).view.emb (ValueIdx.ix4 q 0 0 k)) = _
  rw [V_main_arg2]
  refine congrArg _ (funext fun a => Fin.ext ?_)
  match a with
  | ⟨0, _⟩ => show win0_3.index t (0 : Fin 4) * 8 + 1 * q.val = b.val; rw [e0]; omega
  | ⟨1, _⟩ => show win0_3.index t (1 : Fin 4) * 1 + 1 * 0 = 5; rw [e1]
  | ⟨2, _⟩ => show win0_3.index t (2 : Fin 4) * 1 + 1 * 0 = 0; rw [e2]
  | ⟨3, _⟩ => show win0_3.index t (3 : Fin 4) * 4096 + 1 * k.val = k.val; rw [e3]; omega

/-- Window 4: the scale. -/
theorem scale_apply (c : Dev nD) (t : Fin cfg0.N) (k : Fin 4096) :
    (iblk m c 4 t : Vec Ideal S1x4096 .f32) (ValueIdx.ix2 0 k) = m ((c : Thread nD τ).loc main_arg3) (ValueIdx.ix1 k) := by
  obtain ⟨e0, e1⟩ := facts4 t
  show V m c main_v0 (((cfg0.win 4).blk t).view.emb (ValueIdx.ix2 0 k)) = _
  rw [V_v0_apply]
  refine congrArg _ (funext fun a => Fin.ext ?_)
  match a with
  | ⟨0, _⟩ => show win0_4.index t (1 : Fin 2) * 4096 + 1 * k.val = k.val; rw [e1]; omega

theorem ix2_eta {M N : ℕ} (y : (⟨2, ![M, N]⟩ : Shape).Idx) : y = ValueIdx.ix2 (y 0) (y 1) := by
  funext a
  match a with
  | ⟨0, _⟩ => rfl
  | ⟨1, _⟩ => rfl

/-! ## The arrays after the run -/

/-- The rows made at a row tile of the prompts are the reference's. -/
theorem prompt_apply (c : Dev nD) (n : ℕ) (hn : n < cfg0.N) (h : n < 64) (y : S256x4096.Idx) (z : S16384x4096.Idx)
    (h0 : (z 0).val = 256 * n + (y 0).val) (h1 : (z 1).val = (y 1).val) :
    promptAt m c n hn y = Cert.FinalRefIdeal.Read.val_main_v31 (F := Ideal) (m ((c : Thread nD τ).loc main_arg0)) (m ((c : Thread nD τ).loc main_arg1)) (m ((c : Thread nD τ).loc main_arg2)) (m ((c : Thread nD τ).loc main_arg3)) z := by
  have hy : (y 0).val < 256 := (y 0).isLt
  have e1 : (z 1 : Fin 4096) = y 1 := Fin.ext h1
  rw [ix2_eta y, ix2_eta z, e1]
  refine Eq.trans ?_ (ref31 _ _ _ _ (z 0) (y 1)).symm
  refine (k0_pay1_apply _ _ _ _ (y 0) (y 1)).trans ?_
  refine congrArg₂ (fun f g => nrm f g (y 1)) (funext fun k => ?_) (scale_apply m c ⟨n, hn⟩ (y 1))
  refine congrArg₂ (· + ·) (rows_apply m c ⟨n, hn⟩ (y 0) k _ h0) (congrArg₂ (· * ·) (gateP_apply m c ⟨n, hn⟩ h k _ ?_) (peer_apply m c ⟨n, hn⟩ (y 0) k _ h0))
  show 32 + (z 0).val / 8192 = 32 + n / 32
  omega

/-- The rows made at a row tile of the samples are the reference's. -/
theorem sample_apply (c : Dev nD) (t : Fin cfg0.N) (h : 64 ≤ t.val) (y : S256x4096.Idx) (z : S1024x4096.Idx)
    (h0 : (z 0).val = 256 * (t.val - 64) + (y 0).val) (h1 : (z 1).val = (y 1).val) :
    sampleAt m c t y = Cert.FinalRefIdeal.Read.val_main_v45 (F := Ideal) (m ((c : Thread nD τ).loc main_arg0)) (m ((c : Thread nD τ).loc main_arg1)) (m ((c : Thread nD τ).loc main_arg2)) (m ((c : Thread nD τ).loc main_arg3)) z := by
  have hy : (y 0).val < 256 := (y 0).isLt
  have e1 : (z 1 : Fin 4096) = y 1 := Fin.ext h1
  rw [ix2_eta y, ix2_eta z, e1]
  refine Eq.trans ?_ (ref45 _ _ _ _ (z 0) (y 1)).symm
  refine (k0_pay2_apply _ _ _ _ (y 0) (y 1)).trans ?_
  refine congrArg₂ (fun f g => nrm f g (y 1)) (funext fun k => ?_) (scale_apply m c t (y 1))
  have hr : 16384 + (z 0).val = 256 * t.val + (y 0).val := by omega
  refine congrArg₂ (· + ·) (rows_apply m c t (y 0) k _ hr) (congrArg₂ (· * ·) (gateS_apply m c t _ k _ ?_) (peer_apply m c t (y 0) k _ hr))
  show (z 0).val / 32 = 8 * (t.val - 64) + (y 0).val / 32
  omega

/-- What the prompts' window holds after a point: the last row tile of the prompts so far. -/
theorem w5_apply (c : Dev nD) : ∀ (n : ℕ) (hn : n < cfg0.N) (y : S256x4096.Idx) (z : S16384x4096.Idx),
    (z 0).val = 256 * min n 63 + (y 0).val → (z 1).val = (y 1).val →
    w5At m c n hn y = Cert.FinalRefIdeal.Read.val_main_v31 (F := Ideal) (m ((c : Thread nD τ).loc main_arg0)) (m ((c : Thread nD τ).loc main_arg1)) (m ((c : Thread nD τ).loc main_arg2)) (m ((c : Thread nD τ).loc main_arg3)) z := by
  intro n
  induction n with
  | zero => exact fun hn y z h0 h1 => prompt_apply m c 0 hn (by decide) y z (h0.trans rfl) h1
  | succ n ih =>
    intro hn y z h0 h1
    by_cases h : n + 1 < 64
    · rw [show w5At m c (n + 1) hn = promptAt m c (n + 1) hn from w5At_live m c ⟨n + 1, hn⟩ h]
      exact prompt_apply m c (n + 1) hn h y z (h0.trans (by omega)) h1
    · rw [show w5At m c (n + 1) hn = w5At m c n (Nat.lt_of_succ_lt hn) from w5At_idle m c ⟨n + 1, hn⟩ h]
      exact ih (Nat.lt_of_succ_lt hn) y z (h0.trans (by omega)) h1

theorem mem_block5 (t : Fin cfg0.N) (i : S16384x4096.Idx) :
    i ∈ ((cfg0.win 5).blk t).view.set ↔ ∀ a, win0_5.index t a * win0_5.block.size a ≤ (i a).val ∧ (i a).val < win0_5.index t a * win0_5.block.size a + win0_5.block.size a := by
  show i ∈ ((win0_5.arr).view.slice (win0_5.rect t)).set ↔ _
  rw [View.set_slice_whole, Rect.mem_set_unit]

theorem covers5 (i : S16384x4096.Idx) : ∃ t : Fin cfg0.N, (cfg0.win 5).flush t = true ∧ i ∈ ((cfg0.win 5).blk t).view.set := by
  have h0 : (i 0).val < 16384 := (i 0).isLt
  have h1 : (i 1).val < 4096 := (i 1).isLt
  have hr : ∃ r, r < 68 ∧ (r < 63 ∨ r = 67) ∧ min r 63 = (i 0).val / 256 := by
    by_cases h : (i 0).val / 256 < 63
    · exact ⟨(i 0).val / 256, by omega, Or.inl h, by omega⟩
    · exact ⟨67, by omega, Or.inr rfl, by omega⟩
  obtain ⟨r, hr0, hr1, hr2⟩ := hr
  let t : Fin cfg0.N := ⟨r, lt_of_lt_of_eq hr0 (show 68 = cfg0.N from N_0.symm)⟩
  have hv : t.val = r := rfl
  obtain ⟨e0, e1⟩ := facts5 t
  refine ⟨t, flush5 t hr1, (mem_block5 t i).2 fun a => ?_⟩
  match a with
  | ⟨0, _⟩ => show win0_5.index t (0 : Fin 2) * 256 ≤ (i 0).val ∧ (i 0).val < win0_5.index t (0 : Fin 2) * 256 + 256; rw [e0, hv, hr2]; omega
  | ⟨1, _⟩ => show win0_5.index t (1 : Fin 2) * 4096 ≤ (i 1).val ∧ (i 1).val < win0_5.index t (1 : Fin 2) * 4096 + 4096; rw [e1]; omega

/-- The prompts' rows the kernel returns are the reference's. -/
theorem final5 (c : Dev nD) : (dats m 0 c).arrAt 5 cfg0.N = Cert.FinalRefIdeal.Read.val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t hf => ?_) covers5
  obtain ⟨e0, e1⟩ := facts5 t
  show (cfg0.win 5).cut (grid0.coords t) ((dats m 0 c).after 5 t) = _
  rw [after0_5]
  funext y
  show w5At m c t.val t.isLt ((cfg0.win 5).xinj (grid0.coords t) y) = Cert.FinalRefIdeal.Read.val_main_v31 (F := Ideal) _ _ _ _ (((cfg0.win 5).blk t).view.emb y)
  refine w5_apply m c t.val t.isLt _ _ ?_ ?_
  · show win0_5.index t (0 : Fin 2) * 256 + 1 * (y 0).val = 256 * min t.val 63 + (y 0).val; rw [e0]; omega
  · show win0_5.index t (1 : Fin 2) * 4096 + 1 * (y 1).val = (y 1).val; rw [e1]; omega

theorem mem_block6 (t : Fin cfg0.N) (i : S1024x4096.Idx) :
    i ∈ ((cfg0.win 6).blk t).view.set ↔ ∀ a, win0_6.index t a * win0_6.block.size a ≤ (i a).val ∧ (i a).val < win0_6.index t a * win0_6.block.size a + win0_6.block.size a := by
  show i ∈ ((win0_6.arr).view.slice (win0_6.rect t)).set ↔ _
  rw [View.set_slice_whole, Rect.mem_set_unit]

theorem covers6 (i : S1024x4096.Idx) : ∃ t : Fin cfg0.N, (cfg0.win 6).flush t = true ∧ i ∈ ((cfg0.win 6).blk t).view.set := by
  have h0 : (i 0).val < 1024 := (i 0).isLt
  have h1 : (i 1).val < 4096 := (i 1).isLt
  let t : Fin cfg0.N := ⟨64 + (i 0).val / 256, lt_of_lt_of_eq (by omega) (show 68 = cfg0.N from N_0.symm)⟩
  have hv : t.val = 64 + (i 0).val / 256 := rfl
  obtain ⟨e0, e1⟩ := facts6 t
  refine ⟨t, flush6 t (by rw [hv]; omega), (mem_block6 t i).2 fun a => ?_⟩
  match a with
  | ⟨0, _⟩ => show win0_6.index t (0 : Fin 2) * 256 ≤ (i 0).val ∧ (i 0).val < win0_6.index t (0 : Fin 2) * 256 + 256; rw [e0, hv]; omega
  | ⟨1, _⟩ => show win0_6.index t (1 : Fin 2) * 4096 ≤ (i 1).val ∧ (i 1).val < win0_6.index t (1 : Fin 2) * 4096 + 4096; rw [e1]; omega

/-- The samples' rows the kernel returns are the reference's. -/
theorem final6 (c : Dev nD) : (dats m 0 c).arrAt 6 cfg0.N = Cert.FinalRefIdeal.Read.val_main_v45 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 6 _ (fun t hf => ?_) covers6
  obtain ⟨e0, e1⟩ := facts6 t
  have hp := flushed6 t hf
  show (cfg0.win 6).cut (grid0.coords t) ((dats m 0 c).after 6 t) = _
  rw [after0_6]
  funext y
  show sampleAt m c t ((cfg0.win 6).xinj (grid0.coords t) y) = Cert.FinalRefIdeal.Read.val_main_v45 (F := Ideal) _ _ _ _ (((cfg0.win 6).blk t).view.emb y)
  refine sample_apply m c t hp _ _ ?_ ?_
  · show win0_6.index t (0 : Fin 2) * 256 + 1 * (y 0).val = 256 * (t.val - 64) + (y 0).val; rw [e0]; omega
  · show win0_6.index t (1 : Fin 2) * 4096 + 1 * (y 1).val = (y 1).val; rw [e1]; omega

end Cert.FinalIdeal.Hand

namespace Cert.Proof
open Idealize.ShloMosaic Idealize.ShloMosaic.TcCoe Idealize.SL.Sem

theorem algebraic_FinalIdeal_FinalRefIdeal_proof : Cert.algebraic_FinalIdeal_FinalRefIdeal := by
  intro m g m' g' _ hargs
  refine ⟨fun c => Cert.FinalRefIdeal.Read.val_main_v31 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)),
    fun c => Cert.FinalRefIdeal.Read.val_main_v45 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)), ?_, ?_⟩
  · refine (θ_run _ _ _).mono (fun r h c => ?_) (Cert.FinalIdeal.Run.run_arrays m g)
    obtain ⟨a0, a1, a2⟩ := h c
    exact ⟨a0.trans (Cert.FinalIdeal.Hand.final5 m c), a1.trans (Cert.FinalIdeal.Hand.final6 m c), a2⟩
  · refine (θ_run _ _ _).mono (fun r h c => ?_) (Cert.FinalRefIdeal.Value.run m' g')
    obtain ⟨a0, a1, a2⟩ := h c
    have e := hargs c
    refine ⟨a0.trans ?_, a1.trans ?_, a2⟩
    · rw [e.1, e.2.1, e.2.2.1, e.2.2.2]
      exact Cert.FinalRefIdeal.Read.val_main_v31_eq (F := Ideal) _ _ _ _
    · rw [e.1, e.2.1, e.2.2.1, e.2.2.2]
      exact Cert.FinalRefIdeal.Read.val_main_v45_eq (F := Ideal) _ _ _ _

theorem preserves_Final_FinalIdeal_proof : Cert.preserves_Final_FinalIdeal := trivial

end Cert.Proof
end
-- ==== Proof.PromptRun.lean ====
module
public import proofs.«01_k».proof.Proof.Gen.PromptIdeal.Frame
public import proofs.«01_k».proof.Proof.Gen.PromptIdeal.Skeleton
public import Idealize.ShloMosaic.Lib.Pipeline.FrameBody
public import Idealize.ShloMosaic.Lib.Tactic
public import Idealize.ShloMosaic.Lib.Claim
public import Idealize.ShloMosaic.Lib.Pipeline.Value
public import Idealize.ShloMosaic.Lib.Pipeline.ValueKit
/-! The prompts' recurrence: the body of its program at the first chunk of a stream and at a later one. -/
@[expose] public section
set_option maxRecDepth 16384
noncomputable section
namespace Cert.PromptIdeal.Run
open Cert.PromptIdeal Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The first chunk of a stream. -/
abbrev cond0_0 (i : grid0.Coords) : Prop := (Scalar.cmpi .ne (Scalar.extui (Scalar.cmpi .eq (BitVec.ofNat 32 (i 1).val) 0#32)) 0#32) = 1#1

set_option maxHeartbeats 2000000 in
/-- At the first chunk of a stream: the stores the body makes, and that it runs to its end having made them. -/
noncomputable def kernelRun0_A (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : cond0_0 i)
    (x0 : Vec F S256x2048 .f32) (x1 : Vec F S256x2048 .bf16) (x2 : Vec F S256x2048 .bf16) (x3 : Vec F S256x128 .f32) (x4 : Vec F S1x3x2048 .f32) (x5 : Vec F S4x2048 .f32) (x6 : Vec F S1x2048 .f32) (x7 : Vec F S1x128 .f32) (x8 : Vec F S8x256 .f32) (x9 : Vec F S1x8x256x128 .f32) (x10 : Vec F S1x8x128 .f32) (x11 : Vec F S1x8x128 .f32) :
    Σ' (L12 : List (View.Piece (Elt F) S256x2048 .bf16)), Σ' (L13 : List (View.Piece (Elt F) S1x8x256x128 .f32)), Σ' (L14 : List (View.Piece (Elt F) S1x8x128 .f32)), Σ' (L15 : List (View.Piece (Elt F) S1x8x128 .f32)), Σ' (L16 : List (View.Piece (Elt F) S1x3x2048 .f32)), { LT0 : List (View.Piece (Elt F) S264x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0)) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_mlstm_eq_skeleton]; unfold cc0_mlstm_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

set_option maxHeartbeats 2000000 in
/-- At a later chunk of a stream: the stores the body makes, and that it runs to its end having made them. -/
noncomputable def kernelRun0_B (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : ¬cond0_0 i)
    (x0 : Vec F S256x2048 .f32) (x1 : Vec F S256x2048 .bf16) (x2 : Vec F S256x2048 .bf16) (x3 : Vec F S256x128 .f32) (x5 : Vec F S4x2048 .f32) (x6 : Vec F S1x2048 .f32) (x7 : Vec F S1x128 .f32) (x8 : Vec F S8x256 .f32) (y13 : Vec F S1x8x256x128 .f32) (y14 : Vec F S1x8x128 .f32) (y15 : Vec F S1x8x128 .f32) (T : Vec F S3x2048 .f32) :
    Σ' (L12 : List (View.Piece (Elt F) S256x2048 .bf16)), Σ' (L13 : List (View.Piece (Elt F) S1x8x256x128 .f32)), Σ' (L14 : List (View.Piece (Elt F) S1x8x128 .f32)), Σ' (L15 : List (View.Piece (Elt F) S1x8x128 .f32)), Σ' (L16 : List (View.Piece (Elt F) S1x3x2048 .f32)), { LT0 : List (View.Piece (Elt F) S264x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg14 fullShare d) ∗ owns (c : Thread nD τ) arg15 fullShare y13 ∗ owns (c : Thread nD τ) arg16 fullShare y14 ∗ owns (c : Thread nD τ) arg17 fullShare y15 ∗ (∃ d, owns (c : Thread nD τ) arg18 fullShare d) ∗ (∃ f, arg19.view.loc (c : Thread nD τ) ↦[arg19.view.set]{fullShare} arg19.view.writes (Elt F) f [⟨Rect.unit (s := S264x2048) ![5, 0] S3x2048.size inb_S264x2048_S3x2048_5_0, T⟩])
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0)) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_mlstm_eq_skeleton]; unfold cc0_mlstm_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%d12, %f12, -, H12⟩, ⟨%f13, %hf13, H13⟩, ⟨%f14, %hf14, H14⟩, ⟨%f15, %hf15, H15⟩, ⟨%d16, %f16, -, H16⟩, ⟨%fs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hf7; obtain rfl := harg10.eq_unread hf8; obtain rfl := harg15.eq_unread hf13; obtain rfl := harg16.eq_unread hf14; obtain rfl := harg17.eq_unread hf15
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H12]; · iexists _; iexact H12
    isplitl [H13]; · iexists _; iexact H13
    isplitl [H14]; · iexists _; iexact H14
    isplitl [H15]; · iexists _; iexact H15
    isplitl [H16]; · iexists _; iexact H16
    iexists _; iexact HS0

/-! ## What the runs leave -/

theorem inb_tail : ∀ a, (![253, 0] : Fin 2 → ℕ) a + S3x2048.size a ≤ S256x2048.size a := by decide

/-- Row 261 + r of the scratch is row 253 + r of the chunk stored from row 8 on. -/
theorem tail_idx (j : S3x2048.Idx) :
    (Rect.unit (s := S264x2048) ![261, 0] S3x2048.size inb_S264x2048_S3x2048_261_0).toLoadRect.idx j
      = (Rect.unit (s := S264x2048) ![8, 0] S256x2048.size inb_S264x2048_S256x2048_8_0).emb ((Rect.unit (s := S256x2048) ![253, 0] S3x2048.size inb_tail).emb j) := by
  refine funext fun a => Fin.ext ?_
  match a with
  | ⟨0, _⟩ => exact (by omega : 261 + 1 * (j 0).val = 8 + 1 * (253 + 1 * (j 0).val))
  | ⟨1, _⟩ => exact (by omega : 0 + 1 * (j 1).val = 0 + 1 * (0 + 1 * (j 1).val))

/-- The last three rows of a chunk, where the chunk lies in the scratch: read back from the scratch they are those of the
chunk, whatever the scratch held before. -/
theorem readCov_tail (v : View sig .tc .vmem S264x2048 .f32) (w : Vec F S256x2048 .f32) (L : List (View.Piece (Elt F) S264x2048 .f32)) :
    v.readCov ((⟨Rect.unit (s := S264x2048) ![8, 0] S256x2048.size inb_S264x2048_S256x2048_8_0, w⟩ : View.Piece (Elt F) S264x2048 .f32) :: L)
        (Rect.unit (s := S264x2048) ![261, 0] S3x2048.size inb_S264x2048_S3x2048_261_0).toLoadRect
      = View.ld w (Rect.unit (s := S256x2048) ![253, 0] S3x2048.size inb_tail) := by
  rw [View.readCov_eq_canon']
  funext j
  have e := tail_idx j
  have h := View.canon_cons_emb (Val := Elt F) (Rect.unit (s := S264x2048) ![8, 0] S256x2048.size inb_S264x2048_S256x2048_8_0) w L ((Rect.unit (s := S256x2048) ![253, 0] S3x2048.size inb_tail).emb j)
  rw [← e] at h
  exact h

/-- The last three rows of a chunk. -/
def tail (x0 : Vec F S256x2048 .f32) : Vec F S3x2048 .f32 :=
  View.ld (k0_pay6 x0) (Rect.unit (s := S256x2048) ![253, 0] S3x2048.size inb_tail)

theorem coverA_12 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : cond0_0 i) (x0 : Vec F S256x2048 .f32) (x1 : Vec F S256x2048 .bf16) (x2 : Vec F S256x2048 .bf16) (x3 : Vec F S256x128 .f32) (x4 : Vec F S1x3x2048 .f32) (x5 : Vec F S4x2048 .f32) (x6 : Vec F S1x2048 .f32) (x7 : Vec F S1x128 .f32) (x8 : Vec F S8x256 .f32) (x9 : Vec F S1x8x256x128 .f32) (x10 : Vec F S1x8x128 .f32) (x11 : Vec F S1x8x128 .f32) (y : S256x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).1 S256x256.size (by sl_kernel_rfl) y

theorem coverA_13 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : cond0_0 i) (x0 : Vec F S256x2048 .f32) (x1 : Vec F S256x2048 .bf16) (x2 : Vec F S256x2048 .bf16) (x3 : Vec F S256x128 .f32) (x4 : Vec F S1x3x2048 .f32) (x5 : Vec F S4x2048 .f32) (x6 : Vec F S1x2048 .f32) (x7 : Vec F S1x128 .f32) (x8 : Vec F S8x256 .f32) (x9 : Vec F S1x8x256x128 .f32) (x10 : Vec F S1x8x128 .f32) (x11 : Vec F S1x8x128 .f32) (y : S1x8x256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.1 ![1, 1, 256, 128] (by sl_kernel_rfl) y

theorem coverA_14 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : cond0_0 i) (x0 : Vec F S256x2048 .f32) (x1 : Vec F S256x2048 .bf16) (x2 : Vec F S256x2048 .bf16) (x3 : Vec F S256x128 .f32) (x4 : Vec F S1x3x2048 .f32) (x5 : Vec F S4x2048 .f32) (x6 : Vec F S1x2048 .f32) (x7 : Vec F S1x128 .f32) (x8 : Vec F S8x256 .f32) (x9 : Vec F S1x8x256x128 .f32) (x10 : Vec F S1x8x128 .f32) (x11 : Vec F S1x8x128 .f32) (y : S1x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.1 ![1, 1, 128] (by sl_kernel_rfl) y

theorem coverA_15 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : cond0_0 i) (x0 : Vec F S256x2048 .f32) (x1 : Vec F S256x2048 .bf16) (x2 : Vec F S256x2048 .bf16) (x3 : Vec F S256x128 .f32) (x4 : Vec F S1x3x2048 .f32) (x5 : Vec F S4x2048 .f32) (x6 : Vec F S1x2048 .f32) (x7 : Vec F S1x128 .f32) (x8 : Vec F S8x256 .f32) (x9 : Vec F S1x8x256x128 .f32) (x10 : Vec F S1x8x128 .f32) (x11 : Vec F S1x8x128 .f32) (y : S1x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.1 ![1, 1, 128] (by sl_kernel_rfl) y

/-- What this leaves in the window of the convolution's state: the chunk's last three rows. -/
theorem leftA_16 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : cond0_0 i) (x0 : Vec F S256x2048 .f32) (x1 : Vec F S256x2048 .bf16) (x2 : Vec F S256x2048 .bf16) (x3 : Vec F S256x128 .f32) (x4 : Vec F S1x3x2048 .f32) (x5 : Vec F S4x2048 .f32) (x6 : Vec F S1x2048 .f32) (x7 : Vec F S1x128 .f32) (x8 : Vec F S8x256 .f32) (x9 : Vec F S1x8x256x128 .f32) (x10 : Vec F S1x8x128 .f32) (x11 : Vec F S1x8x128 .f32) (f) :
    arg18.view.read (Elt F) (arg18.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.1) = k0_pay8 (tail x0) := by
  rw [View.read_writes_eq_canon _ _ _ (View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.1 S1x3x2048.size (by sl_kernel_rfl))]
  unfold kernelRun0_A; dsimp only; sl_unfold_words
  simp only [View.readAt_eq_ld, harg2.read_unread]
  refine (View.canon_unit_zero (by decide) _ _).trans ?_
  refine congrArg k0_pay8 ?_
  refine (readCov_tail _ _ _).trans ?_
  unfold tail
  rw [View.ld_unit_zero (by decide) _ x0]

/-- The store that ends the body's part in the scratch: the chunk's last three rows, kept for the next chunk. -/
theorem piecesA_s (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : cond0_0 i) (x0 : Vec F S256x2048 .f32) (x1 : Vec F S256x2048 .bf16) (x2 : Vec F S256x2048 .bf16) (x3 : Vec F S256x128 .f32) (x4 : Vec F S1x3x2048 .f32) (x5 : Vec F S4x2048 .f32) (x6 : Vec F S1x2048 .f32) (x7 : Vec F S1x128 .f32) (x8 : Vec F S8x256 .f32) (x9 : Vec F S1x8x256x128 .f32) (x10 : Vec F S1x8x128 .f32) (x11 : Vec F S1x8x128 .f32) :
    ∃ L, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.2.1 = (⟨Rect.unit (s := S264x2048) ![5, 0] S3x2048.size inb_S264x2048_S3x2048_5_0, k0_pay9 (tail x0)⟩ : View.Piece (Elt F) S264x2048 .f32) :: L := by
  unfold kernelRun0_A; dsimp only; sl_unfold_words
  simp only [View.readAt_eq_ld, harg2.read_unread]
  refine ⟨_, congrArg₂ List.cons (congrArg (Sigma.mk _) (congrArg k0_pay9 ?_)) rfl⟩
  refine (readCov_tail _ _ _).trans ?_
  unfold tail
  rw [View.ld_unit_zero (by decide) _ x0]

theorem coverB_12 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : ¬cond0_0 i) (x0 : Vec F S256x2048 .f32) (x1 : Vec F S256x2048 .bf16) (x2 : Vec F S256x2048 .bf16) (x3 : Vec F S256x128 .f32) (x5 : Vec F S4x2048 .f32) (x6 : Vec F S1x2048 .f32) (x7 : Vec F S1x128 .f32) (x8 : Vec F S8x256 .f32) (y13 : Vec F S1x8x256x128 .f32) (y14 : Vec F S1x8x128 .f32) (y15 : Vec F S1x8x128 .f32) (T : Vec F S3x2048 .f32) (y : S256x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).1 S256x256.size (by sl_kernel_rfl) y

theorem coverB_13 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : ¬cond0_0 i) (x0 : Vec F S256x2048 .f32) (x1 : Vec F S256x2048 .bf16) (x2 : Vec F S256x2048 .bf16) (x3 : Vec F S256x128 .f32) (x5 : Vec F S4x2048 .f32) (x6 : Vec F S1x2048 .f32) (x7 : Vec F S1x128 .f32) (x8 : Vec F S8x256 .f32) (y13 : Vec F S1x8x256x128 .f32) (y14 : Vec F S1x8x128 .f32) (y15 : Vec F S1x8x128 .f32) (T : Vec F S3x2048 .f32) (y : S1x8x256x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.1 ![1, 1, 256, 128] (by sl_kernel_rfl) y

theorem coverB_14 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : ¬cond0_0 i) (x0 : Vec F S256x2048 .f32) (x1 : Vec F S256x2048 .bf16) (x2 : Vec F S256x2048 .bf16) (x3 : Vec F S256x128 .f32) (x5 : Vec F S4x2048 .f32) (x6 : Vec F S1x2048 .f32) (x7 : Vec F S1x128 .f32) (x8 : Vec F S8x256 .f32) (y13 : Vec F S1x8x256x128 .f32) (y14 : Vec F S1x8x128 .f32) (y15 : Vec F S1x8x128 .f32) (T : Vec F S3x2048 .f32) (y : S1x8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.2.1 ![1, 1, 128] (by sl_kernel_rfl) y

theorem coverB_15 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : ¬cond0_0 i) (x0 : Vec F S256x2048 .f32) (x1 : Vec F S256x2048 .bf16) (x2 : Vec F S256x2048 .bf16) (x3 : Vec F S256x128 .f32) (x5 : Vec F S4x2048 .f32) (x6 : Vec F S1x2048 .f32) (x7 : Vec F S1x128 .f32) (x8 : Vec F S8x256 .f32) (y13 : Vec F S1x8x256x128 .f32) (y14 : Vec F S1x8x128 .f32) (y15 : Vec F S1x8x128 .f32) (T : Vec F S3x2048 .f32) (y : S1x8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.2.2.1 ![1, 1, 128] (by sl_kernel_rfl) y

/-- What this leaves in the window of the convolution's state: the chunk's last three rows. -/
theorem leftB_16 (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : ¬cond0_0 i) (x0 : Vec F S256x2048 .f32) (x1 : Vec F S256x2048 .bf16) (x2 : Vec F S256x2048 .bf16) (x3 : Vec F S256x128 .f32) (x5 : Vec F S4x2048 .f32) (x6 : Vec F S1x2048 .f32) (x7 : Vec F S1x128 .f32) (x8 : Vec F S8x256 .f32) (y13 : Vec F S1x8x256x128 .f32) (y14 : Vec F S1x8x128 .f32) (y15 : Vec F S1x8x128 .f32) (T : Vec F S3x2048 .f32) (f) :
    arg18.view.read (Elt F) (arg18.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.2.2.2.1) = k0_pay8 (tail x0) := by
  rw [View.read_writes_eq_canon _ _ _ (View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.2.2.2.1 S1x3x2048.size (by sl_kernel_rfl))]
  unfold kernelRun0_B; dsimp only; sl_unfold_words
  simp only [View.readAt_eq_ld, harg2.read_unread]
  refine (View.canon_unit_zero (by decide) _ _).trans ?_
  refine congrArg k0_pay8 ?_
  refine (readCov_tail _ _ _).trans ?_
  unfold tail
  rw [View.ld_unit_zero (by decide) _ x0]

/-- The store that ends the body's part in the scratch: the chunk's last three rows, kept for the next chunk. -/
theorem piecesB_s (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S1x3x2048 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S1x128 .f32) (harg9 : arg9.IsWhole) (arg10 : Memref sig .tc .vmem S8x256 .f32) (harg10 : arg10.IsWhole) (arg11 : Memref sig .tc .vmem S1x8x256x128 .f32) (harg11 : arg11.IsWhole) (arg12 : Memref sig .tc .vmem S1x8x128 .f32) (harg12 : arg12.IsWhole) (arg13 : Memref sig .tc .vmem S1x8x128 .f32) (harg13 : arg13.IsWhole) (arg14 : Memref sig .tc .vmem S256x2048 .bf16) (harg14 : arg14.IsWhole) (arg15 : Memref sig .tc .vmem S1x8x256x128 .f32) (harg15 : arg15.IsWhole) (arg16 : Memref sig .tc .vmem S1x8x128 .f32) (harg16 : arg16.IsWhole) (arg17 : Memref sig .tc .vmem S1x8x128 .f32) (harg17 : arg17.IsWhole) (arg18 : Memref sig .tc .vmem S1x3x2048 .f32) (harg18 : arg18.IsWhole) (arg19 : Memref sig .tc .vmem S264x2048 .f32) (harg19 : arg19.IsWhole) (hc0 : ¬cond0_0 i) (x0 : Vec F S256x2048 .f32) (x1 : Vec F S256x2048 .bf16) (x2 : Vec F S256x2048 .bf16) (x3 : Vec F S256x128 .f32) (x5 : Vec F S4x2048 .f32) (x6 : Vec F S1x2048 .f32) (x7 : Vec F S1x128 .f32) (x8 : Vec F S8x256 .f32) (y13 : Vec F S1x8x256x128 .f32) (y14 : Vec F S1x8x128 .f32) (y15 : Vec F S1x8x128 .f32) (T : Vec F S3x2048 .f32) :
    ∃ L, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x5 x6 x7 x8 y13 y14 y15 T).2.2.2.2.2.1 = (⟨Rect.unit (s := S264x2048) ![5, 0] S3x2048.size inb_S264x2048_S3x2048_5_0, k0_pay9 (tail x0)⟩ : View.Piece (Elt F) S264x2048 .f32) :: L := by
  unfold kernelRun0_B; dsimp only; sl_unfold_words
  simp only [View.readAt_eq_ld, harg2.read_unread]
  refine ⟨_, congrArg₂ List.cons (congrArg (Sigma.mk _) (congrArg k0_pay9 ?_)) rfl⟩
  refine (readCov_tail _ _ _).trans ?_
  unfold tail
  rw [View.ld_unit_zero (by decide) _ x0]

end Cert.PromptIdeal.Run
end
-- ==== Proof.PromptTrace.lean ====
module
public import proofs.«01_k».proof.Proof.PromptRun
/-! The prompts' recurrence: what its windows and its scratch hold between points, and its run with the arrays it leaves. -/
@[expose] public section
set_option maxRecDepth 16384
noncomputable section
namespace Cert.PromptIdeal.Run
open Cert.PromptIdeal Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The points -/

theorem hcond0_0 : ∀ t : Fin cfg0.N, cond0_0 (grid0.coords t) ↔ t.val % 32 = 0 :=
  (by decide +kernel : ∀ t : Fin grid0.N, cond0_0 (grid0.coords t) ↔ t.val % 32 = 0)
theorem fetch13 : ∀ t : Fin cfg0.N, (cfg0.win 13).fetch t = false :=
  (by decide +kernel : ∀ t : Fin grid0.N, win0_13.fetch t = false)
theorem keep13 (t : Fin cfg0.N) (h : ¬t.val % 32 = 31) : (cfg0.win 13).flush t = false :=
  Bool.eq_false_iff.mpr fun e => h ((flush0_13 t).mp e)
theorem fetch14 : ∀ t : Fin cfg0.N, (cfg0.win 14).fetch t = false :=
  (by decide +kernel : ∀ t : Fin grid0.N, win0_14.fetch t = false)
theorem keep14 (t : Fin cfg0.N) (h : ¬t.val % 32 = 31) : (cfg0.win 14).flush t = false :=
  Bool.eq_false_iff.mpr fun e => h ((flush0_14 t).mp e)
theorem fetch15 : ∀ t : Fin cfg0.N, (cfg0.win 15).fetch t = false :=
  (by decide +kernel : ∀ t : Fin grid0.N, win0_15.fetch t = false)
theorem keep15 (t : Fin cfg0.N) (h : ¬t.val % 32 = 31) : (cfg0.win 15).flush t = false :=
  Bool.eq_false_iff.mpr fun e => h ((flush0_15 t).mp e)

/-! ## The staging buffers and the scratch -/

abbrev ms0_0 (t : Fin cfg0.N) : Memref sig .tc .vmem S256x2048 .f32 := win0_0.stage (cfg0.slots t 0)
abbrev ms0_1 (t : Fin cfg0.N) : Memref sig .tc .vmem S256x2048 .bf16 := win0_1.stage (cfg0.slots t 1)
abbrev ms0_2 (t : Fin cfg0.N) : Memref sig .tc .vmem S256x2048 .bf16 := win0_2.stage (cfg0.slots t 2)
abbrev ms0_3 (t : Fin cfg0.N) : Memref sig .tc .vmem S256x128 .f32 := win0_3.stage (cfg0.slots t 3)
abbrev ms0_4 (t : Fin cfg0.N) : Memref sig .tc .vmem S1x3x2048 .f32 := win0_4.stage (cfg0.slots t 4)
abbrev ms0_5 (t : Fin cfg0.N) : Memref sig .tc .vmem S4x2048 .f32 := win0_5.stage (cfg0.slots t 5)
abbrev ms0_6 (t : Fin cfg0.N) : Memref sig .tc .vmem S1x2048 .f32 := win0_6.stage (cfg0.slots t 6)
abbrev ms0_7 (t : Fin cfg0.N) : Memref sig .tc .vmem S1x128 .f32 := win0_7.stage (cfg0.slots t 7)
abbrev ms0_8 (t : Fin cfg0.N) : Memref sig .tc .vmem S8x256 .f32 := win0_8.stage (cfg0.slots t 8)
abbrev ms0_9 (t : Fin cfg0.N) : Memref sig .tc .vmem S1x8x256x128 .f32 := win0_9.stage (cfg0.slots t 9)
abbrev ms0_10 (t : Fin cfg0.N) : Memref sig .tc .vmem S1x8x128 .f32 := win0_10.stage (cfg0.slots t 10)
abbrev ms0_11 (t : Fin cfg0.N) : Memref sig .tc .vmem S1x8x128 .f32 := win0_11.stage (cfg0.slots t 11)
abbrev ms0_12 (t : Fin cfg0.N) : Memref sig .tc .vmem S256x2048 .bf16 := win0_12.stage (cfg0.slots t 12)
abbrev ms0_13 (t : Fin cfg0.N) : Memref sig .tc .vmem S1x8x256x128 .f32 := win0_13.stage (cfg0.slots t 13)
abbrev ms0_14 (t : Fin cfg0.N) : Memref sig .tc .vmem S1x8x128 .f32 := win0_14.stage (cfg0.slots t 14)
abbrev ms0_15 (t : Fin cfg0.N) : Memref sig .tc .vmem S1x8x128 .f32 := win0_15.stage (cfg0.slots t 15)
abbrev ms0_16 (t : Fin cfg0.N) : Memref sig .tc .vmem S1x3x2048 .f32 := win0_16.stage (cfg0.slots t 16)
abbrev scM0_0 : Memref sig .tc .vmem S264x2048 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The scratch between points: rows 5 to 7 hold the last three rows of the chunk before, the others anything. -/
def scr (c : Dev nD) (T : Vec F S3x2048 .f32) : sProp 𝕄 :=
  iprop(∃ f, scM0_0.view.loc (c : Thread nD τ) ↦[scM0_0.view.set]{fullShare} scM0_0.view.writes (Elt F) f [⟨Rect.unit (s := S264x2048) ![5, 0] S3x2048.size inb_S264x2048_S3x2048_5_0, T⟩])

theorem scr_any (c : Dev nD) (T : Vec F S3x2048 .f32) :
    (scr c T : sProp 𝕄) ⊢ iprop(∃ d, owns (c : Thread nD τ) scM0_0 fullShare d) := by
  unfold scr owns
  iintro ⟨%f, H⟩
  iexists _; iexists _; isplitr
  swap; · iexact H
  ipureintro; rfl

theorem scr_of (c : Dev nD) (T : Vec F S3x2048 .f32) (L : List (View.Piece (Elt F) S264x2048 .f32))
    (h : ∃ L', L = (⟨Rect.unit (s := S264x2048) ![5, 0] S3x2048.size inb_S264x2048_S3x2048_5_0, T⟩ : View.Piece (Elt F) S264x2048 .f32) :: L') :
    iprop(∃ f, scM0_0.view.loc (c : Thread nD τ) ↦[scM0_0.view.set]{fullShare} scM0_0.view.writes (Elt F) f L) ⊢ (scr c T : sProp 𝕄) := by
  obtain ⟨L', rfl⟩ := h
  unfold scr
  iintro ⟨%f, H⟩
  iexists (scM0_0.view.writes (Elt F) f L')
  iexact H

/-! ## What the windows hold after each point -/

/-- The windows of the rows made and of the three parts of the state. -/
abbrev Outs (F : FTy → Type) [FloatOps F] := Vec F S256x2048 .bf16 × Vec F S1x8x256x128 .f32 × Vec F S1x8x128 .f32 × Vec F S1x8x128 .f32

/-- The body's run at the first chunk of a stream. -/
abbrev runA (c : Dev nD) (t : Fin cfg0.N) (h : t.val % 32 = 0) :=
  kernelRun0_A c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) (ms0_11 t) (hstage0_11 ((cfg0.slots t 11).cast nbuf0_11)) (ms0_12 t) (hstage0_12 ((cfg0.slots t 12).cast nbuf0_12)) (ms0_13 t) (hstage0_13 ((cfg0.slots t 13).cast nbuf0_13)) (ms0_14 t) (hstage0_14 ((cfg0.slots t 14).cast nbuf0_14)) (ms0_15 t) (hstage0_15 ((cfg0.slots t 15).cast nbuf0_15)) (ms0_16 t) (hstage0_16 ((cfg0.slots t 16).cast nbuf0_16)) scM0_0 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The body's run at a later chunk, from what the chunk before left. -/
abbrev runB (c : Dev nD) (t : Fin cfg0.N) (h : ¬t.val % 32 = 0) (p : Outs F) (T : Vec F S3x2048 .f32) :=
  kernelRun0_B c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) (ms0_11 t) (hstage0_11 ((cfg0.slots t 11).cast nbuf0_11)) (ms0_12 t) (hstage0_12 ((cfg0.slots t 12).cast nbuf0_12)) (ms0_13 t) (hstage0_13 ((cfg0.slots t 13).cast nbuf0_13)) (ms0_14 t) (hstage0_14 ((cfg0.slots t 14).cast nbuf0_14)) (ms0_15 t) (hstage0_15 ((cfg0.slots t 15).cast nbuf0_15)) (ms0_16 t) (hstage0_16 ((cfg0.slots t 16).cast nbuf0_16)) scM0_0 (Memref.isWhole_whole _) (fun e => h ((hcond0_0 t).mp e)) (iblk m c 0 t) (iblk m c 1 t) (iblk m c 2 t) (iblk m c 3 t) (iblk m c 5 t) (iblk m c 6 t) (iblk m c 7 t) (iblk m c 8 t) p.2.1 p.2.2.1 p.2.2.2 T

def outsA (c : Dev nD) (t : Fin cfg0.N) (h : t.val % 32 = 0) : Outs F :=
  (View.canon (runA m c t h).1, View.canon (runA m c t h).2.1, View.canon (runA m c t h).2.2.1, View.canon (runA m c t h).2.2.2.1)

def outsB (c : Dev nD) (t : Fin cfg0.N) (h : ¬t.val % 32 = 0) (p : Outs F) (T : Vec F S3x2048 .f32) : Outs F :=
  (View.canon (runB m c t h p T).1, View.canon (runB m c t h p T).2.1, View.canon (runB m c t h p T).2.2.1, View.canon (runB m c t h p T).2.2.2.1)

/-- The last three rows of the chunk of a point. -/
def tailAt (c : Dev nD) (n : ℕ) (hn : n < cfg0.N) : Vec F S3x2048 .f32 := tail (iblk m c 0 ⟨n, hn⟩)

/-- What the windows hold after the point `n`. -/
def outs (c : Dev nD) : (n : ℕ) → n < cfg0.N → Outs F
  | 0, hn => outsA m c ⟨0, hn⟩ (Nat.zero_mod _)
  | n + 1, hn => if h : (n + 1) % 32 = 0 then outsA m c ⟨n + 1, hn⟩ h
      else outsB m c ⟨n + 1, hn⟩ h (outs c n (Nat.lt_of_succ_lt hn)) (k0_pay9 (tailAt m c n (Nat.lt_of_succ_lt hn)))

theorem outs_first (c : Dev nD) (t : Fin cfg0.N) (h : t.val % 32 = 0) : outs m c t.val t.isLt = outsA m c t h := by
  obtain ⟨n, hn⟩ := t
  cases n with
  | zero => rfl
  | succ n => exact dif_pos h

theorem outs_next (c : Dev nD) (t : Fin cfg0.N) (h : ¬t.val % 32 = 0) :
    outs m c t.val t.isLt = outsB m c t h (outs m c (t.val - 1) (Nat.lt_of_le_of_lt (Nat.sub_le _ _) t.isLt))
      (k0_pay9 (tailAt m c (t.val - 1) (Nat.lt_of_le_of_lt (Nat.sub_le _ _) t.isLt))) := by
  obtain ⟨n, hn⟩ := t
  cases n with
  | zero => exact absurd (Nat.zero_mod _) h
  | succ n => exact dif_neg h

/-- The invariant before the point `n`: the scratch at what the point before left in it. -/
def PhiS (c : Dev nD) : (n : ℕ) → n ≤ cfg0.N → sProp 𝕄
  | 0, _ => Pipeline.ΦA spec0 c
  | n + 1, hn => iprop(scr c (k0_pay9 (tailAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(scr c (k0_pay9 (tailAt m c n hn)) ∗ (∃ r, prngReg c r)) := rfl

theorem PhiS_pos (c : Dev nD) (n : ℕ) (h : n ≤ cfg0.N) (hz : n ≠ 0) :
    PhiS m c n h = iprop(scr c (k0_pay9 (tailAt m c (n - 1) (by omega))) ∗ (∃ r, prngReg c r)) := by
  cases n with
  | zero => exact absurd rfl hz
  | succ n => rfl

/-- Whatever the point, the scratch may be taken with any contents. -/
theorem PhiS_any (c : Dev nD) (n : ℕ) (h : n ≤ cfg0.N) :
    PhiS m c n h ⊢ iprop(iprop((∃ d, owns (c : Thread nD τ) scM0_0 fullShare d)) ∗ (∃ r, prngReg c r)) := by
  by_cases hz : n = 0
  · rw [PhiS_zero m c n h hz, PhiA0_eq]
    try exact Idealize.SL.BI.Entails.refl _
  · rw [PhiS_pos m c n h hz]
    iintro ⟨HS0, Hg⟩
    isplitl [HS0]
    · iapply (scr_any c _); iexact HS0
    iexact Hg

/-- The data of the pipeline: after each point the inputs' windows at their blocks and the outputs' at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outs m c t.val t.isLt).1
    | ⟨13, _⟩ => (outs m c t.val t.isLt).2.1
    | ⟨14, _⟩ => (outs m c t.val t.isLt).2.2.1
    | ⟨15, _⟩ => (outs m c t.val t.isLt).2.2.2
    | ⟨16, _⟩ => k0_pay8 (tailAt m c t.val t.isLt)
    | ⟨k + 17, hk⟩ => absurd (show k + 17 < 17 from hk) (by omega)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outs m c t.val t.isLt).1 := by dsimp only [dats]
theorem after0_13 (c : Dev nD) (t : Fin cfg0.N) : (dats m 0 c).after 13 t = (outs m c t.val t.isLt).2.1 := by dsimp only [dats]
theorem after0_14 (c : Dev nD) (t : Fin cfg0.N) : (dats m 0 c).after 14 t = (outs m c t.val t.isLt).2.2.1 := by dsimp only [dats]
theorem after0_15 (c : Dev nD) (t : Fin cfg0.N) : (dats m 0 c).after 15 t = (outs m c t.val t.isLt).2.2.2 := by dsimp only [dats]
theorem after0_16 (c : Dev nD) (t : Fin cfg0.N) : (dats m 0 c).after 16 t = k0_pay8 (tailAt m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_13 (c : Dev nD) (t : Fin cfg0.N) (h : ¬t.val % 32 = 0) (d) :
    (dats m 0 c).before 13 t d = (outs m c (t.val - 1) (Nat.lt_of_le_of_lt (Nat.sub_le _ _) t.isLt)).2.1 := by
  obtain ⟨n, hn⟩ := t
  cases n with
  | zero => exact absurd (Nat.zero_mod _) h
  | succ n =>
    rw [show (dats m 0 c).before 13 ⟨n + 1, hn⟩ d = (dats m 0 c).left 13 ⟨n, Nat.lt_of_succ_lt hn⟩ d from by
      rw [Dat.before_of_pos _ _ _ (Nat.succ_ne_zero n) (fetch13 _)]
      rw [if_neg (by rw [show (cfg0.win 13).flush ⟨(⟨n + 1, hn⟩ : Fin cfg0.N).val - 1, _⟩ = false from keep13 ⟨n, Nat.lt_of_succ_lt hn⟩ (by
        have h' : ¬(n + 1) % 32 = 0 := h
        show ¬n % 32 = 31; omega)]; decide)]
      rfl]
    show (dats m 0 c).kept 13 _ d = _
    unfold Dat.kept
    rw [Pipeline.fill_of_clip_none 13 _ (fun _ => rfl) d ((dats m 0 c).after 13 _), Pipeline.Window.fill_cut]
    exact after0_13 m c _
theorem before0_14 (c : Dev nD) (t : Fin cfg0.N) (h : ¬t.val % 32 = 0) (d) :
    (dats m 0 c).before 14 t d = (outs m c (t.val - 1) (Nat.lt_of_le_of_lt (Nat.sub_le _ _) t.isLt)).2.2.1 := by
  obtain ⟨n, hn⟩ := t
  cases n with
  | zero => exact absurd (Nat.zero_mod _) h
  | succ n =>
    rw [show (dats m 0 c).before 14 ⟨n + 1, hn⟩ d = (dats m 0 c).left 14 ⟨n, Nat.lt_of_succ_lt hn⟩ d from by
      rw [Dat.before_of_pos _ _ _ (Nat.succ_ne_zero n) (fetch14 _)]
      rw [if_neg (by rw [show (cfg0.win 14).flush ⟨(⟨n + 1, hn⟩ : Fin cfg0.N).val - 1, _⟩ = false from keep14 ⟨n, Nat.lt_of_succ_lt hn⟩ (by
        have h' : ¬(n + 1) % 32 = 0 := h
        show ¬n % 32 = 31; omega)]; decide)]
      rfl]
    show (dats m 0 c).kept 14 _ d = _
    unfold Dat.kept
    rw [Pipeline.fill_of_clip_none 14 _ (fun _ => rfl) d ((dats m 0 c).after 14 _), Pipeline.Window.fill_cut]
    exact after0_14 m c _
theorem before0_15 (c : Dev nD) (t : Fin cfg0.N) (h : ¬t.val % 32 = 0) (d) :
    (dats m 0 c).before 15 t d = (outs m c (t.val - 1) (Nat.lt_of_le_of_lt (Nat.sub_le _ _) t.isLt)).2.2.2 := by
  obtain ⟨n, hn⟩ := t
  cases n with
  | zero => exact absurd (Nat.zero_mod _) h
  | succ n =>
    rw [show (dats m 0 c).before 15 ⟨n + 1, hn⟩ d = (dats m 0 c).left 15 ⟨n, Nat.lt_of_succ_lt hn⟩ d from by
      rw [Dat.before_of_pos _ _ _ (Nat.succ_ne_zero n) (fetch15 _)]
      rw [if_neg (by rw [show (cfg0.win 15).flush ⟨(⟨n + 1, hn⟩ : Fin cfg0.N).val - 1, _⟩ = false from keep15 ⟨n, Nat.lt_of_succ_lt hn⟩ (by
        have h' : ¬(n + 1) % 32 = 0 := h
        show ¬n % 32 = 31; omega)]; decide)]
      rfl]
    show (dats m 0 c).kept 15 _ d = _
    unfold Dat.kept
    rw [Pipeline.fill_of_clip_none 15 _ (fun _ => rfl) d ((dats m 0 c).after 15 _), Pipeline.Window.fill_cut]
    exact after0_15 m c _

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

theorem leaves0 (c : Dev nD) (t : Fin cfg0.N) : (dats m 0 c).leavesExact 0 t = owns (c : Thread nD τ) (ms0_0 t) fullShare (iblk m c 0 t) := by
  rw [← after0_0]
theorem leaves1 (c : Dev nD) (t : Fin cfg0.N) : (dats m 0 c).leavesExact 1 t = owns (c : Thread nD τ) (ms0_1 t) fullShare (iblk m c 1 t) := by
  rw [← after0_1]
theorem leaves2 (c : Dev nD) (t : Fin cfg0.N) : (dats m 0 c).leavesExact 2 t = owns (c : Thread nD τ) (ms0_2 t) fullShare (iblk m c 2 t) := by
  rw [← after0_2]
theorem leaves3 (c : Dev nD) (t : Fin cfg0.N) : (dats m 0 c).leavesExact 3 t = owns (c : Thread nD τ) (ms0_3 t) fullShare (iblk m c 3 t) := by
  rw [← after0_3]
theorem leaves4 (c : Dev nD) (t : Fin cfg0.N) : (dats m 0 c).leavesExact 4 t = owns (c : Thread nD τ) (ms0_4 t) fullShare (iblk m c 4 t) := by
  rw [← after0_4]
theorem leaves5 (c : Dev nD) (t : Fin cfg0.N) : (dats m 0 c).leavesExact 5 t = owns (c : Thread nD τ) (ms0_5 t) fullShare (iblk m c 5 t) := by
  rw [← after0_5]
theorem leaves6 (c : Dev nD) (t : Fin cfg0.N) : (dats m 0 c).leavesExact 6 t = owns (c : Thread nD τ) (ms0_6 t) fullShare (iblk m c 6 t) := by
  rw [← after0_6]
theorem leaves7 (c : Dev nD) (t : Fin cfg0.N) : (dats m 0 c).leavesExact 7 t = owns (c : Thread nD τ) (ms0_7 t) fullShare (iblk m c 7 t) := by
  rw [← after0_7]
theorem leaves8 (c : Dev nD) (t : Fin cfg0.N) : (dats m 0 c).leavesExact 8 t = owns (c : Thread nD τ) (ms0_8 t) fullShare (iblk m c 8 t) := by
  rw [← after0_8]
theorem leaves9 (c : Dev nD) (t : Fin cfg0.N) : (dats m 0 c).leavesExact 9 t = owns (c : Thread nD τ) (ms0_9 t) fullShare (iblk m c 9 t) := by
  rw [← after0_9]
theorem leaves10 (c : Dev nD) (t : Fin cfg0.N) : (dats m 0 c).leavesExact 10 t = owns (c : Thread nD τ) (ms0_10 t) fullShare (iblk m c 10 t) := by
  rw [← after0_10]
theorem leaves11 (c : Dev nD) (t : Fin cfg0.N) : (dats m 0 c).leavesExact 11 t = owns (c : Thread nD τ) (ms0_11 t) fullShare (iblk m c 11 t) := by
  rw [← after0_11]
theorem leaves12 (c : Dev nD) (t : Fin cfg0.N) : (dats m 0 c).leavesExact 12 t = owns (c : Thread nD τ) (ms0_12 t) fullShare ((outs m c t.val t.isLt).1) := by
  rw [← after0_12]
theorem leaves13 (c : Dev nD) (t : Fin cfg0.N) : (dats m 0 c).leavesExact 13 t = owns (c : Thread nD τ) (ms0_13 t) fullShare ((outs m c t.val t.isLt).2.1) := by
  rw [← after0_13]
theorem leaves14 (c : Dev nD) (t : Fin cfg0.N) : (dats m 0 c).leavesExact 14 t = owns (c : Thread nD τ) (ms0_14 t) fullShare ((outs m c t.val t.isLt).2.2.1) := by
  rw [← after0_14]
theorem leaves15 (c : Dev nD) (t : Fin cfg0.N) : (dats m 0 c).leavesExact 15 t = owns (c : Thread nD τ) (ms0_15 t) fullShare ((outs m c t.val t.isLt).2.2.2) := by
  rw [← after0_15]
theorem leaves16 (c : Dev nD) (t : Fin cfg0.N) : (dats m 0 c).leavesExact 16 t = owns (c : Thread nD τ) (ms0_16 t) fullShare (k0_pay8 (tailAt m c t.val t.isLt)) := by
  rw [← after0_16]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16]
  rw [PhiS_castSucc m c t]
  by_cases h : t.val % 32 = 0
  · rw [outs_first m c t h]
    unfold outsA
    refine Idealize.SL.BI.Entails.trans (Idealize.SL.BI.Laws.sep_mono (PhiS_any m c t.val _) (Idealize.SL.BI.Entails.refl _)) ?_
    show (_ : sProp 𝕄) ⊢ _
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runA m c t h).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    iintro ⟨H0, H1, H2, H3, H4, H5, H6, H7, H8, H9, H10, H11, ⟨%e12, H12⟩, ⟨%e13, H13⟩, ⟨%e14, H14⟩, ⟨%e15, H15⟩, ⟨%e16, H16⟩, HS0⟩
    isplitl [HS0 Hg]
    · isplitl [HS0]
      · iapply (scr_of c _ _ (piecesA_s c _ _ _ _ _ _ _ _ _ _ _ _ _ _ _ _ _ _ _ _ _ _ _ _ _ _ _ _ _ _ _ _ _ _ _ _ _ _ _ _ _ _ _ _ _ _ _ _ _ _ ))
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_eq_canon _ _ _ (coverA_12 c _ _ _ _ _ _ _ _ _ _ _ _ _ _ _ _ _ _ _ _ _ _ _ _ _ _ _ _ _ _ _ _ _ _ _ _ _ _ _ _ _ _ _ _ _ _ _ _ _ _ )
    isplitl [H13]
    · unfold owns; iexists _; isplitr
      swap; · iexact H13
      ipureintro; exact View.read_writes_eq_canon _ _ _ (coverA_13 c _ _ _ _ _ _ _ _ _ _ _ _ _ _ _ _ _ _ _ _ _ _ _ _ _ _ _ _ _ _ _ _ _ _ _ _ _ _ _ _ _ _ _ _ _ _ _ _ _ _ )
    isplitl [H14]
    · unfold owns; iexists _; isplitr
      swap; · iexact H14
      ipureintro; exact View.read_writes_eq_canon _ _ _ (coverA_14 c _ _ _ _ _ _ _ _ _ _ _ _ _ _ _ _ _ _ _ _ _ _ _ _ _ _ _ _ _ _ _ _ _ _ _ _ _ _ _ _ _ _ _ _ _ _ _ _ _ _ )
    isplitl [H15]
    · unfold owns; iexists _; isplitr
      swap; · iexact H15
      ipureintro; exact View.read_writes_eq_canon _ _ _ (coverA_15 c _ _ _ _ _ _ _ _ _ _ _ _ _ _ _ _ _ _ _ _ _ _ _ _ _ _ _ _ _ _ _ _ _ _ _ _ _ _ _ _ _ _ _ _ _ _ _ _ _ _ )
    unfold owns; iexists _; isplitr
    swap; · iexact H16
    ipureintro; exact leftA_16 c _ _ _ _ _ _ _ _ _ _ _ _ _ _ _ _ _ _ _ _ _ _ _ _ _ _ _ _ _ _ _ _ _ _ _ _ _ _ _ _ _ _ _ _ _ _ _ _ _ _ _
  · have hz : t.val ≠ 0 := fun e => h (by rw [e])
    rw [PhiS_pos m c _ _ hz, outs_next m c t h]
    unfold outsB
    simp only [before0_13 m c t h, before0_14 m c t h, before0_15 m c t h]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runB m c t h _ _).2.2.2.2.2.2 Set.univ _)
    isplitl [H0]; · iexact H0
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [H12]; · iexists _; iexact H12
    isplitl [H13]; · iexact H13
    isplitl [H14]; · iexact H14
    isplitl [H15]; · iexact H15
    isplitl [H16]; · iexists _; iexact H16
    isplitl [HS0]; · unfold scr; iexact HS0
    iintro ⟨H0, H1, H2, H3, H5, H6, H7, H8, ⟨%e12, H12⟩, ⟨%e13, H13⟩, ⟨%e14, H14⟩, ⟨%e15, H15⟩, ⟨%e16, H16⟩, HS0⟩
    isplitl [HS0 Hg]
    · isplitl [HS0]
      · iapply (scr_of c _ _ (piecesB_s c _ _ _ _ _ _ _ _ _ _ _ _ _ _ _ _ _ _ _ _ _ _ _ _ _ _ _ _ _ _ _ _ _ _ _ _ _ _ _ _ _ _ _ _ _ _ _ _ _ _ ))
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_eq_canon _ _ _ (coverB_12 c _ _ _ _ _ _ _ _ _ _ _ _ _ _ _ _ _ _ _ _ _ _ _ _ _ _ _ _ _ _ _ _ _ _ _ _ _ _ _ _ _ _ _ _ _ _ _ _ _ _ )
    isplitl [H13]
    · unfold owns; iexists _; isplitr
      swap; · iexact H13
      ipureintro; exact View.read_writes_eq_canon _ _ _ (coverB_13 c _ _ _ _ _ _ _ _ _ _ _ _ _ _ _ _ _ _ _ _ _ _ _ _ _ _ _ _ _ _ _ _ _ _ _ _ _ _ _ _ _ _ _ _ _ _ _ _ _ _ )
    isplitl [H14]
    · unfold owns; iexists _; isplitr
      swap; · iexact H14
      ipureintro; exact View.read_writes_eq_canon _ _ _ (coverB_14 c _ _ _ _ _ _ _ _ _ _ _ _ _ _ _ _ _ _ _ _ _ _ _ _ _ _ _ _ _ _ _ _ _ _ _ _ _ _ _ _ _ _ _ _ _ _ _ _ _ _ )
    isplitl [H15]
    · unfold owns; iexists _; isplitr
      swap; · iexact H15
      ipureintro; exact View.read_writes_eq_canon _ _ _ (coverB_15 c _ _ _ _ _ _ _ _ _ _ _ _ _ _ _ _ _ _ _ _ _ _ _ _ _ _ _ _ _ _ _ _ _ _ _ _ _ _ _ _ _ _ _ _ _ _ _ _ _ _ )
    unfold owns; iexists _; isplitr
    swap; · iexact H16
    ipureintro; exact leftB_16 c _ _ _ _ _ _ _ _ _ _ _ _ _ _ _ _ _ _ _ _ _ _ _ _ _ _ _ _ _ _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The program runs to an end with the arguments unchanged and no semaphore left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The run with the array of the convolution's states it leaves. -/
theorem run_arrays : θ_run defs (onTc (τ := τ) (main (F := F))) ⟨m, fun _ => 0, ρ⟩ (fun r => ∀ c : Dev nD,
      r.2.mem ((c.tc : Thread nD τ).loc main_v9_4) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (frame m ρ) ((θ_run defs _ _).mono (fun _ h => h.1) (run_main_quiescent m ρ)))
  exact ⟨(h.2 c).1 16, h.1.1 c⟩

end Cert.PromptIdeal.Run
end
-- ==== Proof.Prompt.lean ====
module
public import proofs.«01_k».proof.Proof.PromptTrace
public import proofs.«01_k».proof.Proof.Gen.PromptRefIdeal.Read
public import proofs.«01_k».proof.Proof.Common
public import proofs.«01_k».proof.Defs
public import Idealize.ShloMosaic.Lib.Pointwise
/-! The convolution's state after a prompt, as its program leaves it, is the reference's. -/
@[expose] public section
set_option maxRecDepth 16384
noncomputable section
namespace Cert.PromptIdeal.Hand
open Cert.PromptIdeal Cert.PromptIdeal.Gen Cert.PromptIdeal.Run Idealize.ShloMosaic Idealize.ShloMosaic.TcCoe Idealize.SL.Sem

theorem k0_pay8_apply (v : Vec Ideal S3x2048 .f32) (y : S1x3x2048.Idx) : k0_pay8 v y = v (ValueIdx.ix2 (y 1) (y 2)) := by
  unfold k0_pay8
  refine shapeCast_apply _ _ _ _ ?_
  have h0 : (y 0).val < 1 := (y 0).isLt
  refine (Shape.rowMajor_val_two _).trans (Eq.trans ?_ (Shape.rowMajor_val_three _).symm)
  show (y 1).val * 2048 + (y 2).val = ((y 0).val * 3 + (y 1).val) * 2048 + (y 2).val
  omega

/-- The last three rows of a chunk, at one place. -/
theorem tail_apply (x : Vec Ideal S256x2048 .f32) (i : Fin 3) (k : Fin 2048) :
    tail x (ValueIdx.ix2 i k) = x (ValueIdx.ix2 ⟨253 + i.val, by have := i.isLt; omega⟩ k) := by
  unfold tail k0_pay6
  refine (shapeCast_apply x shapeCasts_S256x2048_S256x2048 _ _ rfl).trans ?_
  refine congrArg x (funext fun a => Fin.ext ?_)
  match a with
  | ⟨0, _⟩ => exact (by omega : 253 + 1 * i.val = 253 + i.val)
  | ⟨1, _⟩ => exact (by omega : 0 + 1 * k.val = k.val)

open Cert.PromptRefIdeal.Read in
/-- The state of the reference at one place: the row of the prompt's last three. -/
theorem ref4 (x0 : Vec Ideal S17408x2048 .f32) (b : Fin 2) (i : Fin 3) (k : Fin 2048) :
    val_main_v4 (F := Ideal) x0 (ValueIdx.ix3 b i k) = x0 (ValueIdx.ix2 ⟨b.val * 8192 + 8189 + i.val, by have := b.isLt; have := i.isLt; omega⟩ k) := by
  pointwise [val_main_v4, val_main_v3, val_main_v2, val_main_cst, val_main_v1, val_main_v0]
  rw [dif_neg (fun h => absurd (show 8192 + i.val < 3 from h) (by omega))]
  refine congrArg x0 (funext fun a => Fin.ext ?_)
  match a with
  | ⟨0, _⟩ => show b.val * 8192 + (8192 + i.val - 3) = b.val * 8192 + 8189 + i.val; omega
  | ⟨1, _⟩ => rfl

/-! ## What the window holds -/

variable (m : (ℓ : Loc nD τ sig) → Buf (Elt Ideal) ℓ)

theorem pt_lt (t : Fin cfg0.N) : t.val < 64 := lt_of_lt_of_eq t.isLt (show cfg0.N = 64 from N_0)

theorem facts0 : ∀ t : Fin cfg0.N, win0_0.index t (0 : Fin 2) = t.val ∧ win0_0.index t (1 : Fin 2) = 0 :=
  (by decide +kernel : ∀ t : Fin grid0.N, _)
theorem facts16 : ∀ t : Fin cfg0.N, win0_16.index t (0 : Fin 3) = t.val / 32 ∧ win0_16.index t (1 : Fin 3) = 0 ∧ win0_16.index t (2 : Fin 3) = 0 :=
  (by decide +kernel : ∀ t : Fin grid0.N, _)

/-- Window 0 at a point: its chunk. -/
theorem chunk_apply (c : Dev nD) (t : Fin cfg0.N) (i : Fin 256) (k : Fin 2048) (r : Fin 17408) (hr : r.val = 256 * t.val + i.val) :
    (iblk m c 0 t : Vec Ideal S256x2048 .f32) (ValueIdx.ix2 i k) = m ((c : Thread nD τ).loc main_arg0) (ValueIdx.ix2 r k) := by
  obtain ⟨e0, e1⟩ := facts0 t
  show V m c main_arg0 (((cfg0.win 0).blk t).view.emb (ValueIdx.ix2 i k)) = _
  rw [V_main_arg0]
  refine congrArg _ (funext fun a => Fin.ext ?_)
  match a with
  | ⟨0, _⟩ => show win0_0.index t (0 : Fin 2) * 256 + 1 * i.val = r.val; rw [e0]; omega
  | ⟨1, _⟩ => show win0_0.index t (1 : Fin 2) * 2048 + 1 * k.val = k.val; rw [e1]; omega

theorem ix3_eta {L M N : ℕ} (y : (⟨3, ![L, M, N]⟩ : Shape).Idx) : y = ValueIdx.ix3 (y 0) (y 1) (y 2) := by
  funext a
  match a with
  | ⟨0, _⟩ => rfl
  | ⟨1, _⟩ => rfl
  | ⟨2, _⟩ => rfl

/-! ## The array after the run -/

/-- At the last chunk of a stream, what the window holds is the reference's state of that stream. -/
theorem state_apply (c : Dev nD) (t : Fin cfg0.N) (h : t.val % 32 = 31) (y : S1x3x2048.Idx) (z : S2x3x2048.Idx)
    (h0 : (z 0).val = t.val / 32) (h1 : (z 1).val = (y 1).val) (h2 : (z 2).val = (y 2).val) :
    k0_pay8 (tailAt m c t.val t.isLt) y = Cert.PromptRefIdeal.Read.val_main_v4 (F := Ideal) (m ((c : Thread nD τ).loc main_arg0)) z := by
  have e1 : (z 1 : Fin 3) = y 1 := Fin.ext h1
  have e2 : (z 2 : Fin 2048) = y 2 := Fin.ext h2
  rw [ix3_eta z, e1, e2]
  refine Eq.trans ?_ (ref4 _ (z 0) (y 1) (y 2)).symm
  refine (k0_pay8_apply _ y).trans ((tail_apply _ (y 1) (y 2)).trans (chunk_apply m c t _ _ _ ?_))
  show (z 0).val * 8192 + 8189 + (y 1).val = 256 * t.val + (253 + (y 1).val)
  omega

theorem mem_block16 (t : Fin cfg0.N) (i : S2x3x2048.Idx) :
    i ∈ ((cfg0.win 16).blk t).view.set ↔ ∀ a, win0_16.index t a * win0_16.block.size a ≤ (i a).val ∧ (i a).val < win0_16.index t a * win0_16.block.size a + win0_16.block.size a := by
  show i ∈ ((win0_16.arr).view.slice (win0_16.rect t)).set ↔ _
  rw [View.set_slice_whole, Rect.mem_set_unit]

theorem covers16 (i : S2x3x2048.Idx) : ∃ t : Fin cfg0.N, (cfg0.win 16).flush t = true ∧ i ∈ ((cfg0.win 16).blk t).view.set := by
  have h0 : (i 0).val < 2 := (i 0).isLt
  have h1 : (i 1).val < 3 := (i 1).isLt
  have h2 : (i 2).val < 2048 := (i 2).isLt
  let t : Fin cfg0.N := ⟨32 * (i 0).val + 31, lt_of_lt_of_eq (by omega) (show 64 = cfg0.N from N_0.symm)⟩
  have hv : t.val = 32 * (i 0).val + 31 := rfl
  obtain ⟨e0, e1, e2⟩ := facts16 t
  refine ⟨t, (flush0_16 t).mpr (by rw [hv]; omega), (mem_block16 t i).2 fun a => ?_⟩
  match a with
  | ⟨0, _⟩ => show win0_16.index t (0 : Fin 3) * 1 ≤ (i 0).val ∧ (i 0).val < win0_16.index t (0 : Fin 3) * 1 + 1; rw [e0, hv]; omega
  | ⟨1, _⟩ => show win0_16.index t (1 : Fin 3) * 3 ≤ (i 1).val ∧ (i 1).val < win0_16.index t (1 : Fin 3) * 3 + 3; rw [e1]; omega
  | ⟨2, _⟩ => show win0_16.index t (2 : Fin 3) * 2048 ≤ (i 2).val ∧ (i 2).val < win0_16.index t (2 : Fin 3) * 2048 + 2048; rw [e2]; omega

/-- The states of the convolution the kernel returns are the reference's. -/
theorem final16 (c : Dev nD) : (dats m 0 c).arrAt 16 cfg0.N = Cert.PromptRefIdeal.Read.val_main_v4 (F := Ideal) (m ((c : Thread nD τ).loc main_arg0)) := by
  refine (dats m 0 c).arrAt_eq_of_cover 16 _ (fun t hf => ?_) covers16
  obtain ⟨e0, e1, e2⟩ := facts16 t
  have hp := (flush0_16 t).mp hf
  show (cfg0.win 16).cut (grid0.coords t) ((dats m 0 c).after 16 t) = _
  rw [after0_16]
  funext y
  show k0_pay8 (tailAt m c t.val t.isLt) ((cfg0.win 16).xinj (grid0.coords t) y) = Cert.PromptRefIdeal.Read.val_main_v4 (F := Ideal) _ (((cfg0.win 16).blk t).view.emb y)
  have hy : (y 0).val < 1 := (y 0).isLt
  refine state_apply m c t hp _ _ ?_ ?_ ?_
  · show win0_16.index t (0 : Fin 3) * 1 + 1 * (y 0).val = t.val / 32; rw [e0]; omega
  · show win0_16.index t (1 : Fin 3) * 3 + 1 * (y 1).val = (y 1).val; rw [e1]; omega
  · show win0_16.index t (2 : Fin 3) * 2048 + 1 * (y 2).val = (y 2).val; rw [e2]; omega

end Cert.PromptIdeal.Hand

namespace Cert.Proof
open Idealize.ShloMosaic Idealize.ShloMosaic.TcCoe Idealize.SL.Sem

theorem algebraic_PromptIdeal_PromptRefIdeal_proof : Cert.algebraic_PromptIdeal_PromptRefIdeal := by
  intro m g m' g' _ hargs
  refine ⟨fun c => Cert.PromptRefIdeal.Read.val_main_v4 (F := Ideal) (m ((c.tc : Thread Cert.PromptIdeal.nD Cert.PromptIdeal.τ).loc Cert.PromptIdeal.main_arg0)), ?_, ?_⟩
  · refine (θ_run _ _ _).mono (fun r h c => ?_) (Cert.PromptIdeal.Run.run_arrays m g)
    obtain ⟨a0, a1⟩ := h c
    exact ⟨a0.trans (Cert.PromptIdeal.Hand.final16 m c), a1⟩
  · refine (θ_run _ _ _).mono (fun r h c => ?_) (Cert.PromptRefIdeal.Value.run m' g')
    obtain ⟨a0, a1⟩ := h c
    have e := hargs c
    refine ⟨a0.trans ?_, a1⟩
    rw [e.1]
    exact Cert.PromptRefIdeal.Read.val_main_v4_eq (F := Ideal) _

theorem preserves_Prompt_PromptIdeal_proof : Cert.preserves_Prompt_PromptIdeal := trivial

end Cert.Proof
end
-- ==== Proof.ProjAkBits.lean ====
module
public import proofs.«01_k».proof.Proof.ProjAkRun
public import proofs.«01_k».proof.Proof.Gen.ProjAk.Frame
public import proofs.«01_k».proof.Defs
/-! The run of the projection's program over machine words, taken from the run stated over any float values: the two
programs are the same text. -/
@[expose] public section
set_option maxRecDepth 16384
namespace Cert.Proof
open Idealize.ShloMosaic Idealize.SL.Sem

theorem defs₀_ProjAk : Cert.ProjAk.defs₀ (F := Bits) = Cert.ProjAkIdeal.defs₀ (F := Bits) := by
  unfold Cert.ProjAk.defs₀ Cert.ProjAkIdeal.defs₀
  refine congrArg _ ?_
  funext l a
  match l, a with
  | 0, (t, s) => rfl
  | ⟨_ + 1, h⟩, _ => exact absurd h (Nat.not_lt.2 (Nat.le_add_left _ _))

theorem defs_ProjAk : Cert.ProjAk.defs (F := Bits) = Cert.ProjAkIdeal.defs (F := Bits) :=
  congrArg (Pipeline.defs Cert.ProjAkIdeal.pcfgs) defs₀_ProjAk

/-- The program runs to an end with its arguments unchanged and no semaphore left raised. -/
theorem frame_ProjAk (m : (ℓ : Loc Cert.ProjAk.nD Cert.ProjAk.τ Cert.ProjAk.sig) → Buf (Elt Bits) ℓ) (g : Dev Cert.ProjAk.nD → PrngReg) :
    θ_run (Cert.ProjAk.defs (F := Bits)) (onTc (τ := Cert.ProjAk.τ) (Cert.ProjAk.main (F := Bits))) ⟨m, fun _ => 0, g⟩ (fun r => (∀ c : Dev Cert.ProjAk.nD,
      r.2.mem ((c.tc : Thread Cert.ProjAk.nD Cert.ProjAk.τ).loc Cert.ProjAk.main_arg0) = m ((c.tc : Thread Cert.ProjAk.nD Cert.ProjAk.τ).loc Cert.ProjAk.main_arg0)
      ∧ r.2.mem ((c.tc : Thread Cert.ProjAk.nD Cert.ProjAk.τ).loc Cert.ProjAk.main_arg1) = m ((c.tc : Thread Cert.ProjAk.nD Cert.ProjAk.τ).loc Cert.ProjAk.main_arg1))
      ∧ r.2.sem = fun _ => 0) := by
  rw [defs_ProjAk]
  exact Cert.ProjAkIdeal.Run.frame (F := Bits) m g

end Cert.Proof
end
-- ==== Proof.ProjAvBits.lean ====
module
public import proofs.«01_k».proof.Proof.ProjAvRun
public import proofs.«01_k».proof.Proof.Gen.ProjAv.Frame
public import proofs.«01_k».proof.Defs
/-! The run of the projection's program over machine words, taken from the run stated over any float values: the two
programs are the same text. -/
@[expose] public section
set_option maxRecDepth 16384
namespace Cert.Proof
open Idealize.ShloMosaic Idealize.SL.Sem

theorem defs₀_ProjAv : Cert.ProjAv.defs₀ (F := Bits) = Cert.ProjAvIdeal.defs₀ (F := Bits) := by
  unfold Cert.ProjAv.defs₀ Cert.ProjAvIdeal.defs₀
  refine congrArg _ ?_
  funext l a
  match l, a with
  | 0, (t, s) => rfl
  | ⟨_ + 1, h⟩, _ => exact absurd h (Nat.not_lt.2 (Nat.le_add_left _ _))

theorem defs_ProjAv : Cert.ProjAv.defs (F := Bits) = Cert.ProjAvIdeal.defs (F := Bits) :=
  congrArg (Pipeline.defs Cert.ProjAvIdeal.pcfgs) defs₀_ProjAv

/-- The program runs to an end with its arguments unchanged and no semaphore left raised. -/
theorem frame_ProjAv (m : (ℓ : Loc Cert.ProjAv.nD Cert.ProjAv.τ Cert.ProjAv.sig) → Buf (Elt Bits) ℓ) (g : Dev Cert.ProjAv.nD → PrngReg) :
    θ_run (Cert.ProjAv.defs (F := Bits)) (onTc (τ := Cert.ProjAv.τ) (Cert.ProjAv.main (F := Bits))) ⟨m, fun _ => 0, g⟩ (fun r => (∀ c : Dev Cert.ProjAv.nD,
      r.2.mem ((c.tc : Thread Cert.ProjAv.nD Cert.ProjAv.τ).loc Cert.ProjAv.main_arg0) = m ((c.tc : Thread Cert.ProjAv.nD Cert.ProjAv.τ).loc Cert.ProjAv.main_arg0)
      ∧ r.2.mem ((c.tc : Thread Cert.ProjAv.nD Cert.ProjAv.τ).loc Cert.ProjAv.main_arg1) = m ((c.tc : Thread Cert.ProjAv.nD Cert.ProjAv.τ).loc Cert.ProjAv.main_arg1))
      ∧ r.2.sem = fun _ => 0) := by
  rw [defs_ProjAv]
  exact Cert.ProjAvIdeal.Run.frame (F := Bits) m g

end Cert.Proof
end
-- ==== Proof.FinalBits.lean ====
module
public import proofs.«01_k».proof.Proof.FinalRun
public import proofs.«01_k».proof.Proof.Gen.Final.Frame
public import proofs.«01_k».proof.Defs
/-! The run of the last normalisation's program over machine words, taken from the run stated over any float values: the two
programs are the same text. -/
@[expose] public section
set_option maxRecDepth 16384
namespace Cert.Proof
open Idealize.ShloMosaic Idealize.SL.Sem

theorem defs₀_Final : Cert.Final.defs₀ (F := Bits) = Cert.FinalIdeal.defs₀ (F := Bits) := by
  unfold Cert.Final.defs₀ Cert.FinalIdeal.defs₀
  refine congrArg _ ?_
  funext l a
  match l, a with
  | 0, (t, s) => rfl
  | ⟨_ + 1, h⟩, _ => exact absurd h (Nat.not_lt.2 (Nat.le_add_left _ _))

theorem defs_Final : Cert.Final.defs (F := Bits) = Cert.FinalIdeal.defs (F := Bits) :=
  congrArg (Pipeline.defs Cert.FinalIdeal.pcfgs) defs₀_Final

/-- The program runs to an end with its arguments unchanged and no semaphore left raised. -/
theorem frame_Final (m : (ℓ : Loc Cert.Final.nD Cert.Final.τ Cert.Final.sig) → Buf (Elt Bits) ℓ) (g : Dev Cert.Final.nD → PrngReg) :
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0) := by
  rw [defs_Final]
  exact Cert.FinalIdeal.Run.frame (F := Bits) m g

end Cert.Proof
end
-- ==== Proof.PromptBits.lean ====
module
public import proofs.«01_k».proof.Proof.PromptTrace
public import proofs.«01_k».proof.Proof.Gen.Prompt.Frame
public import proofs.«01_k».proof.Defs
/-! The run of the program of the prompts' recurrence over machine words, taken from the run stated over any float values: the two
programs are the same text. -/
@[expose] public section
set_option maxRecDepth 16384
namespace Cert.Proof
open Idealize.ShloMosaic Idealize.SL.Sem

set_option maxHeartbeats 2000000 in
theorem defs₀_Prompt : Cert.Prompt.defs₀ (F := Bits) = Cert.PromptIdeal.defs₀ (F := Bits) := by
  unfold Cert.Prompt.defs₀ Cert.PromptIdeal.defs₀
  refine congrArg _ ?_
  funext l a
  match l, a with
  | 0, (t, s) => rfl
  | ⟨_ + 1, h⟩, _ => exact absurd h (Nat.not_lt.2 (Nat.le_add_left _ _))

theorem defs_Prompt : Cert.Prompt.defs (F := Bits) = Cert.PromptIdeal.defs (F := Bits) :=
  congrArg (Pipeline.defs Cert.PromptIdeal.pcfgs) defs₀_Prompt

/-- The program runs to an end with its arguments unchanged and no semaphore left raised. -/
theorem frame_Prompt (m : (ℓ : Loc Cert.Prompt.nD Cert.Prompt.τ Cert.Prompt.sig) → Buf (Elt Bits) ℓ) (g : Dev Cert.Prompt.nD → PrngReg) :
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6))
      ∧ r.2.sem = fun _ => 0) := by
  rw [defs_Prompt]
  exact Cert.PromptIdeal.Run.frame (F := Bits) m g

end Cert.Proof
end
-- ==== Proof.lean ====
module

public import proofs.«01_k».proof.Defs
public import proofs.«01_k».proof.Proof.Gen.ProjQk
public import proofs.«01_k».proof.Proof.Gen.ProjQk.Skeleton
public import proofs.«01_k».proof.Proof.Gen.ProjQk.Launch
public import proofs.«01_k».proof.Proof.Gen.ProjQk.Points
public import proofs.«01_k».proof.Proof.Gen.ProjQk.Frame
public import proofs.«01_k».proof.Proof.Gen.ProjQkIdeal
public import proofs.«01_k».proof.Proof.Gen.ProjQkIdeal.Skeleton
public import proofs.«01_k».proof.Proof.Gen.ProjQkIdeal.Launch
public import proofs.«01_k».proof.Proof.Gen.ProjQkIdeal.Points
public import proofs.«01_k».proof.Proof.Gen.ProjQkIdeal.Frame
public import proofs.«01_k».proof.Proof.Gen.ProjQkIdeal.Value
public import proofs.«01_k».proof.Proof.Gen.ProjQkRefIdeal
public import proofs.«01_k».proof.Proof.Gen.ProjQkRefIdeal.Run
public import proofs.«01_k».proof.Proof.Gen.ProjQkRefIdeal.Read
public import proofs.«01_k».proof.Proof.Gen.ProjVo
public import proofs.«01_k».proof.Proof.Gen.ProjVo.Skeleton
public import proofs.«01_k».proof.Proof.Gen.ProjVo.Launch
public import proofs.«01_k».proof.Proof.Gen.ProjVo.Points
public import proofs.«01_k».proof.Proof.Gen.ProjVo.Frame
public import proofs.«01_k».proof.Proof.Gen.ProjVoIdeal
public import proofs.«01_k».proof.Proof.Gen.ProjVoIdeal.Skeleton
public import proofs.«01_k».proof.Proof.Gen.ProjVoIdeal.Launch
public import proofs.«01_k».proof.Proof.Gen.ProjVoIdeal.Points
public import proofs.«01_k».proof.Proof.Gen.ProjVoIdeal.Frame
public import proofs.«01_k».proof.Proof.Gen.ProjVoIdeal.Value
public import proofs.«01_k».proof.Proof.Gen.ProjVoRefIdeal
public import proofs.«01_k».proof.Proof.Gen.ProjVoRefIdeal.Run
public import proofs.«01_k».proof.Proof.Gen.ProjVoRefIdeal.Read
public import proofs.«01_k».proof.Proof.Gen.ProjAq
public import proofs.«01_k».proof.Proof.Gen.ProjAq.Skeleton
public import proofs.«01_k».proof.Proof.Gen.ProjAq.Launch
public import proofs.«01_k».proof.Proof.Gen.ProjAq.Points
public import proofs.«01_k».proof.Proof.Gen.ProjAq.Frame
public import proofs.«01_k».proof.Proof.Gen.ProjAqIdeal
public import proofs.«01_k».proof.Proof.Gen.ProjAqIdeal.Skeleton
public import proofs.«01_k».proof.Proof.Gen.ProjAqIdeal.Launch
public import proofs.«01_k».proof.Proof.Gen.ProjAqIdeal.Points
public import proofs.«01_k».proof.Proof.Gen.ProjAqIdeal.Frame
public import proofs.«01_k».proof.Proof.Gen.ProjAqIdeal.Value
public import proofs.«01_k».proof.Proof.Gen.ProjAqRefIdeal
public import proofs.«01_k».proof.Proof.Gen.ProjAqRefIdeal.Run
public import proofs.«01_k».proof.Proof.Gen.ProjAqRefIdeal.Read
public import proofs.«01_k».proof.Proof.Gen.ProjAk
public import proofs.«01_k».proof.Proof.Gen.ProjAk.Skeleton
public import proofs.«01_k».proof.Proof.Gen.ProjAk.Launch
public import proofs.«01_k».proof.Proof.Gen.ProjAk.Points
public import proofs.«01_k».proof.Proof.Gen.ProjAk.Frame
public import proofs.«01_k».proof.Proof.Gen.ProjAkIdeal
public import proofs.«01_k».proof.Proof.Gen.ProjAkIdeal.Skeleton
public import proofs.«01_k».proof.Proof.Gen.ProjAkIdeal.Launch
public import proofs.«01_k».proof.Proof.Gen.ProjAkIdeal.Points
public import proofs.«01_k».proof.Proof.Gen.ProjAkIdeal.Frame
public import proofs.«01_k».proof.Proof.Gen.ProjAkRefIdeal
public import proofs.«01_k».proof.Proof.Gen.ProjAkRefIdeal.Run
public import proofs.«01_k».proof.Proof.Gen.ProjAkRefIdeal.Read
public import proofs.«01_k».proof.Proof.Gen.ProjAv
public import proofs.«01_k».proof.Proof.Gen.ProjAv.Skeleton
public import proofs.«01_k».proof.Proof.Gen.ProjAv.Launch
public import proofs.«01_k».proof.Proof.Gen.ProjAv.Points
public import proofs.«01_k».proof.Proof.Gen.ProjAv.Frame
public import proofs.«01_k».proof.Proof.Gen.ProjAvIdeal
public import proofs.«01_k».proof.Proof.Gen.ProjAvIdeal.Skeleton
public import proofs.«01_k».proof.Proof.Gen.ProjAvIdeal.Launch
public import proofs.«01_k».proof.Proof.Gen.ProjAvIdeal.Points
public import proofs.«01_k».proof.Proof.Gen.ProjAvIdeal.Frame
public import proofs.«01_k».proof.Proof.Gen.ProjAvRefIdeal
public import proofs.«01_k».proof.Proof.Gen.ProjAvRefIdeal.Run
public import proofs.«01_k».proof.Proof.Gen.ProjAvRefIdeal.Read
public import proofs.«01_k».proof.Proof.Gen.ProjBg
public import proofs.«01_k».proof.Proof.Gen.ProjBg.Skeleton
public import proofs.«01_k».proof.Proof.Gen.ProjBg.Launch
public import proofs.«01_k».proof.Proof.Gen.ProjBg.Points
public import proofs.«01_k».proof.Proof.Gen.ProjBg.Frame
public import proofs.«01_k».proof.Proof.Gen.ProjBgIdeal
public import proofs.«01_k».proof.Proof.Gen.ProjBgIdeal.Skeleton
public import proofs.«01_k».proof.Proof.Gen.ProjBgIdeal.Launch
public import proofs.«01_k».proof.Proof.Gen.ProjBgIdeal.Points
public import proofs.«01_k».proof.Proof.Gen.ProjBgIdeal.Frame
public import proofs.«01_k».proof.Proof.Gen.ProjBgIdeal.Value
public import proofs.«01_k».proof.Proof.Gen.ProjBgRefIdeal
public import proofs.«01_k».proof.Proof.Gen.ProjBgRefIdeal.Run
public import proofs.«01_k».proof.Proof.Gen.ProjBgRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.PeerQuery
public import proofs.«01_k».proof.Proof.Gen.PeerQuery.Skeleton
public import proofs.«01_k».proof.Proof.Gen.PeerQuery.Launch
public import proofs.«01_k».proof.Proof.Gen.PeerQuery.Points
public import proofs.«01_k».proof.Proof.Gen.PeerQuery.Frame
public import proofs.«01_k».proof.Proof.Gen.PeerQueryIdeal
public import proofs.«01_k».proof.Proof.Gen.PeerQueryIdeal.Skeleton
public import proofs.«01_k».proof.Proof.Gen.PeerQueryIdeal.Launch
public import proofs.«01_k».proof.Proof.Gen.PeerQueryIdeal.Points
public import proofs.«01_k».proof.Proof.Gen.PeerQueryIdeal.Frame
public import proofs.«01_k».proof.Proof.Gen.PeerQueryIdeal.Value
public import proofs.«01_k».proof.Proof.Gen.PeerQueryRefIdeal
public import proofs.«01_k».proof.Proof.Gen.PeerQueryRefIdeal.Run
public import proofs.«01_k».proof.Proof.Gen.PeerQueryRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptRefIdeal
public import proofs.«01_k».proof.Proof.Gen.PromptRefIdeal.Run
public import proofs.«01_k».proof.Proof.Gen.PromptRefIdeal.Read
public import proofs.«01_k».proof.Proof.Gen.Pre_input_gate_below_inf
public import proofs.«01_k».proof.Proof.ProjQk
public import proofs.«01_k».proof.Proof.ProjVo
public import proofs.«01_k».proof.Proof.ProjAq
public import proofs.«01_k».proof.Proof.ProjAk
public import proofs.«01_k».proof.Proof.ProjAv
public import proofs.«01_k».proof.Proof.ProjBg
public import proofs.«01_k».proof.Proof.Merge
public import proofs.«01_k».proof.Proof.Outproj
public import proofs.«01_k».proof.Proof.PeerQuery
public import proofs.«01_k».proof.Proof.Mlstm
public import proofs.«01_k».proof.Proof.Final
public import proofs.«01_k».proof.Proof.Prompt
public import proofs.«01_k».proof.Proof.ProjAkBits
public import proofs.«01_k».proof.Proof.ProjAvBits
public import proofs.«01_k».proof.Proof.FinalBits
public import proofs.«01_k».proof.Proof.PromptBits
public import Idealize.ShloMosaic.Adequacy
public import Idealize.ShloMosaic.Init

@[expose] public section

noncomputable section

namespace Cert.Proof

open Idealize.ShloMosaic Idealize.SL.Sem

theorem claim : Cert.Claim := ⟨Cert.ProjQk.Gen.facts, Cert.ProjQkIdeal.Gen.facts, Cert.ProjQkRefIdeal.Gen.facts, Cert.ProjVo.Gen.facts, Cert.ProjVoIdeal.Gen.facts, Cert.ProjVoRefIdeal.Gen.facts, Cert.ProjAq.Gen.facts, Cert.ProjAqIdeal.Gen.facts, Cert.ProjAqRefIdeal.Gen.facts, Cert.ProjAk.Gen.facts, Cert.ProjAkIdeal.Gen.facts, Cert.ProjAkRefIdeal.Gen.facts, Cert.ProjAv.Gen.facts, Cert.ProjAvIdeal.Gen.facts, Cert.ProjAvRefIdeal.Gen.facts, Cert.ProjBg.Gen.facts, Cert.ProjBgIdeal.Gen.facts, Cert.ProjBgRefIdeal.Gen.facts, Cert.Merge.Gen.facts, Cert.MergeIdeal.Gen.facts, Cert.MergeRefIdeal.Gen.facts, Cert.Outproj.Gen.facts, Cert.OutprojIdeal.Gen.facts, Cert.OutprojRefIdeal.Gen.facts, Cert.PeerQuery.Gen.facts, Cert.PeerQueryIdeal.Gen.facts, Cert.PeerQueryRefIdeal.Gen.facts, Cert.Kernel.Gen.facts, Cert.KernelIdeal.Gen.facts, Cert.ReferenceIdeal.Gen.facts, Cert.Final.Gen.facts, Cert.FinalIdeal.Gen.facts, Cert.FinalRefIdeal.Gen.facts, Cert.Prompt.Gen.facts, Cert.PromptIdeal.Gen.facts, Cert.PromptRefIdeal.Gen.facts, Cert.Pre_input_gate_below_inf.Gen.facts,
  fun m ρ _ => Cert.ProjQk.Gen.frame m ρ,
  fun m ρ _ => Cert.ProjQkIdeal.Gen.frame m ρ,
  fun m ρ _ => (θ_run _ _ _).mono (fun r h => ⟨fun c => (h c).2, sem_eq_zero_of_no_sems (by decide) r.2⟩) (Cert.ProjQkRefIdeal.Value.run m ρ),
  fun m ρ _ => Cert.ProjVo.Gen.frame m ρ,
  fun m ρ _ => Cert.ProjVoIdeal.Gen.frame m ρ,
  fun m ρ _ => (θ_run _ _ _).mono (fun r h => ⟨fun c => (h c).2, sem_eq_zero_of_no_sems (by decide) r.2⟩) (Cert.ProjVoRefIdeal.Value.run m ρ),
  fun m ρ _ => Cert.ProjAq.Gen.frame m ρ,
  fun m ρ _ => Cert.ProjAqIdeal.Gen.frame m ρ,
  fun m ρ _ => (θ_run _ _ _).mono (fun r h => ⟨fun c => (h c).2, sem_eq_zero_of_no_sems (by decide) r.2⟩) (Cert.ProjAqRefIdeal.Value.run m ρ),
  fun m ρ _ => Cert.Proof.frame_ProjAk m ρ,
  fun m ρ _ => Cert.ProjAkIdeal.Run.frame m ρ,
  fun m ρ _ => (θ_run _ _ _).mono (fun r h => ⟨fun c => (h c).2.2.2, sem_eq_zero_of_no_sems (by decide) r.2⟩) (Cert.ProjAkRefIdeal.Value.run m ρ),
  fun m ρ _ => Cert.Proof.frame_ProjAv m ρ,
  fun m ρ _ => Cert.ProjAvIdeal.Run.frame m ρ,
  fun m ρ _ => (θ_run _ _ _).mono (fun r h => ⟨fun c => (h c).2.2.2, sem_eq_zero_of_no_sems (by decide) r.2⟩) (Cert.ProjAvRefIdeal.Value.run m ρ),
  fun m ρ _ => Cert.ProjBg.Gen.frame m ρ,
  fun m ρ _ => Cert.ProjBgIdeal.Gen.frame m ρ,
  fun m ρ _ => (θ_run _ _ _).mono (fun r h => ⟨fun c => (h c).2, sem_eq_zero_of_no_sems (by decide) r.2⟩) (Cert.ProjBgRefIdeal.Value.run m ρ),
  fun m ρ _ => Cert.Merge.Gen.frame m ρ,
  fun m ρ _ => Cert.MergeIdeal.Gen.frame m ρ,
  fun m ρ _ => (θ_run _ _ _).mono (fun r h => ⟨fun c => (h c).2, sem_eq_zero_of_no_sems (by decide) r.2⟩) (Cert.MergeRefIdeal.Value.run m ρ),
  fun m ρ _ => Cert.Outproj.Gen.frame m ρ,
  fun m ρ _ => Cert.OutprojIdeal.Gen.frame m ρ,
  fun m ρ _ => (θ_run _ _ _).mono (fun r h => ⟨fun c => (h c).2, sem_eq_zero_of_no_sems (by decide) r.2⟩) (Cert.OutprojRefIdeal.Value.run m ρ),
  fun m ρ _ => Cert.PeerQuery.Gen.frame m ρ,
  fun m ρ _ => Cert.PeerQueryIdeal.Gen.frame m ρ,
  fun m ρ _ => (θ_run _ _ _).mono (fun r h => ⟨fun c => (h c).2, sem_eq_zero_of_no_sems (by decide) r.2⟩) (Cert.PeerQueryRefIdeal.Value.run m ρ),
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2, sem_eq_zero_of_no_sems (by decide) r.2⟩) (Cert.ReferenceIdeal.Value.run m ρ),
  fun m ρ _ => (θ_run _ _ _).mono (fun r h => ⟨fun c => (h c).2.2.2.2.2, sem_eq_zero_of_no_sems (by decide) r.2⟩) (Cert.ReferenceIdeal.Value.run m ρ),
  fun m ρ _ => Cert.Proof.frame_Final m ρ,
  fun m ρ _ => Cert.FinalIdeal.Run.frame m ρ,
  fun m ρ _ => (θ_run _ _ _).mono (fun r h => ⟨fun c => (h c).2.2, sem_eq_zero_of_no_sems (by decide) r.2⟩) (Cert.FinalRefIdeal.Value.run m ρ),
  fun m ρ _ => Cert.Proof.frame_Prompt m ρ,
  fun m ρ _ => Cert.PromptIdeal.Run.frame m ρ,
  fun m ρ _ => (θ_run _ _ _).mono (fun r h => ⟨fun c => (h c).2, sem_eq_zero_of_no_sems (by decide) r.2⟩) (Cert.PromptRefIdeal.Value.run m ρ),
  preserves_ProjQk_ProjQkIdeal_proof,
  algebraic_ProjQkIdeal_ProjQkRefIdeal_proof,
  preserves_ProjVo_ProjVoIdeal_proof,
  algebraic_ProjVoIdeal_ProjVoRefIdeal_proof,
  preserves_ProjAq_ProjAqIdeal_proof,
  algebraic_ProjAqIdeal_ProjAqRefIdeal_proof,
  preserves_ProjAk_ProjAkIdeal_proof,
  algebraic_ProjAkIdeal_ProjAkRefIdeal_proof,
  preserves_ProjAv_ProjAvIdeal_proof,
  algebraic_ProjAvIdeal_ProjAvRefIdeal_proof,
  preserves_ProjBg_ProjBgIdeal_proof,
  algebraic_ProjBgIdeal_ProjBgRefIdeal_proof,
  preserves_Merge_MergeIdeal_proof,
  algebraic_MergeIdeal_MergeRefIdeal_proof,
  preserves_Outproj_OutprojIdeal_proof,
  algebraic_OutprojIdeal_OutprojRefIdeal_proof,
  preserves_PeerQuery_PeerQueryIdeal_proof,
  algebraic_PeerQueryIdeal_PeerQueryRefIdeal_proof,
  preserves_Kernel_KernelIdeal_proof,
  algebraic_KernelIdeal_ReferenceIdeal_pre_input_gate_below_inf_proof,
  preserves_Final_FinalIdeal_proof,
  algebraic_FinalIdeal_FinalRefIdeal_proof,
  preserves_Prompt_PromptIdeal_proof,
  algebraic_PromptIdeal_PromptRefIdeal_proof⟩

end Cert.Proof

end
